-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_indices_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S16384x2048 .f32) (main_arg1 : FVec F S64x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S16384x2048 : Shape := ⟨2, ![16384, 2048]⟩
abbrev S64x2048 : Shape := ⟨2, ![64, 2048]⟩
abbrev S4096x128 : Shape := ⟨2, ![4096, 128]⟩
abbrev S512x2048 : Shape := ⟨2, ![512, 2048]⟩
abbrev S512x128 : Shape := ⟨2, ![512, 128]⟩
abbrev S512x64 : Shape := ⟨2, ![512, 64]⟩
abbrev S524288 : Shape := ⟨1, ![524288]⟩
abbrev S32768 : Shape := ⟨1, ![32768]⟩
abbrev S16384 : Shape := ⟨1, ![16384]⟩
abbrev S1024 : Shape := ⟨1, ![1024]⟩
abbrev S_ : Shape := ⟨0, ![]⟩
abbrev S16 : Shape := ⟨1, ![16]⟩
abbrev S4096x8 : Shape := ⟨2, ![4096, 8]⟩
abbrev S2048x128 : Shape := ⟨2, ![2048, 128]⟩
abbrev S262144 : Shape := ⟨1, ![262144]⟩
abbrev S8192 : Shape := ⟨1, ![8192]⟩
abbrev S512 : Shape := ⟨1, ![512]⟩
abbrev S2048x8 : Shape := ⟨2, ![2048, 8]⟩
abbrev S16384x8 : Shape := ⟨2, ![16384, 8]⟩

abbrev nBuf : Table → Nat
  | .hbm => 44
  | .local .tc .vmem => 25
  | .local .scVector .vmem => 15
  | _ => 0

abbrev bufTy : (tb : Table) → Fin (nBuf tb) → BufTy
  | .hbm, ⟨0, _⟩ => ⟨S16384x2048, .f32⟩
  | .hbm, ⟨1, _⟩ => ⟨S64x2048, .f32⟩
  | .hbm, ⟨2, _⟩ => ⟨S4096x128, .f32⟩
  | .hbm, ⟨3, _⟩ => ⟨S64x2048, .f32⟩
  | .hbm, ⟨4, _⟩ => ⟨S4096x128, .f32⟩
  | .hbm, ⟨5, _⟩ => ⟨S524288, .f32⟩
  | .hbm, ⟨6, _⟩ => ⟨S32768, .f32⟩
  | .hbm, ⟨7, _⟩ => ⟨S32768, .i32⟩
  | .hbm, ⟨8, _⟩ => ⟨S4096x8, .f32⟩
  | .hbm, ⟨9, _⟩ => ⟨S4096x8, .i32⟩
  | .hbm, ⟨10, _⟩ => ⟨S4096x128, .f32⟩
  | .hbm, ⟨11, _⟩ => ⟨S64x2048, .f32⟩
  | .hbm, ⟨12, _⟩ => ⟨S4096x128, .f32⟩
  | .hbm, ⟨13, _⟩ => ⟨S524288, .f32⟩
  | .hbm, ⟨14, _⟩ => ⟨S32768, .f32⟩
  | .hbm, ⟨15, _⟩ => ⟨S32768, .i32⟩
  | .hbm, ⟨16, _⟩ => ⟨S4096x8, .f32⟩
  | .hbm, ⟨17, _⟩ => ⟨S4096x8, .i32⟩
  | .hbm, ⟨18, _⟩ => ⟨S4096x128, .f32⟩
  | .hbm, ⟨19, _⟩ => ⟨S64x2048, .f32⟩
  | .hbm, ⟨20, _⟩ => ⟨S4096x128, .f32⟩
  | .hbm, ⟨21, _⟩ => ⟨S524288, .f32⟩
  | .hbm, ⟨22, _⟩ => ⟨S32768, .f32⟩
  | .hbm, ⟨23, _⟩ => ⟨S32768, .i32⟩
  | .hbm, ⟨24, _⟩ => ⟨S4096x8, .f32⟩
  | .hbm, ⟨25, _⟩ => ⟨S4096x8, .i32⟩
  | .hbm, ⟨26, _⟩ => ⟨S2048x128, .f32⟩
  | .hbm, ⟨27, _⟩ => ⟨S64x2048, .f32⟩
  | .hbm, ⟨28, _⟩ => ⟨S2048x128, .f32⟩
  | .hbm, ⟨29, _⟩ => ⟨S262144, .f32⟩
  | .hbm, ⟨30, _⟩ => ⟨S16384, .f32⟩
  | .hbm, ⟨31, _⟩ => ⟨S16384, .i32⟩
  | .hbm, ⟨32, _⟩ => ⟨S2048x8, .f32⟩
  | .hbm, ⟨33, _⟩ => ⟨S2048x8, .i32⟩
  | .hbm, ⟨34, _⟩ => ⟨S2048x128, .f32⟩
  | .hbm, ⟨35, _⟩ => ⟨S64x2048, .f32⟩
  | .hbm, ⟨36, _⟩ => ⟨S2048x128, .f32⟩
  | .hbm, ⟨37, _⟩ => ⟨S262144, .f32⟩
  | .hbm, ⟨38, _⟩ => ⟨S16384, .f32⟩
  | .hbm, ⟨39, _⟩ => ⟨S16384, .i32⟩
  | .hbm, ⟨40, _⟩ => ⟨S2048x8, .f32⟩
  | .hbm, ⟨41, _⟩ => ⟨S2048x8, .i32⟩
  | .hbm, ⟨42, _⟩ => ⟨S16384x8, .f32⟩
  | .hbm, ⟨43, _⟩ => ⟨S16384x8, .i32⟩
  | .local .tc .vmem, ⟨0, _⟩ => ⟨S512x2048, .f32⟩
  | .local .tc .vmem, ⟨1, _⟩ => ⟨S512x2048, .f32⟩
  | .local .tc .vmem, ⟨2, _⟩ => ⟨S64x2048, .f32⟩
  | .local .tc .vmem, ⟨3, _⟩ => ⟨S512x128, .f32⟩
  | .local .tc .vmem, ⟨4, _⟩ => ⟨S512x128, .f32⟩
  | .local .tc .vmem, ⟨5, _⟩ => ⟨S512x2048, .f32⟩
  | .local .tc .vmem, ⟨6, _⟩ => ⟨S512x2048, .f32⟩
  | .local .tc .vmem, ⟨7, _⟩ => ⟨S64x2048, .f32⟩
  | .local .tc .vmem, ⟨8, _⟩ => ⟨S512x128, .f32⟩
  | .local .tc .vmem, ⟨9, _⟩ => ⟨S512x128, .f32⟩
  | .local .tc .vmem, ⟨10, _⟩ => ⟨S512x2048, .f32⟩
  | .local .tc .vmem, ⟨11, _⟩ => ⟨S512x2048, .f32⟩
  | .local .tc .vmem, ⟨12, _⟩ => ⟨S64x2048, .f32⟩
  | .local .tc .vmem, ⟨13, _⟩ => ⟨S512x128, .f32⟩
  | .local .tc .vmem, ⟨14, _⟩ => ⟨S512x128, .f32⟩
  | .local .tc .vmem, ⟨15, _⟩ => ⟨S512x2048, .f32⟩
  | .local .tc .vmem, ⟨16, _⟩ => ⟨S512x2048, .f32⟩
  | .local .tc .vmem, ⟨17, _⟩ => ⟨S64x2048, .f32⟩
  | .local .tc .vmem, ⟨18, _⟩ => ⟨S512x128, .f32⟩
  | .local .tc .vmem, ⟨19, _⟩ => ⟨S512x128, .f32⟩
  | .local .tc .vmem, ⟨20, _⟩ => ⟨S512x2048, .f32⟩
  | .local .tc .vmem, ⟨21, _⟩ => ⟨S512x2048, .f32⟩
  | .local .tc .vmem, ⟨22, _⟩ => ⟨S64x2048, .f32⟩
  | .local .tc .vmem, ⟨23, _⟩ => ⟨S512x128, .f32⟩
  | .local .tc .vmem, ⟨24, _⟩ => ⟨S512x128, .f32⟩
  | .local .scVector .vmem, ⟨0, _⟩ => ⟨S16384, .f32⟩
  | .local .scVector .vmem, ⟨1, _⟩ => ⟨S1024, .f32⟩
  | .local .scVector .vmem, ⟨2, _⟩ => ⟨S1024, .i32⟩
  | .local .scVector .vmem, ⟨3, _⟩ => ⟨S16384, .f32⟩
  | .local .scVector .vmem, ⟨4, _⟩ => ⟨S1024, .f32⟩
  | .local .scVector .vmem, ⟨5, _⟩ => ⟨S1024, .i32⟩
  | .local .scVector .vmem, ⟨6, _⟩ => ⟨S16384, .f32⟩
  | .local .scVector .vmem, ⟨7, _⟩ => ⟨S1024, .f32⟩
  | .local .scVector .vmem, ⟨8, _⟩ => ⟨S1024, .i32⟩
  | .local .scVector .vmem, ⟨9, _⟩ => ⟨S8192, .f32⟩
  | .local .scVector .vmem, ⟨10, _⟩ => ⟨S512, .f32⟩
  | .local .scVector .vmem, ⟨11, _⟩ => ⟨S512, .i32⟩
  | .local .scVector .vmem, ⟨12, _⟩ => ⟨S8192, .f32⟩
  | .local .scVector .vmem, ⟨13, _⟩ => ⟨S512, .f32⟩
  | .local .scVector .vmem, ⟨14, _⟩ => ⟨S512, .i32⟩
  | _, _ => ⟨S16384x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => false
  | ⟨22, _⟩ => false
  | ⟨23, _⟩ => false
  | ⟨24, _⟩ => true
  | ⟨25, _⟩ => true
  | ⟨26, _⟩ => true
  | ⟨27, _⟩ => true
  | ⟨28, _⟩ => true
  | ⟨29, _⟩ => false
  | ⟨30, _⟩ => false
  | ⟨31, _⟩ => false
  | ⟨32, _⟩ => true
  | ⟨33, _⟩ => true
  | ⟨34, _⟩ => true
  | ⟨35, _⟩ => true
  | ⟨36, _⟩ => true
  | ⟨37, _⟩ => false
  | ⟨38, _⟩ => false
  | ⟨39, _⟩ => false
  | _ => false

abbrev sig : RefSig :=
  ofTables nBuf rfl bufTy 4 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v26 : Ref sig .tc := ⟨.hbm, 37, rfl⟩
abbrev main_v27_0 : Ref sig .tc := ⟨.hbm, 38, rfl⟩
abbrev main_v27_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v2_scv : Ref sig .scVector := ⟨.hbm, 5, rfl⟩
abbrev main_v3_0_scv : Ref sig .scVector := ⟨.hbm, 6, rfl⟩
abbrev main_v3_1_scv : Ref sig .scVector := ⟨.hbm, 7, rfl⟩
abbrev main_v8_scv : Ref sig .scVector := ⟨.hbm, 13, rfl⟩
abbrev main_v9_0_scv : Ref sig .scVector := ⟨.hbm, 14, rfl⟩
abbrev main_v9_1_scv : Ref sig .scVector := ⟨.hbm, 15, rfl⟩
abbrev main_v14_scv : Ref sig .scVector := ⟨.hbm, 21, rfl⟩
abbrev main_v15_0_scv : Ref sig .scVector := ⟨.hbm, 22, rfl⟩
abbrev main_v15_1_scv : Ref sig .scVector := ⟨.hbm, 23, rfl⟩
abbrev main_v20_scv : Ref sig .scVector := ⟨.hbm, 29, rfl⟩
abbrev main_v21_0_scv : Ref sig .scVector := ⟨.hbm, 30, rfl⟩
abbrev main_v21_1_scv : Ref sig .scVector := ⟨.hbm, 31, rfl⟩
abbrev main_v26_scv : Ref sig .scVector := ⟨.hbm, 37, rfl⟩
abbrev main_v27_0_scv : Ref sig .scVector := ⟨.hbm, 38, rfl⟩
abbrev main_v27_1_scv : Ref sig .scVector := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg0_1 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg2_1 : Ref sig .tc := ⟨.vmem, 9, rfl⟩
abbrev cc4_stg0_0 : Ref sig .tc := ⟨.vmem, 10, rfl⟩
abbrev cc4_stg0_1 : Ref sig .tc := ⟨.vmem, 11, rfl⟩
abbrev cc4_stg1_0 : Ref sig .tc := ⟨.vmem, 12, rfl⟩
abbrev cc4_stg2_0 : Ref sig .tc := ⟨.vmem, 13, rfl⟩
abbrev cc4_stg2_1 : Ref sig .tc := ⟨.vmem, 14, rfl⟩
abbrev cc6_stg0_0 : Ref sig .tc := ⟨.vmem, 15, rfl⟩
abbrev cc6_stg0_1 : Ref sig .tc := ⟨.vmem, 16, rfl⟩
abbrev cc6_stg1_0 : Ref sig .tc := ⟨.vmem, 17, rfl⟩
abbrev cc6_stg2_0 : Ref sig .tc := ⟨.vmem, 18, rfl⟩
abbrev cc6_stg2_1 : Ref sig .tc := ⟨.vmem, 19, rfl⟩
abbrev cc8_stg0_0 : Ref sig .tc := ⟨.vmem, 20, rfl⟩
abbrev cc8_stg0_1 : Ref sig .tc := ⟨.vmem, 21, rfl⟩
abbrev cc8_stg1_0 : Ref sig .tc := ⟨.vmem, 22, rfl⟩
abbrev cc8_stg2_0 : Ref sig .tc := ⟨.vmem, 23, rfl⟩
abbrev cc8_stg2_1 : Ref sig .tc := ⟨.vmem, 24, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc5_scratch0 : Ref sig .scVector := ⟨.vmem, 6, rfl⟩
abbrev cc5_scratch1 : Ref sig .scVector := ⟨.vmem, 7, rfl⟩
abbrev cc5_scratch2 : Ref sig .scVector := ⟨.vmem, 8, rfl⟩
abbrev cc7_scratch0 : Ref sig .scVector := ⟨.vmem, 9, rfl⟩
abbrev cc7_scratch1 : Ref sig .scVector := ⟨.vmem, 10, rfl⟩
abbrev cc7_scratch2 : Ref sig .scVector := ⟨.vmem, 11, rfl⟩
abbrev cc9_scratch0 : Ref sig .scVector := ⟨.vmem, 12, rfl⟩
abbrev cc9_scratch1 : Ref sig .scVector := ⟨.vmem, 13, rfl⟩
abbrev cc9_scratch2 : Ref sig .scVector := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12
abbrev cc4_sem0_0 : DmaSem sig := 16
abbrev cc4_sem0_1 : DmaSem sig := 17
abbrev cc4_sem1_0 : DmaSem sig := 18
abbrev cc4_sem2_0 : DmaSem sig := 19
abbrev cc4_sem2_1 : DmaSem sig := 20
abbrev cc6_sem0_0 : DmaSem sig := 24
abbrev cc6_sem0_1 : DmaSem sig := 25
abbrev cc6_sem1_0 : DmaSem sig := 26
abbrev cc6_sem2_0 : DmaSem sig := 27
abbrev cc6_sem2_1 : DmaSem sig := 28
abbrev cc8_sem0_0 : DmaSem sig := 32
abbrev cc8_sem0_1 : DmaSem sig := 33
abbrev cc8_sem1_0 : DmaSem sig := 34
abbrev cc8_sem2_0 : DmaSem sig := 35
abbrev cc8_sem2_1 : DmaSem sig := 36
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_0 : BitVec 32 := 128#32
  let v3 : BitVec 32 := Scalar.muli v2 c128_i32_0
  ![v3.toNat]
@[reducible] def k1_t1_loop : Scf.Loop 32 :=
  let c0_i32_1 : BitVec 32 := 0#32
  let c8_i32 : BitVec 32 := 8#32
  let v5 : BitVec 32 := Scalar.addi c0_i32_1 c8_i32
  let c1_i32 : BitVec 32 := 1#32
  ⟨c0_i32_1, v5, c1_i32⟩

def k1_chk1 (v14 : IVec S16 32) : Prop :=
  (∀ a x, ((![v14] : Fin 1 → IVec S16 32) a x).toNat < S16384.size a)
theorem k1_idx1_inb : ∀ (v14 : IVec S16 32) (k1_hw1 : k1_chk1 v14), ∀ a x, ((![v14] : Fin 1 → IVec S16 32) a x).toNat < S16384.size a := fun v14 k1_hw1 => k1_hw1

def k1_chk2 (v17 : IVec S16 32) : Prop :=
  (∀ a x, ((![v17] : Fin 1 → IVec S16 32) a x).toNat < S16384.size a)
theorem k1_idx2_inb : ∀ (v17 : IVec S16 32) (k1_hw2 : k1_chk2 v17), ∀ a x, ((![v17] : Fin 1 → IVec S16 32) a x).toNat < S16384.size a := fun v17 k1_hw2 => k1_hw2

def k1_chk3 (v20 : IVec S16 32) : Prop :=
  (∀ a x, ((![v20] : Fin 1 → IVec S16 32) a x).toNat < S16384.size a)
theorem k1_idx3_inb : ∀ (v20 : IVec S16 32) (k1_hw3 : k1_chk3 v20), ∀ a x, ((![v20] : Fin 1 → IVec S16 32) a x).toNat < S16384.size a := fun v20 k1_hw3 => k1_hw3

def k1_chk4 (v23 : IVec S16 32) : Prop :=
  (∀ a x, ((![v23] : Fin 1 → IVec S16 32) a x).toNat < S16384.size a)
theorem k1_idx4_inb : ∀ (v23 : IVec S16 32) (k1_hw4 : k1_chk4 v23), ∀ a x, ((![v23] : Fin 1 → IVec S16 32) a x).toNat < S16384.size a := fun v23 k1_hw4 => k1_hw4

def k1_chk5 (v26 : IVec S16 32) : Prop :=
  (∀ a x, ((![v26] : Fin 1 → IVec S16 32) a x).toNat < S16384.size a)
theorem k1_idx5_inb : ∀ (v26 : IVec S16 32) (k1_hw5 : k1_chk5 v26), ∀ a x, ((![v26] : Fin 1 → IVec S16 32) a x).toNat < S16384.size a := fun v26 k1_hw5 => k1_hw5

def k1_chk6 (v29 : IVec S16 32) : Prop :=
  (∀ a x, ((![v29] : Fin 1 → IVec S16 32) a x).toNat < S16384.size a)
theorem k1_idx6_inb : ∀ (v29 : IVec S16 32) (k1_hw6 : k1_chk6 v29), ∀ a x, ((![v29] : Fin 1 → IVec S16 32) a x).toNat < S16384.size a := fun v29 k1_hw6 => k1_hw6

def k1_chk7 (v32 : IVec S16 32) : Prop :=
  (∀ a x, ((![v32] : Fin 1 → IVec S16 32) a x).toNat < S16384.size a)
theorem k1_idx7_inb : ∀ (v32 : IVec S16 32) (k1_hw7 : k1_chk7 v32), ∀ a x, ((![v32] : Fin 1 → IVec S16 32) a x).toNat < S16384.size a := fun v32 k1_hw7 => k1_hw7

def k1_chk8 (v35 : IVec S16 32) : Prop :=
  (∀ a x, ((![v35] : Fin 1 → IVec S16 32) a x).toNat < S16384.size a)
theorem k1_idx8_inb : ∀ (v35 : IVec S16 32) (k1_hw8 : k1_chk8 v35), ∀ a x, ((![v35] : Fin 1 → IVec S16 32) a x).toNat < S16384.size a := fun v35 k1_hw8 => k1_hw8

def k1_chk9 (v38 : IVec S16 32) : Prop :=
  (∀ a x, ((![v38] : Fin 1 → IVec S16 32) a x).toNat < S16384.size a)
theorem k1_idx9_inb : ∀ (v38 : IVec S16 32) (k1_hw9 : k1_chk9 v38), ∀ a x, ((![v38] : Fin 1 → IVec S16 32) a x).toNat < S16384.size a := fun v38 k1_hw9 => k1_hw9

def k1_chk10 (v41 : IVec S16 32) : Prop :=
  (∀ a x, ((![v41] : Fin 1 → IVec S16 32) a x).toNat < S16384.size a)
theorem k1_idx10_inb : ∀ (v41 : IVec S16 32) (k1_hw10 : k1_chk10 v41), ∀ a x, ((![v41] : Fin 1 → IVec S16 32) a x).toNat < S16384.size a := fun v41 k1_hw10 => k1_hw10

def k1_chk11 (v44 : IVec S16 32) : Prop :=
  (∀ a x, ((![v44] : Fin 1 → IVec S16 32) a x).toNat < S16384.size a)
theorem k1_idx11_inb : ∀ (v44 : IVec S16 32) (k1_hw11 : k1_chk11 v44), ∀ a x, ((![v44] : Fin 1 → IVec S16 32) a x).toNat < S16384.size a := fun v44 k1_hw11 => k1_hw11

def k1_chk12 (v47 : IVec S16 32) : Prop :=
  (∀ a x, ((![v47] : Fin 1 → IVec S16 32) a x).toNat < S16384.size a)
theorem k1_idx12_inb : ∀ (v47 : IVec S16 32) (k1_hw12 : k1_chk12 v47), ∀ a x, ((![v47] : Fin 1 → IVec S16 32) a x).toNat < S16384.size a := fun v47 k1_hw12 => k1_hw12

def k1_chk13 (v50 : IVec S16 32) : Prop :=
  (∀ a x, ((![v50] : Fin 1 → IVec S16 32) a x).toNat < S16384.size a)
theorem k1_idx13_inb : ∀ (v50 : IVec S16 32) (k1_hw13 : k1_chk13 v50), ∀ a x, ((![v50] : Fin 1 → IVec S16 32) a x).toNat < S16384.size a := fun v50 k1_hw13 => k1_hw13

def k1_chk14 (v53 : IVec S16 32) : Prop :=
  (∀ a x, ((![v53] : Fin 1 → IVec S16 32) a x).toNat < S16384.size a)
theorem k1_idx14_inb : ∀ (v53 : IVec S16 32) (k1_hw14 : k1_chk14 v53), ∀ a x, ((![v53] : Fin 1 → IVec S16 32) a x).toNat < S16384.size a := fun v53 k1_hw14 => k1_hw14

def k1_chk15 (v56 : IVec S16 32) : Prop :=
  (∀ a x, ((![v56] : Fin 1 → IVec S16 32) a x).toNat < S16384.size a)
theorem k1_idx15_inb : ∀ (v56 : IVec S16 32) (k1_hw15 : k1_chk15 v56), ∀ a x, ((![v56] : Fin 1 → IVec S16 32) a x).toNat < S16384.size a := fun v56 k1_hw15 => k1_hw15

def k1_chk16 (v59 : IVec S16 32) : Prop :=
  (∀ a x, ((![v59] : Fin 1 → IVec S16 32) a x).toNat < S16384.size a)
theorem k1_idx16_inb : ∀ (v59 : IVec S16 32) (k1_hw16 : k1_chk16 v59), ∀ a x, ((![v59] : Fin 1 → IVec S16 32) a x).toNat < S16384.size a := fun v59 k1_hw16 => k1_hw16

def k1_chk17 (v62 : IVec S16 32) : Prop :=
  (∀ a x, ((![v62] : Fin 1 → IVec S16 32) a x).toNat < S16384.size a)
theorem k1_idx17_inb : ∀ (v62 : IVec S16 32) (k1_hw17 : k1_chk17 v62), ∀ a x, ((![v62] : Fin 1 → IVec S16 32) a x).toNat < S16384.size a := fun v62 k1_hw17 => k1_hw17

def k1_chk18 (v65 : IVec S16 32) : Prop :=
  (∀ a x, ((![v65] : Fin 1 → IVec S16 32) a x).toNat < S16384.size a)
theorem k1_idx18_inb : ∀ (v65 : IVec S16 32) (k1_hw18 : k1_chk18 v65), ∀ a x, ((![v65] : Fin 1 → IVec S16 32) a x).toNat < S16384.size a := fun v65 k1_hw18 => k1_hw18

def k1_chk19 (v68 : IVec S16 32) : Prop :=
  (∀ a x, ((![v68] : Fin 1 → IVec S16 32) a x).toNat < S16384.size a)
theorem k1_idx19_inb : ∀ (v68 : IVec S16 32) (k1_hw19 : k1_chk19 v68), ∀ a x, ((![v68] : Fin 1 → IVec S16 32) a x).toNat < S16384.size a := fun v68 k1_hw19 => k1_hw19

def k1_chk20 (v71 : IVec S16 32) : Prop :=
  (∀ a x, ((![v71] : Fin 1 → IVec S16 32) a x).toNat < S16384.size a)
theorem k1_idx20_inb : ∀ (v71 : IVec S16 32) (k1_hw20 : k1_chk20 v71), ∀ a x, ((![v71] : Fin 1 → IVec S16 32) a x).toNat < S16384.size a := fun v71 k1_hw20 => k1_hw20

def k1_chk21 (v74 : IVec S16 32) : Prop :=
  (∀ a x, ((![v74] : Fin 1 → IVec S16 32) a x).toNat < S16384.size a)
theorem k1_idx21_inb : ∀ (v74 : IVec S16 32) (k1_hw21 : k1_chk21 v74), ∀ a x, ((![v74] : Fin 1 → IVec S16 32) a x).toNat < S16384.size a := fun v74 k1_hw21 => k1_hw21

def k1_chk22 (v77 : IVec S16 32) : Prop :=
  (∀ a x, ((![v77] : Fin 1 → IVec S16 32) a x).toNat < S16384.size a)
theorem k1_idx22_inb : ∀ (v77 : IVec S16 32) (k1_hw22 : k1_chk22 v77), ∀ a x, ((![v77] : Fin 1 → IVec S16 32) a x).toNat < S16384.size a := fun v77 k1_hw22 => k1_hw22

def k1_chk23 (v80 : IVec S16 32) : Prop :=
  (∀ a x, ((![v80] : Fin 1 → IVec S16 32) a x).toNat < S16384.size a)
theorem k1_idx23_inb : ∀ (v80 : IVec S16 32) (k1_hw23 : k1_chk23 v80), ∀ a x, ((![v80] : Fin 1 → IVec S16 32) a x).toNat < S16384.size a := fun v80 k1_hw23 => k1_hw23

def k1_chk24 (v83 : IVec S16 32) : Prop :=
  (∀ a x, ((![v83] : Fin 1 → IVec S16 32) a x).toNat < S16384.size a)
theorem k1_idx24_inb : ∀ (v83 : IVec S16 32) (k1_hw24 : k1_chk24 v83), ∀ a x, ((![v83] : Fin 1 → IVec S16 32) a x).toNat < S16384.size a := fun v83 k1_hw24 => k1_hw24

def k1_chk25 (v86 : IVec S16 32) : Prop :=
  (∀ a x, ((![v86] : Fin 1 → IVec S16 32) a x).toNat < S16384.size a)
theorem k1_idx25_inb : ∀ (v86 : IVec S16 32) (k1_hw25 : k1_chk25 v86), ∀ a x, ((![v86] : Fin 1 → IVec S16 32) a x).toNat < S16384.size a := fun v86 k1_hw25 => k1_hw25

def k1_chk26 (v89 : IVec S16 32) : Prop :=
  (∀ a x, ((![v89] : Fin 1 → IVec S16 32) a x).toNat < S16384.size a)
theorem k1_idx26_inb : ∀ (v89 : IVec S16 32) (k1_hw26 : k1_chk26 v89), ∀ a x, ((![v89] : Fin 1 → IVec S16 32) a x).toNat < S16384.size a := fun v89 k1_hw26 => k1_hw26

def k1_chk27 (v92 : IVec S16 32) : Prop :=
  (∀ a x, ((![v92] : Fin 1 → IVec S16 32) a x).toNat < S16384.size a)
theorem k1_idx27_inb : ∀ (v92 : IVec S16 32) (k1_hw27 : k1_chk27 v92), ∀ a x, ((![v92] : Fin 1 → IVec S16 32) a x).toNat < S16384.size a := fun v92 k1_hw27 => k1_hw27

def k1_chk28 (v95 : IVec S16 32) : Prop :=
  (∀ a x, ((![v95] : Fin 1 → IVec S16 32) a x).toNat < S16384.size a)
theorem k1_idx28_inb : ∀ (v95 : IVec S16 32) (k1_hw28 : k1_chk28 v95), ∀ a x, ((![v95] : Fin 1 → IVec S16 32) a x).toNat < S16384.size a := fun v95 k1_hw28 => k1_hw28

def k1_chk29 (v98 : IVec S16 32) : Prop :=
  (∀ a x, ((![v98] : Fin 1 → IVec S16 32) a x).toNat < S16384.size a)
theorem k1_idx29_inb : ∀ (v98 : IVec S16 32) (k1_hw29 : k1_chk29 v98), ∀ a x, ((![v98] : Fin 1 → IVec S16 32) a x).toNat < S16384.size a := fun v98 k1_hw29 => k1_hw29

def k1_chk30 (v101 : IVec S16 32) : Prop :=
  (∀ a x, ((![v101] : Fin 1 → IVec S16 32) a x).toNat < S16384.size a)
theorem k1_idx30_inb : ∀ (v101 : IVec S16 32) (k1_hw30 : k1_chk30 v101), ∀ a x, ((![v101] : Fin 1 → IVec S16 32) a x).toNat < S16384.size a := fun v101 k1_hw30 => k1_hw30

def k1_chk31 (v104 : IVec S16 32) : Prop :=
  (∀ a x, ((![v104] : Fin 1 → IVec S16 32) a x).toNat < S16384.size a)
theorem k1_idx31_inb : ∀ (v104 : IVec S16 32) (k1_hw31 : k1_chk31 v104), ∀ a x, ((![v104] : Fin 1 → IVec S16 32) a x).toNat < S16384.size a := fun v104 k1_hw31 => k1_hw31

def k1_chk32 (v107 : IVec S16 32) : Prop :=
  (∀ a x, ((![v107] : Fin 1 → IVec S16 32) a x).toNat < S16384.size a)
theorem k1_idx32_inb : ∀ (v107 : IVec S16 32) (k1_hw32 : k1_chk32 v107), ∀ a x, ((![v107] : Fin 1 → IVec S16 32) a x).toNat < S16384.size a := fun v107 k1_hw32 => k1_hw32

def k1_chk33 (v110 : IVec S16 32) : Prop :=
  (∀ a x, ((![v110] : Fin 1 → IVec S16 32) a x).toNat < S16384.size a)
theorem k1_idx33_inb : ∀ (v110 : IVec S16 32) (k1_hw33 : k1_chk33 v110), ∀ a x, ((![v110] : Fin 1 → IVec S16 32) a x).toNat < S16384.size a := fun v110 k1_hw33 => k1_hw33

def k1_chk34 (v113 : IVec S16 32) : Prop :=
  (∀ a x, ((![v113] : Fin 1 → IVec S16 32) a x).toNat < S16384.size a)
theorem k1_idx34_inb : ∀ (v113 : IVec S16 32) (k1_hw34 : k1_chk34 v113), ∀ a x, ((![v113] : Fin 1 → IVec S16 32) a x).toNat < S16384.size a := fun v113 k1_hw34 => k1_hw34

def k1_chk35 (v116 : IVec S16 32) : Prop :=
  (∀ a x, ((![v116] : Fin 1 → IVec S16 32) a x).toNat < S16384.size a)
theorem k1_idx35_inb : ∀ (v116 : IVec S16 32) (k1_hw35 : k1_chk35 v116), ∀ a x, ((![v116] : Fin 1 → IVec S16 32) a x).toNat < S16384.size a := fun v116 k1_hw35 => k1_hw35

def k1_chk36 (v119 : IVec S16 32) : Prop :=
  (∀ a x, ((![v119] : Fin 1 → IVec S16 32) a x).toNat < S16384.size a)
theorem k1_idx36_inb : ∀ (v119 : IVec S16 32) (k1_hw36 : k1_chk36 v119), ∀ a x, ((![v119] : Fin 1 → IVec S16 32) a x).toNat < S16384.size a := fun v119 k1_hw36 => k1_hw36

def k1_chk37 (v122 : IVec S16 32) : Prop :=
  (∀ a x, ((![v122] : Fin 1 → IVec S16 32) a x).toNat < S16384.size a)
theorem k1_idx37_inb : ∀ (v122 : IVec S16 32) (k1_hw37 : k1_chk37 v122), ∀ a x, ((![v122] : Fin 1 → IVec S16 32) a x).toNat < S16384.size a := fun v122 k1_hw37 => k1_hw37

def k1_chk38 (v125 : IVec S16 32) : Prop :=
  (∀ a x, ((![v125] : Fin 1 → IVec S16 32) a x).toNat < S16384.size a)
theorem k1_idx38_inb : ∀ (v125 : IVec S16 32) (k1_hw38 : k1_chk38 v125), ∀ a x, ((![v125] : Fin 1 → IVec S16 32) a x).toNat < S16384.size a := fun v125 k1_hw38 => k1_hw38

def k1_chk39 (v128 : IVec S16 32) : Prop :=
  (∀ a x, ((![v128] : Fin 1 → IVec S16 32) a x).toNat < S16384.size a)
theorem k1_idx39_inb : ∀ (v128 : IVec S16 32) (k1_hw39 : k1_chk39 v128), ∀ a x, ((![v128] : Fin 1 → IVec S16 32) a x).toNat < S16384.size a := fun v128 k1_hw39 => k1_hw39

def k1_chk40 (v131 : IVec S16 32) : Prop :=
  (∀ a x, ((![v131] : Fin 1 → IVec S16 32) a x).toNat < S16384.size a)
theorem k1_idx40_inb : ∀ (v131 : IVec S16 32) (k1_hw40 : k1_chk40 v131), ∀ a x, ((![v131] : Fin 1 → IVec S16 32) a x).toNat < S16384.size a := fun v131 k1_hw40 => k1_hw40

def k1_chk41 (v134 : IVec S16 32) : Prop :=
  (∀ a x, ((![v134] : Fin 1 → IVec S16 32) a x).toNat < S16384.size a)
theorem k1_idx41_inb : ∀ (v134 : IVec S16 32) (k1_hw41 : k1_chk41 v134), ∀ a x, ((![v134] : Fin 1 → IVec S16 32) a x).toNat < S16384.size a := fun v134 k1_hw41 => k1_hw41

def k1_chk42 (v137 : IVec S16 32) : Prop :=
  (∀ a x, ((![v137] : Fin 1 → IVec S16 32) a x).toNat < S16384.size a)
theorem k1_idx42_inb : ∀ (v137 : IVec S16 32) (k1_hw42 : k1_chk42 v137), ∀ a x, ((![v137] : Fin 1 → IVec S16 32) a x).toNat < S16384.size a := fun v137 k1_hw42 => k1_hw42

def k1_chk43 (v140 : IVec S16 32) : Prop :=
  (∀ a x, ((![v140] : Fin 1 → IVec S16 32) a x).toNat < S16384.size a)
theorem k1_idx43_inb : ∀ (v140 : IVec S16 32) (k1_hw43 : k1_chk43 v140), ∀ a x, ((![v140] : Fin 1 → IVec S16 32) a x).toNat < S16384.size a := fun v140 k1_hw43 => k1_hw43

def k1_chk44 (v143 : IVec S16 32) : Prop :=
  (∀ a x, ((![v143] : Fin 1 → IVec S16 32) a x).toNat < S16384.size a)
theorem k1_idx44_inb : ∀ (v143 : IVec S16 32) (k1_hw44 : k1_chk44 v143), ∀ a x, ((![v143] : Fin 1 → IVec S16 32) a x).toNat < S16384.size a := fun v143 k1_hw44 => k1_hw44

def k1_chk45 (v146 : IVec S16 32) : Prop :=
  (∀ a x, ((![v146] : Fin 1 → IVec S16 32) a x).toNat < S16384.size a)
theorem k1_idx45_inb : ∀ (v146 : IVec S16 32) (k1_hw45 : k1_chk45 v146), ∀ a x, ((![v146] : Fin 1 → IVec S16 32) a x).toNat < S16384.size a := fun v146 k1_hw45 => k1_hw45

def k1_chk46 (v149 : IVec S16 32) : Prop :=
  (∀ a x, ((![v149] : Fin 1 → IVec S16 32) a x).toNat < S16384.size a)
theorem k1_idx46_inb : ∀ (v149 : IVec S16 32) (k1_hw46 : k1_chk46 v149), ∀ a x, ((![v149] : Fin 1 → IVec S16 32) a x).toNat < S16384.size a := fun v149 k1_hw46 => k1_hw46

def k1_chk47 (v152 : IVec S16 32) : Prop :=
  (∀ a x, ((![v152] : Fin 1 → IVec S16 32) a x).toNat < S16384.size a)
theorem k1_idx47_inb : ∀ (v152 : IVec S16 32) (k1_hw47 : k1_chk47 v152), ∀ a x, ((![v152] : Fin 1 → IVec S16 32) a x).toNat < S16384.size a := fun v152 k1_hw47 => k1_hw47

def k1_chk48 (v155 : IVec S16 32) : Prop :=
  (∀ a x, ((![v155] : Fin 1 → IVec S16 32) a x).toNat < S16384.size a)
theorem k1_idx48_inb : ∀ (v155 : IVec S16 32) (k1_hw48 : k1_chk48 v155), ∀ a x, ((![v155] : Fin 1 → IVec S16 32) a x).toNat < S16384.size a := fun v155 k1_hw48 => k1_hw48

def k1_chk49 (v158 : IVec S16 32) : Prop :=
  (∀ a x, ((![v158] : Fin 1 → IVec S16 32) a x).toNat < S16384.size a)
theorem k1_idx49_inb : ∀ (v158 : IVec S16 32) (k1_hw49 : k1_chk49 v158), ∀ a x, ((![v158] : Fin 1 → IVec S16 32) a x).toNat < S16384.size a := fun v158 k1_hw49 => k1_hw49

def k1_chk50 (v161 : IVec S16 32) : Prop :=
  (∀ a x, ((![v161] : Fin 1 → IVec S16 32) a x).toNat < S16384.size a)
theorem k1_idx50_inb : ∀ (v161 : IVec S16 32) (k1_hw50 : k1_chk50 v161), ∀ a x, ((![v161] : Fin 1 → IVec S16 32) a x).toNat < S16384.size a := fun v161 k1_hw50 => k1_hw50

def k1_chk51 (v164 : IVec S16 32) : Prop :=
  (∀ a x, ((![v164] : Fin 1 → IVec S16 32) a x).toNat < S16384.size a)
theorem k1_idx51_inb : ∀ (v164 : IVec S16 32) (k1_hw51 : k1_chk51 v164), ∀ a x, ((![v164] : Fin 1 → IVec S16 32) a x).toNat < S16384.size a := fun v164 k1_hw51 => k1_hw51

def k1_chk52 (v167 : IVec S16 32) : Prop :=
  (∀ a x, ((![v167] : Fin 1 → IVec S16 32) a x).toNat < S16384.size a)
theorem k1_idx52_inb : ∀ (v167 : IVec S16 32) (k1_hw52 : k1_chk52 v167), ∀ a x, ((![v167] : Fin 1 → IVec S16 32) a x).toNat < S16384.size a := fun v167 k1_hw52 => k1_hw52

def k1_chk53 (v170 : IVec S16 32) : Prop :=
  (∀ a x, ((![v170] : Fin 1 → IVec S16 32) a x).toNat < S16384.size a)
theorem k1_idx53_inb : ∀ (v170 : IVec S16 32) (k1_hw53 : k1_chk53 v170), ∀ a x, ((![v170] : Fin 1 → IVec S16 32) a x).toNat < S16384.size a := fun v170 k1_hw53 => k1_hw53

def k1_chk54 (v173 : IVec S16 32) : Prop :=
  (∀ a x, ((![v173] : Fin 1 → IVec S16 32) a x).toNat < S16384.size a)
theorem k1_idx54_inb : ∀ (v173 : IVec S16 32) (k1_hw54 : k1_chk54 v173), ∀ a x, ((![v173] : Fin 1 → IVec S16 32) a x).toNat < S16384.size a := fun v173 k1_hw54 => k1_hw54

def k1_chk55 (v176 : IVec S16 32) : Prop :=
  (∀ a x, ((![v176] : Fin 1 → IVec S16 32) a x).toNat < S16384.size a)
theorem k1_idx55_inb : ∀ (v176 : IVec S16 32) (k1_hw55 : k1_chk55 v176), ∀ a x, ((![v176] : Fin 1 → IVec S16 32) a x).toNat < S16384.size a := fun v176 k1_hw55 => k1_hw55

def k1_chk56 (v179 : IVec S16 32) : Prop :=
  (∀ a x, ((![v179] : Fin 1 → IVec S16 32) a x).toNat < S16384.size a)
theorem k1_idx56_inb : ∀ (v179 : IVec S16 32) (k1_hw56 : k1_chk56 v179), ∀ a x, ((![v179] : Fin 1 → IVec S16 32) a x).toNat < S16384.size a := fun v179 k1_hw56 => k1_hw56

def k1_chk57 (v182 : IVec S16 32) : Prop :=
  (∀ a x, ((![v182] : Fin 1 → IVec S16 32) a x).toNat < S16384.size a)
theorem k1_idx57_inb : ∀ (v182 : IVec S16 32) (k1_hw57 : k1_chk57 v182), ∀ a x, ((![v182] : Fin 1 → IVec S16 32) a x).toNat < S16384.size a := fun v182 k1_hw57 => k1_hw57

def k1_chk58 (v185 : IVec S16 32) : Prop :=
  (∀ a x, ((![v185] : Fin 1 → IVec S16 32) a x).toNat < S16384.size a)
theorem k1_idx58_inb : ∀ (v185 : IVec S16 32) (k1_hw58 : k1_chk58 v185), ∀ a x, ((![v185] : Fin 1 → IVec S16 32) a x).toNat < S16384.size a := fun v185 k1_hw58 => k1_hw58

def k1_chk59 (v188 : IVec S16 32) : Prop :=
  (∀ a x, ((![v188] : Fin 1 → IVec S16 32) a x).toNat < S16384.size a)
theorem k1_idx59_inb : ∀ (v188 : IVec S16 32) (k1_hw59 : k1_chk59 v188), ∀ a x, ((![v188] : Fin 1 → IVec S16 32) a x).toNat < S16384.size a := fun v188 k1_hw59 => k1_hw59

def k1_chk60 (v191 : IVec S16 32) : Prop :=
  (∀ a x, ((![v191] : Fin 1 → IVec S16 32) a x).toNat < S16384.size a)
theorem k1_idx60_inb : ∀ (v191 : IVec S16 32) (k1_hw60 : k1_chk60 v191), ∀ a x, ((![v191] : Fin 1 → IVec S16 32) a x).toNat < S16384.size a := fun v191 k1_hw60 => k1_hw60

def k1_chk61 (v194 : IVec S16 32) : Prop :=
  (∀ a x, ((![v194] : Fin 1 → IVec S16 32) a x).toNat < S16384.size a)
theorem k1_idx61_inb : ∀ (v194 : IVec S16 32) (k1_hw61 : k1_chk61 v194), ∀ a x, ((![v194] : Fin 1 → IVec S16 32) a x).toNat < S16384.size a := fun v194 k1_hw61 => k1_hw61

def k1_chk62 (v197 : IVec S16 32) : Prop :=
  (∀ a x, ((![v197] : Fin 1 → IVec S16 32) a x).toNat < S16384.size a)
theorem k1_idx62_inb : ∀ (v197 : IVec S16 32) (k1_hw62 : k1_chk62 v197), ∀ a x, ((![v197] : Fin 1 → IVec S16 32) a x).toNat < S16384.size a := fun v197 k1_hw62 => k1_hw62

def k1_chk63 (v200 : IVec S16 32) : Prop :=
  (∀ a x, ((![v200] : Fin 1 → IVec S16 32) a x).toNat < S16384.size a)
theorem k1_idx63_inb : ∀ (v200 : IVec S16 32) (k1_hw63 : k1_chk63 v200), ∀ a x, ((![v200] : Fin 1 → IVec S16 32) a x).toNat < S16384.size a := fun v200 k1_hw63 => k1_hw63

def k1_chk64 (v203 : IVec S16 32) : Prop :=
  (∀ a x, ((![v203] : Fin 1 → IVec S16 32) a x).toNat < S16384.size a)
theorem k1_idx64_inb : ∀ (v203 : IVec S16 32) (k1_hw64 : k1_chk64 v203), ∀ a x, ((![v203] : Fin 1 → IVec S16 32) a x).toNat < S16384.size a := fun v203 k1_hw64 => k1_hw64

def k1_chk65 (v560 : IVec S16 32) : Prop :=
  (∀ a x, ((![v560] : Fin 1 → IVec S16 32) a x).toNat < S16384.size a)
theorem k1_idx65_inb : ∀ (v560 : IVec S16 32) (k1_hw65 : k1_chk65 v560), ∀ a x, ((![v560] : Fin 1 → IVec S16 32) a x).toNat < S16384.size a := fun v560 k1_hw65 => k1_hw65

def k1_chk66 (v564 : IVec S16 32) : Prop :=
  (∀ a x, ((![v564] : Fin 1 → IVec S16 32) a x).toNat < S16384.size a)
theorem k1_idx66_inb : ∀ (v564 : IVec S16 32) (k1_hw66 : k1_chk66 v564), ∀ a x, ((![v564] : Fin 1 → IVec S16 32) a x).toNat < S16384.size a := fun v564 k1_hw66 => k1_hw66

def k1_chk67 (v568 : IVec S16 32) : Prop :=
  (∀ a x, ((![v568] : Fin 1 → IVec S16 32) a x).toNat < S16384.size a)
theorem k1_idx67_inb : ∀ (v568 : IVec S16 32) (k1_hw67 : k1_chk67 v568), ∀ a x, ((![v568] : Fin 1 → IVec S16 32) a x).toNat < S16384.size a := fun v568 k1_hw67 => k1_hw67

def k1_chk68 (v572 : IVec S16 32) : Prop :=
  (∀ a x, ((![v572] : Fin 1 → IVec S16 32) a x).toNat < S16384.size a)
theorem k1_idx68_inb : ∀ (v572 : IVec S16 32) (k1_hw68 : k1_chk68 v572), ∀ a x, ((![v572] : Fin 1 → IVec S16 32) a x).toNat < S16384.size a := fun v572 k1_hw68 => k1_hw68

def k1_chk69 (v576 : IVec S16 32) : Prop :=
  (∀ a x, ((![v576] : Fin 1 → IVec S16 32) a x).toNat < S16384.size a)
theorem k1_idx69_inb : ∀ (v576 : IVec S16 32) (k1_hw69 : k1_chk69 v576), ∀ a x, ((![v576] : Fin 1 → IVec S16 32) a x).toNat < S16384.size a := fun v576 k1_hw69 => k1_hw69

def k1_chk70 (v580 : IVec S16 32) : Prop :=
  (∀ a x, ((![v580] : Fin 1 → IVec S16 32) a x).toNat < S16384.size a)
theorem k1_idx70_inb : ∀ (v580 : IVec S16 32) (k1_hw70 : k1_chk70 v580), ∀ a x, ((![v580] : Fin 1 → IVec S16 32) a x).toNat < S16384.size a := fun v580 k1_hw70 => k1_hw70

def k1_chk71 (v584 : IVec S16 32) : Prop :=
  (∀ a x, ((![v584] : Fin 1 → IVec S16 32) a x).toNat < S16384.size a)
theorem k1_idx71_inb : ∀ (v584 : IVec S16 32) (k1_hw71 : k1_chk71 v584), ∀ a x, ((![v584] : Fin 1 → IVec S16 32) a x).toNat < S16384.size a := fun v584 k1_hw71 => k1_hw71

def k1_chk72 (v588 : IVec S16 32) : Prop :=
  (∀ a x, ((![v588] : Fin 1 → IVec S16 32) a x).toNat < S16384.size a)
theorem k1_idx72_inb : ∀ (v588 : IVec S16 32) (k1_hw72 : k1_chk72 v588), ∀ a x, ((![v588] : Fin 1 → IVec S16 32) a x).toNat < S16384.size a := fun v588 k1_hw72 => k1_hw72

def k1_chk73 (v592 : IVec S16 32) : Prop :=
  (∀ a x, ((![v592] : Fin 1 → IVec S16 32) a x).toNat < S16384.size a)
theorem k1_idx73_inb : ∀ (v592 : IVec S16 32) (k1_hw73 : k1_chk73 v592), ∀ a x, ((![v592] : Fin 1 → IVec S16 32) a x).toNat < S16384.size a := fun v592 k1_hw73 => k1_hw73

def k1_chk74 (v596 : IVec S16 32) : Prop :=
  (∀ a x, ((![v596] : Fin 1 → IVec S16 32) a x).toNat < S16384.size a)
theorem k1_idx74_inb : ∀ (v596 : IVec S16 32) (k1_hw74 : k1_chk74 v596), ∀ a x, ((![v596] : Fin 1 → IVec S16 32) a x).toNat < S16384.size a := fun v596 k1_hw74 => k1_hw74

def k1_chk75 (v600 : IVec S16 32) : Prop :=
  (∀ a x, ((![v600] : Fin 1 → IVec S16 32) a x).toNat < S16384.size a)
theorem k1_idx75_inb : ∀ (v600 : IVec S16 32) (k1_hw75 : k1_chk75 v600), ∀ a x, ((![v600] : Fin 1 → IVec S16 32) a x).toNat < S16384.size a := fun v600 k1_hw75 => k1_hw75

def k1_chk76 (v604 : IVec S16 32) : Prop :=
  (∀ a x, ((![v604] : Fin 1 → IVec S16 32) a x).toNat < S16384.size a)
theorem k1_idx76_inb : ∀ (v604 : IVec S16 32) (k1_hw76 : k1_chk76 v604), ∀ a x, ((![v604] : Fin 1 → IVec S16 32) a x).toNat < S16384.size a := fun v604 k1_hw76 => k1_hw76

def k1_chk77 (v608 : IVec S16 32) : Prop :=
  (∀ a x, ((![v608] : Fin 1 → IVec S16 32) a x).toNat < S16384.size a)
theorem k1_idx77_inb : ∀ (v608 : IVec S16 32) (k1_hw77 : k1_chk77 v608), ∀ a x, ((![v608] : Fin 1 → IVec S16 32) a x).toNat < S16384.size a := fun v608 k1_hw77 => k1_hw77

def k1_chk78 (v612 : IVec S16 32) : Prop :=
  (∀ a x, ((![v612] : Fin 1 → IVec S16 32) a x).toNat < S16384.size a)
theorem k1_idx78_inb : ∀ (v612 : IVec S16 32) (k1_hw78 : k1_chk78 v612), ∀ a x, ((![v612] : Fin 1 → IVec S16 32) a x).toNat < S16384.size a := fun v612 k1_hw78 => k1_hw78

def k1_chk79 (v616 : IVec S16 32) : Prop :=
  (∀ a x, ((![v616] : Fin 1 → IVec S16 32) a x).toNat < S16384.size a)
theorem k1_idx79_inb : ∀ (v616 : IVec S16 32) (k1_hw79 : k1_chk79 v616), ∀ a x, ((![v616] : Fin 1 → IVec S16 32) a x).toNat < S16384.size a := fun v616 k1_hw79 => k1_hw79

def k1_chk80 (v620 : IVec S16 32) : Prop :=
  (∀ a x, ((![v620] : Fin 1 → IVec S16 32) a x).toNat < S16384.size a)
theorem k1_idx80_inb : ∀ (v620 : IVec S16 32) (k1_hw80 : k1_chk80 v620), ∀ a x, ((![v620] : Fin 1 → IVec S16 32) a x).toNat < S16384.size a := fun v620 k1_hw80 => k1_hw80

def k1_chk81 (v624 : IVec S16 32) : Prop :=
  (∀ a x, ((![v624] : Fin 1 → IVec S16 32) a x).toNat < S16384.size a)
theorem k1_idx81_inb : ∀ (v624 : IVec S16 32) (k1_hw81 : k1_chk81 v624), ∀ a x, ((![v624] : Fin 1 → IVec S16 32) a x).toNat < S16384.size a := fun v624 k1_hw81 => k1_hw81

def k1_chk82 (v628 : IVec S16 32) : Prop :=
  (∀ a x, ((![v628] : Fin 1 → IVec S16 32) a x).toNat < S16384.size a)
theorem k1_idx82_inb : ∀ (v628 : IVec S16 32) (k1_hw82 : k1_chk82 v628), ∀ a x, ((![v628] : Fin 1 → IVec S16 32) a x).toNat < S16384.size a := fun v628 k1_hw82 => k1_hw82

def k1_chk83 (v632 : IVec S16 32) : Prop :=
  (∀ a x, ((![v632] : Fin 1 → IVec S16 32) a x).toNat < S16384.size a)
theorem k1_idx83_inb : ∀ (v632 : IVec S16 32) (k1_hw83 : k1_chk83 v632), ∀ a x, ((![v632] : Fin 1 → IVec S16 32) a x).toNat < S16384.size a := fun v632 k1_hw83 => k1_hw83

def k1_chk84 (v636 : IVec S16 32) : Prop :=
  (∀ a x, ((![v636] : Fin 1 → IVec S16 32) a x).toNat < S16384.size a)
theorem k1_idx84_inb : ∀ (v636 : IVec S16 32) (k1_hw84 : k1_chk84 v636), ∀ a x, ((![v636] : Fin 1 → IVec S16 32) a x).toNat < S16384.size a := fun v636 k1_hw84 => k1_hw84

def k1_chk85 (v640 : IVec S16 32) : Prop :=
  (∀ a x, ((![v640] : Fin 1 → IVec S16 32) a x).toNat < S16384.size a)
theorem k1_idx85_inb : ∀ (v640 : IVec S16 32) (k1_hw85 : k1_chk85 v640), ∀ a x, ((![v640] : Fin 1 → IVec S16 32) a x).toNat < S16384.size a := fun v640 k1_hw85 => k1_hw85

def k1_chk86 (v644 : IVec S16 32) : Prop :=
  (∀ a x, ((![v644] : Fin 1 → IVec S16 32) a x).toNat < S16384.size a)
theorem k1_idx86_inb : ∀ (v644 : IVec S16 32) (k1_hw86 : k1_chk86 v644), ∀ a x, ((![v644] : Fin 1 → IVec S16 32) a x).toNat < S16384.size a := fun v644 k1_hw86 => k1_hw86

def k1_chk87 (v648 : IVec S16 32) : Prop :=
  (∀ a x, ((![v648] : Fin 1 → IVec S16 32) a x).toNat < S16384.size a)
theorem k1_idx87_inb : ∀ (v648 : IVec S16 32) (k1_hw87 : k1_chk87 v648), ∀ a x, ((![v648] : Fin 1 → IVec S16 32) a x).toNat < S16384.size a := fun v648 k1_hw87 => k1_hw87

def k1_chk88 (v652 : IVec S16 32) : Prop :=
  (∀ a x, ((![v652] : Fin 1 → IVec S16 32) a x).toNat < S16384.size a)
theorem k1_idx88_inb : ∀ (v652 : IVec S16 32) (k1_hw88 : k1_chk88 v652), ∀ a x, ((![v652] : Fin 1 → IVec S16 32) a x).toNat < S16384.size a := fun v652 k1_hw88 => k1_hw88

def k1_chk89 (v656 : IVec S16 32) : Prop :=
  (∀ a x, ((![v656] : Fin 1 → IVec S16 32) a x).toNat < S16384.size a)
theorem k1_idx89_inb : ∀ (v656 : IVec S16 32) (k1_hw89 : k1_chk89 v656), ∀ a x, ((![v656] : Fin 1 → IVec S16 32) a x).toNat < S16384.size a := fun v656 k1_hw89 => k1_hw89

def k1_chk90 (v660 : IVec S16 32) : Prop :=
  (∀ a x, ((![v660] : Fin 1 → IVec S16 32) a x).toNat < S16384.size a)
theorem k1_idx90_inb : ∀ (v660 : IVec S16 32) (k1_hw90 : k1_chk90 v660), ∀ a x, ((![v660] : Fin 1 → IVec S16 32) a x).toNat < S16384.size a := fun v660 k1_hw90 => k1_hw90

def k1_chk91 (v664 : IVec S16 32) : Prop :=
  (∀ a x, ((![v664] : Fin 1 → IVec S16 32) a x).toNat < S16384.size a)
theorem k1_idx91_inb : ∀ (v664 : IVec S16 32) (k1_hw91 : k1_chk91 v664), ∀ a x, ((![v664] : Fin 1 → IVec S16 32) a x).toNat < S16384.size a := fun v664 k1_hw91 => k1_hw91

def k1_chk92 (v668 : IVec S16 32) : Prop :=
  (∀ a x, ((![v668] : Fin 1 → IVec S16 32) a x).toNat < S16384.size a)
theorem k1_idx92_inb : ∀ (v668 : IVec S16 32) (k1_hw92 : k1_chk92 v668), ∀ a x, ((![v668] : Fin 1 → IVec S16 32) a x).toNat < S16384.size a := fun v668 k1_hw92 => k1_hw92

def k1_chk93 (v672 : IVec S16 32) : Prop :=
  (∀ a x, ((![v672] : Fin 1 → IVec S16 32) a x).toNat < S16384.size a)
theorem k1_idx93_inb : ∀ (v672 : IVec S16 32) (k1_hw93 : k1_chk93 v672), ∀ a x, ((![v672] : Fin 1 → IVec S16 32) a x).toNat < S16384.size a := fun v672 k1_hw93 => k1_hw93

def k1_chk94 (v676 : IVec S16 32) : Prop :=
  (∀ a x, ((![v676] : Fin 1 → IVec S16 32) a x).toNat < S16384.size a)
theorem k1_idx94_inb : ∀ (v676 : IVec S16 32) (k1_hw94 : k1_chk94 v676), ∀ a x, ((![v676] : Fin 1 → IVec S16 32) a x).toNat < S16384.size a := fun v676 k1_hw94 => k1_hw94

def k1_chk95 (v680 : IVec S16 32) : Prop :=
  (∀ a x, ((![v680] : Fin 1 → IVec S16 32) a x).toNat < S16384.size a)
theorem k1_idx95_inb : ∀ (v680 : IVec S16 32) (k1_hw95 : k1_chk95 v680), ∀ a x, ((![v680] : Fin 1 → IVec S16 32) a x).toNat < S16384.size a := fun v680 k1_hw95 => k1_hw95

def k1_chk96 (v684 : IVec S16 32) : Prop :=
  (∀ a x, ((![v684] : Fin 1 → IVec S16 32) a x).toNat < S16384.size a)
theorem k1_idx96_inb : ∀ (v684 : IVec S16 32) (k1_hw96 : k1_chk96 v684), ∀ a x, ((![v684] : Fin 1 → IVec S16 32) a x).toNat < S16384.size a := fun v684 k1_hw96 => k1_hw96

def k1_chk97 (v2227 : IVec S16 32) : Prop :=
  (∀ a x, ((![v2227] : Fin 1 → IVec S16 32) a x).toNat < S1024.size a)
theorem k1_idx97_inb : ∀ (v2227 : IVec S16 32) (k1_hw97 : k1_chk97 v2227), ∀ a x, ((![v2227] : Fin 1 → IVec S16 32) a x).toNat < S1024.size a := fun v2227 k1_hw97 => k1_hw97

def k1_chk98 (v2230 : IVec S16 32) : Prop :=
  (∀ a x, ((![v2230] : Fin 1 → IVec S16 32) a x).toNat < S1024.size a)
theorem k1_idx98_inb : ∀ (v2230 : IVec S16 32) (k1_hw98 : k1_chk98 v2230), ∀ a x, ((![v2230] : Fin 1 → IVec S16 32) a x).toNat < S1024.size a := fun v2230 k1_hw98 => k1_hw98

def k1_chk99 (v2232 : IVec S16 32) : Prop :=
  (∀ a x, ((![v2232] : Fin 1 → IVec S16 32) a x).toNat < S1024.size a)
theorem k1_idx99_inb : ∀ (v2232 : IVec S16 32) (k1_hw99 : k1_chk99 v2232), ∀ a x, ((![v2232] : Fin 1 → IVec S16 32) a x).toNat < S1024.size a := fun v2232 k1_hw99 => k1_hw99

def k1_chk100 (v2235 : IVec S16 32) : Prop :=
  (∀ a x, ((![v2235] : Fin 1 → IVec S16 32) a x).toNat < S1024.size a)
theorem k1_idx100_inb : ∀ (v2235 : IVec S16 32) (k1_hw100 : k1_chk100 v2235), ∀ a x, ((![v2235] : Fin 1 → IVec S16 32) a x).toNat < S1024.size a := fun v2235 k1_hw100 => k1_hw100

def k1_chk101 (v2237 : IVec S16 32) : Prop :=
  (∀ a x, ((![v2237] : Fin 1 → IVec S16 32) a x).toNat < S1024.size a)
theorem k1_idx101_inb : ∀ (v2237 : IVec S16 32) (k1_hw101 : k1_chk101 v2237), ∀ a x, ((![v2237] : Fin 1 → IVec S16 32) a x).toNat < S1024.size a := fun v2237 k1_hw101 => k1_hw101

def k1_chk102 (v2240 : IVec S16 32) : Prop :=
  (∀ a x, ((![v2240] : Fin 1 → IVec S16 32) a x).toNat < S1024.size a)
theorem k1_idx102_inb : ∀ (v2240 : IVec S16 32) (k1_hw102 : k1_chk102 v2240), ∀ a x, ((![v2240] : Fin 1 → IVec S16 32) a x).toNat < S1024.size a := fun v2240 k1_hw102 => k1_hw102

def k1_chk103 (v2242 : IVec S16 32) : Prop :=
  (∀ a x, ((![v2242] : Fin 1 → IVec S16 32) a x).toNat < S1024.size a)
theorem k1_idx103_inb : ∀ (v2242 : IVec S16 32) (k1_hw103 : k1_chk103 v2242), ∀ a x, ((![v2242] : Fin 1 → IVec S16 32) a x).toNat < S1024.size a := fun v2242 k1_hw103 => k1_hw103

def k1_chk104 (v2245 : IVec S16 32) : Prop :=
  (∀ a x, ((![v2245] : Fin 1 → IVec S16 32) a x).toNat < S1024.size a)
theorem k1_idx104_inb : ∀ (v2245 : IVec S16 32) (k1_hw104 : k1_chk104 v2245), ∀ a x, ((![v2245] : Fin 1 → IVec S16 32) a x).toNat < S1024.size a := fun v2245 k1_hw104 => k1_hw104

def k1_chk105 (v2247 : IVec S16 32) : Prop :=
  (∀ a x, ((![v2247] : Fin 1 → IVec S16 32) a x).toNat < S1024.size a)
theorem k1_idx105_inb : ∀ (v2247 : IVec S16 32) (k1_hw105 : k1_chk105 v2247), ∀ a x, ((![v2247] : Fin 1 → IVec S16 32) a x).toNat < S1024.size a := fun v2247 k1_hw105 => k1_hw105

def k1_chk106 (v2250 : IVec S16 32) : Prop :=
  (∀ a x, ((![v2250] : Fin 1 → IVec S16 32) a x).toNat < S1024.size a)
theorem k1_idx106_inb : ∀ (v2250 : IVec S16 32) (k1_hw106 : k1_chk106 v2250), ∀ a x, ((![v2250] : Fin 1 → IVec S16 32) a x).toNat < S1024.size a := fun v2250 k1_hw106 => k1_hw106

def k1_chk107 (v2252 : IVec S16 32) : Prop :=
  (∀ a x, ((![v2252] : Fin 1 → IVec S16 32) a x).toNat < S1024.size a)
theorem k1_idx107_inb : ∀ (v2252 : IVec S16 32) (k1_hw107 : k1_chk107 v2252), ∀ a x, ((![v2252] : Fin 1 → IVec S16 32) a x).toNat < S1024.size a := fun v2252 k1_hw107 => k1_hw107

def k1_chk108 (v2255 : IVec S16 32) : Prop :=
  (∀ a x, ((![v2255] : Fin 1 → IVec S16 32) a x).toNat < S1024.size a)
theorem k1_idx108_inb : ∀ (v2255 : IVec S16 32) (k1_hw108 : k1_chk108 v2255), ∀ a x, ((![v2255] : Fin 1 → IVec S16 32) a x).toNat < S1024.size a := fun v2255 k1_hw108 => k1_hw108

def k1_chk109 (v2257 : IVec S16 32) : Prop :=
  (∀ a x, ((![v2257] : Fin 1 → IVec S16 32) a x).toNat < S1024.size a)
theorem k1_idx109_inb : ∀ (v2257 : IVec S16 32) (k1_hw109 : k1_chk109 v2257), ∀ a x, ((![v2257] : Fin 1 → IVec S16 32) a x).toNat < S1024.size a := fun v2257 k1_hw109 => k1_hw109

def k1_chk110 (v2260 : IVec S16 32) : Prop :=
  (∀ a x, ((![v2260] : Fin 1 → IVec S16 32) a x).toNat < S1024.size a)
theorem k1_idx110_inb : ∀ (v2260 : IVec S16 32) (k1_hw110 : k1_chk110 v2260), ∀ a x, ((![v2260] : Fin 1 → IVec S16 32) a x).toNat < S1024.size a := fun v2260 k1_hw110 => k1_hw110

def k1_chk111 (v2262 : IVec S16 32) : Prop :=
  (∀ a x, ((![v2262] : Fin 1 → IVec S16 32) a x).toNat < S1024.size a)
theorem k1_idx111_inb : ∀ (v2262 : IVec S16 32) (k1_hw111 : k1_chk111 v2262), ∀ a x, ((![v2262] : Fin 1 → IVec S16 32) a x).toNat < S1024.size a := fun v2262 k1_hw111 => k1_hw111

def k1_chk112 (v2265 : IVec S16 32) : Prop :=
  (∀ a x, ((![v2265] : Fin 1 → IVec S16 32) a x).toNat < S1024.size a)
theorem k1_idx112_inb : ∀ (v2265 : IVec S16 32) (k1_hw112 : k1_chk112 v2265), ∀ a x, ((![v2265] : Fin 1 → IVec S16 32) a x).toNat < S1024.size a := fun v2265 k1_hw112 => k1_hw112
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_3 : BitVec 32 := 8#32
  let v6 : BitVec 32 := Scalar.muli v2 c8_i32_3
  ![v6.toNat]
abbrev grid2 : Pipeline.Grid := ⟨1, ![8], ![false]⟩

def cc2_transform_0 (i : grid2.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_0 : BitVec 32 := 128#32
  let v3 : BitVec 32 := Scalar.muli v2 c128_i32_0
  ![v3.toNat]
@[reducible] def k3_t1_loop : Scf.Loop 32 :=
  let c0_i32_1 : BitVec 32 := 0#32
  let c8_i32 : BitVec 32 := 8#32
  let v5 : BitVec 32 := Scalar.addi c0_i32_1 c8_i32
  let c1_i32 : BitVec 32 := 1#32
  ⟨c0_i32_1, v5, c1_i32⟩

def k3_chk1 (v14 : IVec S16 32) : Prop :=
  (∀ a x, ((![v14] : Fin 1 → IVec S16 32) a x).toNat < S16384.size a)
theorem k3_idx1_inb : ∀ (v14 : IVec S16 32) (k3_hw1 : k3_chk1 v14), ∀ a x, ((![v14] : Fin 1 → IVec S16 32) a x).toNat < S16384.size a := fun v14 k3_hw1 => k3_hw1

def k3_chk2 (v17 : IVec S16 32) : Prop :=
  (∀ a x, ((![v17] : Fin 1 → IVec S16 32) a x).toNat < S16384.size a)
theorem k3_idx2_inb : ∀ (v17 : IVec S16 32) (k3_hw2 : k3_chk2 v17), ∀ a x, ((![v17] : Fin 1 → IVec S16 32) a x).toNat < S16384.size a := fun v17 k3_hw2 => k3_hw2

def k3_chk3 (v20 : IVec S16 32) : Prop :=
  (∀ a x, ((![v20] : Fin 1 → IVec S16 32) a x).toNat < S16384.size a)
theorem k3_idx3_inb : ∀ (v20 : IVec S16 32) (k3_hw3 : k3_chk3 v20), ∀ a x, ((![v20] : Fin 1 → IVec S16 32) a x).toNat < S16384.size a := fun v20 k3_hw3 => k3_hw3

def k3_chk4 (v23 : IVec S16 32) : Prop :=
  (∀ a x, ((![v23] : Fin 1 → IVec S16 32) a x).toNat < S16384.size a)
theorem k3_idx4_inb : ∀ (v23 : IVec S16 32) (k3_hw4 : k3_chk4 v23), ∀ a x, ((![v23] : Fin 1 → IVec S16 32) a x).toNat < S16384.size a := fun v23 k3_hw4 => k3_hw4

def k3_chk5 (v26 : IVec S16 32) : Prop :=
  (∀ a x, ((![v26] : Fin 1 → IVec S16 32) a x).toNat < S16384.size a)
theorem k3_idx5_inb : ∀ (v26 : IVec S16 32) (k3_hw5 : k3_chk5 v26), ∀ a x, ((![v26] : Fin 1 → IVec S16 32) a x).toNat < S16384.size a := fun v26 k3_hw5 => k3_hw5

def k3_chk6 (v29 : IVec S16 32) : Prop :=
  (∀ a x, ((![v29] : Fin 1 → IVec S16 32) a x).toNat < S16384.size a)
theorem k3_idx6_inb : ∀ (v29 : IVec S16 32) (k3_hw6 : k3_chk6 v29), ∀ a x, ((![v29] : Fin 1 → IVec S16 32) a x).toNat < S16384.size a := fun v29 k3_hw6 => k3_hw6

def k3_chk7 (v32 : IVec S16 32) : Prop :=
  (∀ a x, ((![v32] : Fin 1 → IVec S16 32) a x).toNat < S16384.size a)
theorem k3_idx7_inb : ∀ (v32 : IVec S16 32) (k3_hw7 : k3_chk7 v32), ∀ a x, ((![v32] : Fin 1 → IVec S16 32) a x).toNat < S16384.size a := fun v32 k3_hw7 => k3_hw7

def k3_chk8 (v35 : IVec S16 32) : Prop :=
  (∀ a x, ((![v35] : Fin 1 → IVec S16 32) a x).toNat < S16384.size a)
theorem k3_idx8_inb : ∀ (v35 : IVec S16 32) (k3_hw8 : k3_chk8 v35), ∀ a x, ((![v35] : Fin 1 → IVec S16 32) a x).toNat < S16384.size a := fun v35 k3_hw8 => k3_hw8

def k3_chk9 (v38 : IVec S16 32) : Prop :=
  (∀ a x, ((![v38] : Fin 1 → IVec S16 32) a x).toNat < S16384.size a)
theorem k3_idx9_inb : ∀ (v38 : IVec S16 32) (k3_hw9 : k3_chk9 v38), ∀ a x, ((![v38] : Fin 1 → IVec S16 32) a x).toNat < S16384.size a := fun v38 k3_hw9 => k3_hw9

def k3_chk10 (v41 : IVec S16 32) : Prop :=
  (∀ a x, ((![v41] : Fin 1 → IVec S16 32) a x).toNat < S16384.size a)
theorem k3_idx10_inb : ∀ (v41 : IVec S16 32) (k3_hw10 : k3_chk10 v41), ∀ a x, ((![v41] : Fin 1 → IVec S16 32) a x).toNat < S16384.size a := fun v41 k3_hw10 => k3_hw10

def k3_chk11 (v44 : IVec S16 32) : Prop :=
  (∀ a x, ((![v44] : Fin 1 → IVec S16 32) a x).toNat < S16384.size a)
theorem k3_idx11_inb : ∀ (v44 : IVec S16 32) (k3_hw11 : k3_chk11 v44), ∀ a x, ((![v44] : Fin 1 → IVec S16 32) a x).toNat < S16384.size a := fun v44 k3_hw11 => k3_hw11

def k3_chk12 (v47 : IVec S16 32) : Prop :=
  (∀ a x, ((![v47] : Fin 1 → IVec S16 32) a x).toNat < S16384.size a)
theorem k3_idx12_inb : ∀ (v47 : IVec S16 32) (k3_hw12 : k3_chk12 v47), ∀ a x, ((![v47] : Fin 1 → IVec S16 32) a x).toNat < S16384.size a := fun v47 k3_hw12 => k3_hw12

def k3_chk13 (v50 : IVec S16 32) : Prop :=
  (∀ a x, ((![v50] : Fin 1 → IVec S16 32) a x).toNat < S16384.size a)
theorem k3_idx13_inb : ∀ (v50 : IVec S16 32) (k3_hw13 : k3_chk13 v50), ∀ a x, ((![v50] : Fin 1 → IVec S16 32) a x).toNat < S16384.size a := fun v50 k3_hw13 => k3_hw13

def k3_chk14 (v53 : IVec S16 32) : Prop :=
  (∀ a x, ((![v53] : Fin 1 → IVec S16 32) a x).toNat < S16384.size a)
theorem k3_idx14_inb : ∀ (v53 : IVec S16 32) (k3_hw14 : k3_chk14 v53), ∀ a x, ((![v53] : Fin 1 → IVec S16 32) a x).toNat < S16384.size a := fun v53 k3_hw14 => k3_hw14

def k3_chk15 (v56 : IVec S16 32) : Prop :=
  (∀ a x, ((![v56] : Fin 1 → IVec S16 32) a x).toNat < S16384.size a)
theorem k3_idx15_inb : ∀ (v56 : IVec S16 32) (k3_hw15 : k3_chk15 v56), ∀ a x, ((![v56] : Fin 1 → IVec S16 32) a x).toNat < S16384.size a := fun v56 k3_hw15 => k3_hw15

def k3_chk16 (v59 : IVec S16 32) : Prop :=
  (∀ a x, ((![v59] : Fin 1 → IVec S16 32) a x).toNat < S16384.size a)
theorem k3_idx16_inb : ∀ (v59 : IVec S16 32) (k3_hw16 : k3_chk16 v59), ∀ a x, ((![v59] : Fin 1 → IVec S16 32) a x).toNat < S16384.size a := fun v59 k3_hw16 => k3_hw16

def k3_chk17 (v62 : IVec S16 32) : Prop :=
  (∀ a x, ((![v62] : Fin 1 → IVec S16 32) a x).toNat < S16384.size a)
theorem k3_idx17_inb : ∀ (v62 : IVec S16 32) (k3_hw17 : k3_chk17 v62), ∀ a x, ((![v62] : Fin 1 → IVec S16 32) a x).toNat < S16384.size a := fun v62 k3_hw17 => k3_hw17

def k3_chk18 (v65 : IVec S16 32) : Prop :=
  (∀ a x, ((![v65] : Fin 1 → IVec S16 32) a x).toNat < S16384.size a)
theorem k3_idx18_inb : ∀ (v65 : IVec S16 32) (k3_hw18 : k3_chk18 v65), ∀ a x, ((![v65] : Fin 1 → IVec S16 32) a x).toNat < S16384.size a := fun v65 k3_hw18 => k3_hw18

def k3_chk19 (v68 : IVec S16 32) : Prop :=
  (∀ a x, ((![v68] : Fin 1 → IVec S16 32) a x).toNat < S16384.size a)
theorem k3_idx19_inb : ∀ (v68 : IVec S16 32) (k3_hw19 : k3_chk19 v68), ∀ a x, ((![v68] : Fin 1 → IVec S16 32) a x).toNat < S16384.size a := fun v68 k3_hw19 => k3_hw19

def k3_chk20 (v71 : IVec S16 32) : Prop :=
  (∀ a x, ((![v71] : Fin 1 → IVec S16 32) a x).toNat < S16384.size a)
theorem k3_idx20_inb : ∀ (v71 : IVec S16 32) (k3_hw20 : k3_chk20 v71), ∀ a x, ((![v71] : Fin 1 → IVec S16 32) a x).toNat < S16384.size a := fun v71 k3_hw20 => k3_hw20

def k3_chk21 (v74 : IVec S16 32) : Prop :=
  (∀ a x, ((![v74] : Fin 1 → IVec S16 32) a x).toNat < S16384.size a)
theorem k3_idx21_inb : ∀ (v74 : IVec S16 32) (k3_hw21 : k3_chk21 v74), ∀ a x, ((![v74] : Fin 1 → IVec S16 32) a x).toNat < S16384.size a := fun v74 k3_hw21 => k3_hw21

def k3_chk22 (v77 : IVec S16 32) : Prop :=
  (∀ a x, ((![v77] : Fin 1 → IVec S16 32) a x).toNat < S16384.size a)
theorem k3_idx22_inb : ∀ (v77 : IVec S16 32) (k3_hw22 : k3_chk22 v77), ∀ a x, ((![v77] : Fin 1 → IVec S16 32) a x).toNat < S16384.size a := fun v77 k3_hw22 => k3_hw22

def k3_chk23 (v80 : IVec S16 32) : Prop :=
  (∀ a x, ((![v80] : Fin 1 → IVec S16 32) a x).toNat < S16384.size a)
theorem k3_idx23_inb : ∀ (v80 : IVec S16 32) (k3_hw23 : k3_chk23 v80), ∀ a x, ((![v80] : Fin 1 → IVec S16 32) a x).toNat < S16384.size a := fun v80 k3_hw23 => k3_hw23

def k3_chk24 (v83 : IVec S16 32) : Prop :=
  (∀ a x, ((![v83] : Fin 1 → IVec S16 32) a x).toNat < S16384.size a)
theorem k3_idx24_inb : ∀ (v83 : IVec S16 32) (k3_hw24 : k3_chk24 v83), ∀ a x, ((![v83] : Fin 1 → IVec S16 32) a x).toNat < S16384.size a := fun v83 k3_hw24 => k3_hw24

def k3_chk25 (v86 : IVec S16 32) : Prop :=
  (∀ a x, ((![v86] : Fin 1 → IVec S16 32) a x).toNat < S16384.size a)
theorem k3_idx25_inb : ∀ (v86 : IVec S16 32) (k3_hw25 : k3_chk25 v86), ∀ a x, ((![v86] : Fin 1 → IVec S16 32) a x).toNat < S16384.size a := fun v86 k3_hw25 => k3_hw25

def k3_chk26 (v89 : IVec S16 32) : Prop :=
  (∀ a x, ((![v89] : Fin 1 → IVec S16 32) a x).toNat < S16384.size a)
theorem k3_idx26_inb : ∀ (v89 : IVec S16 32) (k3_hw26 : k3_chk26 v89), ∀ a x, ((![v89] : Fin 1 → IVec S16 32) a x).toNat < S16384.size a := fun v89 k3_hw26 => k3_hw26

def k3_chk27 (v92 : IVec S16 32) : Prop :=
  (∀ a x, ((![v92] : Fin 1 → IVec S16 32) a x).toNat < S16384.size a)
theorem k3_idx27_inb : ∀ (v92 : IVec S16 32) (k3_hw27 : k3_chk27 v92), ∀ a x, ((![v92] : Fin 1 → IVec S16 32) a x).toNat < S16384.size a := fun v92 k3_hw27 => k3_hw27

def k3_chk28 (v95 : IVec S16 32) : Prop :=
  (∀ a x, ((![v95] : Fin 1 → IVec S16 32) a x).toNat < S16384.size a)
theorem k3_idx28_inb : ∀ (v95 : IVec S16 32) (k3_hw28 : k3_chk28 v95), ∀ a x, ((![v95] : Fin 1 → IVec S16 32) a x).toNat < S16384.size a := fun v95 k3_hw28 => k3_hw28

def k3_chk29 (v98 : IVec S16 32) : Prop :=
  (∀ a x, ((![v98] : Fin 1 → IVec S16 32) a x).toNat < S16384.size a)
theorem k3_idx29_inb : ∀ (v98 : IVec S16 32) (k3_hw29 : k3_chk29 v98), ∀ a x, ((![v98] : Fin 1 → IVec S16 32) a x).toNat < S16384.size a := fun v98 k3_hw29 => k3_hw29

def k3_chk30 (v101 : IVec S16 32) : Prop :=
  (∀ a x, ((![v101] : Fin 1 → IVec S16 32) a x).toNat < S16384.size a)
theorem k3_idx30_inb : ∀ (v101 : IVec S16 32) (k3_hw30 : k3_chk30 v101), ∀ a x, ((![v101] : Fin 1 → IVec S16 32) a x).toNat < S16384.size a := fun v101 k3_hw30 => k3_hw30

def k3_chk31 (v104 : IVec S16 32) : Prop :=
  (∀ a x, ((![v104] : Fin 1 → IVec S16 32) a x).toNat < S16384.size a)
theorem k3_idx31_inb : ∀ (v104 : IVec S16 32) (k3_hw31 : k3_chk31 v104), ∀ a x, ((![v104] : Fin 1 → IVec S16 32) a x).toNat < S16384.size a := fun v104 k3_hw31 => k3_hw31

def k3_chk32 (v107 : IVec S16 32) : Prop :=
  (∀ a x, ((![v107] : Fin 1 → IVec S16 32) a x).toNat < S16384.size a)
theorem k3_idx32_inb : ∀ (v107 : IVec S16 32) (k3_hw32 : k3_chk32 v107), ∀ a x, ((![v107] : Fin 1 → IVec S16 32) a x).toNat < S16384.size a := fun v107 k3_hw32 => k3_hw32

def k3_chk33 (v110 : IVec S16 32) : Prop :=
  (∀ a x, ((![v110] : Fin 1 → IVec S16 32) a x).toNat < S16384.size a)
theorem k3_idx33_inb : ∀ (v110 : IVec S16 32) (k3_hw33 : k3_chk33 v110), ∀ a x, ((![v110] : Fin 1 → IVec S16 32) a x).toNat < S16384.size a := fun v110 k3_hw33 => k3_hw33

def k3_chk34 (v113 : IVec S16 32) : Prop :=
  (∀ a x, ((![v113] : Fin 1 → IVec S16 32) a x).toNat < S16384.size a)
theorem k3_idx34_inb : ∀ (v113 : IVec S16 32) (k3_hw34 : k3_chk34 v113), ∀ a x, ((![v113] : Fin 1 → IVec S16 32) a x).toNat < S16384.size a := fun v113 k3_hw34 => k3_hw34

def k3_chk35 (v116 : IVec S16 32) : Prop :=
  (∀ a x, ((![v116] : Fin 1 → IVec S16 32) a x).toNat < S16384.size a)
theorem k3_idx35_inb : ∀ (v116 : IVec S16 32) (k3_hw35 : k3_chk35 v116), ∀ a x, ((![v116] : Fin 1 → IVec S16 32) a x).toNat < S16384.size a := fun v116 k3_hw35 => k3_hw35

def k3_chk36 (v119 : IVec S16 32) : Prop :=
  (∀ a x, ((![v119] : Fin 1 → IVec S16 32) a x).toNat < S16384.size a)
theorem k3_idx36_inb : ∀ (v119 : IVec S16 32) (k3_hw36 : k3_chk36 v119), ∀ a x, ((![v119] : Fin 1 → IVec S16 32) a x).toNat < S16384.size a := fun v119 k3_hw36 => k3_hw36

def k3_chk37 (v122 : IVec S16 32) : Prop :=
  (∀ a x, ((![v122] : Fin 1 → IVec S16 32) a x).toNat < S16384.size a)
theorem k3_idx37_inb : ∀ (v122 : IVec S16 32) (k3_hw37 : k3_chk37 v122), ∀ a x, ((![v122] : Fin 1 → IVec S16 32) a x).toNat < S16384.size a := fun v122 k3_hw37 => k3_hw37

def k3_chk38 (v125 : IVec S16 32) : Prop :=
  (∀ a x, ((![v125] : Fin 1 → IVec S16 32) a x).toNat < S16384.size a)
theorem k3_idx38_inb : ∀ (v125 : IVec S16 32) (k3_hw38 : k3_chk38 v125), ∀ a x, ((![v125] : Fin 1 → IVec S16 32) a x).toNat < S16384.size a := fun v125 k3_hw38 => k3_hw38

def k3_chk39 (v128 : IVec S16 32) : Prop :=
  (∀ a x, ((![v128] : Fin 1 → IVec S16 32) a x).toNat < S16384.size a)
theorem k3_idx39_inb : ∀ (v128 : IVec S16 32) (k3_hw39 : k3_chk39 v128), ∀ a x, ((![v128] : Fin 1 → IVec S16 32) a x).toNat < S16384.size a := fun v128 k3_hw39 => k3_hw39

def k3_chk40 (v131 : IVec S16 32) : Prop :=
  (∀ a x, ((![v131] : Fin 1 → IVec S16 32) a x).toNat < S16384.size a)
theorem k3_idx40_inb : ∀ (v131 : IVec S16 32) (k3_hw40 : k3_chk40 v131), ∀ a x, ((![v131] : Fin 1 → IVec S16 32) a x).toNat < S16384.size a := fun v131 k3_hw40 => k3_hw40

def k3_chk41 (v134 : IVec S16 32) : Prop :=
  (∀ a x, ((![v134] : Fin 1 → IVec S16 32) a x).toNat < S16384.size a)
theorem k3_idx41_inb : ∀ (v134 : IVec S16 32) (k3_hw41 : k3_chk41 v134), ∀ a x, ((![v134] : Fin 1 → IVec S16 32) a x).toNat < S16384.size a := fun v134 k3_hw41 => k3_hw41

def k3_chk42 (v137 : IVec S16 32) : Prop :=
  (∀ a x, ((![v137] : Fin 1 → IVec S16 32) a x).toNat < S16384.size a)
theorem k3_idx42_inb : ∀ (v137 : IVec S16 32) (k3_hw42 : k3_chk42 v137), ∀ a x, ((![v137] : Fin 1 → IVec S16 32) a x).toNat < S16384.size a := fun v137 k3_hw42 => k3_hw42

def k3_chk43 (v140 : IVec S16 32) : Prop :=
  (∀ a x, ((![v140] : Fin 1 → IVec S16 32) a x).toNat < S16384.size a)
theorem k3_idx43_inb : ∀ (v140 : IVec S16 32) (k3_hw43 : k3_chk43 v140), ∀ a x, ((![v140] : Fin 1 → IVec S16 32) a x).toNat < S16384.size a := fun v140 k3_hw43 => k3_hw43

def k3_chk44 (v143 : IVec S16 32) : Prop :=
  (∀ a x, ((![v143] : Fin 1 → IVec S16 32) a x).toNat < S16384.size a)
theorem k3_idx44_inb : ∀ (v143 : IVec S16 32) (k3_hw44 : k3_chk44 v143), ∀ a x, ((![v143] : Fin 1 → IVec S16 32) a x).toNat < S16384.size a := fun v143 k3_hw44 => k3_hw44

def k3_chk45 (v146 : IVec S16 32) : Prop :=
  (∀ a x, ((![v146] : Fin 1 → IVec S16 32) a x).toNat < S16384.size a)
theorem k3_idx45_inb : ∀ (v146 : IVec S16 32) (k3_hw45 : k3_chk45 v146), ∀ a x, ((![v146] : Fin 1 → IVec S16 32) a x).toNat < S16384.size a := fun v146 k3_hw45 => k3_hw45

def k3_chk46 (v149 : IVec S16 32) : Prop :=
  (∀ a x, ((![v149] : Fin 1 → IVec S16 32) a x).toNat < S16384.size a)
theorem k3_idx46_inb : ∀ (v149 : IVec S16 32) (k3_hw46 : k3_chk46 v149), ∀ a x, ((![v149] : Fin 1 → IVec S16 32) a x).toNat < S16384.size a := fun v149 k3_hw46 => k3_hw46

def k3_chk47 (v152 : IVec S16 32) : Prop :=
  (∀ a x, ((![v152] : Fin 1 → IVec S16 32) a x).toNat < S16384.size a)
theorem k3_idx47_inb : ∀ (v152 : IVec S16 32) (k3_hw47 : k3_chk47 v152), ∀ a x, ((![v152] : Fin 1 → IVec S16 32) a x).toNat < S16384.size a := fun v152 k3_hw47 => k3_hw47

def k3_chk48 (v155 : IVec S16 32) : Prop :=
  (∀ a x, ((![v155] : Fin 1 → IVec S16 32) a x).toNat < S16384.size a)
theorem k3_idx48_inb : ∀ (v155 : IVec S16 32) (k3_hw48 : k3_chk48 v155), ∀ a x, ((![v155] : Fin 1 → IVec S16 32) a x).toNat < S16384.size a := fun v155 k3_hw48 => k3_hw48

def k3_chk49 (v158 : IVec S16 32) : Prop :=
  (∀ a x, ((![v158] : Fin 1 → IVec S16 32) a x).toNat < S16384.size a)
theorem k3_idx49_inb : ∀ (v158 : IVec S16 32) (k3_hw49 : k3_chk49 v158), ∀ a x, ((![v158] : Fin 1 → IVec S16 32) a x).toNat < S16384.size a := fun v158 k3_hw49 => k3_hw49

def k3_chk50 (v161 : IVec S16 32) : Prop :=
  (∀ a x, ((![v161] : Fin 1 → IVec S16 32) a x).toNat < S16384.size a)
theorem k3_idx50_inb : ∀ (v161 : IVec S16 32) (k3_hw50 : k3_chk50 v161), ∀ a x, ((![v161] : Fin 1 → IVec S16 32) a x).toNat < S16384.size a := fun v161 k3_hw50 => k3_hw50

def k3_chk51 (v164 : IVec S16 32) : Prop :=
  (∀ a x, ((![v164] : Fin 1 → IVec S16 32) a x).toNat < S16384.size a)
theorem k3_idx51_inb : ∀ (v164 : IVec S16 32) (k3_hw51 : k3_chk51 v164), ∀ a x, ((![v164] : Fin 1 → IVec S16 32) a x).toNat < S16384.size a := fun v164 k3_hw51 => k3_hw51

def k3_chk52 (v167 : IVec S16 32) : Prop :=
  (∀ a x, ((![v167] : Fin 1 → IVec S16 32) a x).toNat < S16384.size a)
theorem k3_idx52_inb : ∀ (v167 : IVec S16 32) (k3_hw52 : k3_chk52 v167), ∀ a x, ((![v167] : Fin 1 → IVec S16 32) a x).toNat < S16384.size a := fun v167 k3_hw52 => k3_hw52

def k3_chk53 (v170 : IVec S16 32) : Prop :=
  (∀ a x, ((![v170] : Fin 1 → IVec S16 32) a x).toNat < S16384.size a)
theorem k3_idx53_inb : ∀ (v170 : IVec S16 32) (k3_hw53 : k3_chk53 v170), ∀ a x, ((![v170] : Fin 1 → IVec S16 32) a x).toNat < S16384.size a := fun v170 k3_hw53 => k3_hw53

def k3_chk54 (v173 : IVec S16 32) : Prop :=
  (∀ a x, ((![v173] : Fin 1 → IVec S16 32) a x).toNat < S16384.size a)
theorem k3_idx54_inb : ∀ (v173 : IVec S16 32) (k3_hw54 : k3_chk54 v173), ∀ a x, ((![v173] : Fin 1 → IVec S16 32) a x).toNat < S16384.size a := fun v173 k3_hw54 => k3_hw54

def k3_chk55 (v176 : IVec S16 32) : Prop :=
  (∀ a x, ((![v176] : Fin 1 → IVec S16 32) a x).toNat < S16384.size a)
theorem k3_idx55_inb : ∀ (v176 : IVec S16 32) (k3_hw55 : k3_chk55 v176), ∀ a x, ((![v176] : Fin 1 → IVec S16 32) a x).toNat < S16384.size a := fun v176 k3_hw55 => k3_hw55

def k3_chk56 (v179 : IVec S16 32) : Prop :=
  (∀ a x, ((![v179] : Fin 1 → IVec S16 32) a x).toNat < S16384.size a)
theorem k3_idx56_inb : ∀ (v179 : IVec S16 32) (k3_hw56 : k3_chk56 v179), ∀ a x, ((![v179] : Fin 1 → IVec S16 32) a x).toNat < S16384.size a := fun v179 k3_hw56 => k3_hw56

def k3_chk57 (v182 : IVec S16 32) : Prop :=
  (∀ a x, ((![v182] : Fin 1 → IVec S16 32) a x).toNat < S16384.size a)
theorem k3_idx57_inb : ∀ (v182 : IVec S16 32) (k3_hw57 : k3_chk57 v182), ∀ a x, ((![v182] : Fin 1 → IVec S16 32) a x).toNat < S16384.size a := fun v182 k3_hw57 => k3_hw57

def k3_chk58 (v185 : IVec S16 32) : Prop :=
  (∀ a x, ((![v185] : Fin 1 → IVec S16 32) a x).toNat < S16384.size a)
theorem k3_idx58_inb : ∀ (v185 : IVec S16 32) (k3_hw58 : k3_chk58 v185), ∀ a x, ((![v185] : Fin 1 → IVec S16 32) a x).toNat < S16384.size a := fun v185 k3_hw58 => k3_hw58

def k3_chk59 (v188 : IVec S16 32) : Prop :=
  (∀ a x, ((![v188] : Fin 1 → IVec S16 32) a x).toNat < S16384.size a)
theorem k3_idx59_inb : ∀ (v188 : IVec S16 32) (k3_hw59 : k3_chk59 v188), ∀ a x, ((![v188] : Fin 1 → IVec S16 32) a x).toNat < S16384.size a := fun v188 k3_hw59 => k3_hw59

def k3_chk60 (v191 : IVec S16 32) : Prop :=
  (∀ a x, ((![v191] : Fin 1 → IVec S16 32) a x).toNat < S16384.size a)
theorem k3_idx60_inb : ∀ (v191 : IVec S16 32) (k3_hw60 : k3_chk60 v191), ∀ a x, ((![v191] : Fin 1 → IVec S16 32) a x).toNat < S16384.size a := fun v191 k3_hw60 => k3_hw60

def k3_chk61 (v194 : IVec S16 32) : Prop :=
  (∀ a x, ((![v194] : Fin 1 → IVec S16 32) a x).toNat < S16384.size a)
theorem k3_idx61_inb : ∀ (v194 : IVec S16 32) (k3_hw61 : k3_chk61 v194), ∀ a x, ((![v194] : Fin 1 → IVec S16 32) a x).toNat < S16384.size a := fun v194 k3_hw61 => k3_hw61

def k3_chk62 (v197 : IVec S16 32) : Prop :=
  (∀ a x, ((![v197] : Fin 1 → IVec S16 32) a x).toNat < S16384.size a)
theorem k3_idx62_inb : ∀ (v197 : IVec S16 32) (k3_hw62 : k3_chk62 v197), ∀ a x, ((![v197] : Fin 1 → IVec S16 32) a x).toNat < S16384.size a := fun v197 k3_hw62 => k3_hw62

def k3_chk63 (v200 : IVec S16 32) : Prop :=
  (∀ a x, ((![v200] : Fin 1 → IVec S16 32) a x).toNat < S16384.size a)
theorem k3_idx63_inb : ∀ (v200 : IVec S16 32) (k3_hw63 : k3_chk63 v200), ∀ a x, ((![v200] : Fin 1 → IVec S16 32) a x).toNat < S16384.size a := fun v200 k3_hw63 => k3_hw63

def k3_chk64 (v203 : IVec S16 32) : Prop :=
  (∀ a x, ((![v203] : Fin 1 → IVec S16 32) a x).toNat < S16384.size a)
theorem k3_idx64_inb : ∀ (v203 : IVec S16 32) (k3_hw64 : k3_chk64 v203), ∀ a x, ((![v203] : Fin 1 → IVec S16 32) a x).toNat < S16384.size a := fun v203 k3_hw64 => k3_hw64

def k3_chk65 (v560 : IVec S16 32) : Prop :=
  (∀ a x, ((![v560] : Fin 1 → IVec S16 32) a x).toNat < S16384.size a)
theorem k3_idx65_inb : ∀ (v560 : IVec S16 32) (k3_hw65 : k3_chk65 v560), ∀ a x, ((![v560] : Fin 1 → IVec S16 32) a x).toNat < S16384.size a := fun v560 k3_hw65 => k3_hw65

def k3_chk66 (v564 : IVec S16 32) : Prop :=
  (∀ a x, ((![v564] : Fin 1 → IVec S16 32) a x).toNat < S16384.size a)
theorem k3_idx66_inb : ∀ (v564 : IVec S16 32) (k3_hw66 : k3_chk66 v564), ∀ a x, ((![v564] : Fin 1 → IVec S16 32) a x).toNat < S16384.size a := fun v564 k3_hw66 => k3_hw66

def k3_chk67 (v568 : IVec S16 32) : Prop :=
  (∀ a x, ((![v568] : Fin 1 → IVec S16 32) a x).toNat < S16384.size a)
theorem k3_idx67_inb : ∀ (v568 : IVec S16 32) (k3_hw67 : k3_chk67 v568), ∀ a x, ((![v568] : Fin 1 → IVec S16 32) a x).toNat < S16384.size a := fun v568 k3_hw67 => k3_hw67

def k3_chk68 (v572 : IVec S16 32) : Prop :=
  (∀ a x, ((![v572] : Fin 1 → IVec S16 32) a x).toNat < S16384.size a)
theorem k3_idx68_inb : ∀ (v572 : IVec S16 32) (k3_hw68 : k3_chk68 v572), ∀ a x, ((![v572] : Fin 1 → IVec S16 32) a x).toNat < S16384.size a := fun v572 k3_hw68 => k3_hw68

def k3_chk69 (v576 : IVec S16 32) : Prop :=
  (∀ a x, ((![v576] : Fin 1 → IVec S16 32) a x).toNat < S16384.size a)
theorem k3_idx69_inb : ∀ (v576 : IVec S16 32) (k3_hw69 : k3_chk69 v576), ∀ a x, ((![v576] : Fin 1 → IVec S16 32) a x).toNat < S16384.size a := fun v576 k3_hw69 => k3_hw69

def k3_chk70 (v580 : IVec S16 32) : Prop :=
  (∀ a x, ((![v580] : Fin 1 → IVec S16 32) a x).toNat < S16384.size a)
theorem k3_idx70_inb : ∀ (v580 : IVec S16 32) (k3_hw70 : k3_chk70 v580), ∀ a x, ((![v580] : Fin 1 → IVec S16 32) a x).toNat < S16384.size a := fun v580 k3_hw70 => k3_hw70

def k3_chk71 (v584 : IVec S16 32) : Prop :=
  (∀ a x, ((![v584] : Fin 1 → IVec S16 32) a x).toNat < S16384.size a)
theorem k3_idx71_inb : ∀ (v584 : IVec S16 32) (k3_hw71 : k3_chk71 v584), ∀ a x, ((![v584] : Fin 1 → IVec S16 32) a x).toNat < S16384.size a := fun v584 k3_hw71 => k3_hw71

def k3_chk72 (v588 : IVec S16 32) : Prop :=
  (∀ a x, ((![v588] : Fin 1 → IVec S16 32) a x).toNat < S16384.size a)
theorem k3_idx72_inb : ∀ (v588 : IVec S16 32) (k3_hw72 : k3_chk72 v588), ∀ a x, ((![v588] : Fin 1 → IVec S16 32) a x).toNat < S16384.size a := fun v588 k3_hw72 => k3_hw72

def k3_chk73 (v592 : IVec S16 32) : Prop :=
  (∀ a x, ((![v592] : Fin 1 → IVec S16 32) a x).toNat < S16384.size a)
theorem k3_idx73_inb : ∀ (v592 : IVec S16 32) (k3_hw73 : k3_chk73 v592), ∀ a x, ((![v592] : Fin 1 → IVec S16 32) a x).toNat < S16384.size a := fun v592 k3_hw73 => k3_hw73

def k3_chk74 (v596 : IVec S16 32) : Prop :=
  (∀ a x, ((![v596] : Fin 1 → IVec S16 32) a x).toNat < S16384.size a)
theorem k3_idx74_inb : ∀ (v596 : IVec S16 32) (k3_hw74 : k3_chk74 v596), ∀ a x, ((![v596] : Fin 1 → IVec S16 32) a x).toNat < S16384.size a := fun v596 k3_hw74 => k3_hw74

def k3_chk75 (v600 : IVec S16 32) : Prop :=
  (∀ a x, ((![v600] : Fin 1 → IVec S16 32) a x).toNat < S16384.size a)
theorem k3_idx75_inb : ∀ (v600 : IVec S16 32) (k3_hw75 : k3_chk75 v600), ∀ a x, ((![v600] : Fin 1 → IVec S16 32) a x).toNat < S16384.size a := fun v600 k3_hw75 => k3_hw75

def k3_chk76 (v604 : IVec S16 32) : Prop :=
  (∀ a x, ((![v604] : Fin 1 → IVec S16 32) a x).toNat < S16384.size a)
theorem k3_idx76_inb : ∀ (v604 : IVec S16 32) (k3_hw76 : k3_chk76 v604), ∀ a x, ((![v604] : Fin 1 → IVec S16 32) a x).toNat < S16384.size a := fun v604 k3_hw76 => k3_hw76

def k3_chk77 (v608 : IVec S16 32) : Prop :=
  (∀ a x, ((![v608] : Fin 1 → IVec S16 32) a x).toNat < S16384.size a)
theorem k3_idx77_inb : ∀ (v608 : IVec S16 32) (k3_hw77 : k3_chk77 v608), ∀ a x, ((![v608] : Fin 1 → IVec S16 32) a x).toNat < S16384.size a := fun v608 k3_hw77 => k3_hw77

def k3_chk78 (v612 : IVec S16 32) : Prop :=
  (∀ a x, ((![v612] : Fin 1 → IVec S16 32) a x).toNat < S16384.size a)
theorem k3_idx78_inb : ∀ (v612 : IVec S16 32) (k3_hw78 : k3_chk78 v612), ∀ a x, ((![v612] : Fin 1 → IVec S16 32) a x).toNat < S16384.size a := fun v612 k3_hw78 => k3_hw78

def k3_chk79 (v616 : IVec S16 32) : Prop :=
  (∀ a x, ((![v616] : Fin 1 → IVec S16 32) a x).toNat < S16384.size a)
theorem k3_idx79_inb : ∀ (v616 : IVec S16 32) (k3_hw79 : k3_chk79 v616), ∀ a x, ((![v616] : Fin 1 → IVec S16 32) a x).toNat < S16384.size a := fun v616 k3_hw79 => k3_hw79

def k3_chk80 (v620 : IVec S16 32) : Prop :=
  (∀ a x, ((![v620] : Fin 1 → IVec S16 32) a x).toNat < S16384.size a)
theorem k3_idx80_inb : ∀ (v620 : IVec S16 32) (k3_hw80 : k3_chk80 v620), ∀ a x, ((![v620] : Fin 1 → IVec S16 32) a x).toNat < S16384.size a := fun v620 k3_hw80 => k3_hw80

def k3_chk81 (v624 : IVec S16 32) : Prop :=
  (∀ a x, ((![v624] : Fin 1 → IVec S16 32) a x).toNat < S16384.size a)
theorem k3_idx81_inb : ∀ (v624 : IVec S16 32) (k3_hw81 : k3_chk81 v624), ∀ a x, ((![v624] : Fin 1 → IVec S16 32) a x).toNat < S16384.size a := fun v624 k3_hw81 => k3_hw81

def k3_chk82 (v628 : IVec S16 32) : Prop :=
  (∀ a x, ((![v628] : Fin 1 → IVec S16 32) a x).toNat < S16384.size a)
theorem k3_idx82_inb : ∀ (v628 : IVec S16 32) (k3_hw82 : k3_chk82 v628), ∀ a x, ((![v628] : Fin 1 → IVec S16 32) a x).toNat < S16384.size a := fun v628 k3_hw82 => k3_hw82

def k3_chk83 (v632 : IVec S16 32) : Prop :=
  (∀ a x, ((![v632] : Fin 1 → IVec S16 32) a x).toNat < S16384.size a)
theorem k3_idx83_inb : ∀ (v632 : IVec S16 32) (k3_hw83 : k3_chk83 v632), ∀ a x, ((![v632] : Fin 1 → IVec S16 32) a x).toNat < S16384.size a := fun v632 k3_hw83 => k3_hw83

def k3_chk84 (v636 : IVec S16 32) : Prop :=
  (∀ a x, ((![v636] : Fin 1 → IVec S16 32) a x).toNat < S16384.size a)
theorem k3_idx84_inb : ∀ (v636 : IVec S16 32) (k3_hw84 : k3_chk84 v636), ∀ a x, ((![v636] : Fin 1 → IVec S16 32) a x).toNat < S16384.size a := fun v636 k3_hw84 => k3_hw84

def k3_chk85 (v640 : IVec S16 32) : Prop :=
  (∀ a x, ((![v640] : Fin 1 → IVec S16 32) a x).toNat < S16384.size a)
theorem k3_idx85_inb : ∀ (v640 : IVec S16 32) (k3_hw85 : k3_chk85 v640), ∀ a x, ((![v640] : Fin 1 → IVec S16 32) a x).toNat < S16384.size a := fun v640 k3_hw85 => k3_hw85

def k3_chk86 (v644 : IVec S16 32) : Prop :=
  (∀ a x, ((![v644] : Fin 1 → IVec S16 32) a x).toNat < S16384.size a)
theorem k3_idx86_inb : ∀ (v644 : IVec S16 32) (k3_hw86 : k3_chk86 v644), ∀ a x, ((![v644] : Fin 1 → IVec S16 32) a x).toNat < S16384.size a := fun v644 k3_hw86 => k3_hw86

def k3_chk87 (v648 : IVec S16 32) : Prop :=
  (∀ a x, ((![v648] : Fin 1 → IVec S16 32) a x).toNat < S16384.size a)
theorem k3_idx87_inb : ∀ (v648 : IVec S16 32) (k3_hw87 : k3_chk87 v648), ∀ a x, ((![v648] : Fin 1 → IVec S16 32) a x).toNat < S16384.size a := fun v648 k3_hw87 => k3_hw87

def k3_chk88 (v652 : IVec S16 32) : Prop :=
  (∀ a x, ((![v652] : Fin 1 → IVec S16 32) a x).toNat < S16384.size a)
theorem k3_idx88_inb : ∀ (v652 : IVec S16 32) (k3_hw88 : k3_chk88 v652), ∀ a x, ((![v652] : Fin 1 → IVec S16 32) a x).toNat < S16384.size a := fun v652 k3_hw88 => k3_hw88

def k3_chk89 (v656 : IVec S16 32) : Prop :=
  (∀ a x, ((![v656] : Fin 1 → IVec S16 32) a x).toNat < S16384.size a)
theorem k3_idx89_inb : ∀ (v656 : IVec S16 32) (k3_hw89 : k3_chk89 v656), ∀ a x, ((![v656] : Fin 1 → IVec S16 32) a x).toNat < S16384.size a := fun v656 k3_hw89 => k3_hw89

def k3_chk90 (v660 : IVec S16 32) : Prop :=
  (∀ a x, ((![v660] : Fin 1 → IVec S16 32) a x).toNat < S16384.size a)
theorem k3_idx90_inb : ∀ (v660 : IVec S16 32) (k3_hw90 : k3_chk90 v660), ∀ a x, ((![v660] : Fin 1 → IVec S16 32) a x).toNat < S16384.size a := fun v660 k3_hw90 => k3_hw90

def k3_chk91 (v664 : IVec S16 32) : Prop :=
  (∀ a x, ((![v664] : Fin 1 → IVec S16 32) a x).toNat < S16384.size a)
theorem k3_idx91_inb : ∀ (v664 : IVec S16 32) (k3_hw91 : k3_chk91 v664), ∀ a x, ((![v664] : Fin 1 → IVec S16 32) a x).toNat < S16384.size a := fun v664 k3_hw91 => k3_hw91

def k3_chk92 (v668 : IVec S16 32) : Prop :=
  (∀ a x, ((![v668] : Fin 1 → IVec S16 32) a x).toNat < S16384.size a)
theorem k3_idx92_inb : ∀ (v668 : IVec S16 32) (k3_hw92 : k3_chk92 v668), ∀ a x, ((![v668] : Fin 1 → IVec S16 32) a x).toNat < S16384.size a := fun v668 k3_hw92 => k3_hw92

def k3_chk93 (v672 : IVec S16 32) : Prop :=
  (∀ a x, ((![v672] : Fin 1 → IVec S16 32) a x).toNat < S16384.size a)
theorem k3_idx93_inb : ∀ (v672 : IVec S16 32) (k3_hw93 : k3_chk93 v672), ∀ a x, ((![v672] : Fin 1 → IVec S16 32) a x).toNat < S16384.size a := fun v672 k3_hw93 => k3_hw93

def k3_chk94 (v676 : IVec S16 32) : Prop :=
  (∀ a x, ((![v676] : Fin 1 → IVec S16 32) a x).toNat < S16384.size a)
theorem k3_idx94_inb : ∀ (v676 : IVec S16 32) (k3_hw94 : k3_chk94 v676), ∀ a x, ((![v676] : Fin 1 → IVec S16 32) a x).toNat < S16384.size a := fun v676 k3_hw94 => k3_hw94

def k3_chk95 (v680 : IVec S16 32) : Prop :=
  (∀ a x, ((![v680] : Fin 1 → IVec S16 32) a x).toNat < S16384.size a)
theorem k3_idx95_inb : ∀ (v680 : IVec S16 32) (k3_hw95 : k3_chk95 v680), ∀ a x, ((![v680] : Fin 1 → IVec S16 32) a x).toNat < S16384.size a := fun v680 k3_hw95 => k3_hw95

def k3_chk96 (v684 : IVec S16 32) : Prop :=
  (∀ a x, ((![v684] : Fin 1 → IVec S16 32) a x).toNat < S16384.size a)
theorem k3_idx96_inb : ∀ (v684 : IVec S16 32) (k3_hw96 : k3_chk96 v684), ∀ a x, ((![v684] : Fin 1 → IVec S16 32) a x).toNat < S16384.size a := fun v684 k3_hw96 => k3_hw96

def k3_chk97 (v2227 : IVec S16 32) : Prop :=
  (∀ a x, ((![v2227] : Fin 1 → IVec S16 32) a x).toNat < S1024.size a)
theorem k3_idx97_inb : ∀ (v2227 : IVec S16 32) (k3_hw97 : k3_chk97 v2227), ∀ a x, ((![v2227] : Fin 1 → IVec S16 32) a x).toNat < S1024.size a := fun v2227 k3_hw97 => k3_hw97

def k3_chk98 (v2230 : IVec S16 32) : Prop :=
  (∀ a x, ((![v2230] : Fin 1 → IVec S16 32) a x).toNat < S1024.size a)
theorem k3_idx98_inb : ∀ (v2230 : IVec S16 32) (k3_hw98 : k3_chk98 v2230), ∀ a x, ((![v2230] : Fin 1 → IVec S16 32) a x).toNat < S1024.size a := fun v2230 k3_hw98 => k3_hw98

def k3_chk99 (v2232 : IVec S16 32) : Prop :=
  (∀ a x, ((![v2232] : Fin 1 → IVec S16 32) a x).toNat < S1024.size a)
theorem k3_idx99_inb : ∀ (v2232 : IVec S16 32) (k3_hw99 : k3_chk99 v2232), ∀ a x, ((![v2232] : Fin 1 → IVec S16 32) a x).toNat < S1024.size a := fun v2232 k3_hw99 => k3_hw99

def k3_chk100 (v2235 : IVec S16 32) : Prop :=
  (∀ a x, ((![v2235] : Fin 1 → IVec S16 32) a x).toNat < S1024.size a)
theorem k3_idx100_inb : ∀ (v2235 : IVec S16 32) (k3_hw100 : k3_chk100 v2235), ∀ a x, ((![v2235] : Fin 1 → IVec S16 32) a x).toNat < S1024.size a := fun v2235 k3_hw100 => k3_hw100

def k3_chk101 (v2237 : IVec S16 32) : Prop :=
  (∀ a x, ((![v2237] : Fin 1 → IVec S16 32) a x).toNat < S1024.size a)
theorem k3_idx101_inb : ∀ (v2237 : IVec S16 32) (k3_hw101 : k3_chk101 v2237), ∀ a x, ((![v2237] : Fin 1 → IVec S16 32) a x).toNat < S1024.size a := fun v2237 k3_hw101 => k3_hw101

def k3_chk102 (v2240 : IVec S16 32) : Prop :=
  (∀ a x, ((![v2240] : Fin 1 → IVec S16 32) a x).toNat < S1024.size a)
theorem k3_idx102_inb : ∀ (v2240 : IVec S16 32) (k3_hw102 : k3_chk102 v2240), ∀ a x, ((![v2240] : Fin 1 → IVec S16 32) a x).toNat < S1024.size a := fun v2240 k3_hw102 => k3_hw102

def k3_chk103 (v2242 : IVec S16 32) : Prop :=
  (∀ a x, ((![v2242] : Fin 1 → IVec S16 32) a x).toNat < S1024.size a)
theorem k3_idx103_inb : ∀ (v2242 : IVec S16 32) (k3_hw103 : k3_chk103 v2242), ∀ a x, ((![v2242] : Fin 1 → IVec S16 32) a x).toNat < S1024.size a := fun v2242 k3_hw103 => k3_hw103

def k3_chk104 (v2245 : IVec S16 32) : Prop :=
  (∀ a x, ((![v2245] : Fin 1 → IVec S16 32) a x).toNat < S1024.size a)
theorem k3_idx104_inb : ∀ (v2245 : IVec S16 32) (k3_hw104 : k3_chk104 v2245), ∀ a x, ((![v2245] : Fin 1 → IVec S16 32) a x).toNat < S1024.size a := fun v2245 k3_hw104 => k3_hw104

def k3_chk105 (v2247 : IVec S16 32) : Prop :=
  (∀ a x, ((![v2247] : Fin 1 → IVec S16 32) a x).toNat < S1024.size a)
theorem k3_idx105_inb : ∀ (v2247 : IVec S16 32) (k3_hw105 : k3_chk105 v2247), ∀ a x, ((![v2247] : Fin 1 → IVec S16 32) a x).toNat < S1024.size a := fun v2247 k3_hw105 => k3_hw105

def k3_chk106 (v2250 : IVec S16 32) : Prop :=
  (∀ a x, ((![v2250] : Fin 1 → IVec S16 32) a x).toNat < S1024.size a)
theorem k3_idx106_inb : ∀ (v2250 : IVec S16 32) (k3_hw106 : k3_chk106 v2250), ∀ a x, ((![v2250] : Fin 1 → IVec S16 32) a x).toNat < S1024.size a := fun v2250 k3_hw106 => k3_hw106

def k3_chk107 (v2252 : IVec S16 32) : Prop :=
  (∀ a x, ((![v2252] : Fin 1 → IVec S16 32) a x).toNat < S1024.size a)
theorem k3_idx107_inb : ∀ (v2252 : IVec S16 32) (k3_hw107 : k3_chk107 v2252), ∀ a x, ((![v2252] : Fin 1 → IVec S16 32) a x).toNat < S1024.size a := fun v2252 k3_hw107 => k3_hw107

def k3_chk108 (v2255 : IVec S16 32) : Prop :=
  (∀ a x, ((![v2255] : Fin 1 → IVec S16 32) a x).toNat < S1024.size a)
theorem k3_idx108_inb : ∀ (v2255 : IVec S16 32) (k3_hw108 : k3_chk108 v2255), ∀ a x, ((![v2255] : Fin 1 → IVec S16 32) a x).toNat < S1024.size a := fun v2255 k3_hw108 => k3_hw108

def k3_chk109 (v2257 : IVec S16 32) : Prop :=
  (∀ a x, ((![v2257] : Fin 1 → IVec S16 32) a x).toNat < S1024.size a)
theorem k3_idx109_inb : ∀ (v2257 : IVec S16 32) (k3_hw109 : k3_chk109 v2257), ∀ a x, ((![v2257] : Fin 1 → IVec S16 32) a x).toNat < S1024.size a := fun v2257 k3_hw109 => k3_hw109

def k3_chk110 (v2260 : IVec S16 32) : Prop :=
  (∀ a x, ((![v2260] : Fin 1 → IVec S16 32) a x).toNat < S1024.size a)
theorem k3_idx110_inb : ∀ (v2260 : IVec S16 32) (k3_hw110 : k3_chk110 v2260), ∀ a x, ((![v2260] : Fin 1 → IVec S16 32) a x).toNat < S1024.size a := fun v2260 k3_hw110 => k3_hw110

def k3_chk111 (v2262 : IVec S16 32) : Prop :=
  (∀ a x, ((![v2262] : Fin 1 → IVec S16 32) a x).toNat < S1024.size a)
theorem k3_idx111_inb : ∀ (v2262 : IVec S16 32) (k3_hw111 : k3_chk111 v2262), ∀ a x, ((![v2262] : Fin 1 → IVec S16 32) a x).toNat < S1024.size a := fun v2262 k3_hw111 => k3_hw111

def k3_chk112 (v2265 : IVec S16 32) : Prop :=
  (∀ a x, ((![v2265] : Fin 1 → IVec S16 32) a x).toNat < S1024.size a)
theorem k3_idx112_inb : ∀ (v2265 : IVec S16 32) (k3_hw112 : k3_chk112 v2265), ∀ a x, ((![v2265] : Fin 1 → IVec S16 32) a x).toNat < S1024.size a := fun v2265 k3_hw112 => k3_hw112
def k3_off2 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_3 : BitVec 32 := 8#32
  let v6 : BitVec 32 := Scalar.muli v2 c8_i32_3
  ![v6.toNat]
abbrev grid4 : Pipeline.Grid := ⟨1, ![8], ![false]⟩

def cc4_transform_0 (i : grid4.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x2048 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S512x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨2, ![2, 16], ![false, false]⟩

def k5_off1 (i : grid5.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_0 : BitVec 32 := 128#32
  let v3 : BitVec 32 := Scalar.muli v2 c128_i32_0
  ![v3.toNat]
@[reducible] def k5_t1_loop : Scf.Loop 32 :=
  let c0_i32_1 : BitVec 32 := 0#32
  let c8_i32 : BitVec 32 := 8#32
  let v5 : BitVec 32 := Scalar.addi c0_i32_1 c8_i32
  let c1_i32 : BitVec 32 := 1#32
  ⟨c0_i32_1, v5, c1_i32⟩

def k5_chk1 (v14 : IVec S16 32) : Prop :=
  (∀ a x, ((![v14] : Fin 1 → IVec S16 32) a x).toNat < S16384.size a)
theorem k5_idx1_inb : ∀ (v14 : IVec S16 32) (k5_hw1 : k5_chk1 v14), ∀ a x, ((![v14] : Fin 1 → IVec S16 32) a x).toNat < S16384.size a := fun v14 k5_hw1 => k5_hw1

def k5_chk2 (v17 : IVec S16 32) : Prop :=
  (∀ a x, ((![v17] : Fin 1 → IVec S16 32) a x).toNat < S16384.size a)
theorem k5_idx2_inb : ∀ (v17 : IVec S16 32) (k5_hw2 : k5_chk2 v17), ∀ a x, ((![v17] : Fin 1 → IVec S16 32) a x).toNat < S16384.size a := fun v17 k5_hw2 => k5_hw2

def k5_chk3 (v20 : IVec S16 32) : Prop :=
  (∀ a x, ((![v20] : Fin 1 → IVec S16 32) a x).toNat < S16384.size a)
theorem k5_idx3_inb : ∀ (v20 : IVec S16 32) (k5_hw3 : k5_chk3 v20), ∀ a x, ((![v20] : Fin 1 → IVec S16 32) a x).toNat < S16384.size a := fun v20 k5_hw3 => k5_hw3

def k5_chk4 (v23 : IVec S16 32) : Prop :=
  (∀ a x, ((![v23] : Fin 1 → IVec S16 32) a x).toNat < S16384.size a)
theorem k5_idx4_inb : ∀ (v23 : IVec S16 32) (k5_hw4 : k5_chk4 v23), ∀ a x, ((![v23] : Fin 1 → IVec S16 32) a x).toNat < S16384.size a := fun v23 k5_hw4 => k5_hw4

def k5_chk5 (v26 : IVec S16 32) : Prop :=
  (∀ a x, ((![v26] : Fin 1 → IVec S16 32) a x).toNat < S16384.size a)
theorem k5_idx5_inb : ∀ (v26 : IVec S16 32) (k5_hw5 : k5_chk5 v26), ∀ a x, ((![v26] : Fin 1 → IVec S16 32) a x).toNat < S16384.size a := fun v26 k5_hw5 => k5_hw5

def k5_chk6 (v29 : IVec S16 32) : Prop :=
  (∀ a x, ((![v29] : Fin 1 → IVec S16 32) a x).toNat < S16384.size a)
theorem k5_idx6_inb : ∀ (v29 : IVec S16 32) (k5_hw6 : k5_chk6 v29), ∀ a x, ((![v29] : Fin 1 → IVec S16 32) a x).toNat < S16384.size a := fun v29 k5_hw6 => k5_hw6

def k5_chk7 (v32 : IVec S16 32) : Prop :=
  (∀ a x, ((![v32] : Fin 1 → IVec S16 32) a x).toNat < S16384.size a)
theorem k5_idx7_inb : ∀ (v32 : IVec S16 32) (k5_hw7 : k5_chk7 v32), ∀ a x, ((![v32] : Fin 1 → IVec S16 32) a x).toNat < S16384.size a := fun v32 k5_hw7 => k5_hw7

def k5_chk8 (v35 : IVec S16 32) : Prop :=
  (∀ a x, ((![v35] : Fin 1 → IVec S16 32) a x).toNat < S16384.size a)
theorem k5_idx8_inb : ∀ (v35 : IVec S16 32) (k5_hw8 : k5_chk8 v35), ∀ a x, ((![v35] : Fin 1 → IVec S16 32) a x).toNat < S16384.size a := fun v35 k5_hw8 => k5_hw8

def k5_chk9 (v38 : IVec S16 32) : Prop :=
  (∀ a x, ((![v38] : Fin 1 → IVec S16 32) a x).toNat < S16384.size a)
theorem k5_idx9_inb : ∀ (v38 : IVec S16 32) (k5_hw9 : k5_chk9 v38), ∀ a x, ((![v38] : Fin 1 → IVec S16 32) a x).toNat < S16384.size a := fun v38 k5_hw9 => k5_hw9

def k5_chk10 (v41 : IVec S16 32) : Prop :=
  (∀ a x, ((![v41] : Fin 1 → IVec S16 32) a x).toNat < S16384.size a)
theorem k5_idx10_inb : ∀ (v41 : IVec S16 32) (k5_hw10 : k5_chk10 v41), ∀ a x, ((![v41] : Fin 1 → IVec S16 32) a x).toNat < S16384.size a := fun v41 k5_hw10 => k5_hw10

def k5_chk11 (v44 : IVec S16 32) : Prop :=
  (∀ a x, ((![v44] : Fin 1 → IVec S16 32) a x).toNat < S16384.size a)
theorem k5_idx11_inb : ∀ (v44 : IVec S16 32) (k5_hw11 : k5_chk11 v44), ∀ a x, ((![v44] : Fin 1 → IVec S16 32) a x).toNat < S16384.size a := fun v44 k5_hw11 => k5_hw11

def k5_chk12 (v47 : IVec S16 32) : Prop :=
  (∀ a x, ((![v47] : Fin 1 → IVec S16 32) a x).toNat < S16384.size a)
theorem k5_idx12_inb : ∀ (v47 : IVec S16 32) (k5_hw12 : k5_chk12 v47), ∀ a x, ((![v47] : Fin 1 → IVec S16 32) a x).toNat < S16384.size a := fun v47 k5_hw12 => k5_hw12

def k5_chk13 (v50 : IVec S16 32) : Prop :=
  (∀ a x, ((![v50] : Fin 1 → IVec S16 32) a x).toNat < S16384.size a)
theorem k5_idx13_inb : ∀ (v50 : IVec S16 32) (k5_hw13 : k5_chk13 v50), ∀ a x, ((![v50] : Fin 1 → IVec S16 32) a x).toNat < S16384.size a := fun v50 k5_hw13 => k5_hw13

def k5_chk14 (v53 : IVec S16 32) : Prop :=
  (∀ a x, ((![v53] : Fin 1 → IVec S16 32) a x).toNat < S16384.size a)
theorem k5_idx14_inb : ∀ (v53 : IVec S16 32) (k5_hw14 : k5_chk14 v53), ∀ a x, ((![v53] : Fin 1 → IVec S16 32) a x).toNat < S16384.size a := fun v53 k5_hw14 => k5_hw14

def k5_chk15 (v56 : IVec S16 32) : Prop :=
  (∀ a x, ((![v56] : Fin 1 → IVec S16 32) a x).toNat < S16384.size a)
theorem k5_idx15_inb : ∀ (v56 : IVec S16 32) (k5_hw15 : k5_chk15 v56), ∀ a x, ((![v56] : Fin 1 → IVec S16 32) a x).toNat < S16384.size a := fun v56 k5_hw15 => k5_hw15

def k5_chk16 (v59 : IVec S16 32) : Prop :=
  (∀ a x, ((![v59] : Fin 1 → IVec S16 32) a x).toNat < S16384.size a)
theorem k5_idx16_inb : ∀ (v59 : IVec S16 32) (k5_hw16 : k5_chk16 v59), ∀ a x, ((![v59] : Fin 1 → IVec S16 32) a x).toNat < S16384.size a := fun v59 k5_hw16 => k5_hw16

def k5_chk17 (v62 : IVec S16 32) : Prop :=
  (∀ a x, ((![v62] : Fin 1 → IVec S16 32) a x).toNat < S16384.size a)
theorem k5_idx17_inb : ∀ (v62 : IVec S16 32) (k5_hw17 : k5_chk17 v62), ∀ a x, ((![v62] : Fin 1 → IVec S16 32) a x).toNat < S16384.size a := fun v62 k5_hw17 => k5_hw17

def k5_chk18 (v65 : IVec S16 32) : Prop :=
  (∀ a x, ((![v65] : Fin 1 → IVec S16 32) a x).toNat < S16384.size a)
theorem k5_idx18_inb : ∀ (v65 : IVec S16 32) (k5_hw18 : k5_chk18 v65), ∀ a x, ((![v65] : Fin 1 → IVec S16 32) a x).toNat < S16384.size a := fun v65 k5_hw18 => k5_hw18

def k5_chk19 (v68 : IVec S16 32) : Prop :=
  (∀ a x, ((![v68] : Fin 1 → IVec S16 32) a x).toNat < S16384.size a)
theorem k5_idx19_inb : ∀ (v68 : IVec S16 32) (k5_hw19 : k5_chk19 v68), ∀ a x, ((![v68] : Fin 1 → IVec S16 32) a x).toNat < S16384.size a := fun v68 k5_hw19 => k5_hw19

def k5_chk20 (v71 : IVec S16 32) : Prop :=
  (∀ a x, ((![v71] : Fin 1 → IVec S16 32) a x).toNat < S16384.size a)
theorem k5_idx20_inb : ∀ (v71 : IVec S16 32) (k5_hw20 : k5_chk20 v71), ∀ a x, ((![v71] : Fin 1 → IVec S16 32) a x).toNat < S16384.size a := fun v71 k5_hw20 => k5_hw20

def k5_chk21 (v74 : IVec S16 32) : Prop :=
  (∀ a x, ((![v74] : Fin 1 → IVec S16 32) a x).toNat < S16384.size a)
theorem k5_idx21_inb : ∀ (v74 : IVec S16 32) (k5_hw21 : k5_chk21 v74), ∀ a x, ((![v74] : Fin 1 → IVec S16 32) a x).toNat < S16384.size a := fun v74 k5_hw21 => k5_hw21

def k5_chk22 (v77 : IVec S16 32) : Prop :=
  (∀ a x, ((![v77] : Fin 1 → IVec S16 32) a x).toNat < S16384.size a)
theorem k5_idx22_inb : ∀ (v77 : IVec S16 32) (k5_hw22 : k5_chk22 v77), ∀ a x, ((![v77] : Fin 1 → IVec S16 32) a x).toNat < S16384.size a := fun v77 k5_hw22 => k5_hw22

def k5_chk23 (v80 : IVec S16 32) : Prop :=
  (∀ a x, ((![v80] : Fin 1 → IVec S16 32) a x).toNat < S16384.size a)
theorem k5_idx23_inb : ∀ (v80 : IVec S16 32) (k5_hw23 : k5_chk23 v80), ∀ a x, ((![v80] : Fin 1 → IVec S16 32) a x).toNat < S16384.size a := fun v80 k5_hw23 => k5_hw23

def k5_chk24 (v83 : IVec S16 32) : Prop :=
  (∀ a x, ((![v83] : Fin 1 → IVec S16 32) a x).toNat < S16384.size a)
theorem k5_idx24_inb : ∀ (v83 : IVec S16 32) (k5_hw24 : k5_chk24 v83), ∀ a x, ((![v83] : Fin 1 → IVec S16 32) a x).toNat < S16384.size a := fun v83 k5_hw24 => k5_hw24

def k5_chk25 (v86 : IVec S16 32) : Prop :=
  (∀ a x, ((![v86] : Fin 1 → IVec S16 32) a x).toNat < S16384.size a)
theorem k5_idx25_inb : ∀ (v86 : IVec S16 32) (k5_hw25 : k5_chk25 v86), ∀ a x, ((![v86] : Fin 1 → IVec S16 32) a x).toNat < S16384.size a := fun v86 k5_hw25 => k5_hw25

def k5_chk26 (v89 : IVec S16 32) : Prop :=
  (∀ a x, ((![v89] : Fin 1 → IVec S16 32) a x).toNat < S16384.size a)
theorem k5_idx26_inb : ∀ (v89 : IVec S16 32) (k5_hw26 : k5_chk26 v89), ∀ a x, ((![v89] : Fin 1 → IVec S16 32) a x).toNat < S16384.size a := fun v89 k5_hw26 => k5_hw26

def k5_chk27 (v92 : IVec S16 32) : Prop :=
  (∀ a x, ((![v92] : Fin 1 → IVec S16 32) a x).toNat < S16384.size a)
theorem k5_idx27_inb : ∀ (v92 : IVec S16 32) (k5_hw27 : k5_chk27 v92), ∀ a x, ((![v92] : Fin 1 → IVec S16 32) a x).toNat < S16384.size a := fun v92 k5_hw27 => k5_hw27

def k5_chk28 (v95 : IVec S16 32) : Prop :=
  (∀ a x, ((![v95] : Fin 1 → IVec S16 32) a x).toNat < S16384.size a)
theorem k5_idx28_inb : ∀ (v95 : IVec S16 32) (k5_hw28 : k5_chk28 v95), ∀ a x, ((![v95] : Fin 1 → IVec S16 32) a x).toNat < S16384.size a := fun v95 k5_hw28 => k5_hw28

def k5_chk29 (v98 : IVec S16 32) : Prop :=
  (∀ a x, ((![v98] : Fin 1 → IVec S16 32) a x).toNat < S16384.size a)
theorem k5_idx29_inb : ∀ (v98 : IVec S16 32) (k5_hw29 : k5_chk29 v98), ∀ a x, ((![v98] : Fin 1 → IVec S16 32) a x).toNat < S16384.size a := fun v98 k5_hw29 => k5_hw29

def k5_chk30 (v101 : IVec S16 32) : Prop :=
  (∀ a x, ((![v101] : Fin 1 → IVec S16 32) a x).toNat < S16384.size a)
theorem k5_idx30_inb : ∀ (v101 : IVec S16 32) (k5_hw30 : k5_chk30 v101), ∀ a x, ((![v101] : Fin 1 → IVec S16 32) a x).toNat < S16384.size a := fun v101 k5_hw30 => k5_hw30

def k5_chk31 (v104 : IVec S16 32) : Prop :=
  (∀ a x, ((![v104] : Fin 1 → IVec S16 32) a x).toNat < S16384.size a)
theorem k5_idx31_inb : ∀ (v104 : IVec S16 32) (k5_hw31 : k5_chk31 v104), ∀ a x, ((![v104] : Fin 1 → IVec S16 32) a x).toNat < S16384.size a := fun v104 k5_hw31 => k5_hw31

def k5_chk32 (v107 : IVec S16 32) : Prop :=
  (∀ a x, ((![v107] : Fin 1 → IVec S16 32) a x).toNat < S16384.size a)
theorem k5_idx32_inb : ∀ (v107 : IVec S16 32) (k5_hw32 : k5_chk32 v107), ∀ a x, ((![v107] : Fin 1 → IVec S16 32) a x).toNat < S16384.size a := fun v107 k5_hw32 => k5_hw32

def k5_chk33 (v110 : IVec S16 32) : Prop :=
  (∀ a x, ((![v110] : Fin 1 → IVec S16 32) a x).toNat < S16384.size a)
theorem k5_idx33_inb : ∀ (v110 : IVec S16 32) (k5_hw33 : k5_chk33 v110), ∀ a x, ((![v110] : Fin 1 → IVec S16 32) a x).toNat < S16384.size a := fun v110 k5_hw33 => k5_hw33

def k5_chk34 (v113 : IVec S16 32) : Prop :=
  (∀ a x, ((![v113] : Fin 1 → IVec S16 32) a x).toNat < S16384.size a)
theorem k5_idx34_inb : ∀ (v113 : IVec S16 32) (k5_hw34 : k5_chk34 v113), ∀ a x, ((![v113] : Fin 1 → IVec S16 32) a x).toNat < S16384.size a := fun v113 k5_hw34 => k5_hw34

def k5_chk35 (v116 : IVec S16 32) : Prop :=
  (∀ a x, ((![v116] : Fin 1 → IVec S16 32) a x).toNat < S16384.size a)
theorem k5_idx35_inb : ∀ (v116 : IVec S16 32) (k5_hw35 : k5_chk35 v116), ∀ a x, ((![v116] : Fin 1 → IVec S16 32) a x).toNat < S16384.size a := fun v116 k5_hw35 => k5_hw35

def k5_chk36 (v119 : IVec S16 32) : Prop :=
  (∀ a x, ((![v119] : Fin 1 → IVec S16 32) a x).toNat < S16384.size a)
theorem k5_idx36_inb : ∀ (v119 : IVec S16 32) (k5_hw36 : k5_chk36 v119), ∀ a x, ((![v119] : Fin 1 → IVec S16 32) a x).toNat < S16384.size a := fun v119 k5_hw36 => k5_hw36

def k5_chk37 (v122 : IVec S16 32) : Prop :=
  (∀ a x, ((![v122] : Fin 1 → IVec S16 32) a x).toNat < S16384.size a)
theorem k5_idx37_inb : ∀ (v122 : IVec S16 32) (k5_hw37 : k5_chk37 v122), ∀ a x, ((![v122] : Fin 1 → IVec S16 32) a x).toNat < S16384.size a := fun v122 k5_hw37 => k5_hw37

def k5_chk38 (v125 : IVec S16 32) : Prop :=
  (∀ a x, ((![v125] : Fin 1 → IVec S16 32) a x).toNat < S16384.size a)
theorem k5_idx38_inb : ∀ (v125 : IVec S16 32) (k5_hw38 : k5_chk38 v125), ∀ a x, ((![v125] : Fin 1 → IVec S16 32) a x).toNat < S16384.size a := fun v125 k5_hw38 => k5_hw38

def k5_chk39 (v128 : IVec S16 32) : Prop :=
  (∀ a x, ((![v128] : Fin 1 → IVec S16 32) a x).toNat < S16384.size a)
theorem k5_idx39_inb : ∀ (v128 : IVec S16 32) (k5_hw39 : k5_chk39 v128), ∀ a x, ((![v128] : Fin 1 → IVec S16 32) a x).toNat < S16384.size a := fun v128 k5_hw39 => k5_hw39

def k5_chk40 (v131 : IVec S16 32) : Prop :=
  (∀ a x, ((![v131] : Fin 1 → IVec S16 32) a x).toNat < S16384.size a)
theorem k5_idx40_inb : ∀ (v131 : IVec S16 32) (k5_hw40 : k5_chk40 v131), ∀ a x, ((![v131] : Fin 1 → IVec S16 32) a x).toNat < S16384.size a := fun v131 k5_hw40 => k5_hw40

def k5_chk41 (v134 : IVec S16 32) : Prop :=
  (∀ a x, ((![v134] : Fin 1 → IVec S16 32) a x).toNat < S16384.size a)
theorem k5_idx41_inb : ∀ (v134 : IVec S16 32) (k5_hw41 : k5_chk41 v134), ∀ a x, ((![v134] : Fin 1 → IVec S16 32) a x).toNat < S16384.size a := fun v134 k5_hw41 => k5_hw41

def k5_chk42 (v137 : IVec S16 32) : Prop :=
  (∀ a x, ((![v137] : Fin 1 → IVec S16 32) a x).toNat < S16384.size a)
theorem k5_idx42_inb : ∀ (v137 : IVec S16 32) (k5_hw42 : k5_chk42 v137), ∀ a x, ((![v137] : Fin 1 → IVec S16 32) a x).toNat < S16384.size a := fun v137 k5_hw42 => k5_hw42

def k5_chk43 (v140 : IVec S16 32) : Prop :=
  (∀ a x, ((![v140] : Fin 1 → IVec S16 32) a x).toNat < S16384.size a)
theorem k5_idx43_inb : ∀ (v140 : IVec S16 32) (k5_hw43 : k5_chk43 v140), ∀ a x, ((![v140] : Fin 1 → IVec S16 32) a x).toNat < S16384.size a := fun v140 k5_hw43 => k5_hw43

def k5_chk44 (v143 : IVec S16 32) : Prop :=
  (∀ a x, ((![v143] : Fin 1 → IVec S16 32) a x).toNat < S16384.size a)
theorem k5_idx44_inb : ∀ (v143 : IVec S16 32) (k5_hw44 : k5_chk44 v143), ∀ a x, ((![v143] : Fin 1 → IVec S16 32) a x).toNat < S16384.size a := fun v143 k5_hw44 => k5_hw44

def k5_chk45 (v146 : IVec S16 32) : Prop :=
  (∀ a x, ((![v146] : Fin 1 → IVec S16 32) a x).toNat < S16384.size a)
theorem k5_idx45_inb : ∀ (v146 : IVec S16 32) (k5_hw45 : k5_chk45 v146), ∀ a x, ((![v146] : Fin 1 → IVec S16 32) a x).toNat < S16384.size a := fun v146 k5_hw45 => k5_hw45

def k5_chk46 (v149 : IVec S16 32) : Prop :=
  (∀ a x, ((![v149] : Fin 1 → IVec S16 32) a x).toNat < S16384.size a)
theorem k5_idx46_inb : ∀ (v149 : IVec S16 32) (k5_hw46 : k5_chk46 v149), ∀ a x, ((![v149] : Fin 1 → IVec S16 32) a x).toNat < S16384.size a := fun v149 k5_hw46 => k5_hw46

def k5_chk47 (v152 : IVec S16 32) : Prop :=
  (∀ a x, ((![v152] : Fin 1 → IVec S16 32) a x).toNat < S16384.size a)
theorem k5_idx47_inb : ∀ (v152 : IVec S16 32) (k5_hw47 : k5_chk47 v152), ∀ a x, ((![v152] : Fin 1 → IVec S16 32) a x).toNat < S16384.size a := fun v152 k5_hw47 => k5_hw47

def k5_chk48 (v155 : IVec S16 32) : Prop :=
  (∀ a x, ((![v155] : Fin 1 → IVec S16 32) a x).toNat < S16384.size a)
theorem k5_idx48_inb : ∀ (v155 : IVec S16 32) (k5_hw48 : k5_chk48 v155), ∀ a x, ((![v155] : Fin 1 → IVec S16 32) a x).toNat < S16384.size a := fun v155 k5_hw48 => k5_hw48

def k5_chk49 (v158 : IVec S16 32) : Prop :=
  (∀ a x, ((![v158] : Fin 1 → IVec S16 32) a x).toNat < S16384.size a)
theorem k5_idx49_inb : ∀ (v158 : IVec S16 32) (k5_hw49 : k5_chk49 v158), ∀ a x, ((![v158] : Fin 1 → IVec S16 32) a x).toNat < S16384.size a := fun v158 k5_hw49 => k5_hw49

def k5_chk50 (v161 : IVec S16 32) : Prop :=
  (∀ a x, ((![v161] : Fin 1 → IVec S16 32) a x).toNat < S16384.size a)
theorem k5_idx50_inb : ∀ (v161 : IVec S16 32) (k5_hw50 : k5_chk50 v161), ∀ a x, ((![v161] : Fin 1 → IVec S16 32) a x).toNat < S16384.size a := fun v161 k5_hw50 => k5_hw50

def k5_chk51 (v164 : IVec S16 32) : Prop :=
  (∀ a x, ((![v164] : Fin 1 → IVec S16 32) a x).toNat < S16384.size a)
theorem k5_idx51_inb : ∀ (v164 : IVec S16 32) (k5_hw51 : k5_chk51 v164), ∀ a x, ((![v164] : Fin 1 → IVec S16 32) a x).toNat < S16384.size a := fun v164 k5_hw51 => k5_hw51

def k5_chk52 (v167 : IVec S16 32) : Prop :=
  (∀ a x, ((![v167] : Fin 1 → IVec S16 32) a x).toNat < S16384.size a)
theorem k5_idx52_inb : ∀ (v167 : IVec S16 32) (k5_hw52 : k5_chk52 v167), ∀ a x, ((![v167] : Fin 1 → IVec S16 32) a x).toNat < S16384.size a := fun v167 k5_hw52 => k5_hw52

def k5_chk53 (v170 : IVec S16 32) : Prop :=
  (∀ a x, ((![v170] : Fin 1 → IVec S16 32) a x).toNat < S16384.size a)
theorem k5_idx53_inb : ∀ (v170 : IVec S16 32) (k5_hw53 : k5_chk53 v170), ∀ a x, ((![v170] : Fin 1 → IVec S16 32) a x).toNat < S16384.size a := fun v170 k5_hw53 => k5_hw53

def k5_chk54 (v173 : IVec S16 32) : Prop :=
  (∀ a x, ((![v173] : Fin 1 → IVec S16 32) a x).toNat < S16384.size a)
theorem k5_idx54_inb : ∀ (v173 : IVec S16 32) (k5_hw54 : k5_chk54 v173), ∀ a x, ((![v173] : Fin 1 → IVec S16 32) a x).toNat < S16384.size a := fun v173 k5_hw54 => k5_hw54

def k5_chk55 (v176 : IVec S16 32) : Prop :=
  (∀ a x, ((![v176] : Fin 1 → IVec S16 32) a x).toNat < S16384.size a)
theorem k5_idx55_inb : ∀ (v176 : IVec S16 32) (k5_hw55 : k5_chk55 v176), ∀ a x, ((![v176] : Fin 1 → IVec S16 32) a x).toNat < S16384.size a := fun v176 k5_hw55 => k5_hw55

def k5_chk56 (v179 : IVec S16 32) : Prop :=
  (∀ a x, ((![v179] : Fin 1 → IVec S16 32) a x).toNat < S16384.size a)
theorem k5_idx56_inb : ∀ (v179 : IVec S16 32) (k5_hw56 : k5_chk56 v179), ∀ a x, ((![v179] : Fin 1 → IVec S16 32) a x).toNat < S16384.size a := fun v179 k5_hw56 => k5_hw56

def k5_chk57 (v182 : IVec S16 32) : Prop :=
  (∀ a x, ((![v182] : Fin 1 → IVec S16 32) a x).toNat < S16384.size a)
theorem k5_idx57_inb : ∀ (v182 : IVec S16 32) (k5_hw57 : k5_chk57 v182), ∀ a x, ((![v182] : Fin 1 → IVec S16 32) a x).toNat < S16384.size a := fun v182 k5_hw57 => k5_hw57

def k5_chk58 (v185 : IVec S16 32) : Prop :=
  (∀ a x, ((![v185] : Fin 1 → IVec S16 32) a x).toNat < S16384.size a)
theorem k5_idx58_inb : ∀ (v185 : IVec S16 32) (k5_hw58 : k5_chk58 v185), ∀ a x, ((![v185] : Fin 1 → IVec S16 32) a x).toNat < S16384.size a := fun v185 k5_hw58 => k5_hw58

def k5_chk59 (v188 : IVec S16 32) : Prop :=
  (∀ a x, ((![v188] : Fin 1 → IVec S16 32) a x).toNat < S16384.size a)
theorem k5_idx59_inb : ∀ (v188 : IVec S16 32) (k5_hw59 : k5_chk59 v188), ∀ a x, ((![v188] : Fin 1 → IVec S16 32) a x).toNat < S16384.size a := fun v188 k5_hw59 => k5_hw59

def k5_chk60 (v191 : IVec S16 32) : Prop :=
  (∀ a x, ((![v191] : Fin 1 → IVec S16 32) a x).toNat < S16384.size a)
theorem k5_idx60_inb : ∀ (v191 : IVec S16 32) (k5_hw60 : k5_chk60 v191), ∀ a x, ((![v191] : Fin 1 → IVec S16 32) a x).toNat < S16384.size a := fun v191 k5_hw60 => k5_hw60

def k5_chk61 (v194 : IVec S16 32) : Prop :=
  (∀ a x, ((![v194] : Fin 1 → IVec S16 32) a x).toNat < S16384.size a)
theorem k5_idx61_inb : ∀ (v194 : IVec S16 32) (k5_hw61 : k5_chk61 v194), ∀ a x, ((![v194] : Fin 1 → IVec S16 32) a x).toNat < S16384.size a := fun v194 k5_hw61 => k5_hw61

def k5_chk62 (v197 : IVec S16 32) : Prop :=
  (∀ a x, ((![v197] : Fin 1 → IVec S16 32) a x).toNat < S16384.size a)
theorem k5_idx62_inb : ∀ (v197 : IVec S16 32) (k5_hw62 : k5_chk62 v197), ∀ a x, ((![v197] : Fin 1 → IVec S16 32) a x).toNat < S16384.size a := fun v197 k5_hw62 => k5_hw62

def k5_chk63 (v200 : IVec S16 32) : Prop :=
  (∀ a x, ((![v200] : Fin 1 → IVec S16 32) a x).toNat < S16384.size a)
theorem k5_idx63_inb : ∀ (v200 : IVec S16 32) (k5_hw63 : k5_chk63 v200), ∀ a x, ((![v200] : Fin 1 → IVec S16 32) a x).toNat < S16384.size a := fun v200 k5_hw63 => k5_hw63

def k5_chk64 (v203 : IVec S16 32) : Prop :=
  (∀ a x, ((![v203] : Fin 1 → IVec S16 32) a x).toNat < S16384.size a)
theorem k5_idx64_inb : ∀ (v203 : IVec S16 32) (k5_hw64 : k5_chk64 v203), ∀ a x, ((![v203] : Fin 1 → IVec S16 32) a x).toNat < S16384.size a := fun v203 k5_hw64 => k5_hw64

def k5_chk65 (v560 : IVec S16 32) : Prop :=
  (∀ a x, ((![v560] : Fin 1 → IVec S16 32) a x).toNat < S16384.size a)
theorem k5_idx65_inb : ∀ (v560 : IVec S16 32) (k5_hw65 : k5_chk65 v560), ∀ a x, ((![v560] : Fin 1 → IVec S16 32) a x).toNat < S16384.size a := fun v560 k5_hw65 => k5_hw65

def k5_chk66 (v564 : IVec S16 32) : Prop :=
  (∀ a x, ((![v564] : Fin 1 → IVec S16 32) a x).toNat < S16384.size a)
theorem k5_idx66_inb : ∀ (v564 : IVec S16 32) (k5_hw66 : k5_chk66 v564), ∀ a x, ((![v564] : Fin 1 → IVec S16 32) a x).toNat < S16384.size a := fun v564 k5_hw66 => k5_hw66

def k5_chk67 (v568 : IVec S16 32) : Prop :=
  (∀ a x, ((![v568] : Fin 1 → IVec S16 32) a x).toNat < S16384.size a)
theorem k5_idx67_inb : ∀ (v568 : IVec S16 32) (k5_hw67 : k5_chk67 v568), ∀ a x, ((![v568] : Fin 1 → IVec S16 32) a x).toNat < S16384.size a := fun v568 k5_hw67 => k5_hw67

def k5_chk68 (v572 : IVec S16 32) : Prop :=
  (∀ a x, ((![v572] : Fin 1 → IVec S16 32) a x).toNat < S16384.size a)
theorem k5_idx68_inb : ∀ (v572 : IVec S16 32) (k5_hw68 : k5_chk68 v572), ∀ a x, ((![v572] : Fin 1 → IVec S16 32) a x).toNat < S16384.size a := fun v572 k5_hw68 => k5_hw68

def k5_chk69 (v576 : IVec S16 32) : Prop :=
  (∀ a x, ((![v576] : Fin 1 → IVec S16 32) a x).toNat < S16384.size a)
theorem k5_idx69_inb : ∀ (v576 : IVec S16 32) (k5_hw69 : k5_chk69 v576), ∀ a x, ((![v576] : Fin 1 → IVec S16 32) a x).toNat < S16384.size a := fun v576 k5_hw69 => k5_hw69

def k5_chk70 (v580 : IVec S16 32) : Prop :=
  (∀ a x, ((![v580] : Fin 1 → IVec S16 32) a x).toNat < S16384.size a)
theorem k5_idx70_inb : ∀ (v580 : IVec S16 32) (k5_hw70 : k5_chk70 v580), ∀ a x, ((![v580] : Fin 1 → IVec S16 32) a x).toNat < S16384.size a := fun v580 k5_hw70 => k5_hw70

def k5_chk71 (v584 : IVec S16 32) : Prop :=
  (∀ a x, ((![v584] : Fin 1 → IVec S16 32) a x).toNat < S16384.size a)
theorem k5_idx71_inb : ∀ (v584 : IVec S16 32) (k5_hw71 : k5_chk71 v584), ∀ a x, ((![v584] : Fin 1 → IVec S16 32) a x).toNat < S16384.size a := fun v584 k5_hw71 => k5_hw71

def k5_chk72 (v588 : IVec S16 32) : Prop :=
  (∀ a x, ((![v588] : Fin 1 → IVec S16 32) a x).toNat < S16384.size a)
theorem k5_idx72_inb : ∀ (v588 : IVec S16 32) (k5_hw72 : k5_chk72 v588), ∀ a x, ((![v588] : Fin 1 → IVec S16 32) a x).toNat < S16384.size a := fun v588 k5_hw72 => k5_hw72

def k5_chk73 (v592 : IVec S16 32) : Prop :=
  (∀ a x, ((![v592] : Fin 1 → IVec S16 32) a x).toNat < S16384.size a)
theorem k5_idx73_inb : ∀ (v592 : IVec S16 32) (k5_hw73 : k5_chk73 v592), ∀ a x, ((![v592] : Fin 1 → IVec S16 32) a x).toNat < S16384.size a := fun v592 k5_hw73 => k5_hw73

def k5_chk74 (v596 : IVec S16 32) : Prop :=
  (∀ a x, ((![v596] : Fin 1 → IVec S16 32) a x).toNat < S16384.size a)
theorem k5_idx74_inb : ∀ (v596 : IVec S16 32) (k5_hw74 : k5_chk74 v596), ∀ a x, ((![v596] : Fin 1 → IVec S16 32) a x).toNat < S16384.size a := fun v596 k5_hw74 => k5_hw74

def k5_chk75 (v600 : IVec S16 32) : Prop :=
  (∀ a x, ((![v600] : Fin 1 → IVec S16 32) a x).toNat < S16384.size a)
theorem k5_idx75_inb : ∀ (v600 : IVec S16 32) (k5_hw75 : k5_chk75 v600), ∀ a x, ((![v600] : Fin 1 → IVec S16 32) a x).toNat < S16384.size a := fun v600 k5_hw75 => k5_hw75

def k5_chk76 (v604 : IVec S16 32) : Prop :=
  (∀ a x, ((![v604] : Fin 1 → IVec S16 32) a x).toNat < S16384.size a)
theorem k5_idx76_inb : ∀ (v604 : IVec S16 32) (k5_hw76 : k5_chk76 v604), ∀ a x, ((![v604] : Fin 1 → IVec S16 32) a x).toNat < S16384.size a := fun v604 k5_hw76 => k5_hw76

def k5_chk77 (v608 : IVec S16 32) : Prop :=
  (∀ a x, ((![v608] : Fin 1 → IVec S16 32) a x).toNat < S16384.size a)
theorem k5_idx77_inb : ∀ (v608 : IVec S16 32) (k5_hw77 : k5_chk77 v608), ∀ a x, ((![v608] : Fin 1 → IVec S16 32) a x).toNat < S16384.size a := fun v608 k5_hw77 => k5_hw77

def k5_chk78 (v612 : IVec S16 32) : Prop :=
  (∀ a x, ((![v612] : Fin 1 → IVec S16 32) a x).toNat < S16384.size a)
theorem k5_idx78_inb : ∀ (v612 : IVec S16 32) (k5_hw78 : k5_chk78 v612), ∀ a x, ((![v612] : Fin 1 → IVec S16 32) a x).toNat < S16384.size a := fun v612 k5_hw78 => k5_hw78

def k5_chk79 (v616 : IVec S16 32) : Prop :=
  (∀ a x, ((![v616] : Fin 1 → IVec S16 32) a x).toNat < S16384.size a)
theorem k5_idx79_inb : ∀ (v616 : IVec S16 32) (k5_hw79 : k5_chk79 v616), ∀ a x, ((![v616] : Fin 1 → IVec S16 32) a x).toNat < S16384.size a := fun v616 k5_hw79 => k5_hw79

def k5_chk80 (v620 : IVec S16 32) : Prop :=
  (∀ a x, ((![v620] : Fin 1 → IVec S16 32) a x).toNat < S16384.size a)
theorem k5_idx80_inb : ∀ (v620 : IVec S16 32) (k5_hw80 : k5_chk80 v620), ∀ a x, ((![v620] : Fin 1 → IVec S16 32) a x).toNat < S16384.size a := fun v620 k5_hw80 => k5_hw80

def k5_chk81 (v624 : IVec S16 32) : Prop :=
  (∀ a x, ((![v624] : Fin 1 → IVec S16 32) a x).toNat < S16384.size a)
theorem k5_idx81_inb : ∀ (v624 : IVec S16 32) (k5_hw81 : k5_chk81 v624), ∀ a x, ((![v624] : Fin 1 → IVec S16 32) a x).toNat < S16384.size a := fun v624 k5_hw81 => k5_hw81

def k5_chk82 (v628 : IVec S16 32) : Prop :=
  (∀ a x, ((![v628] : Fin 1 → IVec S16 32) a x).toNat < S16384.size a)
theorem k5_idx82_inb : ∀ (v628 : IVec S16 32) (k5_hw82 : k5_chk82 v628), ∀ a x, ((![v628] : Fin 1 → IVec S16 32) a x).toNat < S16384.size a := fun v628 k5_hw82 => k5_hw82

def k5_chk83 (v632 : IVec S16 32) : Prop :=
  (∀ a x, ((![v632] : Fin 1 → IVec S16 32) a x).toNat < S16384.size a)
theorem k5_idx83_inb : ∀ (v632 : IVec S16 32) (k5_hw83 : k5_chk83 v632), ∀ a x, ((![v632] : Fin 1 → IVec S16 32) a x).toNat < S16384.size a := fun v632 k5_hw83 => k5_hw83

def k5_chk84 (v636 : IVec S16 32) : Prop :=
  (∀ a x, ((![v636] : Fin 1 → IVec S16 32) a x).toNat < S16384.size a)
theorem k5_idx84_inb : ∀ (v636 : IVec S16 32) (k5_hw84 : k5_chk84 v636), ∀ a x, ((![v636] : Fin 1 → IVec S16 32) a x).toNat < S16384.size a := fun v636 k5_hw84 => k5_hw84

def k5_chk85 (v640 : IVec S16 32) : Prop :=
  (∀ a x, ((![v640] : Fin 1 → IVec S16 32) a x).toNat < S16384.size a)
theorem k5_idx85_inb : ∀ (v640 : IVec S16 32) (k5_hw85 : k5_chk85 v640), ∀ a x, ((![v640] : Fin 1 → IVec S16 32) a x).toNat < S16384.size a := fun v640 k5_hw85 => k5_hw85

def k5_chk86 (v644 : IVec S16 32) : Prop :=
  (∀ a x, ((![v644] : Fin 1 → IVec S16 32) a x).toNat < S16384.size a)
theorem k5_idx86_inb : ∀ (v644 : IVec S16 32) (k5_hw86 : k5_chk86 v644), ∀ a x, ((![v644] : Fin 1 → IVec S16 32) a x).toNat < S16384.size a := fun v644 k5_hw86 => k5_hw86

def k5_chk87 (v648 : IVec S16 32) : Prop :=
  (∀ a x, ((![v648] : Fin 1 → IVec S16 32) a x).toNat < S16384.size a)
theorem k5_idx87_inb : ∀ (v648 : IVec S16 32) (k5_hw87 : k5_chk87 v648), ∀ a x, ((![v648] : Fin 1 → IVec S16 32) a x).toNat < S16384.size a := fun v648 k5_hw87 => k5_hw87

def k5_chk88 (v652 : IVec S16 32) : Prop :=
  (∀ a x, ((![v652] : Fin 1 → IVec S16 32) a x).toNat < S16384.size a)
theorem k5_idx88_inb : ∀ (v652 : IVec S16 32) (k5_hw88 : k5_chk88 v652), ∀ a x, ((![v652] : Fin 1 → IVec S16 32) a x).toNat < S16384.size a := fun v652 k5_hw88 => k5_hw88

def k5_chk89 (v656 : IVec S16 32) : Prop :=
  (∀ a x, ((![v656] : Fin 1 → IVec S16 32) a x).toNat < S16384.size a)
theorem k5_idx89_inb : ∀ (v656 : IVec S16 32) (k5_hw89 : k5_chk89 v656), ∀ a x, ((![v656] : Fin 1 → IVec S16 32) a x).toNat < S16384.size a := fun v656 k5_hw89 => k5_hw89

def k5_chk90 (v660 : IVec S16 32) : Prop :=
  (∀ a x, ((![v660] : Fin 1 → IVec S16 32) a x).toNat < S16384.size a)
theorem k5_idx90_inb : ∀ (v660 : IVec S16 32) (k5_hw90 : k5_chk90 v660), ∀ a x, ((![v660] : Fin 1 → IVec S16 32) a x).toNat < S16384.size a := fun v660 k5_hw90 => k5_hw90

def k5_chk91 (v664 : IVec S16 32) : Prop :=
  (∀ a x, ((![v664] : Fin 1 → IVec S16 32) a x).toNat < S16384.size a)
theorem k5_idx91_inb : ∀ (v664 : IVec S16 32) (k5_hw91 : k5_chk91 v664), ∀ a x, ((![v664] : Fin 1 → IVec S16 32) a x).toNat < S16384.size a := fun v664 k5_hw91 => k5_hw91

def k5_chk92 (v668 : IVec S16 32) : Prop :=
  (∀ a x, ((![v668] : Fin 1 → IVec S16 32) a x).toNat < S16384.size a)
theorem k5_idx92_inb : ∀ (v668 : IVec S16 32) (k5_hw92 : k5_chk92 v668), ∀ a x, ((![v668] : Fin 1 → IVec S16 32) a x).toNat < S16384.size a := fun v668 k5_hw92 => k5_hw92

def k5_chk93 (v672 : IVec S16 32) : Prop :=
  (∀ a x, ((![v672] : Fin 1 → IVec S16 32) a x).toNat < S16384.size a)
theorem k5_idx93_inb : ∀ (v672 : IVec S16 32) (k5_hw93 : k5_chk93 v672), ∀ a x, ((![v672] : Fin 1 → IVec S16 32) a x).toNat < S16384.size a := fun v672 k5_hw93 => k5_hw93

def k5_chk94 (v676 : IVec S16 32) : Prop :=
  (∀ a x, ((![v676] : Fin 1 → IVec S16 32) a x).toNat < S16384.size a)
theorem k5_idx94_inb : ∀ (v676 : IVec S16 32) (k5_hw94 : k5_chk94 v676), ∀ a x, ((![v676] : Fin 1 → IVec S16 32) a x).toNat < S16384.size a := fun v676 k5_hw94 => k5_hw94

def k5_chk95 (v680 : IVec S16 32) : Prop :=
  (∀ a x, ((![v680] : Fin 1 → IVec S16 32) a x).toNat < S16384.size a)
theorem k5_idx95_inb : ∀ (v680 : IVec S16 32) (k5_hw95 : k5_chk95 v680), ∀ a x, ((![v680] : Fin 1 → IVec S16 32) a x).toNat < S16384.size a := fun v680 k5_hw95 => k5_hw95

def k5_chk96 (v684 : IVec S16 32) : Prop :=
  (∀ a x, ((![v684] : Fin 1 → IVec S16 32) a x).toNat < S16384.size a)
theorem k5_idx96_inb : ∀ (v684 : IVec S16 32) (k5_hw96 : k5_chk96 v684), ∀ a x, ((![v684] : Fin 1 → IVec S16 32) a x).toNat < S16384.size a := fun v684 k5_hw96 => k5_hw96

def k5_chk97 (v2227 : IVec S16 32) : Prop :=
  (∀ a x, ((![v2227] : Fin 1 → IVec S16 32) a x).toNat < S1024.size a)
theorem k5_idx97_inb : ∀ (v2227 : IVec S16 32) (k5_hw97 : k5_chk97 v2227), ∀ a x, ((![v2227] : Fin 1 → IVec S16 32) a x).toNat < S1024.size a := fun v2227 k5_hw97 => k5_hw97

def k5_chk98 (v2230 : IVec S16 32) : Prop :=
  (∀ a x, ((![v2230] : Fin 1 → IVec S16 32) a x).toNat < S1024.size a)
theorem k5_idx98_inb : ∀ (v2230 : IVec S16 32) (k5_hw98 : k5_chk98 v2230), ∀ a x, ((![v2230] : Fin 1 → IVec S16 32) a x).toNat < S1024.size a := fun v2230 k5_hw98 => k5_hw98

def k5_chk99 (v2232 : IVec S16 32) : Prop :=
  (∀ a x, ((![v2232] : Fin 1 → IVec S16 32) a x).toNat < S1024.size a)
theorem k5_idx99_inb : ∀ (v2232 : IVec S16 32) (k5_hw99 : k5_chk99 v2232), ∀ a x, ((![v2232] : Fin 1 → IVec S16 32) a x).toNat < S1024.size a := fun v2232 k5_hw99 => k5_hw99

def k5_chk100 (v2235 : IVec S16 32) : Prop :=
  (∀ a x, ((![v2235] : Fin 1 → IVec S16 32) a x).toNat < S1024.size a)
theorem k5_idx100_inb : ∀ (v2235 : IVec S16 32) (k5_hw100 : k5_chk100 v2235), ∀ a x, ((![v2235] : Fin 1 → IVec S16 32) a x).toNat < S1024.size a := fun v2235 k5_hw100 => k5_hw100

def k5_chk101 (v2237 : IVec S16 32) : Prop :=
  (∀ a x, ((![v2237] : Fin 1 → IVec S16 32) a x).toNat < S1024.size a)
theorem k5_idx101_inb : ∀ (v2237 : IVec S16 32) (k5_hw101 : k5_chk101 v2237), ∀ a x, ((![v2237] : Fin 1 → IVec S16 32) a x).toNat < S1024.size a := fun v2237 k5_hw101 => k5_hw101

def k5_chk102 (v2240 : IVec S16 32) : Prop :=
  (∀ a x, ((![v2240] : Fin 1 → IVec S16 32) a x).toNat < S1024.size a)
theorem k5_idx102_inb : ∀ (v2240 : IVec S16 32) (k5_hw102 : k5_chk102 v2240), ∀ a x, ((![v2240] : Fin 1 → IVec S16 32) a x).toNat < S1024.size a := fun v2240 k5_hw102 => k5_hw102

def k5_chk103 (v2242 : IVec S16 32) : Prop :=
  (∀ a x, ((![v2242] : Fin 1 → IVec S16 32) a x).toNat < S1024.size a)
theorem k5_idx103_inb : ∀ (v2242 : IVec S16 32) (k5_hw103 : k5_chk103 v2242), ∀ a x, ((![v2242] : Fin 1 → IVec S16 32) a x).toNat < S1024.size a := fun v2242 k5_hw103 => k5_hw103

def k5_chk104 (v2245 : IVec S16 32) : Prop :=
  (∀ a x, ((![v2245] : Fin 1 → IVec S16 32) a x).toNat < S1024.size a)
theorem k5_idx104_inb : ∀ (v2245 : IVec S16 32) (k5_hw104 : k5_chk104 v2245), ∀ a x, ((![v2245] : Fin 1 → IVec S16 32) a x).toNat < S1024.size a := fun v2245 k5_hw104 => k5_hw104

def k5_chk105 (v2247 : IVec S16 32) : Prop :=
  (∀ a x, ((![v2247] : Fin 1 → IVec S16 32) a x).toNat < S1024.size a)
theorem k5_idx105_inb : ∀ (v2247 : IVec S16 32) (k5_hw105 : k5_chk105 v2247), ∀ a x, ((![v2247] : Fin 1 → IVec S16 32) a x).toNat < S1024.size a := fun v2247 k5_hw105 => k5_hw105

def k5_chk106 (v2250 : IVec S16 32) : Prop :=
  (∀ a x, ((![v2250] : Fin 1 → IVec S16 32) a x).toNat < S1024.size a)
theorem k5_idx106_inb : ∀ (v2250 : IVec S16 32) (k5_hw106 : k5_chk106 v2250), ∀ a x, ((![v2250] : Fin 1 → IVec S16 32) a x).toNat < S1024.size a := fun v2250 k5_hw106 => k5_hw106

def k5_chk107 (v2252 : IVec S16 32) : Prop :=
  (∀ a x, ((![v2252] : Fin 1 → IVec S16 32) a x).toNat < S1024.size a)
theorem k5_idx107_inb : ∀ (v2252 : IVec S16 32) (k5_hw107 : k5_chk107 v2252), ∀ a x, ((![v2252] : Fin 1 → IVec S16 32) a x).toNat < S1024.size a := fun v2252 k5_hw107 => k5_hw107

def k5_chk108 (v2255 : IVec S16 32) : Prop :=
  (∀ a x, ((![v2255] : Fin 1 → IVec S16 32) a x).toNat < S1024.size a)
theorem k5_idx108_inb : ∀ (v2255 : IVec S16 32) (k5_hw108 : k5_chk108 v2255), ∀ a x, ((![v2255] : Fin 1 → IVec S16 32) a x).toNat < S1024.size a := fun v2255 k5_hw108 => k5_hw108

def k5_chk109 (v2257 : IVec S16 32) : Prop :=
  (∀ a x, ((![v2257] : Fin 1 → IVec S16 32) a x).toNat < S1024.size a)
theorem k5_idx109_inb : ∀ (v2257 : IVec S16 32) (k5_hw109 : k5_chk109 v2257), ∀ a x, ((![v2257] : Fin 1 → IVec S16 32) a x).toNat < S1024.size a := fun v2257 k5_hw109 => k5_hw109

def k5_chk110 (v2260 : IVec S16 32) : Prop :=
  (∀ a x, ((![v2260] : Fin 1 → IVec S16 32) a x).toNat < S1024.size a)
theorem k5_idx110_inb : ∀ (v2260 : IVec S16 32) (k5_hw110 : k5_chk110 v2260), ∀ a x, ((![v2260] : Fin 1 → IVec S16 32) a x).toNat < S1024.size a := fun v2260 k5_hw110 => k5_hw110

def k5_chk111 (v2262 : IVec S16 32) : Prop :=
  (∀ a x, ((![v2262] : Fin 1 → IVec S16 32) a x).toNat < S1024.size a)
theorem k5_idx111_inb : ∀ (v2262 : IVec S16 32) (k5_hw111 : k5_chk111 v2262), ∀ a x, ((![v2262] : Fin 1 → IVec S16 32) a x).toNat < S1024.size a := fun v2262 k5_hw111 => k5_hw111

def k5_chk112 (v2265 : IVec S16 32) : Prop :=
  (∀ a x, ((![v2265] : Fin 1 → IVec S16 32) a x).toNat < S1024.size a)
theorem k5_idx112_inb : ∀ (v2265 : IVec S16 32) (k5_hw112 : k5_chk112 v2265), ∀ a x, ((![v2265] : Fin 1 → IVec S16 32) a x).toNat < S1024.size a := fun v2265 k5_hw112 => k5_hw112
def k5_off2 (i : grid5.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c8_i32_3 : BitVec 32 := 8#32
  let v6 : BitVec 32 := Scalar.muli v2 c8_i32_3
  ![v6.toNat]
abbrev grid6 : Pipeline.Grid := ⟨1, ![4], ![false]⟩

def cc6_transform_0 (i : grid6.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x2048 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x2048 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨2, ![2, 16], ![false, false]⟩

def k7_off1 (i : grid7.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c128_i32 : BitVec 32 := 128#32
  let v3 : BitVec 32 := Scalar.muli v2 c128_i32
  ![v3.toNat]
@[reducible] def k7_t1_loop : Scf.Loop 32 :=
  let c0_i32_0 : BitVec 32 := 0#32
  let c4_i32 : BitVec 32 := 4#32
  let v5 : BitVec 32 := Scalar.addi c0_i32_0 c4_i32
  let c1_i32 : BitVec 32 := 1#32
  ⟨c0_i32_0, v5, c1_i32⟩

def k7_chk1 (v14 : IVec S16 32) : Prop :=
  (∀ a x, ((![v14] : Fin 1 → IVec S16 32) a x).toNat < S8192.size a)
theorem k7_idx1_inb : ∀ (v14 : IVec S16 32) (k7_hw1 : k7_chk1 v14), ∀ a x, ((![v14] : Fin 1 → IVec S16 32) a x).toNat < S8192.size a := fun v14 k7_hw1 => k7_hw1

def k7_chk2 (v17 : IVec S16 32) : Prop :=
  (∀ a x, ((![v17] : Fin 1 → IVec S16 32) a x).toNat < S8192.size a)
theorem k7_idx2_inb : ∀ (v17 : IVec S16 32) (k7_hw2 : k7_chk2 v17), ∀ a x, ((![v17] : Fin 1 → IVec S16 32) a x).toNat < S8192.size a := fun v17 k7_hw2 => k7_hw2

def k7_chk3 (v20 : IVec S16 32) : Prop :=
  (∀ a x, ((![v20] : Fin 1 → IVec S16 32) a x).toNat < S8192.size a)
theorem k7_idx3_inb : ∀ (v20 : IVec S16 32) (k7_hw3 : k7_chk3 v20), ∀ a x, ((![v20] : Fin 1 → IVec S16 32) a x).toNat < S8192.size a := fun v20 k7_hw3 => k7_hw3

def k7_chk4 (v23 : IVec S16 32) : Prop :=
  (∀ a x, ((![v23] : Fin 1 → IVec S16 32) a x).toNat < S8192.size a)
theorem k7_idx4_inb : ∀ (v23 : IVec S16 32) (k7_hw4 : k7_chk4 v23), ∀ a x, ((![v23] : Fin 1 → IVec S16 32) a x).toNat < S8192.size a := fun v23 k7_hw4 => k7_hw4

def k7_chk5 (v26 : IVec S16 32) : Prop :=
  (∀ a x, ((![v26] : Fin 1 → IVec S16 32) a x).toNat < S8192.size a)
theorem k7_idx5_inb : ∀ (v26 : IVec S16 32) (k7_hw5 : k7_chk5 v26), ∀ a x, ((![v26] : Fin 1 → IVec S16 32) a x).toNat < S8192.size a := fun v26 k7_hw5 => k7_hw5

def k7_chk6 (v29 : IVec S16 32) : Prop :=
  (∀ a x, ((![v29] : Fin 1 → IVec S16 32) a x).toNat < S8192.size a)
theorem k7_idx6_inb : ∀ (v29 : IVec S16 32) (k7_hw6 : k7_chk6 v29), ∀ a x, ((![v29] : Fin 1 → IVec S16 32) a x).toNat < S8192.size a := fun v29 k7_hw6 => k7_hw6

def k7_chk7 (v32 : IVec S16 32) : Prop :=
  (∀ a x, ((![v32] : Fin 1 → IVec S16 32) a x).toNat < S8192.size a)
theorem k7_idx7_inb : ∀ (v32 : IVec S16 32) (k7_hw7 : k7_chk7 v32), ∀ a x, ((![v32] : Fin 1 → IVec S16 32) a x).toNat < S8192.size a := fun v32 k7_hw7 => k7_hw7

def k7_chk8 (v35 : IVec S16 32) : Prop :=
  (∀ a x, ((![v35] : Fin 1 → IVec S16 32) a x).toNat < S8192.size a)
theorem k7_idx8_inb : ∀ (v35 : IVec S16 32) (k7_hw8 : k7_chk8 v35), ∀ a x, ((![v35] : Fin 1 → IVec S16 32) a x).toNat < S8192.size a := fun v35 k7_hw8 => k7_hw8

def k7_chk9 (v38 : IVec S16 32) : Prop :=
  (∀ a x, ((![v38] : Fin 1 → IVec S16 32) a x).toNat < S8192.size a)
theorem k7_idx9_inb : ∀ (v38 : IVec S16 32) (k7_hw9 : k7_chk9 v38), ∀ a x, ((![v38] : Fin 1 → IVec S16 32) a x).toNat < S8192.size a := fun v38 k7_hw9 => k7_hw9

def k7_chk10 (v41 : IVec S16 32) : Prop :=
  (∀ a x, ((![v41] : Fin 1 → IVec S16 32) a x).toNat < S8192.size a)
theorem k7_idx10_inb : ∀ (v41 : IVec S16 32) (k7_hw10 : k7_chk10 v41), ∀ a x, ((![v41] : Fin 1 → IVec S16 32) a x).toNat < S8192.size a := fun v41 k7_hw10 => k7_hw10

def k7_chk11 (v44 : IVec S16 32) : Prop :=
  (∀ a x, ((![v44] : Fin 1 → IVec S16 32) a x).toNat < S8192.size a)
theorem k7_idx11_inb : ∀ (v44 : IVec S16 32) (k7_hw11 : k7_chk11 v44), ∀ a x, ((![v44] : Fin 1 → IVec S16 32) a x).toNat < S8192.size a := fun v44 k7_hw11 => k7_hw11

def k7_chk12 (v47 : IVec S16 32) : Prop :=
  (∀ a x, ((![v47] : Fin 1 → IVec S16 32) a x).toNat < S8192.size a)
theorem k7_idx12_inb : ∀ (v47 : IVec S16 32) (k7_hw12 : k7_chk12 v47), ∀ a x, ((![v47] : Fin 1 → IVec S16 32) a x).toNat < S8192.size a := fun v47 k7_hw12 => k7_hw12

def k7_chk13 (v50 : IVec S16 32) : Prop :=
  (∀ a x, ((![v50] : Fin 1 → IVec S16 32) a x).toNat < S8192.size a)
theorem k7_idx13_inb : ∀ (v50 : IVec S16 32) (k7_hw13 : k7_chk13 v50), ∀ a x, ((![v50] : Fin 1 → IVec S16 32) a x).toNat < S8192.size a := fun v50 k7_hw13 => k7_hw13

def k7_chk14 (v53 : IVec S16 32) : Prop :=
  (∀ a x, ((![v53] : Fin 1 → IVec S16 32) a x).toNat < S8192.size a)
theorem k7_idx14_inb : ∀ (v53 : IVec S16 32) (k7_hw14 : k7_chk14 v53), ∀ a x, ((![v53] : Fin 1 → IVec S16 32) a x).toNat < S8192.size a := fun v53 k7_hw14 => k7_hw14

def k7_chk15 (v56 : IVec S16 32) : Prop :=
  (∀ a x, ((![v56] : Fin 1 → IVec S16 32) a x).toNat < S8192.size a)
theorem k7_idx15_inb : ∀ (v56 : IVec S16 32) (k7_hw15 : k7_chk15 v56), ∀ a x, ((![v56] : Fin 1 → IVec S16 32) a x).toNat < S8192.size a := fun v56 k7_hw15 => k7_hw15

def k7_chk16 (v59 : IVec S16 32) : Prop :=
  (∀ a x, ((![v59] : Fin 1 → IVec S16 32) a x).toNat < S8192.size a)
theorem k7_idx16_inb : ∀ (v59 : IVec S16 32) (k7_hw16 : k7_chk16 v59), ∀ a x, ((![v59] : Fin 1 → IVec S16 32) a x).toNat < S8192.size a := fun v59 k7_hw16 => k7_hw16

def k7_chk17 (v62 : IVec S16 32) : Prop :=
  (∀ a x, ((![v62] : Fin 1 → IVec S16 32) a x).toNat < S8192.size a)
theorem k7_idx17_inb : ∀ (v62 : IVec S16 32) (k7_hw17 : k7_chk17 v62), ∀ a x, ((![v62] : Fin 1 → IVec S16 32) a x).toNat < S8192.size a := fun v62 k7_hw17 => k7_hw17

def k7_chk18 (v65 : IVec S16 32) : Prop :=
  (∀ a x, ((![v65] : Fin 1 → IVec S16 32) a x).toNat < S8192.size a)
theorem k7_idx18_inb : ∀ (v65 : IVec S16 32) (k7_hw18 : k7_chk18 v65), ∀ a x, ((![v65] : Fin 1 → IVec S16 32) a x).toNat < S8192.size a := fun v65 k7_hw18 => k7_hw18

def k7_chk19 (v68 : IVec S16 32) : Prop :=
  (∀ a x, ((![v68] : Fin 1 → IVec S16 32) a x).toNat < S8192.size a)
theorem k7_idx19_inb : ∀ (v68 : IVec S16 32) (k7_hw19 : k7_chk19 v68), ∀ a x, ((![v68] : Fin 1 → IVec S16 32) a x).toNat < S8192.size a := fun v68 k7_hw19 => k7_hw19

def k7_chk20 (v71 : IVec S16 32) : Prop :=
  (∀ a x, ((![v71] : Fin 1 → IVec S16 32) a x).toNat < S8192.size a)
theorem k7_idx20_inb : ∀ (v71 : IVec S16 32) (k7_hw20 : k7_chk20 v71), ∀ a x, ((![v71] : Fin 1 → IVec S16 32) a x).toNat < S8192.size a := fun v71 k7_hw20 => k7_hw20

def k7_chk21 (v74 : IVec S16 32) : Prop :=
  (∀ a x, ((![v74] : Fin 1 → IVec S16 32) a x).toNat < S8192.size a)
theorem k7_idx21_inb : ∀ (v74 : IVec S16 32) (k7_hw21 : k7_chk21 v74), ∀ a x, ((![v74] : Fin 1 → IVec S16 32) a x).toNat < S8192.size a := fun v74 k7_hw21 => k7_hw21

def k7_chk22 (v77 : IVec S16 32) : Prop :=
  (∀ a x, ((![v77] : Fin 1 → IVec S16 32) a x).toNat < S8192.size a)
theorem k7_idx22_inb : ∀ (v77 : IVec S16 32) (k7_hw22 : k7_chk22 v77), ∀ a x, ((![v77] : Fin 1 → IVec S16 32) a x).toNat < S8192.size a := fun v77 k7_hw22 => k7_hw22

def k7_chk23 (v80 : IVec S16 32) : Prop :=
  (∀ a x, ((![v80] : Fin 1 → IVec S16 32) a x).toNat < S8192.size a)
theorem k7_idx23_inb : ∀ (v80 : IVec S16 32) (k7_hw23 : k7_chk23 v80), ∀ a x, ((![v80] : Fin 1 → IVec S16 32) a x).toNat < S8192.size a := fun v80 k7_hw23 => k7_hw23

def k7_chk24 (v83 : IVec S16 32) : Prop :=
  (∀ a x, ((![v83] : Fin 1 → IVec S16 32) a x).toNat < S8192.size a)
theorem k7_idx24_inb : ∀ (v83 : IVec S16 32) (k7_hw24 : k7_chk24 v83), ∀ a x, ((![v83] : Fin 1 → IVec S16 32) a x).toNat < S8192.size a := fun v83 k7_hw24 => k7_hw24

def k7_chk25 (v86 : IVec S16 32) : Prop :=
  (∀ a x, ((![v86] : Fin 1 → IVec S16 32) a x).toNat < S8192.size a)
theorem k7_idx25_inb : ∀ (v86 : IVec S16 32) (k7_hw25 : k7_chk25 v86), ∀ a x, ((![v86] : Fin 1 → IVec S16 32) a x).toNat < S8192.size a := fun v86 k7_hw25 => k7_hw25

def k7_chk26 (v89 : IVec S16 32) : Prop :=
  (∀ a x, ((![v89] : Fin 1 → IVec S16 32) a x).toNat < S8192.size a)
theorem k7_idx26_inb : ∀ (v89 : IVec S16 32) (k7_hw26 : k7_chk26 v89), ∀ a x, ((![v89] : Fin 1 → IVec S16 32) a x).toNat < S8192.size a := fun v89 k7_hw26 => k7_hw26

def k7_chk27 (v92 : IVec S16 32) : Prop :=
  (∀ a x, ((![v92] : Fin 1 → IVec S16 32) a x).toNat < S8192.size a)
theorem k7_idx27_inb : ∀ (v92 : IVec S16 32) (k7_hw27 : k7_chk27 v92), ∀ a x, ((![v92] : Fin 1 → IVec S16 32) a x).toNat < S8192.size a := fun v92 k7_hw27 => k7_hw27

def k7_chk28 (v95 : IVec S16 32) : Prop :=
  (∀ a x, ((![v95] : Fin 1 → IVec S16 32) a x).toNat < S8192.size a)
theorem k7_idx28_inb : ∀ (v95 : IVec S16 32) (k7_hw28 : k7_chk28 v95), ∀ a x, ((![v95] : Fin 1 → IVec S16 32) a x).toNat < S8192.size a := fun v95 k7_hw28 => k7_hw28

def k7_chk29 (v98 : IVec S16 32) : Prop :=
  (∀ a x, ((![v98] : Fin 1 → IVec S16 32) a x).toNat < S8192.size a)
theorem k7_idx29_inb : ∀ (v98 : IVec S16 32) (k7_hw29 : k7_chk29 v98), ∀ a x, ((![v98] : Fin 1 → IVec S16 32) a x).toNat < S8192.size a := fun v98 k7_hw29 => k7_hw29

def k7_chk30 (v101 : IVec S16 32) : Prop :=
  (∀ a x, ((![v101] : Fin 1 → IVec S16 32) a x).toNat < S8192.size a)
theorem k7_idx30_inb : ∀ (v101 : IVec S16 32) (k7_hw30 : k7_chk30 v101), ∀ a x, ((![v101] : Fin 1 → IVec S16 32) a x).toNat < S8192.size a := fun v101 k7_hw30 => k7_hw30

def k7_chk31 (v104 : IVec S16 32) : Prop :=
  (∀ a x, ((![v104] : Fin 1 → IVec S16 32) a x).toNat < S8192.size a)
theorem k7_idx31_inb : ∀ (v104 : IVec S16 32) (k7_hw31 : k7_chk31 v104), ∀ a x, ((![v104] : Fin 1 → IVec S16 32) a x).toNat < S8192.size a := fun v104 k7_hw31 => k7_hw31

def k7_chk32 (v107 : IVec S16 32) : Prop :=
  (∀ a x, ((![v107] : Fin 1 → IVec S16 32) a x).toNat < S8192.size a)
theorem k7_idx32_inb : ∀ (v107 : IVec S16 32) (k7_hw32 : k7_chk32 v107), ∀ a x, ((![v107] : Fin 1 → IVec S16 32) a x).toNat < S8192.size a := fun v107 k7_hw32 => k7_hw32

def k7_chk33 (v110 : IVec S16 32) : Prop :=
  (∀ a x, ((![v110] : Fin 1 → IVec S16 32) a x).toNat < S8192.size a)
theorem k7_idx33_inb : ∀ (v110 : IVec S16 32) (k7_hw33 : k7_chk33 v110), ∀ a x, ((![v110] : Fin 1 → IVec S16 32) a x).toNat < S8192.size a := fun v110 k7_hw33 => k7_hw33

def k7_chk34 (v113 : IVec S16 32) : Prop :=
  (∀ a x, ((![v113] : Fin 1 → IVec S16 32) a x).toNat < S8192.size a)
theorem k7_idx34_inb : ∀ (v113 : IVec S16 32) (k7_hw34 : k7_chk34 v113), ∀ a x, ((![v113] : Fin 1 → IVec S16 32) a x).toNat < S8192.size a := fun v113 k7_hw34 => k7_hw34

def k7_chk35 (v116 : IVec S16 32) : Prop :=
  (∀ a x, ((![v116] : Fin 1 → IVec S16 32) a x).toNat < S8192.size a)
theorem k7_idx35_inb : ∀ (v116 : IVec S16 32) (k7_hw35 : k7_chk35 v116), ∀ a x, ((![v116] : Fin 1 → IVec S16 32) a x).toNat < S8192.size a := fun v116 k7_hw35 => k7_hw35

def k7_chk36 (v119 : IVec S16 32) : Prop :=
  (∀ a x, ((![v119] : Fin 1 → IVec S16 32) a x).toNat < S8192.size a)
theorem k7_idx36_inb : ∀ (v119 : IVec S16 32) (k7_hw36 : k7_chk36 v119), ∀ a x, ((![v119] : Fin 1 → IVec S16 32) a x).toNat < S8192.size a := fun v119 k7_hw36 => k7_hw36

def k7_chk37 (v122 : IVec S16 32) : Prop :=
  (∀ a x, ((![v122] : Fin 1 → IVec S16 32) a x).toNat < S8192.size a)
theorem k7_idx37_inb : ∀ (v122 : IVec S16 32) (k7_hw37 : k7_chk37 v122), ∀ a x, ((![v122] : Fin 1 → IVec S16 32) a x).toNat < S8192.size a := fun v122 k7_hw37 => k7_hw37

def k7_chk38 (v125 : IVec S16 32) : Prop :=
  (∀ a x, ((![v125] : Fin 1 → IVec S16 32) a x).toNat < S8192.size a)
theorem k7_idx38_inb : ∀ (v125 : IVec S16 32) (k7_hw38 : k7_chk38 v125), ∀ a x, ((![v125] : Fin 1 → IVec S16 32) a x).toNat < S8192.size a := fun v125 k7_hw38 => k7_hw38

def k7_chk39 (v128 : IVec S16 32) : Prop :=
  (∀ a x, ((![v128] : Fin 1 → IVec S16 32) a x).toNat < S8192.size a)
theorem k7_idx39_inb : ∀ (v128 : IVec S16 32) (k7_hw39 : k7_chk39 v128), ∀ a x, ((![v128] : Fin 1 → IVec S16 32) a x).toNat < S8192.size a := fun v128 k7_hw39 => k7_hw39

def k7_chk40 (v131 : IVec S16 32) : Prop :=
  (∀ a x, ((![v131] : Fin 1 → IVec S16 32) a x).toNat < S8192.size a)
theorem k7_idx40_inb : ∀ (v131 : IVec S16 32) (k7_hw40 : k7_chk40 v131), ∀ a x, ((![v131] : Fin 1 → IVec S16 32) a x).toNat < S8192.size a := fun v131 k7_hw40 => k7_hw40

def k7_chk41 (v134 : IVec S16 32) : Prop :=
  (∀ a x, ((![v134] : Fin 1 → IVec S16 32) a x).toNat < S8192.size a)
theorem k7_idx41_inb : ∀ (v134 : IVec S16 32) (k7_hw41 : k7_chk41 v134), ∀ a x, ((![v134] : Fin 1 → IVec S16 32) a x).toNat < S8192.size a := fun v134 k7_hw41 => k7_hw41

def k7_chk42 (v137 : IVec S16 32) : Prop :=
  (∀ a x, ((![v137] : Fin 1 → IVec S16 32) a x).toNat < S8192.size a)
theorem k7_idx42_inb : ∀ (v137 : IVec S16 32) (k7_hw42 : k7_chk42 v137), ∀ a x, ((![v137] : Fin 1 → IVec S16 32) a x).toNat < S8192.size a := fun v137 k7_hw42 => k7_hw42

def k7_chk43 (v140 : IVec S16 32) : Prop :=
  (∀ a x, ((![v140] : Fin 1 → IVec S16 32) a x).toNat < S8192.size a)
theorem k7_idx43_inb : ∀ (v140 : IVec S16 32) (k7_hw43 : k7_chk43 v140), ∀ a x, ((![v140] : Fin 1 → IVec S16 32) a x).toNat < S8192.size a := fun v140 k7_hw43 => k7_hw43

def k7_chk44 (v143 : IVec S16 32) : Prop :=
  (∀ a x, ((![v143] : Fin 1 → IVec S16 32) a x).toNat < S8192.size a)
theorem k7_idx44_inb : ∀ (v143 : IVec S16 32) (k7_hw44 : k7_chk44 v143), ∀ a x, ((![v143] : Fin 1 → IVec S16 32) a x).toNat < S8192.size a := fun v143 k7_hw44 => k7_hw44

def k7_chk45 (v146 : IVec S16 32) : Prop :=
  (∀ a x, ((![v146] : Fin 1 → IVec S16 32) a x).toNat < S8192.size a)
theorem k7_idx45_inb : ∀ (v146 : IVec S16 32) (k7_hw45 : k7_chk45 v146), ∀ a x, ((![v146] : Fin 1 → IVec S16 32) a x).toNat < S8192.size a := fun v146 k7_hw45 => k7_hw45

def k7_chk46 (v149 : IVec S16 32) : Prop :=
  (∀ a x, ((![v149] : Fin 1 → IVec S16 32) a x).toNat < S8192.size a)
theorem k7_idx46_inb : ∀ (v149 : IVec S16 32) (k7_hw46 : k7_chk46 v149), ∀ a x, ((![v149] : Fin 1 → IVec S16 32) a x).toNat < S8192.size a := fun v149 k7_hw46 => k7_hw46

def k7_chk47 (v152 : IVec S16 32) : Prop :=
  (∀ a x, ((![v152] : Fin 1 → IVec S16 32) a x).toNat < S8192.size a)
theorem k7_idx47_inb : ∀ (v152 : IVec S16 32) (k7_hw47 : k7_chk47 v152), ∀ a x, ((![v152] : Fin 1 → IVec S16 32) a x).toNat < S8192.size a := fun v152 k7_hw47 => k7_hw47

def k7_chk48 (v155 : IVec S16 32) : Prop :=
  (∀ a x, ((![v155] : Fin 1 → IVec S16 32) a x).toNat < S8192.size a)
theorem k7_idx48_inb : ∀ (v155 : IVec S16 32) (k7_hw48 : k7_chk48 v155), ∀ a x, ((![v155] : Fin 1 → IVec S16 32) a x).toNat < S8192.size a := fun v155 k7_hw48 => k7_hw48

def k7_chk49 (v158 : IVec S16 32) : Prop :=
  (∀ a x, ((![v158] : Fin 1 → IVec S16 32) a x).toNat < S8192.size a)
theorem k7_idx49_inb : ∀ (v158 : IVec S16 32) (k7_hw49 : k7_chk49 v158), ∀ a x, ((![v158] : Fin 1 → IVec S16 32) a x).toNat < S8192.size a := fun v158 k7_hw49 => k7_hw49

def k7_chk50 (v161 : IVec S16 32) : Prop :=
  (∀ a x, ((![v161] : Fin 1 → IVec S16 32) a x).toNat < S8192.size a)
theorem k7_idx50_inb : ∀ (v161 : IVec S16 32) (k7_hw50 : k7_chk50 v161), ∀ a x, ((![v161] : Fin 1 → IVec S16 32) a x).toNat < S8192.size a := fun v161 k7_hw50 => k7_hw50

def k7_chk51 (v164 : IVec S16 32) : Prop :=
  (∀ a x, ((![v164] : Fin 1 → IVec S16 32) a x).toNat < S8192.size a)
theorem k7_idx51_inb : ∀ (v164 : IVec S16 32) (k7_hw51 : k7_chk51 v164), ∀ a x, ((![v164] : Fin 1 → IVec S16 32) a x).toNat < S8192.size a := fun v164 k7_hw51 => k7_hw51

def k7_chk52 (v167 : IVec S16 32) : Prop :=
  (∀ a x, ((![v167] : Fin 1 → IVec S16 32) a x).toNat < S8192.size a)
theorem k7_idx52_inb : ∀ (v167 : IVec S16 32) (k7_hw52 : k7_chk52 v167), ∀ a x, ((![v167] : Fin 1 → IVec S16 32) a x).toNat < S8192.size a := fun v167 k7_hw52 => k7_hw52

def k7_chk53 (v170 : IVec S16 32) : Prop :=
  (∀ a x, ((![v170] : Fin 1 → IVec S16 32) a x).toNat < S8192.size a)
theorem k7_idx53_inb : ∀ (v170 : IVec S16 32) (k7_hw53 : k7_chk53 v170), ∀ a x, ((![v170] : Fin 1 → IVec S16 32) a x).toNat < S8192.size a := fun v170 k7_hw53 => k7_hw53

def k7_chk54 (v173 : IVec S16 32) : Prop :=
  (∀ a x, ((![v173] : Fin 1 → IVec S16 32) a x).toNat < S8192.size a)
theorem k7_idx54_inb : ∀ (v173 : IVec S16 32) (k7_hw54 : k7_chk54 v173), ∀ a x, ((![v173] : Fin 1 → IVec S16 32) a x).toNat < S8192.size a := fun v173 k7_hw54 => k7_hw54

def k7_chk55 (v176 : IVec S16 32) : Prop :=
  (∀ a x, ((![v176] : Fin 1 → IVec S16 32) a x).toNat < S8192.size a)
theorem k7_idx55_inb : ∀ (v176 : IVec S16 32) (k7_hw55 : k7_chk55 v176), ∀ a x, ((![v176] : Fin 1 → IVec S16 32) a x).toNat < S8192.size a := fun v176 k7_hw55 => k7_hw55

def k7_chk56 (v179 : IVec S16 32) : Prop :=
  (∀ a x, ((![v179] : Fin 1 → IVec S16 32) a x).toNat < S8192.size a)
theorem k7_idx56_inb : ∀ (v179 : IVec S16 32) (k7_hw56 : k7_chk56 v179), ∀ a x, ((![v179] : Fin 1 → IVec S16 32) a x).toNat < S8192.size a := fun v179 k7_hw56 => k7_hw56

def k7_chk57 (v182 : IVec S16 32) : Prop :=
  (∀ a x, ((![v182] : Fin 1 → IVec S16 32) a x).toNat < S8192.size a)
theorem k7_idx57_inb : ∀ (v182 : IVec S16 32) (k7_hw57 : k7_chk57 v182), ∀ a x, ((![v182] : Fin 1 → IVec S16 32) a x).toNat < S8192.size a := fun v182 k7_hw57 => k7_hw57

def k7_chk58 (v185 : IVec S16 32) : Prop :=
  (∀ a x, ((![v185] : Fin 1 → IVec S16 32) a x).toNat < S8192.size a)
theorem k7_idx58_inb : ∀ (v185 : IVec S16 32) (k7_hw58 : k7_chk58 v185), ∀ a x, ((![v185] : Fin 1 → IVec S16 32) a x).toNat < S8192.size a := fun v185 k7_hw58 => k7_hw58

def k7_chk59 (v188 : IVec S16 32) : Prop :=
  (∀ a x, ((![v188] : Fin 1 → IVec S16 32) a x).toNat < S8192.size a)
theorem k7_idx59_inb : ∀ (v188 : IVec S16 32) (k7_hw59 : k7_chk59 v188), ∀ a x, ((![v188] : Fin 1 → IVec S16 32) a x).toNat < S8192.size a := fun v188 k7_hw59 => k7_hw59

def k7_chk60 (v191 : IVec S16 32) : Prop :=
  (∀ a x, ((![v191] : Fin 1 → IVec S16 32) a x).toNat < S8192.size a)
theorem k7_idx60_inb : ∀ (v191 : IVec S16 32) (k7_hw60 : k7_chk60 v191), ∀ a x, ((![v191] : Fin 1 → IVec S16 32) a x).toNat < S8192.size a := fun v191 k7_hw60 => k7_hw60

def k7_chk61 (v194 : IVec S16 32) : Prop :=
  (∀ a x, ((![v194] : Fin 1 → IVec S16 32) a x).toNat < S8192.size a)
theorem k7_idx61_inb : ∀ (v194 : IVec S16 32) (k7_hw61 : k7_chk61 v194), ∀ a x, ((![v194] : Fin 1 → IVec S16 32) a x).toNat < S8192.size a := fun v194 k7_hw61 => k7_hw61

def k7_chk62 (v197 : IVec S16 32) : Prop :=
  (∀ a x, ((![v197] : Fin 1 → IVec S16 32) a x).toNat < S8192.size a)
theorem k7_idx62_inb : ∀ (v197 : IVec S16 32) (k7_hw62 : k7_chk62 v197), ∀ a x, ((![v197] : Fin 1 → IVec S16 32) a x).toNat < S8192.size a := fun v197 k7_hw62 => k7_hw62

def k7_chk63 (v200 : IVec S16 32) : Prop :=
  (∀ a x, ((![v200] : Fin 1 → IVec S16 32) a x).toNat < S8192.size a)
theorem k7_idx63_inb : ∀ (v200 : IVec S16 32) (k7_hw63 : k7_chk63 v200), ∀ a x, ((![v200] : Fin 1 → IVec S16 32) a x).toNat < S8192.size a := fun v200 k7_hw63 => k7_hw63

def k7_chk64 (v203 : IVec S16 32) : Prop :=
  (∀ a x, ((![v203] : Fin 1 → IVec S16 32) a x).toNat < S8192.size a)
theorem k7_idx64_inb : ∀ (v203 : IVec S16 32) (k7_hw64 : k7_chk64 v203), ∀ a x, ((![v203] : Fin 1 → IVec S16 32) a x).toNat < S8192.size a := fun v203 k7_hw64 => k7_hw64

def k7_chk65 (v560 : IVec S16 32) : Prop :=
  (∀ a x, ((![v560] : Fin 1 → IVec S16 32) a x).toNat < S8192.size a)
theorem k7_idx65_inb : ∀ (v560 : IVec S16 32) (k7_hw65 : k7_chk65 v560), ∀ a x, ((![v560] : Fin 1 → IVec S16 32) a x).toNat < S8192.size a := fun v560 k7_hw65 => k7_hw65

def k7_chk66 (v564 : IVec S16 32) : Prop :=
  (∀ a x, ((![v564] : Fin 1 → IVec S16 32) a x).toNat < S8192.size a)
theorem k7_idx66_inb : ∀ (v564 : IVec S16 32) (k7_hw66 : k7_chk66 v564), ∀ a x, ((![v564] : Fin 1 → IVec S16 32) a x).toNat < S8192.size a := fun v564 k7_hw66 => k7_hw66

def k7_chk67 (v568 : IVec S16 32) : Prop :=
  (∀ a x, ((![v568] : Fin 1 → IVec S16 32) a x).toNat < S8192.size a)
theorem k7_idx67_inb : ∀ (v568 : IVec S16 32) (k7_hw67 : k7_chk67 v568), ∀ a x, ((![v568] : Fin 1 → IVec S16 32) a x).toNat < S8192.size a := fun v568 k7_hw67 => k7_hw67

def k7_chk68 (v572 : IVec S16 32) : Prop :=
  (∀ a x, ((![v572] : Fin 1 → IVec S16 32) a x).toNat < S8192.size a)
theorem k7_idx68_inb : ∀ (v572 : IVec S16 32) (k7_hw68 : k7_chk68 v572), ∀ a x, ((![v572] : Fin 1 → IVec S16 32) a x).toNat < S8192.size a := fun v572 k7_hw68 => k7_hw68

def k7_chk69 (v576 : IVec S16 32) : Prop :=
  (∀ a x, ((![v576] : Fin 1 → IVec S16 32) a x).toNat < S8192.size a)
theorem k7_idx69_inb : ∀ (v576 : IVec S16 32) (k7_hw69 : k7_chk69 v576), ∀ a x, ((![v576] : Fin 1 → IVec S16 32) a x).toNat < S8192.size a := fun v576 k7_hw69 => k7_hw69

def k7_chk70 (v580 : IVec S16 32) : Prop :=
  (∀ a x, ((![v580] : Fin 1 → IVec S16 32) a x).toNat < S8192.size a)
theorem k7_idx70_inb : ∀ (v580 : IVec S16 32) (k7_hw70 : k7_chk70 v580), ∀ a x, ((![v580] : Fin 1 → IVec S16 32) a x).toNat < S8192.size a := fun v580 k7_hw70 => k7_hw70

def k7_chk71 (v584 : IVec S16 32) : Prop :=
  (∀ a x, ((![v584] : Fin 1 → IVec S16 32) a x).toNat < S8192.size a)
theorem k7_idx71_inb : ∀ (v584 : IVec S16 32) (k7_hw71 : k7_chk71 v584), ∀ a x, ((![v584] : Fin 1 → IVec S16 32) a x).toNat < S8192.size a := fun v584 k7_hw71 => k7_hw71

def k7_chk72 (v588 : IVec S16 32) : Prop :=
  (∀ a x, ((![v588] : Fin 1 → IVec S16 32) a x).toNat < S8192.size a)
theorem k7_idx72_inb : ∀ (v588 : IVec S16 32) (k7_hw72 : k7_chk72 v588), ∀ a x, ((![v588] : Fin 1 → IVec S16 32) a x).toNat < S8192.size a := fun v588 k7_hw72 => k7_hw72

def k7_chk73 (v592 : IVec S16 32) : Prop :=
  (∀ a x, ((![v592] : Fin 1 → IVec S16 32) a x).toNat < S8192.size a)
theorem k7_idx73_inb : ∀ (v592 : IVec S16 32) (k7_hw73 : k7_chk73 v592), ∀ a x, ((![v592] : Fin 1 → IVec S16 32) a x).toNat < S8192.size a := fun v592 k7_hw73 => k7_hw73

def k7_chk74 (v596 : IVec S16 32) : Prop :=
  (∀ a x, ((![v596] : Fin 1 → IVec S16 32) a x).toNat < S8192.size a)
theorem k7_idx74_inb : ∀ (v596 : IVec S16 32) (k7_hw74 : k7_chk74 v596), ∀ a x, ((![v596] : Fin 1 → IVec S16 32) a x).toNat < S8192.size a := fun v596 k7_hw74 => k7_hw74

def k7_chk75 (v600 : IVec S16 32) : Prop :=
  (∀ a x, ((![v600] : Fin 1 → IVec S16 32) a x).toNat < S8192.size a)
theorem k7_idx75_inb : ∀ (v600 : IVec S16 32) (k7_hw75 : k7_chk75 v600), ∀ a x, ((![v600] : Fin 1 → IVec S16 32) a x).toNat < S8192.size a := fun v600 k7_hw75 => k7_hw75

def k7_chk76 (v604 : IVec S16 32) : Prop :=
  (∀ a x, ((![v604] : Fin 1 → IVec S16 32) a x).toNat < S8192.size a)
theorem k7_idx76_inb : ∀ (v604 : IVec S16 32) (k7_hw76 : k7_chk76 v604), ∀ a x, ((![v604] : Fin 1 → IVec S16 32) a x).toNat < S8192.size a := fun v604 k7_hw76 => k7_hw76

def k7_chk77 (v608 : IVec S16 32) : Prop :=
  (∀ a x, ((![v608] : Fin 1 → IVec S16 32) a x).toNat < S8192.size a)
theorem k7_idx77_inb : ∀ (v608 : IVec S16 32) (k7_hw77 : k7_chk77 v608), ∀ a x, ((![v608] : Fin 1 → IVec S16 32) a x).toNat < S8192.size a := fun v608 k7_hw77 => k7_hw77

def k7_chk78 (v612 : IVec S16 32) : Prop :=
  (∀ a x, ((![v612] : Fin 1 → IVec S16 32) a x).toNat < S8192.size a)
theorem k7_idx78_inb : ∀ (v612 : IVec S16 32) (k7_hw78 : k7_chk78 v612), ∀ a x, ((![v612] : Fin 1 → IVec S16 32) a x).toNat < S8192.size a := fun v612 k7_hw78 => k7_hw78

def k7_chk79 (v616 : IVec S16 32) : Prop :=
  (∀ a x, ((![v616] : Fin 1 → IVec S16 32) a x).toNat < S8192.size a)
theorem k7_idx79_inb : ∀ (v616 : IVec S16 32) (k7_hw79 : k7_chk79 v616), ∀ a x, ((![v616] : Fin 1 → IVec S16 32) a x).toNat < S8192.size a := fun v616 k7_hw79 => k7_hw79

def k7_chk80 (v620 : IVec S16 32) : Prop :=
  (∀ a x, ((![v620] : Fin 1 → IVec S16 32) a x).toNat < S8192.size a)
theorem k7_idx80_inb : ∀ (v620 : IVec S16 32) (k7_hw80 : k7_chk80 v620), ∀ a x, ((![v620] : Fin 1 → IVec S16 32) a x).toNat < S8192.size a := fun v620 k7_hw80 => k7_hw80

def k7_chk81 (v624 : IVec S16 32) : Prop :=
  (∀ a x, ((![v624] : Fin 1 → IVec S16 32) a x).toNat < S8192.size a)
theorem k7_idx81_inb : ∀ (v624 : IVec S16 32) (k7_hw81 : k7_chk81 v624), ∀ a x, ((![v624] : Fin 1 → IVec S16 32) a x).toNat < S8192.size a := fun v624 k7_hw81 => k7_hw81

def k7_chk82 (v628 : IVec S16 32) : Prop :=
  (∀ a x, ((![v628] : Fin 1 → IVec S16 32) a x).toNat < S8192.size a)
theorem k7_idx82_inb : ∀ (v628 : IVec S16 32) (k7_hw82 : k7_chk82 v628), ∀ a x, ((![v628] : Fin 1 → IVec S16 32) a x).toNat < S8192.size a := fun v628 k7_hw82 => k7_hw82

def k7_chk83 (v632 : IVec S16 32) : Prop :=
  (∀ a x, ((![v632] : Fin 1 → IVec S16 32) a x).toNat < S8192.size a)
theorem k7_idx83_inb : ∀ (v632 : IVec S16 32) (k7_hw83 : k7_chk83 v632), ∀ a x, ((![v632] : Fin 1 → IVec S16 32) a x).toNat < S8192.size a := fun v632 k7_hw83 => k7_hw83

def k7_chk84 (v636 : IVec S16 32) : Prop :=
  (∀ a x, ((![v636] : Fin 1 → IVec S16 32) a x).toNat < S8192.size a)
theorem k7_idx84_inb : ∀ (v636 : IVec S16 32) (k7_hw84 : k7_chk84 v636), ∀ a x, ((![v636] : Fin 1 → IVec S16 32) a x).toNat < S8192.size a := fun v636 k7_hw84 => k7_hw84

def k7_chk85 (v640 : IVec S16 32) : Prop :=
  (∀ a x, ((![v640] : Fin 1 → IVec S16 32) a x).toNat < S8192.size a)
theorem k7_idx85_inb : ∀ (v640 : IVec S16 32) (k7_hw85 : k7_chk85 v640), ∀ a x, ((![v640] : Fin 1 → IVec S16 32) a x).toNat < S8192.size a := fun v640 k7_hw85 => k7_hw85

def k7_chk86 (v644 : IVec S16 32) : Prop :=
  (∀ a x, ((![v644] : Fin 1 → IVec S16 32) a x).toNat < S8192.size a)
theorem k7_idx86_inb : ∀ (v644 : IVec S16 32) (k7_hw86 : k7_chk86 v644), ∀ a x, ((![v644] : Fin 1 → IVec S16 32) a x).toNat < S8192.size a := fun v644 k7_hw86 => k7_hw86

def k7_chk87 (v648 : IVec S16 32) : Prop :=
  (∀ a x, ((![v648] : Fin 1 → IVec S16 32) a x).toNat < S8192.size a)
theorem k7_idx87_inb : ∀ (v648 : IVec S16 32) (k7_hw87 : k7_chk87 v648), ∀ a x, ((![v648] : Fin 1 → IVec S16 32) a x).toNat < S8192.size a := fun v648 k7_hw87 => k7_hw87

def k7_chk88 (v652 : IVec S16 32) : Prop :=
  (∀ a x, ((![v652] : Fin 1 → IVec S16 32) a x).toNat < S8192.size a)
theorem k7_idx88_inb : ∀ (v652 : IVec S16 32) (k7_hw88 : k7_chk88 v652), ∀ a x, ((![v652] : Fin 1 → IVec S16 32) a x).toNat < S8192.size a := fun v652 k7_hw88 => k7_hw88

def k7_chk89 (v656 : IVec S16 32) : Prop :=
  (∀ a x, ((![v656] : Fin 1 → IVec S16 32) a x).toNat < S8192.size a)
theorem k7_idx89_inb : ∀ (v656 : IVec S16 32) (k7_hw89 : k7_chk89 v656), ∀ a x, ((![v656] : Fin 1 → IVec S16 32) a x).toNat < S8192.size a := fun v656 k7_hw89 => k7_hw89

def k7_chk90 (v660 : IVec S16 32) : Prop :=
  (∀ a x, ((![v660] : Fin 1 → IVec S16 32) a x).toNat < S8192.size a)
theorem k7_idx90_inb : ∀ (v660 : IVec S16 32) (k7_hw90 : k7_chk90 v660), ∀ a x, ((![v660] : Fin 1 → IVec S16 32) a x).toNat < S8192.size a := fun v660 k7_hw90 => k7_hw90

def k7_chk91 (v664 : IVec S16 32) : Prop :=
  (∀ a x, ((![v664] : Fin 1 → IVec S16 32) a x).toNat < S8192.size a)
theorem k7_idx91_inb : ∀ (v664 : IVec S16 32) (k7_hw91 : k7_chk91 v664), ∀ a x, ((![v664] : Fin 1 → IVec S16 32) a x).toNat < S8192.size a := fun v664 k7_hw91 => k7_hw91

def k7_chk92 (v668 : IVec S16 32) : Prop :=
  (∀ a x, ((![v668] : Fin 1 → IVec S16 32) a x).toNat < S8192.size a)
theorem k7_idx92_inb : ∀ (v668 : IVec S16 32) (k7_hw92 : k7_chk92 v668), ∀ a x, ((![v668] : Fin 1 → IVec S16 32) a x).toNat < S8192.size a := fun v668 k7_hw92 => k7_hw92

def k7_chk93 (v672 : IVec S16 32) : Prop :=
  (∀ a x, ((![v672] : Fin 1 → IVec S16 32) a x).toNat < S8192.size a)
theorem k7_idx93_inb : ∀ (v672 : IVec S16 32) (k7_hw93 : k7_chk93 v672), ∀ a x, ((![v672] : Fin 1 → IVec S16 32) a x).toNat < S8192.size a := fun v672 k7_hw93 => k7_hw93

def k7_chk94 (v676 : IVec S16 32) : Prop :=
  (∀ a x, ((![v676] : Fin 1 → IVec S16 32) a x).toNat < S8192.size a)
theorem k7_idx94_inb : ∀ (v676 : IVec S16 32) (k7_hw94 : k7_chk94 v676), ∀ a x, ((![v676] : Fin 1 → IVec S16 32) a x).toNat < S8192.size a := fun v676 k7_hw94 => k7_hw94

def k7_chk95 (v680 : IVec S16 32) : Prop :=
  (∀ a x, ((![v680] : Fin 1 → IVec S16 32) a x).toNat < S8192.size a)
theorem k7_idx95_inb : ∀ (v680 : IVec S16 32) (k7_hw95 : k7_chk95 v680), ∀ a x, ((![v680] : Fin 1 → IVec S16 32) a x).toNat < S8192.size a := fun v680 k7_hw95 => k7_hw95

def k7_chk96 (v684 : IVec S16 32) : Prop :=
  (∀ a x, ((![v684] : Fin 1 → IVec S16 32) a x).toNat < S8192.size a)
theorem k7_idx96_inb : ∀ (v684 : IVec S16 32) (k7_hw96 : k7_chk96 v684), ∀ a x, ((![v684] : Fin 1 → IVec S16 32) a x).toNat < S8192.size a := fun v684 k7_hw96 => k7_hw96

def k7_chk97 (v2227 : IVec S16 32) : Prop :=
  (∀ a x, ((![v2227] : Fin 1 → IVec S16 32) a x).toNat < S512.size a)
theorem k7_idx97_inb : ∀ (v2227 : IVec S16 32) (k7_hw97 : k7_chk97 v2227), ∀ a x, ((![v2227] : Fin 1 → IVec S16 32) a x).toNat < S512.size a := fun v2227 k7_hw97 => k7_hw97

def k7_chk98 (v2230 : IVec S16 32) : Prop :=
  (∀ a x, ((![v2230] : Fin 1 → IVec S16 32) a x).toNat < S512.size a)
theorem k7_idx98_inb : ∀ (v2230 : IVec S16 32) (k7_hw98 : k7_chk98 v2230), ∀ a x, ((![v2230] : Fin 1 → IVec S16 32) a x).toNat < S512.size a := fun v2230 k7_hw98 => k7_hw98

def k7_chk99 (v2232 : IVec S16 32) : Prop :=
  (∀ a x, ((![v2232] : Fin 1 → IVec S16 32) a x).toNat < S512.size a)
theorem k7_idx99_inb : ∀ (v2232 : IVec S16 32) (k7_hw99 : k7_chk99 v2232), ∀ a x, ((![v2232] : Fin 1 → IVec S16 32) a x).toNat < S512.size a := fun v2232 k7_hw99 => k7_hw99

def k7_chk100 (v2235 : IVec S16 32) : Prop :=
  (∀ a x, ((![v2235] : Fin 1 → IVec S16 32) a x).toNat < S512.size a)
theorem k7_idx100_inb : ∀ (v2235 : IVec S16 32) (k7_hw100 : k7_chk100 v2235), ∀ a x, ((![v2235] : Fin 1 → IVec S16 32) a x).toNat < S512.size a := fun v2235 k7_hw100 => k7_hw100

def k7_chk101 (v2237 : IVec S16 32) : Prop :=
  (∀ a x, ((![v2237] : Fin 1 → IVec S16 32) a x).toNat < S512.size a)
theorem k7_idx101_inb : ∀ (v2237 : IVec S16 32) (k7_hw101 : k7_chk101 v2237), ∀ a x, ((![v2237] : Fin 1 → IVec S16 32) a x).toNat < S512.size a := fun v2237 k7_hw101 => k7_hw101

def k7_chk102 (v2240 : IVec S16 32) : Prop :=
  (∀ a x, ((![v2240] : Fin 1 → IVec S16 32) a x).toNat < S512.size a)
theorem k7_idx102_inb : ∀ (v2240 : IVec S16 32) (k7_hw102 : k7_chk102 v2240), ∀ a x, ((![v2240] : Fin 1 → IVec S16 32) a x).toNat < S512.size a := fun v2240 k7_hw102 => k7_hw102

def k7_chk103 (v2242 : IVec S16 32) : Prop :=
  (∀ a x, ((![v2242] : Fin 1 → IVec S16 32) a x).toNat < S512.size a)
theorem k7_idx103_inb : ∀ (v2242 : IVec S16 32) (k7_hw103 : k7_chk103 v2242), ∀ a x, ((![v2242] : Fin 1 → IVec S16 32) a x).toNat < S512.size a := fun v2242 k7_hw103 => k7_hw103

def k7_chk104 (v2245 : IVec S16 32) : Prop :=
  (∀ a x, ((![v2245] : Fin 1 → IVec S16 32) a x).toNat < S512.size a)
theorem k7_idx104_inb : ∀ (v2245 : IVec S16 32) (k7_hw104 : k7_chk104 v2245), ∀ a x, ((![v2245] : Fin 1 → IVec S16 32) a x).toNat < S512.size a := fun v2245 k7_hw104 => k7_hw104

def k7_chk105 (v2247 : IVec S16 32) : Prop :=
  (∀ a x, ((![v2247] : Fin 1 → IVec S16 32) a x).toNat < S512.size a)
theorem k7_idx105_inb : ∀ (v2247 : IVec S16 32) (k7_hw105 : k7_chk105 v2247), ∀ a x, ((![v2247] : Fin 1 → IVec S16 32) a x).toNat < S512.size a := fun v2247 k7_hw105 => k7_hw105

def k7_chk106 (v2250 : IVec S16 32) : Prop :=
  (∀ a x, ((![v2250] : Fin 1 → IVec S16 32) a x).toNat < S512.size a)
theorem k7_idx106_inb : ∀ (v2250 : IVec S16 32) (k7_hw106 : k7_chk106 v2250), ∀ a x, ((![v2250] : Fin 1 → IVec S16 32) a x).toNat < S512.size a := fun v2250 k7_hw106 => k7_hw106

def k7_chk107 (v2252 : IVec S16 32) : Prop :=
  (∀ a x, ((![v2252] : Fin 1 → IVec S16 32) a x).toNat < S512.size a)
theorem k7_idx107_inb : ∀ (v2252 : IVec S16 32) (k7_hw107 : k7_chk107 v2252), ∀ a x, ((![v2252] : Fin 1 → IVec S16 32) a x).toNat < S512.size a := fun v2252 k7_hw107 => k7_hw107

def k7_chk108 (v2255 : IVec S16 32) : Prop :=
  (∀ a x, ((![v2255] : Fin 1 → IVec S16 32) a x).toNat < S512.size a)
theorem k7_idx108_inb : ∀ (v2255 : IVec S16 32) (k7_hw108 : k7_chk108 v2255), ∀ a x, ((![v2255] : Fin 1 → IVec S16 32) a x).toNat < S512.size a := fun v2255 k7_hw108 => k7_hw108

def k7_chk109 (v2257 : IVec S16 32) : Prop :=
  (∀ a x, ((![v2257] : Fin 1 → IVec S16 32) a x).toNat < S512.size a)
theorem k7_idx109_inb : ∀ (v2257 : IVec S16 32) (k7_hw109 : k7_chk109 v2257), ∀ a x, ((![v2257] : Fin 1 → IVec S16 32) a x).toNat < S512.size a := fun v2257 k7_hw109 => k7_hw109

def k7_chk110 (v2260 : IVec S16 32) : Prop :=
  (∀ a x, ((![v2260] : Fin 1 → IVec S16 32) a x).toNat < S512.size a)
theorem k7_idx110_inb : ∀ (v2260 : IVec S16 32) (k7_hw110 : k7_chk110 v2260), ∀ a x, ((![v2260] : Fin 1 → IVec S16 32) a x).toNat < S512.size a := fun v2260 k7_hw110 => k7_hw110

def k7_chk111 (v2262 : IVec S16 32) : Prop :=
  (∀ a x, ((![v2262] : Fin 1 → IVec S16 32) a x).toNat < S512.size a)
theorem k7_idx111_inb : ∀ (v2262 : IVec S16 32) (k7_hw111 : k7_chk111 v2262), ∀ a x, ((![v2262] : Fin 1 → IVec S16 32) a x).toNat < S512.size a := fun v2262 k7_hw111 => k7_hw111

def k7_chk112 (v2265 : IVec S16 32) : Prop :=
  (∀ a x, ((![v2265] : Fin 1 → IVec S16 32) a x).toNat < S512.size a)
theorem k7_idx112_inb : ∀ (v2265 : IVec S16 32) (k7_hw112 : k7_chk112 v2265), ∀ a x, ((![v2265] : Fin 1 → IVec S16 32) a x).toNat < S512.size a := fun v2265 k7_hw112 => k7_hw112
def k7_off2 (i : grid7.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32 : BitVec 32 := 8#32
  let v6 : BitVec 32 := Scalar.muli v2 c8_i32
  ![v6.toNat]
abbrev grid8 : Pipeline.Grid := ⟨1, ![4], ![false]⟩

def cc8_transform_0 (i : grid8.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![v0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S512x2048 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x2048 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S512x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨2, ![2, 16], ![false, false]⟩

def k9_off1 (i : grid9.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c128_i32 : BitVec 32 := 128#32
  let v3 : BitVec 32 := Scalar.muli v2 c128_i32
  ![v3.toNat]
@[reducible] def k9_t1_loop : Scf.Loop 32 :=
  let c0_i32_0 : BitVec 32 := 0#32
  let c4_i32 : BitVec 32 := 4#32
  let v5 : BitVec 32 := Scalar.addi c0_i32_0 c4_i32
  let c1_i32 : BitVec 32 := 1#32
  ⟨c0_i32_0, v5, c1_i32⟩

def k9_chk1 (v14 : IVec S16 32) : Prop :=
  (∀ a x, ((![v14] : Fin 1 → IVec S16 32) a x).toNat < S8192.size a)
theorem k9_idx1_inb : ∀ (v14 : IVec S16 32) (k9_hw1 : k9_chk1 v14), ∀ a x, ((![v14] : Fin 1 → IVec S16 32) a x).toNat < S8192.size a := fun v14 k9_hw1 => k9_hw1

def k9_chk2 (v17 : IVec S16 32) : Prop :=
  (∀ a x, ((![v17] : Fin 1 → IVec S16 32) a x).toNat < S8192.size a)
theorem k9_idx2_inb : ∀ (v17 : IVec S16 32) (k9_hw2 : k9_chk2 v17), ∀ a x, ((![v17] : Fin 1 → IVec S16 32) a x).toNat < S8192.size a := fun v17 k9_hw2 => k9_hw2

def k9_chk3 (v20 : IVec S16 32) : Prop :=
  (∀ a x, ((![v20] : Fin 1 → IVec S16 32) a x).toNat < S8192.size a)
theorem k9_idx3_inb : ∀ (v20 : IVec S16 32) (k9_hw3 : k9_chk3 v20), ∀ a x, ((![v20] : Fin 1 → IVec S16 32) a x).toNat < S8192.size a := fun v20 k9_hw3 => k9_hw3

def k9_chk4 (v23 : IVec S16 32) : Prop :=
  (∀ a x, ((![v23] : Fin 1 → IVec S16 32) a x).toNat < S8192.size a)
theorem k9_idx4_inb : ∀ (v23 : IVec S16 32) (k9_hw4 : k9_chk4 v23), ∀ a x, ((![v23] : Fin 1 → IVec S16 32) a x).toNat < S8192.size a := fun v23 k9_hw4 => k9_hw4

def k9_chk5 (v26 : IVec S16 32) : Prop :=
  (∀ a x, ((![v26] : Fin 1 → IVec S16 32) a x).toNat < S8192.size a)
theorem k9_idx5_inb : ∀ (v26 : IVec S16 32) (k9_hw5 : k9_chk5 v26), ∀ a x, ((![v26] : Fin 1 → IVec S16 32) a x).toNat < S8192.size a := fun v26 k9_hw5 => k9_hw5

def k9_chk6 (v29 : IVec S16 32) : Prop :=
  (∀ a x, ((![v29] : Fin 1 → IVec S16 32) a x).toNat < S8192.size a)
theorem k9_idx6_inb : ∀ (v29 : IVec S16 32) (k9_hw6 : k9_chk6 v29), ∀ a x, ((![v29] : Fin 1 → IVec S16 32) a x).toNat < S8192.size a := fun v29 k9_hw6 => k9_hw6

def k9_chk7 (v32 : IVec S16 32) : Prop :=
  (∀ a x, ((![v32] : Fin 1 → IVec S16 32) a x).toNat < S8192.size a)
theorem k9_idx7_inb : ∀ (v32 : IVec S16 32) (k9_hw7 : k9_chk7 v32), ∀ a x, ((![v32] : Fin 1 → IVec S16 32) a x).toNat < S8192.size a := fun v32 k9_hw7 => k9_hw7

def k9_chk8 (v35 : IVec S16 32) : Prop :=
  (∀ a x, ((![v35] : Fin 1 → IVec S16 32) a x).toNat < S8192.size a)
theorem k9_idx8_inb : ∀ (v35 : IVec S16 32) (k9_hw8 : k9_chk8 v35), ∀ a x, ((![v35] : Fin 1 → IVec S16 32) a x).toNat < S8192.size a := fun v35 k9_hw8 => k9_hw8

def k9_chk9 (v38 : IVec S16 32) : Prop :=
  (∀ a x, ((![v38] : Fin 1 → IVec S16 32) a x).toNat < S8192.size a)
theorem k9_idx9_inb : ∀ (v38 : IVec S16 32) (k9_hw9 : k9_chk9 v38), ∀ a x, ((![v38] : Fin 1 → IVec S16 32) a x).toNat < S8192.size a := fun v38 k9_hw9 => k9_hw9

def k9_chk10 (v41 : IVec S16 32) : Prop :=
  (∀ a x, ((![v41] : Fin 1 → IVec S16 32) a x).toNat < S8192.size a)
theorem k9_idx10_inb : ∀ (v41 : IVec S16 32) (k9_hw10 : k9_chk10 v41), ∀ a x, ((![v41] : Fin 1 → IVec S16 32) a x).toNat < S8192.size a := fun v41 k9_hw10 => k9_hw10

def k9_chk11 (v44 : IVec S16 32) : Prop :=
  (∀ a x, ((![v44] : Fin 1 → IVec S16 32) a x).toNat < S8192.size a)
theorem k9_idx11_inb : ∀ (v44 : IVec S16 32) (k9_hw11 : k9_chk11 v44), ∀ a x, ((![v44] : Fin 1 → IVec S16 32) a x).toNat < S8192.size a := fun v44 k9_hw11 => k9_hw11

def k9_chk12 (v47 : IVec S16 32) : Prop :=
  (∀ a x, ((![v47] : Fin 1 → IVec S16 32) a x).toNat < S8192.size a)
theorem k9_idx12_inb : ∀ (v47 : IVec S16 32) (k9_hw12 : k9_chk12 v47), ∀ a x, ((![v47] : Fin 1 → IVec S16 32) a x).toNat < S8192.size a := fun v47 k9_hw12 => k9_hw12

def k9_chk13 (v50 : IVec S16 32) : Prop :=
  (∀ a x, ((![v50] : Fin 1 → IVec S16 32) a x).toNat < S8192.size a)
theorem k9_idx13_inb : ∀ (v50 : IVec S16 32) (k9_hw13 : k9_chk13 v50), ∀ a x, ((![v50] : Fin 1 → IVec S16 32) a x).toNat < S8192.size a := fun v50 k9_hw13 => k9_hw13

def k9_chk14 (v53 : IVec S16 32) : Prop :=
  (∀ a x, ((![v53] : Fin 1 → IVec S16 32) a x).toNat < S8192.size a)
theorem k9_idx14_inb : ∀ (v53 : IVec S16 32) (k9_hw14 : k9_chk14 v53), ∀ a x, ((![v53] : Fin 1 → IVec S16 32) a x).toNat < S8192.size a := fun v53 k9_hw14 => k9_hw14

def k9_chk15 (v56 : IVec S16 32) : Prop :=
  (∀ a x, ((![v56] : Fin 1 → IVec S16 32) a x).toNat < S8192.size a)
theorem k9_idx15_inb : ∀ (v56 : IVec S16 32) (k9_hw15 : k9_chk15 v56), ∀ a x, ((![v56] : Fin 1 → IVec S16 32) a x).toNat < S8192.size a := fun v56 k9_hw15 => k9_hw15

def k9_chk16 (v59 : IVec S16 32) : Prop :=
  (∀ a x, ((![v59] : Fin 1 → IVec S16 32) a x).toNat < S8192.size a)
theorem k9_idx16_inb : ∀ (v59 : IVec S16 32) (k9_hw16 : k9_chk16 v59), ∀ a x, ((![v59] : Fin 1 → IVec S16 32) a x).toNat < S8192.size a := fun v59 k9_hw16 => k9_hw16

def k9_chk17 (v62 : IVec S16 32) : Prop :=
  (∀ a x, ((![v62] : Fin 1 → IVec S16 32) a x).toNat < S8192.size a)
theorem k9_idx17_inb : ∀ (v62 : IVec S16 32) (k9_hw17 : k9_chk17 v62), ∀ a x, ((![v62] : Fin 1 → IVec S16 32) a x).toNat < S8192.size a := fun v62 k9_hw17 => k9_hw17

def k9_chk18 (v65 : IVec S16 32) : Prop :=
  (∀ a x, ((![v65] : Fin 1 → IVec S16 32) a x).toNat < S8192.size a)
theorem k9_idx18_inb : ∀ (v65 : IVec S16 32) (k9_hw18 : k9_chk18 v65), ∀ a x, ((![v65] : Fin 1 → IVec S16 32) a x).toNat < S8192.size a := fun v65 k9_hw18 => k9_hw18

def k9_chk19 (v68 : IVec S16 32) : Prop :=
  (∀ a x, ((![v68] : Fin 1 → IVec S16 32) a x).toNat < S8192.size a)
theorem k9_idx19_inb : ∀ (v68 : IVec S16 32) (k9_hw19 : k9_chk19 v68), ∀ a x, ((![v68] : Fin 1 → IVec S16 32) a x).toNat < S8192.size a := fun v68 k9_hw19 => k9_hw19

def k9_chk20 (v71 : IVec S16 32) : Prop :=
  (∀ a x, ((![v71] : Fin 1 → IVec S16 32) a x).toNat < S8192.size a)
theorem k9_idx20_inb : ∀ (v71 : IVec S16 32) (k9_hw20 : k9_chk20 v71), ∀ a x, ((![v71] : Fin 1 → IVec S16 32) a x).toNat < S8192.size a := fun v71 k9_hw20 => k9_hw20

def k9_chk21 (v74 : IVec S16 32) : Prop :=
  (∀ a x, ((![v74] : Fin 1 → IVec S16 32) a x).toNat < S8192.size a)
theorem k9_idx21_inb : ∀ (v74 : IVec S16 32) (k9_hw21 : k9_chk21 v74), ∀ a x, ((![v74] : Fin 1 → IVec S16 32) a x).toNat < S8192.size a := fun v74 k9_hw21 => k9_hw21

def k9_chk22 (v77 : IVec S16 32) : Prop :=
  (∀ a x, ((![v77] : Fin 1 → IVec S16 32) a x).toNat < S8192.size a)
theorem k9_idx22_inb : ∀ (v77 : IVec S16 32) (k9_hw22 : k9_chk22 v77), ∀ a x, ((![v77] : Fin 1 → IVec S16 32) a x).toNat < S8192.size a := fun v77 k9_hw22 => k9_hw22

def k9_chk23 (v80 : IVec S16 32) : Prop :=
  (∀ a x, ((![v80] : Fin 1 → IVec S16 32) a x).toNat < S8192.size a)
theorem k9_idx23_inb : ∀ (v80 : IVec S16 32) (k9_hw23 : k9_chk23 v80), ∀ a x, ((![v80] : Fin 1 → IVec S16 32) a x).toNat < S8192.size a := fun v80 k9_hw23 => k9_hw23

def k9_chk24 (v83 : IVec S16 32) : Prop :=
  (∀ a x, ((![v83] : Fin 1 → IVec S16 32) a x).toNat < S8192.size a)
theorem k9_idx24_inb : ∀ (v83 : IVec S16 32) (k9_hw24 : k9_chk24 v83), ∀ a x, ((![v83] : Fin 1 → IVec S16 32) a x).toNat < S8192.size a := fun v83 k9_hw24 => k9_hw24

def k9_chk25 (v86 : IVec S16 32) : Prop :=
  (∀ a x, ((![v86] : Fin 1 → IVec S16 32) a x).toNat < S8192.size a)
theorem k9_idx25_inb : ∀ (v86 : IVec S16 32) (k9_hw25 : k9_chk25 v86), ∀ a x, ((![v86] : Fin 1 → IVec S16 32) a x).toNat < S8192.size a := fun v86 k9_hw25 => k9_hw25

def k9_chk26 (v89 : IVec S16 32) : Prop :=
  (∀ a x, ((![v89] : Fin 1 → IVec S16 32) a x).toNat < S8192.size a)
theorem k9_idx26_inb : ∀ (v89 : IVec S16 32) (k9_hw26 : k9_chk26 v89), ∀ a x, ((![v89] : Fin 1 → IVec S16 32) a x).toNat < S8192.size a := fun v89 k9_hw26 => k9_hw26

def k9_chk27 (v92 : IVec S16 32) : Prop :=
  (∀ a x, ((![v92] : Fin 1 → IVec S16 32) a x).toNat < S8192.size a)
theorem k9_idx27_inb : ∀ (v92 : IVec S16 32) (k9_hw27 : k9_chk27 v92), ∀ a x, ((![v92] : Fin 1 → IVec S16 32) a x).toNat < S8192.size a := fun v92 k9_hw27 => k9_hw27

def k9_chk28 (v95 : IVec S16 32) : Prop :=
  (∀ a x, ((![v95] : Fin 1 → IVec S16 32) a x).toNat < S8192.size a)
theorem k9_idx28_inb : ∀ (v95 : IVec S16 32) (k9_hw28 : k9_chk28 v95), ∀ a x, ((![v95] : Fin 1 → IVec S16 32) a x).toNat < S8192.size a := fun v95 k9_hw28 => k9_hw28

def k9_chk29 (v98 : IVec S16 32) : Prop :=
  (∀ a x, ((![v98] : Fin 1 → IVec S16 32) a x).toNat < S8192.size a)
theorem k9_idx29_inb : ∀ (v98 : IVec S16 32) (k9_hw29 : k9_chk29 v98), ∀ a x, ((![v98] : Fin 1 → IVec S16 32) a x).toNat < S8192.size a := fun v98 k9_hw29 => k9_hw29

def k9_chk30 (v101 : IVec S16 32) : Prop :=
  (∀ a x, ((![v101] : Fin 1 → IVec S16 32) a x).toNat < S8192.size a)
theorem k9_idx30_inb : ∀ (v101 : IVec S16 32) (k9_hw30 : k9_chk30 v101), ∀ a x, ((![v101] : Fin 1 → IVec S16 32) a x).toNat < S8192.size a := fun v101 k9_hw30 => k9_hw30

def k9_chk31 (v104 : IVec S16 32) : Prop :=
  (∀ a x, ((![v104] : Fin 1 → IVec S16 32) a x).toNat < S8192.size a)
theorem k9_idx31_inb : ∀ (v104 : IVec S16 32) (k9_hw31 : k9_chk31 v104), ∀ a x, ((![v104] : Fin 1 → IVec S16 32) a x).toNat < S8192.size a := fun v104 k9_hw31 => k9_hw31

def k9_chk32 (v107 : IVec S16 32) : Prop :=
  (∀ a x, ((![v107] : Fin 1 → IVec S16 32) a x).toNat < S8192.size a)
theorem k9_idx32_inb : ∀ (v107 : IVec S16 32) (k9_hw32 : k9_chk32 v107), ∀ a x, ((![v107] : Fin 1 → IVec S16 32) a x).toNat < S8192.size a := fun v107 k9_hw32 => k9_hw32

def k9_chk33 (v110 : IVec S16 32) : Prop :=
  (∀ a x, ((![v110] : Fin 1 → IVec S16 32) a x).toNat < S8192.size a)
theorem k9_idx33_inb : ∀ (v110 : IVec S16 32) (k9_hw33 : k9_chk33 v110), ∀ a x, ((![v110] : Fin 1 → IVec S16 32) a x).toNat < S8192.size a := fun v110 k9_hw33 => k9_hw33

def k9_chk34 (v113 : IVec S16 32) : Prop :=
  (∀ a x, ((![v113] : Fin 1 → IVec S16 32) a x).toNat < S8192.size a)
theorem k9_idx34_inb : ∀ (v113 : IVec S16 32) (k9_hw34 : k9_chk34 v113), ∀ a x, ((![v113] : Fin 1 → IVec S16 32) a x).toNat < S8192.size a := fun v113 k9_hw34 => k9_hw34

def k9_chk35 (v116 : IVec S16 32) : Prop :=
  (∀ a x, ((![v116] : Fin 1 → IVec S16 32) a x).toNat < S8192.size a)
theorem k9_idx35_inb : ∀ (v116 : IVec S16 32) (k9_hw35 : k9_chk35 v116), ∀ a x, ((![v116] : Fin 1 → IVec S16 32) a x).toNat < S8192.size a := fun v116 k9_hw35 => k9_hw35

def k9_chk36 (v119 : IVec S16 32) : Prop :=
  (∀ a x, ((![v119] : Fin 1 → IVec S16 32) a x).toNat < S8192.size a)
theorem k9_idx36_inb : ∀ (v119 : IVec S16 32) (k9_hw36 : k9_chk36 v119), ∀ a x, ((![v119] : Fin 1 → IVec S16 32) a x).toNat < S8192.size a := fun v119 k9_hw36 => k9_hw36

def k9_chk37 (v122 : IVec S16 32) : Prop :=
  (∀ a x, ((![v122] : Fin 1 → IVec S16 32) a x).toNat < S8192.size a)
theorem k9_idx37_inb : ∀ (v122 : IVec S16 32) (k9_hw37 : k9_chk37 v122), ∀ a x, ((![v122] : Fin 1 → IVec S16 32) a x).toNat < S8192.size a := fun v122 k9_hw37 => k9_hw37

def k9_chk38 (v125 : IVec S16 32) : Prop :=
  (∀ a x, ((![v125] : Fin 1 → IVec S16 32) a x).toNat < S8192.size a)
theorem k9_idx38_inb : ∀ (v125 : IVec S16 32) (k9_hw38 : k9_chk38 v125), ∀ a x, ((![v125] : Fin 1 → IVec S16 32) a x).toNat < S8192.size a := fun v125 k9_hw38 => k9_hw38

def k9_chk39 (v128 : IVec S16 32) : Prop :=
  (∀ a x, ((![v128] : Fin 1 → IVec S16 32) a x).toNat < S8192.size a)
theorem k9_idx39_inb : ∀ (v128 : IVec S16 32) (k9_hw39 : k9_chk39 v128), ∀ a x, ((![v128] : Fin 1 → IVec S16 32) a x).toNat < S8192.size a := fun v128 k9_hw39 => k9_hw39

def k9_chk40 (v131 : IVec S16 32) : Prop :=
  (∀ a x, ((![v131] : Fin 1 → IVec S16 32) a x).toNat < S8192.size a)
theorem k9_idx40_inb : ∀ (v131 : IVec S16 32) (k9_hw40 : k9_chk40 v131), ∀ a x, ((![v131] : Fin 1 → IVec S16 32) a x).toNat < S8192.size a := fun v131 k9_hw40 => k9_hw40

def k9_chk41 (v134 : IVec S16 32) : Prop :=
  (∀ a x, ((![v134] : Fin 1 → IVec S16 32) a x).toNat < S8192.size a)
theorem k9_idx41_inb : ∀ (v134 : IVec S16 32) (k9_hw41 : k9_chk41 v134), ∀ a x, ((![v134] : Fin 1 → IVec S16 32) a x).toNat < S8192.size a := fun v134 k9_hw41 => k9_hw41

def k9_chk42 (v137 : IVec S16 32) : Prop :=
  (∀ a x, ((![v137] : Fin 1 → IVec S16 32) a x).toNat < S8192.size a)
theorem k9_idx42_inb : ∀ (v137 : IVec S16 32) (k9_hw42 : k9_chk42 v137), ∀ a x, ((![v137] : Fin 1 → IVec S16 32) a x).toNat < S8192.size a := fun v137 k9_hw42 => k9_hw42

def k9_chk43 (v140 : IVec S16 32) : Prop :=
  (∀ a x, ((![v140] : Fin 1 → IVec S16 32) a x).toNat < S8192.size a)
theorem k9_idx43_inb : ∀ (v140 : IVec S16 32) (k9_hw43 : k9_chk43 v140), ∀ a x, ((![v140] : Fin 1 → IVec S16 32) a x).toNat < S8192.size a := fun v140 k9_hw43 => k9_hw43

def k9_chk44 (v143 : IVec S16 32) : Prop :=
  (∀ a x, ((![v143] : Fin 1 → IVec S16 32) a x).toNat < S8192.size a)
theorem k9_idx44_inb : ∀ (v143 : IVec S16 32) (k9_hw44 : k9_chk44 v143), ∀ a x, ((![v143] : Fin 1 → IVec S16 32) a x).toNat < S8192.size a := fun v143 k9_hw44 => k9_hw44

def k9_chk45 (v146 : IVec S16 32) : Prop :=
  (∀ a x, ((![v146] : Fin 1 → IVec S16 32) a x).toNat < S8192.size a)
theorem k9_idx45_inb : ∀ (v146 : IVec S16 32) (k9_hw45 : k9_chk45 v146), ∀ a x, ((![v146] : Fin 1 → IVec S16 32) a x).toNat < S8192.size a := fun v146 k9_hw45 => k9_hw45

def k9_chk46 (v149 : IVec S16 32) : Prop :=
  (∀ a x, ((![v149] : Fin 1 → IVec S16 32) a x).toNat < S8192.size a)
theorem k9_idx46_inb : ∀ (v149 : IVec S16 32) (k9_hw46 : k9_chk46 v149), ∀ a x, ((![v149] : Fin 1 → IVec S16 32) a x).toNat < S8192.size a := fun v149 k9_hw46 => k9_hw46

def k9_chk47 (v152 : IVec S16 32) : Prop :=
  (∀ a x, ((![v152] : Fin 1 → IVec S16 32) a x).toNat < S8192.size a)
theorem k9_idx47_inb : ∀ (v152 : IVec S16 32) (k9_hw47 : k9_chk47 v152), ∀ a x, ((![v152] : Fin 1 → IVec S16 32) a x).toNat < S8192.size a := fun v152 k9_hw47 => k9_hw47

def k9_chk48 (v155 : IVec S16 32) : Prop :=
  (∀ a x, ((![v155] : Fin 1 → IVec S16 32) a x).toNat < S8192.size a)
theorem k9_idx48_inb : ∀ (v155 : IVec S16 32) (k9_hw48 : k9_chk48 v155), ∀ a x, ((![v155] : Fin 1 → IVec S16 32) a x).toNat < S8192.size a := fun v155 k9_hw48 => k9_hw48

def k9_chk49 (v158 : IVec S16 32) : Prop :=
  (∀ a x, ((![v158] : Fin 1 → IVec S16 32) a x).toNat < S8192.size a)
theorem k9_idx49_inb : ∀ (v158 : IVec S16 32) (k9_hw49 : k9_chk49 v158), ∀ a x, ((![v158] : Fin 1 → IVec S16 32) a x).toNat < S8192.size a := fun v158 k9_hw49 => k9_hw49

def k9_chk50 (v161 : IVec S16 32) : Prop :=
  (∀ a x, ((![v161] : Fin 1 → IVec S16 32) a x).toNat < S8192.size a)
theorem k9_idx50_inb : ∀ (v161 : IVec S16 32) (k9_hw50 : k9_chk50 v161), ∀ a x, ((![v161] : Fin 1 → IVec S16 32) a x).toNat < S8192.size a := fun v161 k9_hw50 => k9_hw50

def k9_chk51 (v164 : IVec S16 32) : Prop :=
  (∀ a x, ((![v164] : Fin 1 → IVec S16 32) a x).toNat < S8192.size a)
theorem k9_idx51_inb : ∀ (v164 : IVec S16 32) (k9_hw51 : k9_chk51 v164), ∀ a x, ((![v164] : Fin 1 → IVec S16 32) a x).toNat < S8192.size a := fun v164 k9_hw51 => k9_hw51

def k9_chk52 (v167 : IVec S16 32) : Prop :=
  (∀ a x, ((![v167] : Fin 1 → IVec S16 32) a x).toNat < S8192.size a)
theorem k9_idx52_inb : ∀ (v167 : IVec S16 32) (k9_hw52 : k9_chk52 v167), ∀ a x, ((![v167] : Fin 1 → IVec S16 32) a x).toNat < S8192.size a := fun v167 k9_hw52 => k9_hw52

def k9_chk53 (v170 : IVec S16 32) : Prop :=
  (∀ a x, ((![v170] : Fin 1 → IVec S16 32) a x).toNat < S8192.size a)
theorem k9_idx53_inb : ∀ (v170 : IVec S16 32) (k9_hw53 : k9_chk53 v170), ∀ a x, ((![v170] : Fin 1 → IVec S16 32) a x).toNat < S8192.size a := fun v170 k9_hw53 => k9_hw53

def k9_chk54 (v173 : IVec S16 32) : Prop :=
  (∀ a x, ((![v173] : Fin 1 → IVec S16 32) a x).toNat < S8192.size a)
theorem k9_idx54_inb : ∀ (v173 : IVec S16 32) (k9_hw54 : k9_chk54 v173), ∀ a x, ((![v173] : Fin 1 → IVec S16 32) a x).toNat < S8192.size a := fun v173 k9_hw54 => k9_hw54

def k9_chk55 (v176 : IVec S16 32) : Prop :=
  (∀ a x, ((![v176] : Fin 1 → IVec S16 32) a x).toNat < S8192.size a)
theorem k9_idx55_inb : ∀ (v176 : IVec S16 32) (k9_hw55 : k9_chk55 v176), ∀ a x, ((![v176] : Fin 1 → IVec S16 32) a x).toNat < S8192.size a := fun v176 k9_hw55 => k9_hw55

def k9_chk56 (v179 : IVec S16 32) : Prop :=
  (∀ a x, ((![v179] : Fin 1 → IVec S16 32) a x).toNat < S8192.size a)
theorem k9_idx56_inb : ∀ (v179 : IVec S16 32) (k9_hw56 : k9_chk56 v179), ∀ a x, ((![v179] : Fin 1 → IVec S16 32) a x).toNat < S8192.size a := fun v179 k9_hw56 => k9_hw56

def k9_chk57 (v182 : IVec S16 32) : Prop :=
  (∀ a x, ((![v182] : Fin 1 → IVec S16 32) a x).toNat < S8192.size a)
theorem k9_idx57_inb : ∀ (v182 : IVec S16 32) (k9_hw57 : k9_chk57 v182), ∀ a x, ((![v182] : Fin 1 → IVec S16 32) a x).toNat < S8192.size a := fun v182 k9_hw57 => k9_hw57

def k9_chk58 (v185 : IVec S16 32) : Prop :=
  (∀ a x, ((![v185] : Fin 1 → IVec S16 32) a x).toNat < S8192.size a)
theorem k9_idx58_inb : ∀ (v185 : IVec S16 32) (k9_hw58 : k9_chk58 v185), ∀ a x, ((![v185] : Fin 1 → IVec S16 32) a x).toNat < S8192.size a := fun v185 k9_hw58 => k9_hw58

def k9_chk59 (v188 : IVec S16 32) : Prop :=
  (∀ a x, ((![v188] : Fin 1 → IVec S16 32) a x).toNat < S8192.size a)
theorem k9_idx59_inb : ∀ (v188 : IVec S16 32) (k9_hw59 : k9_chk59 v188), ∀ a x, ((![v188] : Fin 1 → IVec S16 32) a x).toNat < S8192.size a := fun v188 k9_hw59 => k9_hw59

def k9_chk60 (v191 : IVec S16 32) : Prop :=
  (∀ a x, ((![v191] : Fin 1 → IVec S16 32) a x).toNat < S8192.size a)
theorem k9_idx60_inb : ∀ (v191 : IVec S16 32) (k9_hw60 : k9_chk60 v191), ∀ a x, ((![v191] : Fin 1 → IVec S16 32) a x).toNat < S8192.size a := fun v191 k9_hw60 => k9_hw60

def k9_chk61 (v194 : IVec S16 32) : Prop :=
  (∀ a x, ((![v194] : Fin 1 → IVec S16 32) a x).toNat < S8192.size a)
theorem k9_idx61_inb : ∀ (v194 : IVec S16 32) (k9_hw61 : k9_chk61 v194), ∀ a x, ((![v194] : Fin 1 → IVec S16 32) a x).toNat < S8192.size a := fun v194 k9_hw61 => k9_hw61

def k9_chk62 (v197 : IVec S16 32) : Prop :=
  (∀ a x, ((![v197] : Fin 1 → IVec S16 32) a x).toNat < S8192.size a)
theorem k9_idx62_inb : ∀ (v197 : IVec S16 32) (k9_hw62 : k9_chk62 v197), ∀ a x, ((![v197] : Fin 1 → IVec S16 32) a x).toNat < S8192.size a := fun v197 k9_hw62 => k9_hw62

def k9_chk63 (v200 : IVec S16 32) : Prop :=
  (∀ a x, ((![v200] : Fin 1 → IVec S16 32) a x).toNat < S8192.size a)
theorem k9_idx63_inb : ∀ (v200 : IVec S16 32) (k9_hw63 : k9_chk63 v200), ∀ a x, ((![v200] : Fin 1 → IVec S16 32) a x).toNat < S8192.size a := fun v200 k9_hw63 => k9_hw63

def k9_chk64 (v203 : IVec S16 32) : Prop :=
  (∀ a x, ((![v203] : Fin 1 → IVec S16 32) a x).toNat < S8192.size a)
theorem k9_idx64_inb : ∀ (v203 : IVec S16 32) (k9_hw64 : k9_chk64 v203), ∀ a x, ((![v203] : Fin 1 → IVec S16 32) a x).toNat < S8192.size a := fun v203 k9_hw64 => k9_hw64

def k9_chk65 (v560 : IVec S16 32) : Prop :=
  (∀ a x, ((![v560] : Fin 1 → IVec S16 32) a x).toNat < S8192.size a)
theorem k9_idx65_inb : ∀ (v560 : IVec S16 32) (k9_hw65 : k9_chk65 v560), ∀ a x, ((![v560] : Fin 1 → IVec S16 32) a x).toNat < S8192.size a := fun v560 k9_hw65 => k9_hw65

def k9_chk66 (v564 : IVec S16 32) : Prop :=
  (∀ a x, ((![v564] : Fin 1 → IVec S16 32) a x).toNat < S8192.size a)
theorem k9_idx66_inb : ∀ (v564 : IVec S16 32) (k9_hw66 : k9_chk66 v564), ∀ a x, ((![v564] : Fin 1 → IVec S16 32) a x).toNat < S8192.size a := fun v564 k9_hw66 => k9_hw66

def k9_chk67 (v568 : IVec S16 32) : Prop :=
  (∀ a x, ((![v568] : Fin 1 → IVec S16 32) a x).toNat < S8192.size a)
theorem k9_idx67_inb : ∀ (v568 : IVec S16 32) (k9_hw67 : k9_chk67 v568), ∀ a x, ((![v568] : Fin 1 → IVec S16 32) a x).toNat < S8192.size a := fun v568 k9_hw67 => k9_hw67

def k9_chk68 (v572 : IVec S16 32) : Prop :=
  (∀ a x, ((![v572] : Fin 1 → IVec S16 32) a x).toNat < S8192.size a)
theorem k9_idx68_inb : ∀ (v572 : IVec S16 32) (k9_hw68 : k9_chk68 v572), ∀ a x, ((![v572] : Fin 1 → IVec S16 32) a x).toNat < S8192.size a := fun v572 k9_hw68 => k9_hw68

def k9_chk69 (v576 : IVec S16 32) : Prop :=
  (∀ a x, ((![v576] : Fin 1 → IVec S16 32) a x).toNat < S8192.size a)
theorem k9_idx69_inb : ∀ (v576 : IVec S16 32) (k9_hw69 : k9_chk69 v576), ∀ a x, ((![v576] : Fin 1 → IVec S16 32) a x).toNat < S8192.size a := fun v576 k9_hw69 => k9_hw69

def k9_chk70 (v580 : IVec S16 32) : Prop :=
  (∀ a x, ((![v580] : Fin 1 → IVec S16 32) a x).toNat < S8192.size a)
theorem k9_idx70_inb : ∀ (v580 : IVec S16 32) (k9_hw70 : k9_chk70 v580), ∀ a x, ((![v580] : Fin 1 → IVec S16 32) a x).toNat < S8192.size a := fun v580 k9_hw70 => k9_hw70

def k9_chk71 (v584 : IVec S16 32) : Prop :=
  (∀ a x, ((![v584] : Fin 1 → IVec S16 32) a x).toNat < S8192.size a)
theorem k9_idx71_inb : ∀ (v584 : IVec S16 32) (k9_hw71 : k9_chk71 v584), ∀ a x, ((![v584] : Fin 1 → IVec S16 32) a x).toNat < S8192.size a := fun v584 k9_hw71 => k9_hw71

def k9_chk72 (v588 : IVec S16 32) : Prop :=
  (∀ a x, ((![v588] : Fin 1 → IVec S16 32) a x).toNat < S8192.size a)
theorem k9_idx72_inb : ∀ (v588 : IVec S16 32) (k9_hw72 : k9_chk72 v588), ∀ a x, ((![v588] : Fin 1 → IVec S16 32) a x).toNat < S8192.size a := fun v588 k9_hw72 => k9_hw72

def k9_chk73 (v592 : IVec S16 32) : Prop :=
  (∀ a x, ((![v592] : Fin 1 → IVec S16 32) a x).toNat < S8192.size a)
theorem k9_idx73_inb : ∀ (v592 : IVec S16 32) (k9_hw73 : k9_chk73 v592), ∀ a x, ((![v592] : Fin 1 → IVec S16 32) a x).toNat < S8192.size a := fun v592 k9_hw73 => k9_hw73

def k9_chk74 (v596 : IVec S16 32) : Prop :=
  (∀ a x, ((![v596] : Fin 1 → IVec S16 32) a x).toNat < S8192.size a)
theorem k9_idx74_inb : ∀ (v596 : IVec S16 32) (k9_hw74 : k9_chk74 v596), ∀ a x, ((![v596] : Fin 1 → IVec S16 32) a x).toNat < S8192.size a := fun v596 k9_hw74 => k9_hw74

def k9_chk75 (v600 : IVec S16 32) : Prop :=
  (∀ a x, ((![v600] : Fin 1 → IVec S16 32) a x).toNat < S8192.size a)
theorem k9_idx75_inb : ∀ (v600 : IVec S16 32) (k9_hw75 : k9_chk75 v600), ∀ a x, ((![v600] : Fin 1 → IVec S16 32) a x).toNat < S8192.size a := fun v600 k9_hw75 => k9_hw75

def k9_chk76 (v604 : IVec S16 32) : Prop :=
  (∀ a x, ((![v604] : Fin 1 → IVec S16 32) a x).toNat < S8192.size a)
theorem k9_idx76_inb : ∀ (v604 : IVec S16 32) (k9_hw76 : k9_chk76 v604), ∀ a x, ((![v604] : Fin 1 → IVec S16 32) a x).toNat < S8192.size a := fun v604 k9_hw76 => k9_hw76

def k9_chk77 (v608 : IVec S16 32) : Prop :=
  (∀ a x, ((![v608] : Fin 1 → IVec S16 32) a x).toNat < S8192.size a)
theorem k9_idx77_inb : ∀ (v608 : IVec S16 32) (k9_hw77 : k9_chk77 v608), ∀ a x, ((![v608] : Fin 1 → IVec S16 32) a x).toNat < S8192.size a := fun v608 k9_hw77 => k9_hw77

def k9_chk78 (v612 : IVec S16 32) : Prop :=
  (∀ a x, ((![v612] : Fin 1 → IVec S16 32) a x).toNat < S8192.size a)
theorem k9_idx78_inb : ∀ (v612 : IVec S16 32) (k9_hw78 : k9_chk78 v612), ∀ a x, ((![v612] : Fin 1 → IVec S16 32) a x).toNat < S8192.size a := fun v612 k9_hw78 => k9_hw78

def k9_chk79 (v616 : IVec S16 32) : Prop :=
  (∀ a x, ((![v616] : Fin 1 → IVec S16 32) a x).toNat < S8192.size a)
theorem k9_idx79_inb : ∀ (v616 : IVec S16 32) (k9_hw79 : k9_chk79 v616), ∀ a x, ((![v616] : Fin 1 → IVec S16 32) a x).toNat < S8192.size a := fun v616 k9_hw79 => k9_hw79

def k9_chk80 (v620 : IVec S16 32) : Prop :=
  (∀ a x, ((![v620] : Fin 1 → IVec S16 32) a x).toNat < S8192.size a)
theorem k9_idx80_inb : ∀ (v620 : IVec S16 32) (k9_hw80 : k9_chk80 v620), ∀ a x, ((![v620] : Fin 1 → IVec S16 32) a x).toNat < S8192.size a := fun v620 k9_hw80 => k9_hw80

def k9_chk81 (v624 : IVec S16 32) : Prop :=
  (∀ a x, ((![v624] : Fin 1 → IVec S16 32) a x).toNat < S8192.size a)
theorem k9_idx81_inb : ∀ (v624 : IVec S16 32) (k9_hw81 : k9_chk81 v624), ∀ a x, ((![v624] : Fin 1 → IVec S16 32) a x).toNat < S8192.size a := fun v624 k9_hw81 => k9_hw81

def k9_chk82 (v628 : IVec S16 32) : Prop :=
  (∀ a x, ((![v628] : Fin 1 → IVec S16 32) a x).toNat < S8192.size a)
theorem k9_idx82_inb : ∀ (v628 : IVec S16 32) (k9_hw82 : k9_chk82 v628), ∀ a x, ((![v628] : Fin 1 → IVec S16 32) a x).toNat < S8192.size a := fun v628 k9_hw82 => k9_hw82

def k9_chk83 (v632 : IVec S16 32) : Prop :=
  (∀ a x, ((![v632] : Fin 1 → IVec S16 32) a x).toNat < S8192.size a)
theorem k9_idx83_inb : ∀ (v632 : IVec S16 32) (k9_hw83 : k9_chk83 v632), ∀ a x, ((![v632] : Fin 1 → IVec S16 32) a x).toNat < S8192.size a := fun v632 k9_hw83 => k9_hw83

def k9_chk84 (v636 : IVec S16 32) : Prop :=
  (∀ a x, ((![v636] : Fin 1 → IVec S16 32) a x).toNat < S8192.size a)
theorem k9_idx84_inb : ∀ (v636 : IVec S16 32) (k9_hw84 : k9_chk84 v636), ∀ a x, ((![v636] : Fin 1 → IVec S16 32) a x).toNat < S8192.size a := fun v636 k9_hw84 => k9_hw84

def k9_chk85 (v640 : IVec S16 32) : Prop :=
  (∀ a x, ((![v640] : Fin 1 → IVec S16 32) a x).toNat < S8192.size a)
theorem k9_idx85_inb : ∀ (v640 : IVec S16 32) (k9_hw85 : k9_chk85 v640), ∀ a x, ((![v640] : Fin 1 → IVec S16 32) a x).toNat < S8192.size a := fun v640 k9_hw85 => k9_hw85

def k9_chk86 (v644 : IVec S16 32) : Prop :=
  (∀ a x, ((![v644] : Fin 1 → IVec S16 32) a x).toNat < S8192.size a)
theorem k9_idx86_inb : ∀ (v644 : IVec S16 32) (k9_hw86 : k9_chk86 v644), ∀ a x, ((![v644] : Fin 1 → IVec S16 32) a x).toNat < S8192.size a := fun v644 k9_hw86 => k9_hw86

def k9_chk87 (v648 : IVec S16 32) : Prop :=
  (∀ a x, ((![v648] : Fin 1 → IVec S16 32) a x).toNat < S8192.size a)
theorem k9_idx87_inb : ∀ (v648 : IVec S16 32) (k9_hw87 : k9_chk87 v648), ∀ a x, ((![v648] : Fin 1 → IVec S16 32) a x).toNat < S8192.size a := fun v648 k9_hw87 => k9_hw87

def k9_chk88 (v652 : IVec S16 32) : Prop :=
  (∀ a x, ((![v652] : Fin 1 → IVec S16 32) a x).toNat < S8192.size a)
theorem k9_idx88_inb : ∀ (v652 : IVec S16 32) (k9_hw88 : k9_chk88 v652), ∀ a x, ((![v652] : Fin 1 → IVec S16 32) a x).toNat < S8192.size a := fun v652 k9_hw88 => k9_hw88

def k9_chk89 (v656 : IVec S16 32) : Prop :=
  (∀ a x, ((![v656] : Fin 1 → IVec S16 32) a x).toNat < S8192.size a)
theorem k9_idx89_inb : ∀ (v656 : IVec S16 32) (k9_hw89 : k9_chk89 v656), ∀ a x, ((![v656] : Fin 1 → IVec S16 32) a x).toNat < S8192.size a := fun v656 k9_hw89 => k9_hw89

def k9_chk90 (v660 : IVec S16 32) : Prop :=
  (∀ a x, ((![v660] : Fin 1 → IVec S16 32) a x).toNat < S8192.size a)
theorem k9_idx90_inb : ∀ (v660 : IVec S16 32) (k9_hw90 : k9_chk90 v660), ∀ a x, ((![v660] : Fin 1 → IVec S16 32) a x).toNat < S8192.size a := fun v660 k9_hw90 => k9_hw90

def k9_chk91 (v664 : IVec S16 32) : Prop :=
  (∀ a x, ((![v664] : Fin 1 → IVec S16 32) a x).toNat < S8192.size a)
theorem k9_idx91_inb : ∀ (v664 : IVec S16 32) (k9_hw91 : k9_chk91 v664), ∀ a x, ((![v664] : Fin 1 → IVec S16 32) a x).toNat < S8192.size a := fun v664 k9_hw91 => k9_hw91

def k9_chk92 (v668 : IVec S16 32) : Prop :=
  (∀ a x, ((![v668] : Fin 1 → IVec S16 32) a x).toNat < S8192.size a)
theorem k9_idx92_inb : ∀ (v668 : IVec S16 32) (k9_hw92 : k9_chk92 v668), ∀ a x, ((![v668] : Fin 1 → IVec S16 32) a x).toNat < S8192.size a := fun v668 k9_hw92 => k9_hw92

def k9_chk93 (v672 : IVec S16 32) : Prop :=
  (∀ a x, ((![v672] : Fin 1 → IVec S16 32) a x).toNat < S8192.size a)
theorem k9_idx93_inb : ∀ (v672 : IVec S16 32) (k9_hw93 : k9_chk93 v672), ∀ a x, ((![v672] : Fin 1 → IVec S16 32) a x).toNat < S8192.size a := fun v672 k9_hw93 => k9_hw93

def k9_chk94 (v676 : IVec S16 32) : Prop :=
  (∀ a x, ((![v676] : Fin 1 → IVec S16 32) a x).toNat < S8192.size a)
theorem k9_idx94_inb : ∀ (v676 : IVec S16 32) (k9_hw94 : k9_chk94 v676), ∀ a x, ((![v676] : Fin 1 → IVec S16 32) a x).toNat < S8192.size a := fun v676 k9_hw94 => k9_hw94

def k9_chk95 (v680 : IVec S16 32) : Prop :=
  (∀ a x, ((![v680] : Fin 1 → IVec S16 32) a x).toNat < S8192.size a)
theorem k9_idx95_inb : ∀ (v680 : IVec S16 32) (k9_hw95 : k9_chk95 v680), ∀ a x, ((![v680] : Fin 1 → IVec S16 32) a x).toNat < S8192.size a := fun v680 k9_hw95 => k9_hw95

def k9_chk96 (v684 : IVec S16 32) : Prop :=
  (∀ a x, ((![v684] : Fin 1 → IVec S16 32) a x).toNat < S8192.size a)
theorem k9_idx96_inb : ∀ (v684 : IVec S16 32) (k9_hw96 : k9_chk96 v684), ∀ a x, ((![v684] : Fin 1 → IVec S16 32) a x).toNat < S8192.size a := fun v684 k9_hw96 => k9_hw96

def k9_chk97 (v2227 : IVec S16 32) : Prop :=
  (∀ a x, ((![v2227] : Fin 1 → IVec S16 32) a x).toNat < S512.size a)
theorem k9_idx97_inb : ∀ (v2227 : IVec S16 32) (k9_hw97 : k9_chk97 v2227), ∀ a x, ((![v2227] : Fin 1 → IVec S16 32) a x).toNat < S512.size a := fun v2227 k9_hw97 => k9_hw97

def k9_chk98 (v2230 : IVec S16 32) : Prop :=
  (∀ a x, ((![v2230] : Fin 1 → IVec S16 32) a x).toNat < S512.size a)
theorem k9_idx98_inb : ∀ (v2230 : IVec S16 32) (k9_hw98 : k9_chk98 v2230), ∀ a x, ((![v2230] : Fin 1 → IVec S16 32) a x).toNat < S512.size a := fun v2230 k9_hw98 => k9_hw98

def k9_chk99 (v2232 : IVec S16 32) : Prop :=
  (∀ a x, ((![v2232] : Fin 1 → IVec S16 32) a x).toNat < S512.size a)
theorem k9_idx99_inb : ∀ (v2232 : IVec S16 32) (k9_hw99 : k9_chk99 v2232), ∀ a x, ((![v2232] : Fin 1 → IVec S16 32) a x).toNat < S512.size a := fun v2232 k9_hw99 => k9_hw99

def k9_chk100 (v2235 : IVec S16 32) : Prop :=
  (∀ a x, ((![v2235] : Fin 1 → IVec S16 32) a x).toNat < S512.size a)
theorem k9_idx100_inb : ∀ (v2235 : IVec S16 32) (k9_hw100 : k9_chk100 v2235), ∀ a x, ((![v2235] : Fin 1 → IVec S16 32) a x).toNat < S512.size a := fun v2235 k9_hw100 => k9_hw100

def k9_chk101 (v2237 : IVec S16 32) : Prop :=
  (∀ a x, ((![v2237] : Fin 1 → IVec S16 32) a x).toNat < S512.size a)
theorem k9_idx101_inb : ∀ (v2237 : IVec S16 32) (k9_hw101 : k9_chk101 v2237), ∀ a x, ((![v2237] : Fin 1 → IVec S16 32) a x).toNat < S512.size a := fun v2237 k9_hw101 => k9_hw101

def k9_chk102 (v2240 : IVec S16 32) : Prop :=
  (∀ a x, ((![v2240] : Fin 1 → IVec S16 32) a x).toNat < S512.size a)
theorem k9_idx102_inb : ∀ (v2240 : IVec S16 32) (k9_hw102 : k9_chk102 v2240), ∀ a x, ((![v2240] : Fin 1 → IVec S16 32) a x).toNat < S512.size a := fun v2240 k9_hw102 => k9_hw102

def k9_chk103 (v2242 : IVec S16 32) : Prop :=
  (∀ a x, ((![v2242] : Fin 1 → IVec S16 32) a x).toNat < S512.size a)
theorem k9_idx103_inb : ∀ (v2242 : IVec S16 32) (k9_hw103 : k9_chk103 v2242), ∀ a x, ((![v2242] : Fin 1 → IVec S16 32) a x).toNat < S512.size a := fun v2242 k9_hw103 => k9_hw103

def k9_chk104 (v2245 : IVec S16 32) : Prop :=
  (∀ a x, ((![v2245] : Fin 1 → IVec S16 32) a x).toNat < S512.size a)
theorem k9_idx104_inb : ∀ (v2245 : IVec S16 32) (k9_hw104 : k9_chk104 v2245), ∀ a x, ((![v2245] : Fin 1 → IVec S16 32) a x).toNat < S512.size a := fun v2245 k9_hw104 => k9_hw104

def k9_chk105 (v2247 : IVec S16 32) : Prop :=
  (∀ a x, ((![v2247] : Fin 1 → IVec S16 32) a x).toNat < S512.size a)
theorem k9_idx105_inb : ∀ (v2247 : IVec S16 32) (k9_hw105 : k9_chk105 v2247), ∀ a x, ((![v2247] : Fin 1 → IVec S16 32) a x).toNat < S512.size a := fun v2247 k9_hw105 => k9_hw105

def k9_chk106 (v2250 : IVec S16 32) : Prop :=
  (∀ a x, ((![v2250] : Fin 1 → IVec S16 32) a x).toNat < S512.size a)
theorem k9_idx106_inb : ∀ (v2250 : IVec S16 32) (k9_hw106 : k9_chk106 v2250), ∀ a x, ((![v2250] : Fin 1 → IVec S16 32) a x).toNat < S512.size a := fun v2250 k9_hw106 => k9_hw106

def k9_chk107 (v2252 : IVec S16 32) : Prop :=
  (∀ a x, ((![v2252] : Fin 1 → IVec S16 32) a x).toNat < S512.size a)
theorem k9_idx107_inb : ∀ (v2252 : IVec S16 32) (k9_hw107 : k9_chk107 v2252), ∀ a x, ((![v2252] : Fin 1 → IVec S16 32) a x).toNat < S512.size a := fun v2252 k9_hw107 => k9_hw107

def k9_chk108 (v2255 : IVec S16 32) : Prop :=
  (∀ a x, ((![v2255] : Fin 1 → IVec S16 32) a x).toNat < S512.size a)
theorem k9_idx108_inb : ∀ (v2255 : IVec S16 32) (k9_hw108 : k9_chk108 v2255), ∀ a x, ((![v2255] : Fin 1 → IVec S16 32) a x).toNat < S512.size a := fun v2255 k9_hw108 => k9_hw108

def k9_chk109 (v2257 : IVec S16 32) : Prop :=
  (∀ a x, ((![v2257] : Fin 1 → IVec S16 32) a x).toNat < S512.size a)
theorem k9_idx109_inb : ∀ (v2257 : IVec S16 32) (k9_hw109 : k9_chk109 v2257), ∀ a x, ((![v2257] : Fin 1 → IVec S16 32) a x).toNat < S512.size a := fun v2257 k9_hw109 => k9_hw109

def k9_chk110 (v2260 : IVec S16 32) : Prop :=
  (∀ a x, ((![v2260] : Fin 1 → IVec S16 32) a x).toNat < S512.size a)
theorem k9_idx110_inb : ∀ (v2260 : IVec S16 32) (k9_hw110 : k9_chk110 v2260), ∀ a x, ((![v2260] : Fin 1 → IVec S16 32) a x).toNat < S512.size a := fun v2260 k9_hw110 => k9_hw110

def k9_chk111 (v2262 : IVec S16 32) : Prop :=
  (∀ a x, ((![v2262] : Fin 1 → IVec S16 32) a x).toNat < S512.size a)
theorem k9_idx111_inb : ∀ (v2262 : IVec S16 32) (k9_hw111 : k9_chk111 v2262), ∀ a x, ((![v2262] : Fin 1 → IVec S16 32) a x).toNat < S512.size a := fun v2262 k9_hw111 => k9_hw111

def k9_chk112 (v2265 : IVec S16 32) : Prop :=
  (∀ a x, ((![v2265] : Fin 1 → IVec S16 32) a x).toNat < S512.size a)
theorem k9_idx112_inb : ∀ (v2265 : IVec S16 32) (k9_hw112 : k9_chk112 v2265), ∀ a x, ((![v2265] : Fin 1 → IVec S16 32) a x).toNat < S512.size a := fun v2265 k9_hw112 => k9_hw112
def k9_off2 (i : grid9.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c8_i32 : BitVec 32 := 8#32
  let v6 : BitVec 32 := Scalar.muli v2 c8_i32
  ![v6.toNat]
abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))
-- ==== ReferenceIdeal.lean ====
abbrev S16384x2048 : Shape := ⟨2, ![16384, 2048]⟩
abbrev S64x2048 : Shape := ⟨2, ![64, 2048]⟩
abbrev S2048x64 : Shape := ⟨2, ![2048, 64]⟩
abbrev S16384x64 : Shape := ⟨2, ![16384, 64]⟩
abbrev S_ : Shape := ⟨0, ![]⟩
abbrev S16384x8x8 : Shape := ⟨3, ![16384, 8, 8]⟩
abbrev S16384x8 : Shape := ⟨2, ![16384, 8]⟩
abbrev S16384x4 : Shape := ⟨2, ![16384, 4]⟩
abbrev S16384 : Shape := ⟨1, ![16384]⟩
abbrev S16384x1 : Shape := ⟨2, ![16384, 1]⟩
abbrev S16384x4x1 : Shape := ⟨3, ![16384, 4, 1]⟩
abbrev S16384x4x2 : Shape := ⟨3, ![16384, 4, 2]⟩
abbrev S16384x8x1 : Shape := ⟨3, ![16384, 8, 1]⟩
abbrev S1 : Shape := ⟨1, ![1]⟩
abbrev S1x1x1 : Shape := ⟨3, ![1, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S2048x64, .f32⟩
  | .hbm, ⟨3, _⟩ => ⟨S16384x64, .f32⟩
  | .hbm, ⟨4, _⟩ => ⟨S16384x64, .f32⟩
  | .hbm, ⟨5, _⟩ => ⟨S16384x64, .f32⟩
  | .hbm, ⟨6, _⟩ => ⟨S_, .f32⟩
  | .hbm, ⟨7, _⟩ => ⟨S16384x64, .f32⟩
  | .hbm, ⟨8, _⟩ => ⟨S16384x64, .f32⟩
  | .hbm, ⟨9, _⟩ => ⟨S_, .f32⟩
  | .hbm, ⟨10, _⟩ => ⟨S16384x64, .f32⟩
  | .hbm, ⟨11, _⟩ => ⟨S16384x64, .f32⟩
  | .hbm, ⟨12, _⟩ => ⟨S16384x8x8, .f32⟩
  | .hbm, ⟨13, _⟩ => ⟨S_, .f32⟩
  | .hbm, ⟨14, _⟩ => ⟨S16384x8, .f32⟩
  | .hbm, ⟨15, _⟩ => ⟨S16384x4, .f32⟩
  | .hbm, ⟨16, _⟩ => ⟨S16384x4, .i32⟩
  | .hbm, ⟨17, _⟩ => ⟨S_, .f32⟩
  | .hbm, ⟨18, _⟩ => ⟨S16384x8, .f32⟩
  | .hbm, ⟨19, _⟩ => ⟨S16384, .i32⟩
  | .hbm, ⟨20, _⟩ => ⟨S16384x1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S_, .i32⟩
  | .hbm, ⟨25, _⟩ => ⟨S16384x1, .i32⟩
  | .hbm, ⟨26, _⟩ => ⟨S16384x1, .i32⟩
  | .hbm, ⟨27, _⟩ => ⟨S16384x1, .i32⟩
  | .hbm, ⟨28, _⟩ => ⟨S_, .i32⟩
  | .hbm, ⟨29, _⟩ => ⟨S16384x4, .i32⟩
  | .hbm, ⟨30, _⟩ => ⟨S16384x4, .i1⟩
  | .hbm, ⟨31, _⟩ => ⟨S_, .i32⟩
  | .hbm, ⟨32, _⟩ => ⟨S16384x4, .i32⟩
  | .hbm, ⟨33, _⟩ => ⟨S16384x4, .i32⟩
  | .hbm, ⟨34, _⟩ => ⟨S16384x4, .i32⟩
  | .hbm, ⟨35, _⟩ => ⟨S16384x4, .i32⟩
  | .hbm, ⟨36, _⟩ => ⟨S16384x4x1, .i32⟩
  | .hbm, ⟨37, _⟩ => ⟨S16384x4x1, .i32⟩
  | .hbm, ⟨38, _⟩ => ⟨S16384x4x2, .i32⟩
  | .hbm, ⟨39, _⟩ => ⟨S_, .f32⟩
  | .hbm, ⟨40, _⟩ => ⟨S16384x4, .f32⟩
  | .hbm, ⟨41, _⟩ => ⟨S16384x8, .f32⟩
  | .hbm, ⟨42, _⟩ => ⟨S16384x8x1, .f32⟩
  | .hbm, ⟨43, _⟩ => ⟨S16384x8x8, .f32⟩
  | .hbm, ⟨44, _⟩ => ⟨S16384x8x8, .f32⟩
  | .hbm, ⟨45, _⟩ => ⟨S16384x64, .f32⟩
  | .hbm, ⟨46, _⟩ => ⟨S16384x8, .f32⟩
  | .hbm, ⟨47, _⟩ => ⟨S16384x8, .i32⟩
  | .hbm, ⟨48, _⟩ => ⟨S_, .i32⟩
  | .hbm, ⟨49, _⟩ => ⟨S16384x8, .i32⟩
  | .hbm, ⟨50, _⟩ => ⟨S16384x8, .i1⟩
  | .hbm, ⟨51, _⟩ => ⟨S_, .i32⟩
  | .hbm, ⟨52, _⟩ => ⟨S16384x8, .i32⟩
  | .hbm, ⟨53, _⟩ => ⟨S16384x8, .i32⟩
  | .hbm, ⟨54, _⟩ => ⟨S16384x8, .i32⟩
  | .hbm, ⟨55, _⟩ => ⟨S16384x8x1, .i32⟩
  | .hbm, ⟨56, _⟩ => ⟨S1, .i32⟩
  | .hbm, ⟨57, _⟩ => ⟨S_, .i32⟩
  | .hbm, ⟨58, _⟩ => ⟨S16384x8x1, .i32⟩
  | .hbm, ⟨59, _⟩ => ⟨S16384x8x1, .i1⟩
  | .hbm, ⟨60, _⟩ => ⟨S1x1x1, .i32⟩
  | .hbm, ⟨61, _⟩ => ⟨S16384x8x1, .i32⟩
  | .hbm, ⟨62, _⟩ => ⟨S16384x8x1, .i1⟩
  | .hbm, ⟨63, _⟩ => ⟨S16384x8x1, .i1⟩
  | .hbm, ⟨64, _⟩ => ⟨S_, .i1⟩
  | .hbm, ⟨65, _⟩ => ⟨S16384x8, .i1⟩
  | .hbm, ⟨66, _⟩ => ⟨S16384x8, .f32⟩
  | .hbm, ⟨67, _⟩ => ⟨S_, .f32⟩
  | .hbm, ⟨68, _⟩ => ⟨S16384x8, .f32⟩
  | .hbm, ⟨69, _⟩ => ⟨S16384x8, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S16384x8, .f32⟩
  | .hbm, ⟨74, _⟩ => ⟨S16384x8, .f32⟩
  | .hbm, ⟨75, _⟩ => ⟨S_, .f32⟩
  | .hbm, ⟨76, _⟩ => ⟨S16384x8, .f32⟩
  | .hbm, ⟨77, _⟩ => ⟨S16384x8, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_values : Ref sig .tc := ⟨.hbm, 15, rfl⟩
abbrev main_indices : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_values_7 : Ref sig .tc := ⟨.hbm, 46, rfl⟩
abbrev main_indices_8 : Ref sig .tc := ⟨.hbm, 47, rfl⟩
abbrev main_call0_c : Ref sig .tc := ⟨.hbm, 48, rfl⟩
abbrev main_call0_v0 : Ref sig .tc := ⟨.hbm, 49, rfl⟩
abbrev main_call0_v1 : Ref sig .tc := ⟨.hbm, 50, rfl⟩
abbrev main_call0_c_0 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_c_1 : Ref sig .tc := ⟨.hbm, 56, rfl⟩
abbrev main_call0_c_2 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_c_3 : Ref sig .tc := ⟨.hbm, 64, rfl⟩
abbrev main_call0_v12 : Ref sig .tc := ⟨.hbm, 65, rfl⟩
abbrev main_call0_v13 : Ref sig .tc := ⟨.hbm, 66, rfl⟩
abbrev main_call0_cst : Ref sig .tc := ⟨.hbm, 67, rfl⟩
abbrev main_call0_v14 : Ref sig .tc := ⟨.hbm, 68, rfl⟩
abbrev main_v33 : Ref sig .tc := ⟨.hbm, 69, rfl⟩
abbrev main_cst_9 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_10 : Ref sig .tc := ⟨.hbm, 75, rfl⟩
abbrev main_v38 : Ref sig .tc := ⟨.hbm, 76, rfl⟩
abbrev main_v39 : Ref sig .tc := ⟨.hbm, 77, rfl⟩

abbrev nD : Nat := 1
abbrev τ : Topo := Topo.v7x

variable {F : FTy → Type} [FloatOps F]
-- ==== Proof.Setup.lean ====
/-
  The program as the launch theorem sees it: its labels, its SparseCore configuration, its body table, and the resource algebra — the
  handshakes' rounds, the pipelines' rounds and the transfers' counters side by side.
-/
module

public import proofs.«01_k».proof.Defs
public import proofs.«01_k».proof.Proof.Gen.KernelIdeal
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Route

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type}

abbrev ΛP : Labels := Pipeline.Sig Λ₀ (Fin 5) fun p => (pcfgs (F := F) p).Adm
abbrev K : SparseCore.Cfg τ sig (ΛP (F := F)) 5 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The handshakes' rounds; the pipelines' rounds; all three algebras. -/
abbrev UH : Type := URounds (GSem nD τ sig) ℕ
abbrev UP : Type := URounds (GSem nD τ sig) Unit
abbrev UU : Type := UH × (UP × Counters)

/-- The machine's algebra. -/
abbrev MM (F : FTy → Type) : Type := MT nD τ sig (HIx 5) (Elt F) ℕ UU ℕ

abbrev EH : Emb UH (MM F) := embL
abbrev EP : Emb UP (MM F) := (Emb.inl : Emb UP (UP × Counters)).trans embR

example : CountersIn UU := inferInstance
instance EP_landsIn : (EP (F := F)).LandsIn (upEmb : UEmb _ (MM F)) := by unfold EP embR; infer_instance

end Cert.Proof.Route
-- ==== Proof.Score.lean ====
/-
  The score kernel: a block of 512 tokens against the 64 experts' weights, the logistic of the products, and 64 lanes of zeros beside them.
  The five calls run one text on different windows.
-/
module

public import proofs.«01_k».proof.Proof.Setup
public import proofs.«01_k».proof.Proof.Gen.KernelIdeal.Launch
public import proofs.«01_k».proof.Proof.Gen.KernelIdeal.Points
public import Idealize.ShloMosaic.Lib.Pipeline.RegionArrays
public import Idealize.ShloMosaic.Lib.Pipeline.ValueKit
public import Idealize.ShloMosaic.Lib.ValueIdxCore

@[expose] public section

noncomputable section

namespace Cert.Proof.Route

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F]

local notation "𝕄" => MM F

/-- A block's scores: 64 lanes of them, then 64 zeros. -/
def scoreBlk (x : Vec F S512x2048 .f32) (w : Vec F S64x2048 .f32) : Vec F S512x128 .f32 :=
  concatenate S512x128 1 [⟨S512x64, logistic (matmul dot_S512x2048_S64x2048_S512x64_1_1_0_0_n_n none x w (constant S512x64 .f32 0x00000000#32))⟩,
    ⟨S512x64, broadcast S512x64 (Scalar.ofBits .f32 0x00000000#32 : F .f32)⟩] concatenates_S512x64_S512x64_S512x128_d1

/-- The text the five calls share. -/
def scoreProg (a : Memref sig .tc .vmem S512x2048 .f32) (b : Memref sig .tc .vmem S64x2048 .f32) (o : Memref sig .tc .vmem S512x128 .f32) :
    Prog (TpuEff nD τ sig (Elt F) Λ₀ .tc) PUnit := do
  let x : Vec F S512x2048 .f32 ← Prog.lift (.load a (Rect.unit (s := S512x2048) ![0, 0] S512x2048.size inb_S512x2048_S512x2048_0_0).toLoadRect (View.loadsAt_vmem h_S512x2048))
  let w : Vec F S64x2048 .f32 ← Prog.lift (.load b (Rect.unit (s := S64x2048) ![0, 0] S64x2048.size inb_S64x2048_S64x2048_0_0).toLoadRect (View.loadsAt_vmem h_S64x2048))
  let _ : Vec F S512x128 .f32 ← Prog.lift (.load o (Rect.unit (s := S512x128) ![0, 0] S512x128.size inb_S512x128_S512x128_0_0).toLoadRect (View.loadsAt_vmem h_S512x128))
  Prog.lift (.store o (Rect.unit (s := S512x128) ![0, 0] S512x128.size inb_S512x128_S512x128_0_0) (scoreBlk x w) Finset.univ (View.stores_vmem_bits_univ h_S512x128 rfl) (.inl rfl))
  pure ⟨⟩

theorem body0_eq (t : Fin cfg0.N) : bodyAt0 (F := F) t = scoreProg (st0_0 t) (st0_1 t) (st0_2 t) := rfl
theorem body2_eq (t : Fin cfg2.N) : bodyAt2 (F := F) t = scoreProg (st2_0 t) (st2_1 t) (st2_2 t) := rfl
theorem body4_eq (t : Fin cfg4.N) : bodyAt4 (F := F) t = scoreProg (st4_0 t) (st4_1 t) (st4_2 t) := rfl
theorem body6_eq (t : Fin cfg6.N) : bodyAt6 (F := F) t = scoreProg (st6_0 t) (st6_1 t) (st6_2 t) := rfl
theorem body8_eq (t : Fin cfg8.N) : bodyAt8 (F := F) t = scoreProg (st8_0 t) (st8_1 t) (st8_2 t) := rfl

theorem unit_emb {s : Shape} {z : Fin s.rank → Nat} (hz : ∀ a, z a = 0) (h : ∀ a, z a + s.size a ≤ s.size a) (y : s.Idx) :
    (Rect.unit (s := s) z s.size h).emb y = y := by
  funext a; apply Fin.ext
  show z a + 1 * (y a).val = (y a).val
  rw [hz a]; omega

theorem zeros2 : ∀ a : Fin 2, (![0, 0] : Fin 2 → Nat) a = 0 := by decide

theorem read_unit {κ : Kind} {sp : Space} {s : Shape} {e : EltTy} (m : Memref sig κ sp s e) {z : Fin s.rank → Nat} (hz : ∀ a, z a = 0) (h : ∀ a, z a + s.size a ≤ s.size a)
    (f : m.view.ty.Contents (Elt F)) : (m.access (Rect.unit (s := s) z s.size h)).read (Elt F) f = m.view.read (Elt F) f := by
  funext y
  exact congrArg (m.view.read (Elt F) f) (unit_emb hz h y)

theorem acc_sub {κ : Kind} {sp : Space} {s : Shape} {e : EltTy} (m : Memref sig κ sp s e) (r : Rect s) : (m.access r).set ⊆ m.view.set :=
  (m.set_access_subset_setOn r).trans (m.view.setOn_subset_set _)

/-- A load of all of an owned reference. -/
theorem wp_loadAll {Λ : Labels} (defs : Defs nD τ sig (Elt F) Λ) (𝒱' : Variants) (c : Dev nD) {s : Shape} {e : EltTy} (m : Memref sig .tc .vmem s e) {z : Fin s.rank → Nat} (hz : ∀ a, z a = 0)
    (h : ∀ a, z a + s.size a ≤ s.size a) (hl : m.view.LoadsAt (Rect.unit (s := s) z s.size h).toLoadRect) (X : s.Idx → Elt F e) {α : Type} (k : (s.Idx → Elt F e) → Prog (TpuEff nD τ sig (Elt F) Λ .tc) α) (Q : α → sProp 𝕄) :
    (Idealize.ShloMosaic.owns (c : Thread nD τ) m fullShare X : sProp 𝕄)
      ⊢ iprop((Idealize.ShloMosaic.owns (c : Thread nD τ) m fullShare X -∗ wp (M := MM F) frame (wpE defs 𝒱' (c : Thread nD τ) none) Set.univ (k X) Q)
        -∗ wp (M := MM F) frame (wpE defs 𝒱' (c : Thread nD τ) none) Set.univ
            (.op (.load m (Rect.unit (s := s) z s.size h).toLoadRect hl) k) Q) := by
  unfold Idealize.ShloMosaic.owns
  iintro ⟨%f, %hf, Hf⟩ Hk
  iapply (wp_load_rect 𝒱' (c : Thread nD τ) none Set.univ (m := m) (r := Rect.unit (s := s) z s.size h) (f := f) (acc_sub m _)) $$ Hf
  iintro Hf
  rw [read_unit m hz, hf]
  iapply Hk
  iexists f; isplitr; · ipureintro; exact hf
  iexact Hf

/-- A store over all of an owned reference. -/
theorem wp_storeAll {Λ : Labels} (defs : Defs nD τ sig (Elt F) Λ) (𝒱' : Variants) (c : Dev nD) {s : Shape} {e : EltTy} (m : Memref sig .tc .vmem s e) {z : Fin s.rank → Nat} (hz : ∀ a, z a = 0)
    (h : ∀ a, z a + s.size a ≤ s.size a) (hx : (m.access (Rect.unit (s := s) z s.size h)).Stores Finset.univ)
    (hm : (Finset.univ : Finset (Rect.unit (s := s) z s.size h).shape.Idx) = Finset.univ ∨ ∀ a, (Rect.unit (s := s) z s.size h).stride a = 1) (X w : s.Idx → Elt F e) {α : Type} (k : PUnit → Prog (TpuEff nD τ sig (Elt F) Λ .tc) α) (Q : α → sProp 𝕄) :
    (Idealize.ShloMosaic.owns (c : Thread nD τ) m fullShare X : sProp 𝕄)
      ⊢ iprop((Idealize.ShloMosaic.owns (c : Thread nD τ) m fullShare w -∗ wp (M := MM F) frame (wpE defs 𝒱' (c : Thread nD τ) none) Set.univ (k ⟨⟩) Q)
        -∗ wp (M := MM F) frame (wpE defs 𝒱' (c : Thread nD τ) none) Set.univ
            (.op (.store m (Rect.unit (s := s) z s.size h) w Finset.univ hx hm) k) Q) := by
  unfold Idealize.ShloMosaic.owns
  iintro ⟨%f, -, Hf⟩ Hk
  iapply (wp_store 𝒱' (c : Thread nD τ) none Set.univ (m := m) (r := Rect.unit (s := s) z s.size h) (f := f) (acc_sub m _)) $$ Hf
  iintro Hf
  iapply Hk
  iexists _; isplitr
  rotate_left
  · iexact Hf
  ipureintro
  rw [← read_unit m hz h]
  exact View.read_write_univ _ _

/-- One run of the kernel. -/
theorem wp_score (c : Dev nD) (a : Memref sig .tc .vmem S512x2048 .f32) (b : Memref sig .tc .vmem S64x2048 .f32) (o : Memref sig .tc .vmem S512x128 .f32)
    (X : Vec F S512x2048 .f32) (W : Vec F S64x2048 .f32) (Z : Vec F S512x128 .f32) :
    (iprop(Idealize.ShloMosaic.owns (c : Thread nD τ) a fullShare X ∗ Idealize.ShloMosaic.owns (c : Thread nD τ) b fullShare W ∗ Idealize.ShloMosaic.owns (c : Thread nD τ) o fullShare Z) : sProp 𝕄)
      ⊢ wp (M := MM F) frame (wpE (defs₀ (F := F)) 𝒱₀ (c : Thread nD τ) none) Set.univ (scoreProg a b o) fun _ =>
        iprop(Idealize.ShloMosaic.owns (c : Thread nD τ) a fullShare X ∗ Idealize.ShloMosaic.owns (c : Thread nD τ) b fullShare W ∗ Idealize.ShloMosaic.owns (c : Thread nD τ) o fullShare (scoreBlk X W)) := by
  unfold scoreProg
  simp only [Prog.lift, Prog.bind_op, Prog.bind_ret, pure_bind]
  iintro ⟨Ha, Hb, Ho⟩
  iapply (wp_loadAll (defs₀ (F := F)) 𝒱₀ c a zeros2 inb_S512x2048_S512x2048_0_0 _ X _ _) $$ Ha
  iintro Ha
  iapply (wp_loadAll (defs₀ (F := F)) 𝒱₀ c b zeros2 inb_S64x2048_S64x2048_0_0 _ W _ _) $$ Hb
  iintro Hb
  iapply (wp_loadAll (defs₀ (F := F)) 𝒱₀ c o zeros2 inb_S512x128_S512x128_0_0 _ Z _ _) $$ Ho
  iintro Ho
  iapply (wp_storeAll (defs₀ (F := F)) 𝒱₀ c o zeros2 inb_S512x128_S512x128_0_0 _ _ Z (scoreBlk X W) _ _) $$ Ho
  iintro Ho
  rw [wp_pure]
  imodintro
  isplitl [Ha]; · iexact Ha
  isplitl [Hb] <;> iassumption

/-! ## One region, whichever its windows -/

/-- The body obligation from one run: the invariant and the debts constant, the two inputs found as they are left. -/
theorem obligation {cfg : Cfg sig Λ₀} {c : Dev nD} (dat : Dat τ (Elt F) (HIx 5) ℕ UU ℕ cfg c) (w0 w1 w2 : Fin cfg.W)
    (huniv : ∀ Φ : Fin cfg.W → sProp 𝕄, bigSep Finset.univ Φ = iprop(Φ w0 ∗ Φ w1 ∗ Φ w2)) (hidle : ∀ w i, cfg.idle w i = false)
    (hΦ : ∀ t, dat.Φ t = dat.Φ 0) (howed : ∀ t, dat.owesAt (none : HIx 5) t = dat.owesAt none 0)
    (h0 : ∀ t d, dat.before w0 t d = dat.after w0 t) (h1 : ∀ t d, dat.before w1 t d = dat.after w1 t)
    (run : ∀ t X, (iprop(Idealize.ShloMosaic.owns (c : Thread nD τ) ((cfg.win w0).stage (cfg.slots t w0)) fullShare (dat.after w0 t)
          ∗ Idealize.ShloMosaic.owns (c : Thread nD τ) ((cfg.win w1).stage (cfg.slots t w1)) fullShare (dat.after w1 t)
          ∗ Idealize.ShloMosaic.owns (c : Thread nD τ) ((cfg.win w2).stage (cfg.slots t w2)) fullShare X) : sProp 𝕄)
      ⊢ wp (M := MM F) frame (wpE (defs₀ (F := F)) 𝒱₀ (c : Thread nD τ) none) Set.univ (defs₀ (F := F) .tc cfg.body (cfg.bodyArgs t (cfg.slots t))) fun _ =>
        iprop(Idealize.ShloMosaic.owns (c : Thread nD τ) ((cfg.win w0).stage (cfg.slots t w0)) fullShare (dat.after w0 t)
          ∗ Idealize.ShloMosaic.owns (c : Thread nD τ) ((cfg.win w1).stage (cfg.slots t w1)) fullShare (dat.after w1 t)
          ∗ Idealize.ShloMosaic.owns (c : Thread nD τ) ((cfg.win w2).stage (cfg.slots t w2)) fullShare (dat.after w2 t))) :
    BodyObligation dat (defs₀ (F := F)) 𝒱₀ none Set.univ := fun t => by
  rw [huniv, huniv]
  simp only [hidle, h0, h1]
  rw [hΦ t.castSucc, hΦ t.succ, howed t.castSucc, howed t.succ]
  iintro ⟨HΦ, HO, ⟨%_, H0⟩, ⟨%_, H1⟩, ⟨%_, H2⟩⟩
  iapply (wp_wand_r frame _ Set.univ)
  isplitl [H0 H1 H2]
  · iapply (run t _)
    isplitl [H0]; · iexact H0
    isplitl [H1] <;> iassumption
  · iintro %_ ⟨H0, H1, H2⟩
    isplitl [HΦ]; · iexact HΦ
    isplitl [HO]; · iexact HO
    isplitl [H0]; · iexact H0
    isplitl [H1] <;> iassumption

/-! ## The five regions' data -/

/-- Row `r` of 16384, the last for a number past them. -/
abbrev row (r : Nat) : Fin 16384 := Fin.ofNat 16384 r
/-- Block `b` of the tokens. -/
def xBlk (x : S16384x2048.Idx → F .f32) (b : Nat) : Vec F S512x2048 .f32 := fun y => x (ix2 (row (512 * b + (y 0).val)) (y 1))
/-- Token `r`'s score at lane `l`. -/
def scoreAt (x : S16384x2048.Idx → F .f32) (w : S64x2048.Idx → F .f32) (r l : Nat) : F .f32 :=
  scoreBlk (xBlk x (r / 512)) w (ix2 (Fin.ofNat 512 r) (Fin.ofNat 128 l))

variable (V : Valuation τ sig (Elt F)) (O : Dev nD → CellTallies nD τ sig (HIx 5)) (β : ℕ)

/-- The windows' contents after the body, per call: the inputs' blocks in place, the scores of the block. -/
def aft : (p : Fin 5) → (c : Dev nD) → (w : Fin (cfgs p).W) → (t : Fin (cfgs p).N) → ((cfgs p).win w).block.Idx → Elt F ((cfgs p).win w).elt
  | 0, _ => fun
    | 0 => fun t => (win0_0.blk t).view.read (Elt F) (V (Proc.devRef .tc main_arg0))
    | 1 => fun t => (win0_1.blk t).view.read (Elt F) (V (Proc.devRef .tc main_arg1))
    | 2 => fun t => scoreBlk ((win0_0.blk t).view.read (Elt F) (V (Proc.devRef .tc main_arg0))) ((win0_1.blk t).view.read (Elt F) (V (Proc.devRef .tc main_arg1)))
    | ⟨_ + 3, h⟩ => absurd h (Nat.not_lt.2 (Nat.le_add_left _ _))
  | 1, _ => fun
    | 0 => fun t => (win2_0.blk t).view.read (Elt F) (V (Proc.devRef .tc main_arg0))
    | 1 => fun t => (win2_1.blk t).view.read (Elt F) (V (Proc.devRef .tc main_v1_0))
    | 2 => fun t => scoreBlk ((win2_0.blk t).view.read (Elt F) (V (Proc.devRef .tc main_arg0))) ((win2_1.blk t).view.read (Elt F) (V (Proc.devRef .tc main_v1_0)))
    | ⟨_ + 3, h⟩ => absurd h (Nat.not_lt.2 (Nat.le_add_left _ _))
  | 2, _ => fun
    | 0 => fun t => (win4_0.blk t).view.read (Elt F) (V (Proc.devRef .tc main_arg0))
    | 1 => fun t => (win4_1.blk t).view.read (Elt F) (V (Proc.devRef .tc main_v7_0))
    | 2 => fun t => scoreBlk ((win4_0.blk t).view.read (Elt F) (V (Proc.devRef .tc main_arg0))) ((win4_1.blk t).view.read (Elt F) (V (Proc.devRef .tc main_v7_0)))
    | ⟨_ + 3, h⟩ => absurd h (Nat.not_lt.2 (Nat.le_add_left _ _))
  | 3, _ => fun
    | 0 => fun t => (win6_0.blk t).view.read (Elt F) (V (Proc.devRef .tc main_arg0))
    | 1 => fun t => (win6_1.blk t).view.read (Elt F) (V (Proc.devRef .tc main_v13_0))
    | 2 => fun t => scoreBlk ((win6_0.blk t).view.read (Elt F) (V (Proc.devRef .tc main_arg0))) ((win6_1.blk t).view.read (Elt F) (V (Proc.devRef .tc main_v13_0)))
    | ⟨_ + 3, h⟩ => absurd h (Nat.not_lt.2 (Nat.le_add_left _ _))
  | 4, _ => fun
    | 0 => fun t => (win8_0.blk t).view.read (Elt F) (V (Proc.devRef .tc main_arg0))
    | 1 => fun t => (win8_1.blk t).view.read (Elt F) (V (Proc.devRef .tc main_v19_0))
    | 2 => fun t => scoreBlk ((win8_0.blk t).view.read (Elt F) (V (Proc.devRef .tc main_arg0))) ((win8_1.blk t).view.read (Elt F) (V (Proc.devRef .tc main_v19_0)))
    | ⟨_ + 3, h⟩ => absurd h (Nat.not_lt.2 (Nat.le_add_left _ _))

/-- No pipeline prefetches a table. -/
abbrev adm : (p : Fin 5) → (pcfgs (F := F) p).Adm := fun p => (cfgs p).toPCfg_adm

/-- The regions' data: entered at the valuation, owing what the thread owes, its recorded waits within a level. -/
def dats (p : Fin 5) (c : Dev nD) : Dat τ (Elt F) (HIx 5) ℕ UU ℕ (Pipeline.pin (pcfgs (F := F)) adm p) c where
  A w := V (Proc.devRef .tc (Pipeline.arrRef (cfgs p).spec w))
  after w t := aft V p c w t
  Φ _ := Pipeline.scopedRest (cfgs p).spec c
  q _ := fullShare
  owed _ := O c
  recorded _ := {r | (K (F := F)).lev ((c : Thread nD τ), r.1) r.2 ≤ β}

end Cert.Proof.Route
-- ==== Proof.Region.lean ====
/-
  The five score kernels as regions of the host program: what each finds, what each leaves, and the run of one from the host's side.
-/
module

public import proofs.«01_k».proof.Proof.Score

@[expose] public section

noncomputable section

namespace Cert.Proof.Route

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F]

local notation "𝕄" => MM F

variable (V : Valuation τ sig (Elt F)) (O : Dev nD → CellTallies nD τ sig (HIx 5)) (β : ℕ)

/-! ## The blocks -/

/-- Element `y` of block `b` of the tokens, as the windows place it. -/
theorem xBlk_at (x : S16384x2048.Idx → F .f32) {i : S16384x2048.Idx} {b : Nat} {y : S512x2048.Idx} (hb : b < 32)
    (h0 : (i 0).val = b * 512 + 1 * (y 0).val) (h1 : (i 1).val = 0 * 2048 + 1 * (y 1).val) : x i = xBlk x b y := by
  refine congrArg x (funext fun a => Fin.ext ?_)
  have := (y 0).isLt
  refine Fin.cases ?_ (Fin.cases ?_ (fun a => a.elim0)) a
  · show (i 0).val = (512 * b + (y 0).val) % 16384
    have : (y 0).val < 512 := (y 0).isLt
    omega
  · show (i 1).val = (y 1).val
    omega

/-- A whole weight window reads the weights. -/
theorem wBlk_at (w : S64x2048.Idx → F .f32) {i y : S64x2048.Idx} (h0 : (i 0).val = 0 * 64 + 1 * (y 0).val) (h1 : (i 1).val = 0 * 2048 + 1 * (y 1).val) :
    w i = w y := by
  refine congrArg w (funext fun a => Fin.ext ?_)
  refine Fin.cases ?_ (Fin.cases ?_ (fun a => a.elim0)) a
  · show (i 0).val = (y 0).val
    omega
  · show (i 1).val = (y 1).val
    omega

/-- The scores of block `b`, at the array's element. -/
theorem scoreAt_blk (x : S16384x2048.Idx → F .f32) (w : S64x2048.Idx → F .f32) {b n r l : Nat} (y : S512x128.Idx)
    (hr : r = n * 512 + 1 * (y 0).val) (hl : l = 0 * 128 + 1 * (y 1).val) :
    scoreBlk (xBlk x (b + n)) w y = scoreAt x w (512 * b + r) l := by
  have h0 : (y 0).val < 512 := (y 0).isLt
  have h1 : (y 1).val < 128 := (y 1).isLt
  unfold scoreAt
  rw [show (512 * b + r) / 512 = b + n by omega]
  refine congrArg (scoreBlk (xBlk x (b + n)) w) (funext fun a => Fin.ext ?_)
  refine Fin.cases ?_ (Fin.cases ?_ (fun a => a.elim0)) a
  · show (y 0).val = (512 * b + r) % 512
    omega
  · show (y 1).val = l % 128
    omega

theorem xblk0 (x : S16384x2048.Idx → F .f32) (t : Fin cfg0.N) : (win0_0.blk t).view.read (Elt F) x = xBlk x (0 + t.val) := by
  have h : ∀ t : Fin cfg0.N, win0_0.index t 0 = 0 + t.val ∧ win0_0.index t 1 = 0 ∧ 0 + t.val < 32 := by decide +kernel
  exact funext fun y => xBlk_at x (h t).2.2 ((h t).1 ▸ rfl) ((h t).2.1 ▸ rfl)
theorem wblk0 (w : S64x2048.Idx → F .f32) (t : Fin cfg0.N) : (win0_1.blk t).view.read (Elt F) w = w := by
  have h : ∀ t : Fin cfg0.N, win0_1.index t 0 = 0 ∧ win0_1.index t 1 = 0 := by decide +kernel
  exact funext fun y => wBlk_at w ((h t).1 ▸ rfl) ((h t).2 ▸ rfl)
theorem xblk1 (x : S16384x2048.Idx → F .f32) (t : Fin cfg2.N) : (win2_0.blk t).view.read (Elt F) x = xBlk x (8 + t.val) := by
  have h : ∀ t : Fin cfg2.N, win2_0.index t 0 = 8 + t.val ∧ win2_0.index t 1 = 0 ∧ 8 + t.val < 32 := by decide +kernel
  exact funext fun y => xBlk_at x (h t).2.2 ((h t).1 ▸ rfl) ((h t).2.1 ▸ rfl)
theorem wblk1 (w : S64x2048.Idx → F .f32) (t : Fin cfg2.N) : (win2_1.blk t).view.read (Elt F) w = w := by
  have h : ∀ t : Fin cfg2.N, win2_1.index t 0 = 0 ∧ win2_1.index t 1 = 0 := by decide +kernel
  exact funext fun y => wBlk_at w ((h t).1 ▸ rfl) ((h t).2 ▸ rfl)
theorem xblk2 (x : S16384x2048.Idx → F .f32) (t : Fin cfg4.N) : (win4_0.blk t).view.read (Elt F) x = xBlk x (16 + t.val) := by
  have h : ∀ t : Fin cfg4.N, win4_0.index t 0 = 16 + t.val ∧ win4_0.index t 1 = 0 ∧ 16 + t.val < 32 := by decide +kernel
  exact funext fun y => xBlk_at x (h t).2.2 ((h t).1 ▸ rfl) ((h t).2.1 ▸ rfl)
theorem wblk2 (w : S64x2048.Idx → F .f32) (t : Fin cfg4.N) : (win4_1.blk t).view.read (Elt F) w = w := by
  have h : ∀ t : Fin cfg4.N, win4_1.index t 0 = 0 ∧ win4_1.index t 1 = 0 := by decide +kernel
  exact funext fun y => wBlk_at w ((h t).1 ▸ rfl) ((h t).2 ▸ rfl)
theorem xblk3 (x : S16384x2048.Idx → F .f32) (t : Fin cfg6.N) : (win6_0.blk t).view.read (Elt F) x = xBlk x (24 + t.val) := by
  have h : ∀ t : Fin cfg6.N, win6_0.index t 0 = 24 + t.val ∧ win6_0.index t 1 = 0 ∧ 24 + t.val < 32 := by decide +kernel
  exact funext fun y => xBlk_at x (h t).2.2 ((h t).1 ▸ rfl) ((h t).2.1 ▸ rfl)
theorem wblk3 (w : S64x2048.Idx → F .f32) (t : Fin cfg6.N) : (win6_1.blk t).view.read (Elt F) w = w := by
  have h : ∀ t : Fin cfg6.N, win6_1.index t 0 = 0 ∧ win6_1.index t 1 = 0 := by decide +kernel
  exact funext fun y => wBlk_at w ((h t).1 ▸ rfl) ((h t).2 ▸ rfl)
theorem xblk4 (x : S16384x2048.Idx → F .f32) (t : Fin cfg8.N) : (win8_0.blk t).view.read (Elt F) x = xBlk x (28 + t.val) := by
  have h : ∀ t : Fin cfg8.N, win8_0.index t 0 = 28 + t.val ∧ win8_0.index t 1 = 0 ∧ 28 + t.val < 32 := by decide +kernel
  exact funext fun y => xBlk_at x (h t).2.2 ((h t).1 ▸ rfl) ((h t).2.1 ▸ rfl)
theorem wblk4 (w : S64x2048.Idx → F .f32) (t : Fin cfg8.N) : (win8_1.blk t).view.read (Elt F) w = w := by
  have h : ∀ t : Fin cfg8.N, win8_1.index t 0 = 0 ∧ win8_1.index t 1 = 0 := by decide +kernel
  exact funext fun y => wBlk_at w ((h t).1 ▸ rfl) ((h t).2 ▸ rfl)

/-! ## What a region leaves -/

/-- The scores a region writes, of the tokens from block `b`. -/
abbrev scores (n b : Nat) (x : S16384x2048.Idx → F .f32) (w : S64x2048.Idx → F .f32) : (Shape.mk 2 ![n, 128]).Idx → F .f32 :=
  fun i => scoreAt x w (512 * b + (i 0).val) (i 1).val

/-- The buffers after region `p`: its result's array written. -/
def left : Fin 5 → Valuation τ sig (Elt F)
  | 0 => Function.update V (Proc.devRef .tc main_v0) (scores 4096 0 (V (Proc.devRef .tc main_arg0)) (V (Proc.devRef .tc main_arg1)))
  | 1 => Function.update V (Proc.devRef .tc main_v6) (scores 4096 8 (V (Proc.devRef .tc main_arg0)) (V (Proc.devRef .tc main_v1_0)))
  | 2 => Function.update V (Proc.devRef .tc main_v12) (scores 4096 16 (V (Proc.devRef .tc main_arg0)) (V (Proc.devRef .tc main_v7_0)))
  | 3 => Function.update V (Proc.devRef .tc main_v18) (scores 2048 24 (V (Proc.devRef .tc main_arg0)) (V (Proc.devRef .tc main_v13_0)))
  | 4 => Function.update V (Proc.devRef .tc main_v24) (scores 2048 28 (V (Proc.devRef .tc main_arg0)) (V (Proc.devRef .tc main_v19_0)))

theorem out0 (c : Dev nD) (w : Fin cfg0.W) : (dats V O β 0 c).arrAt w cfg0.N = left V 0 (Proc.devRef .tc (Pipeline.arrRef cfg0.spec w)) :=
  match w with
  | 0 => ((dats V O β 0 c).arrAt_in 0 rfl _).trans (Function.update_of_ne (a := Proc.devRef .tc main_arg0) (a' := Proc.devRef .tc main_v0) (by decide) _ V).symm
  | 1 => ((dats V O β 0 c).arrAt_in 1 rfl _).trans (Function.update_of_ne (a := Proc.devRef .tc main_arg1) (a' := Proc.devRef .tc main_v0) (by decide) _ V).symm
  | 2 => by
    have h : ∀ t : Fin cfg0.N, win0_2.index t 0 = t.val ∧ win0_2.index t 1 = 0 := by decide +kernel
    show _ = Function.update V (Proc.devRef .tc main_v0) _ (Proc.devRef .tc main_v0)
    rw [Function.update_self]
    refine (dats V O β 0 c).arrAt_eq_of_covers 2 _ (by decide +kernel : (cfg0.win 2).Covers) fun t hf y => ?_
    show scoreBlk ((win0_0.blk t).view.read (Elt F) _) ((win0_1.blk t).view.read (Elt F) _) _ = _
    rw [xblk0, wblk0]
    refine scoreAt_blk (b := 0) (n := t.val) _ _ _ ?_ ?_
    · show win0_2.index t 0 * 512 + 1 * _ = _
      rw [(h t).1]
    · show win0_2.index t 1 * 128 + 1 * _ = _
      rw [(h t).2]
  | ⟨_ + 3, h⟩ => absurd h (Nat.not_lt.2 (Nat.le_add_left _ _))

theorem out1 (c : Dev nD) (w : Fin cfg2.W) : (dats V O β 1 c).arrAt w cfg2.N = left V 1 (Proc.devRef .tc (Pipeline.arrRef cfg2.spec w)) :=
  match w with
  | 0 => ((dats V O β 1 c).arrAt_in 0 rfl _).trans (Function.update_of_ne (a := Proc.devRef .tc main_arg0) (a' := Proc.devRef .tc main_v6) (by decide) _ V).symm
  | 1 => ((dats V O β 1 c).arrAt_in 1 rfl _).trans (Function.update_of_ne (a := Proc.devRef .tc main_v1_0) (a' := Proc.devRef .tc main_v6) (by decide) _ V).symm
  | 2 => by
    have h : ∀ t : Fin cfg2.N, win2_2.index t 0 = t.val ∧ win2_2.index t 1 = 0 := by decide +kernel
    show _ = Function.update V (Proc.devRef .tc main_v6) _ (Proc.devRef .tc main_v6)
    rw [Function.update_self]
    refine (dats V O β 1 c).arrAt_eq_of_covers 2 _ (by decide +kernel : (cfg2.win 2).Covers) fun t hf y => ?_
    show scoreBlk ((win2_0.blk t).view.read (Elt F) _) ((win2_1.blk t).view.read (Elt F) _) _ = _
    rw [xblk1, wblk1]
    refine scoreAt_blk (b := 8) (n := t.val) _ _ _ ?_ ?_
    · show win2_2.index t 0 * 512 + 1 * _ = _
      rw [(h t).1]
    · show win2_2.index t 1 * 128 + 1 * _ = _
      rw [(h t).2]
  | ⟨_ + 3, h⟩ => absurd h (Nat.not_lt.2 (Nat.le_add_left _ _))

theorem out2 (c : Dev nD) (w : Fin cfg4.W) : (dats V O β 2 c).arrAt w cfg4.N = left V 2 (Proc.devRef .tc (Pipeline.arrRef cfg4.spec w)) :=
  match w with
  | 0 => ((dats V O β 2 c).arrAt_in 0 rfl _).trans (Function.update_of_ne (a := Proc.devRef .tc main_arg0) (a' := Proc.devRef .tc main_v12) (by decide) _ V).symm
  | 1 => ((dats V O β 2 c).arrAt_in 1 rfl _).trans (Function.update_of_ne (a := Proc.devRef .tc main_v7_0) (a' := Proc.devRef .tc main_v12) (by decide) _ V).symm
  | 2 => by
    have h : ∀ t : Fin cfg4.N, win4_2.index t 0 = t.val ∧ win4_2.index t 1 = 0 := by decide +kernel
    show _ = Function.update V (Proc.devRef .tc main_v12) _ (Proc.devRef .tc main_v12)
    rw [Function.update_self]
    refine (dats V O β 2 c).arrAt_eq_of_covers 2 _ (by decide +kernel : (cfg4.win 2).Covers) fun t hf y => ?_
    show scoreBlk ((win4_0.blk t).view.read (Elt F) _) ((win4_1.blk t).view.read (Elt F) _) _ = _
    rw [xblk2, wblk2]
    refine scoreAt_blk (b := 16) (n := t.val) _ _ _ ?_ ?_
    · show win4_2.index t 0 * 512 + 1 * _ = _
      rw [(h t).1]
    · show win4_2.index t 1 * 128 + 1 * _ = _
      rw [(h t).2]
  | ⟨_ + 3, h⟩ => absurd h (Nat.not_lt.2 (Nat.le_add_left _ _))

theorem out3 (c : Dev nD) (w : Fin cfg6.W) : (dats V O β 3 c).arrAt w cfg6.N = left V 3 (Proc.devRef .tc (Pipeline.arrRef cfg6.spec w)) :=
  match w with
  | 0 => ((dats V O β 3 c).arrAt_in 0 rfl _).trans (Function.update_of_ne (a := Proc.devRef .tc main_arg0) (a' := Proc.devRef .tc main_v18) (by decide) _ V).symm
  | 1 => ((dats V O β 3 c).arrAt_in 1 rfl _).trans (Function.update_of_ne (a := Proc.devRef .tc main_v13_0) (a' := Proc.devRef .tc main_v18) (by decide) _ V).symm
  | 2 => by
    have h : ∀ t : Fin cfg6.N, win6_2.index t 0 = t.val ∧ win6_2.index t 1 = 0 := by decide +kernel
    show _ = Function.update V (Proc.devRef .tc main_v18) _ (Proc.devRef .tc main_v18)
    rw [Function.update_self]
    refine (dats V O β 3 c).arrAt_eq_of_covers 2 _ (by decide +kernel : (cfg6.win 2).Covers) fun t hf y => ?_
    show scoreBlk ((win6_0.blk t).view.read (Elt F) _) ((win6_1.blk t).view.read (Elt F) _) _ = _
    rw [xblk3, wblk3]
    refine scoreAt_blk (b := 24) (n := t.val) _ _ _ ?_ ?_
    · show win6_2.index t 0 * 512 + 1 * _ = _
      rw [(h t).1]
    · show win6_2.index t 1 * 128 + 1 * _ = _
      rw [(h t).2]
  | ⟨_ + 3, h⟩ => absurd h (Nat.not_lt.2 (Nat.le_add_left _ _))

theorem out4 (c : Dev nD) (w : Fin cfg8.W) : (dats V O β 4 c).arrAt w cfg8.N = left V 4 (Proc.devRef .tc (Pipeline.arrRef cfg8.spec w)) :=
  match w with
  | 0 => ((dats V O β 4 c).arrAt_in 0 rfl _).trans (Function.update_of_ne (a := Proc.devRef .tc main_arg0) (a' := Proc.devRef .tc main_v24) (by decide) _ V).symm
  | 1 => ((dats V O β 4 c).arrAt_in 1 rfl _).trans (Function.update_of_ne (a := Proc.devRef .tc main_v19_0) (a' := Proc.devRef .tc main_v24) (by decide) _ V).symm
  | 2 => by
    have h : ∀ t : Fin cfg8.N, win8_2.index t 0 = t.val ∧ win8_2.index t 1 = 0 := by decide +kernel
    show _ = Function.update V (Proc.devRef .tc main_v24) _ (Proc.devRef .tc main_v24)
    rw [Function.update_self]
    refine (dats V O β 4 c).arrAt_eq_of_covers 2 _ (by decide +kernel : (cfg8.win 2).Covers) fun t hf y => ?_
    show scoreBlk ((win8_0.blk t).view.read (Elt F) _) ((win8_1.blk t).view.read (Elt F) _) _ = _
    rw [xblk4, wblk4]
    refine scoreAt_blk (b := 28) (n := t.val) _ _ _ ?_ ?_
    · show win8_2.index t 0 * 512 + 1 * _ = _
      rw [(h t).1]
    · show win8_2.index t 1 * 128 + 1 * _ = _
      rw [(h t).2]
  | ⟨_ + 3, h⟩ => absurd h (Nat.not_lt.2 (Nat.le_add_left _ _))

/-! ## The bodies -/

theorem body0 (c : Dev nD) : BodyObligation (dats V O β 0 c) (defs₀ (F := F)) 𝒱₀ none Set.univ :=
  obligation (dats V O β 0 c) 0 1 2 (fun Φ => bigSep_W0 Φ) (fun _ _ => rfl) (fun _ => rfl) (fun _ => rfl)
    (fun t d => (dats V O β 0 c).before_in_eq_fetched 0 rfl (fun _ => rfl) (fun _ _ _ => rfl) (fun _ => rfl) t d)
    (fun t d => (dats V O β 0 c).before_in_eq_fetched 1 rfl (fun _ => rfl) (fun _ _ _ => rfl) (fun _ => rfl) t d)
    fun t X => wp_score c (st0_0 t) (st0_1 t) (st0_2 t) _ _ X

theorem body1 (c : Dev nD) : BodyObligation (dats V O β 1 c) (defs₀ (F := F)) 𝒱₀ none Set.univ :=
  obligation (dats V O β 1 c) 0 1 2 (fun Φ => bigSep_W2 Φ) (fun _ _ => rfl) (fun _ => rfl) (fun _ => rfl)
    (fun t d => (dats V O β 1 c).before_in_eq_fetched 0 rfl (fun _ => rfl) (fun _ _ _ => rfl) (fun _ => rfl) t d)
    (fun t d => (dats V O β 1 c).before_in_eq_fetched 1 rfl (fun _ => rfl) (fun _ _ _ => rfl) (fun _ => rfl) t d)
    fun t X => wp_score c (st2_0 t) (st2_1 t) (st2_2 t) _ _ X

theorem body2 (c : Dev nD) : BodyObligation (dats V O β 2 c) (defs₀ (F := F)) 𝒱₀ none Set.univ :=
  obligation (dats V O β 2 c) 0 1 2 (fun Φ => bigSep_W4 Φ) (fun _ _ => rfl) (fun _ => rfl) (fun _ => rfl)
    (fun t d => (dats V O β 2 c).before_in_eq_fetched 0 rfl (fun _ => rfl) (fun _ _ _ => rfl) (fun _ => rfl) t d)
    (fun t d => (dats V O β 2 c).before_in_eq_fetched 1 rfl (fun _ => rfl) (fun _ _ _ => rfl) (fun _ => rfl) t d)
    fun t X => wp_score c (st4_0 t) (st4_1 t) (st4_2 t) _ _ X

theorem body3 (c : Dev nD) : BodyObligation (dats V O β 3 c) (defs₀ (F := F)) 𝒱₀ none Set.univ :=
  obligation (dats V O β 3 c) 0 1 2 (fun Φ => bigSep_W6 Φ) (fun _ _ => rfl) (fun _ => rfl) (fun _ => rfl)
    (fun t d => (dats V O β 3 c).before_in_eq_fetched 0 rfl (fun _ => rfl) (fun _ _ _ => rfl) (fun _ => rfl) t d)
    (fun t d => (dats V O β 3 c).before_in_eq_fetched 1 rfl (fun _ => rfl) (fun _ _ _ => rfl) (fun _ => rfl) t d)
    fun t X => wp_score c (st6_0 t) (st6_1 t) (st6_2 t) _ _ X

theorem body4 (c : Dev nD) : BodyObligation (dats V O β 4 c) (defs₀ (F := F)) 𝒱₀ none Set.univ :=
  obligation (dats V O β 4 c) 0 1 2 (fun Φ => bigSep_W8 Φ) (fun _ _ => rfl) (fun _ => rfl) (fun _ => rfl)
    (fun t d => (dats V O β 4 c).before_in_eq_fetched 0 rfl (fun _ => rfl) (fun _ _ _ => rfl) (fun _ => rfl) t d)
    (fun t d => (dats V O β 4 c).before_in_eq_fetched 1 rfl (fun _ => rfl) (fun _ _ _ => rfl) (fun _ => rfl) t d)
    fun t X => wp_score c (st8_0 t) (st8_1 t) (st8_2 t) _ _ X

/-! ## The regions from the host's side -/

/-- The host's debts sit at calls' indices. -/
theorem Otc_none (d : Dev nD) (n : ℕ) (g : GSem nD τ sig) : (K (F := F)).Otc (N := 5) d n g none = 0 := by
  unfold SparseCore.Cfg.Otc
  rw [Finset.sum_apply, Finsupp.finsetSum_apply]
  refine Finset.sum_eq_zero fun q _ => ?_
  split
  · rw [Finset.sum_apply, Finsupp.finsetSum_apply]
    refine Finset.sum_eq_zero fun c _ => ?_
    rw [tallyAt_apply]
    exact if_neg fun h => nomatch h.2
  · rfl

/-- The host thread's debts before call `n`, with what it has waited for. -/
abbrev debts (d : Dev nD) (n β : ℕ) : sProp 𝕄 :=
  iprop(∃ W, ⌜(K (F := F)).WBelow (T d) W β⌝ ∗ owes (T d : Thread nD τ) ((K (F := F)).Otc (N := 5) d n) W)

/-- Region `p` between two host operations: its windows' arrays held, the thread's debts beside them. -/
def seg (n : ℕ) (p : Fin 5) (kit : Pipeline.PLaunchFacts (nD := nD) (τ := τ) (pcfgs (F := F)) p)
    (hbody : ∀ c, BodyObligation (dats V ((K (F := F)).Otc · n) β p c) (defs₀ (F := F)) 𝒱₀ none Set.univ)
    (hout : ∀ c w, (dats V ((K (F := F)).Otc · n) β p c).arrAt w (cfgs p).N = left V p (Proc.devRef .tc (Pipeline.arrRef (cfgs p).spec w))) :
    Pipeline.RegionSeg (pcfgs (F := F)) adm (dats V ((K (F := F)).Otc · n) β) none defs₀ 𝒱₀ (K (F := F)).L (K (F := F)).lev p where
  win := kit.to₀.win
  block_pos := kit.to₀.block_pos
  stage_whole := kit.to₀.stage_whole
  K := PEmpty
  osem k := k.elim
  ho := Pipeline.OwnSemFacts.none _
  hbody c := (hbody c).loose
  hwaits c := Pipeline.cellsWaits_of_cut (Pipeline.pin (pcfgs (F := F)) adm) (dats V ((K (F := F)).Otc · n) β) none p c 0 ((K (F := F)).Otc c n)
    (fun _ => rfl) (fun _ _ => Finset.mem_univ _) (fun _ _ => le_refl _) fun g i h => ⟨Finset.mem_univ _, by
      cases i with
      | none => exact absurd (Otc_none c n g) (Nat.pos_iff_ne_zero.mp h)
      | some q => exact (K (F := F)).lev_some_pos g q⟩
  pre c := iprop(StableHlo.held (c.tc : Thread nD τ) (Pipeline.arrRefs (cfgs p).spec) V ∗ debts c n β)
  post c := iprop(StableHlo.held (c.tc : Thread nD τ) (Pipeline.arrRefs (cfgs p).spec) (left V p) ∗ debts c n β)
  X _ := iprop(emp)
  Y _ := iprop(emp)
  Z _ := iprop(emp)
  hentry c := by
    rw [Pipeline.ownSems0_none, Pipeline.prefHeld_of_none _ rfl,
      ← Pipeline.arrays_held (pcfgs (F := F)) adm (dats V ((K (F := F)).Otc · n) β) p kit c (fun w => by unfold Dat.share; split <;> rfl)
        ((dats V ((K (F := F)).Otc · n) β p c).arrAt · 0) V (fun _ => rfl)]
    iintro ⟨⟨Ha, %W, %hW, HO⟩, -, -⟩
    imodintro
    isplitl [Ha]; · iexact Ha
    isplitr; · iempintro
    isplitl [HO]
    · iexists W; isplitr; · ipureintro; exact fun r hr => Or.inl (hW r hr)
      iexact HO
    isplitl <;> iempintro
  hin c := (show _ ⊢ Pipeline.scopedRest (cfgs p).spec c from by
    iintro ⟨-, -, Hr⟩
    iexact Hr)
  hout c := (show Pipeline.scopedRest (cfgs p).spec c ⊢ _ from by
    rw [Pipeline.ownSems0_none]
    iintro Hr
    isplitr; · iempintro
    isplitr; · iempintro
    iexact Hr)
  hexit c := by
    rw [← Pipeline.arrays_held (pcfgs (F := F)) adm (dats V ((K (F := F)).Otc · n) β) p kit c (fun w => by unfold Dat.share; split <;> rfl)
        ((dats V ((K (F := F)).Otc · n) β p c).arrAt · (cfgs p).N) (left V p) (hout c)]
    iintro ⟨Ha, ⟨%W, %hW, HO⟩, -, -⟩
    imodintro
    isplitl [Ha]; · iexact Ha
    iexists W
    isplitr
    · ipureintro
      intro r hr
      rcases hW hr with h | ⟨w, s, rfl⟩
      · exact h
      · exact Nat.zero_le _
    iexact HO

/-- The pipelines' ghost state a region is entered with. -/
abbrev ghost (p : Fin 5) (c : Dev nD) : sProp 𝕄 :=
  iprop(Pipeline.cellsGhost (Pipeline.pin (pcfgs (F := F)) adm) EP p c ∗ Pipeline.toksInit (Pipeline.pin (pcfgs (F := F)) adm) EP p c)

/-- Region `p` run by the host between calls. -/
theorem wp_region (n : ℕ) (p : Fin 5) (kit : Pipeline.PLaunchFacts (nD := nD) (τ := τ) (pcfgs (F := F)) p)
    (hbody : ∀ c, BodyObligation (dats V ((K (F := F)).Otc · n) β p c) (defs₀ (F := F)) 𝒱₀ none Set.univ)
    (hout : ∀ c w, (dats V ((K (F := F)).Otc · n) β p c).arrAt w (cfgs p).N = left V p (Proc.devRef .tc (Pipeline.arrRef (cfgs p).spec w))) (d : Dev nD) :
    (iprop(levAts (K (F := F)).L (K (F := F)).lev ∗ boundary (T d : Thread nD τ) ∗ StableHlo.held (T d : Thread nD τ) (Pipeline.arrRefs (cfgs p).spec) V
        ∗ debts d n β ∗ ghost p d) : sProp 𝕄)
      ⊢ wp (M := MM F) frame (wpE ((K (F := F)).defs (D (F := F))) 𝒱 (T d) none) Set.univ
          (Prog.lift (.customCall (SparseCore.inner (Pipeline.entry p)) ()) : Prog (TpuEff nD τ sig (Elt F) _ .tc) PUnit) fun _ =>
        iprop(boundary (T d : Thread nD τ) ∗ StableHlo.held (T d : Thread nD τ) (Pipeline.arrRefs (cfgs p).spec) (left V p) ∗ debts d n β) := by
  refine BI.Entails.trans ?_ ((K (F := F)).wp_liftProg (D := D (F := F)) (𝒱 := 𝒱) (T d) Set.univ none (.op (.customCall (Pipeline.entry p) ()) Prog.ret) _)
  refine BI.Entails.trans ?_ (Pipeline.RegionSeg.wp (pcfgs (F := F)) adm (dats V ((K (F := F)).Otc · n) β) none cellOf_inj EP defs₀ 𝒱₀
    (K (F := F)).L (K (F := F)).lev (seg V β n p kit hbody hout) d none (fun _ h => nomatch h) _ _)
  show (_ : sProp 𝕄) ⊢ iprop((iprop(boundary (T d : Thread nD τ) ∗ StableHlo.held (T d : Thread nD τ) (Pipeline.arrRefs (cfgs p).spec) (left V p) ∗ debts d n β) -∗ _)
    ∗ boundary (T d : Thread nD τ) ∗ iprop(StableHlo.held (T d : Thread nD τ) (Pipeline.arrRefs (cfgs p).spec) V ∗ debts d n β) ∗ _)
  iintro ⟨Hl, Hb, Hh, HO, Hg, Ht⟩
  isplitr
  · iintro ⟨Hb, Hh, HO⟩
    rw [wp_ret]
    imodintro
    isplitl [Hb]; · iexact Hb
    isplitl [Hh] <;> iassumption
  isplitl [Hb]; · iexact Hb
  isplitl [Hh HO]
  · isplitl [Hh] <;> iassumption
  isplitl [Hl]; · iexact Hl
  isplitl [Hg] <;> iassumption

end Cert.Proof.Route
-- ==== Proof.Route.lean ====
/-
  The text of one trip of a tile's loop, written once. The printed body of a tile's trip is some 2,600 statements; it is, by definition,
  `trip` below: gather the sixty-four scores of sixteen tokens, reduce each group of eight to its maximum, pick four groups, gather their
  thirty-two scores, pick eight of them, normalise, and scatter the weights and the indices.
-/
module

public import proofs.«01_k».proof.Defs
public import proofs.«01_k».proof.Proof.Gen.KernelIdeal

@[expose] public section

noncomputable section

namespace Cert.Proof.Route

open Cert.KernelIdeal
open Idealize.ShloMosaic
open Idealize.SL.Sem (Prog)

variable {F : FTy → Type} [FloatOps F]

/-- Sixteen lanes of scores, and sixteen lanes of words. -/
abbrev FV (F : FTy → Type) : Type := FVec F S16 .f32
abbrev IV : Type := IVec S16 32

abbrev bc (n : BitVec 32) : IV := broadcast S16 n

/-- The words 0 … 7. -/
def w8 : List (BitVec 32) := [0#32, 1#32, 2#32, 3#32, 4#32, 5#32, 6#32, 7#32]
/-- The words 0 … 63. -/
def w64 : List (BitVec 32) :=
  [0#32, 1#32, 2#32, 3#32, 4#32, 5#32, 6#32, 7#32, 8#32, 9#32, 10#32, 11#32, 12#32, 13#32, 14#32, 15#32,
   16#32, 17#32, 18#32, 19#32, 20#32, 21#32, 22#32, 23#32, 24#32, 25#32, 26#32, 27#32, 28#32, 29#32, 30#32, 31#32,
   32#32, 33#32, 34#32, 35#32, 36#32, 37#32, 38#32, 39#32, 40#32, 41#32, 42#32, 43#32, 44#32, 45#32, 46#32, 47#32,
   48#32, 49#32, 50#32, 51#32, 52#32, 53#32, 54#32, 55#32, 56#32, 57#32, 58#32, 59#32, 60#32, 61#32, 62#32, 63#32]

/-- Neighbours reduced in pairs. -/
def pairMax : List (FV F) → List (FV F)
  | a :: b :: l => maximumf a b :: pairMax l
  | l => l
/-- A list of `2 ^ n` vectors reduced to one by `n` rounds of pairs. -/
def treeMax : Nat → List (FV F) → FV F
  | 0, l => l.headD (broadcast S16 (Scalar.ofBits .f32 0#32))
  | n + 1, l => treeMax n (pairMax l)

/-- Consecutive blocks of eight, each reduced to its maximum. -/
def groupMax : List (FV F) → List (FV F)
  | a :: b :: c :: d :: e :: f :: g :: h :: l => treeMax 3 [a, b, c, d, e, f, g, h] :: groupMax l
  | _ => []

/-- The lowest of the words `cs` whose vector in `vs` equals `cur`, lane by lane; `big` where none does. -/
def lowest (big : IV) (cur : FV F) : List IV → List (FV F) → IV → IV
  | c :: cs, v :: vs, acc => lowest big cur cs vs (minsi acc (select (cmpf .oeq v cur) c big))
  | _, _, acc => acc

/-- `vs` with -1 in the lanes where the word of `cs` is the one chosen. -/
def dropped (eq : IV → IVec S16 1) (neg1 : FV F) : List IV → List (FV F) → List (FV F)
  | c :: cs, v :: vs => select (eq c) neg1 v :: dropped eq neg1 cs vs
  | _, _ => []

/-- The eight candidates a choice of group `g` brings. -/
def colsOf (g : IV) : List IV := w8.map fun j => addi g (bc j)

section Prog

variable {c : Fin τ.nSC} {s : Fin τ.nSub} {d : Fin 1 → Nat}

/-- A program of vector subcore `(c, s)`. -/
abbrev PR (F : FTy → Type) (c : Fin τ.nSC) (s : Fin τ.nSub) : Type _ := Prog (TpuEff nD τ sig (Elt F) Λ₀ (.scVector c s)) PUnit

/-- Every lane's word is inside the buffer. -/
def chk (d : Fin 1 → Nat) (v : IV) : Prop := ∀ a x, ((![v] : Fin 1 → IVec S16 32) a x).toNat < (⟨1, d⟩ : Shape).size a
instance chk.dec (d : Fin 1 → Nat) (v : IV) : Decidable (chk d v) := decidable_of_iff' _ (Iff.of_eq (chk.eq_1 d v))

/-- The vectors at the words `vs` gathered from `A`, in order, and passed on. -/
def gathers (A : Memref sig .scVector .vmem ⟨1, d⟩ .f32) (hA : A.view.Loads) : List IV → (List (FV F) → PR F c s) → PR F c s
  | [], k => k []
  | v :: vs, k => Prog.op (.assume (chk d v) (chk.dec d v)) fun h =>
      Prog.op (.load A (.whole ⟨1, d⟩) (View.loadsAt_whole hA)) fun f =>
        gathers A hA vs fun xs => k ((loadIdx (F := F) (e := .f32) f ![v] h.down : Vec F S16 .f32) :: xs)

/-- One vector scattered into `A` at the words `v`. -/
def scatter {e : EltTy} (A : Memref sig .scVector .vmem ⟨1, d⟩ e) (hA : (A.access (.whole ⟨1, d⟩)).Stores Finset.univ) (v : IV) (x : Vec F S16 e) (k : PR F c s) : PR F c s :=
  Prog.op (.assume (chk d v) (chk.dec d v)) fun h =>
    Prog.op (.load A (.whole ⟨1, d⟩) (View.loadsAt_rect hA.loads)) fun f =>
    Prog.op (.store A (.whole ⟨1, d⟩) (storeIdx f ![v] x (fun _ => 1#1) false h.down) Finset.univ hA (.inl rfl)) fun _ => k

/-- The weights and indices scattered, one pair of vectors after the other. -/
def scatters (A : Memref sig .scVector .vmem ⟨1, d⟩ .f32) (hA : (A.access (.whole ⟨1, d⟩)).Stores Finset.univ)
    (B : Memref sig .scVector .vmem ⟨1, d⟩ .i32) (hB : (B.access (.whole ⟨1, d⟩)).Stores Finset.univ) (tok8 : IV) :
    List (BitVec 32) → List (FV F) → List IV → PR F c s
  | k :: ks, x :: xs, i :: is => scatter A hA (addi tok8 (bc k)) x (scatter B hB (addi tok8 (bc k)) i (scatters A hA B hB tok8 ks xs is))
  | _, _, _ => Prog.ret ⟨⟩

/-- `n` choices among the groups: each choice's word times eight, in order. -/
def pickGroups (neg1 : FV F) : Nat → List (FV F) → (List IV → PR F c s) → PR F c s
  | 0, _, k => k []
  | n + 1, work, k =>
      let cur := treeMax 3 work
      let gidx := lowest (bc 8#32) cur (w8.map bc) work (bc 8#32)
      pickGroups neg1 n (dropped (fun g => cmpi .eq gidx g) neg1 (w8.map bc) work) fun gs => k (muli gidx (bc 8#32) :: gs)

/-- `n` choices among the candidates: the scores and the indices chosen, in order. -/
def pickExperts (neg1 : FV F) (cols : List IV) : Nat → List (FV F) → (List (FV F) → List IV → PR F c s) → PR F c s
  | 0, _, k => k [] []
  | n + 1, cands, k =>
      let cur := treeMax 5 cands
      let idx := lowest (bc 64#32) cur cols cands (bc 64#32)
      pickExperts neg1 cols n (dropped (fun g => cmpi .eq g idx) neg1 cols cands) fun ws is => k (cur :: ws) (idx :: is)

/-- 2.5 over the sum of the eight scores. -/
def scaleOf : List (FV F) → FV F
  | [a, b, c, d, e, f, g, h] =>
      divf (broadcast S16 (Scalar.ofBits .f32 0x40200000#32)) (addf (addf (addf a b) (addf c d)) (addf (addf e f) (addf g h)))
  | _ => broadcast S16 (Scalar.ofBits .f32 0#32)

variable {dA dB : Fin 1 → Nat}

/-- One trip: sixteen tokens, `iv` the trip's number. -/
def trip (A : Memref sig .scVector .vmem ⟨1, dA⟩ .f32) (hA : A.view.Loads)
    (B : Memref sig .scVector .vmem ⟨1, dB⟩ .f32) (hB : (B.access (.whole ⟨1, dB⟩)).Stores Finset.univ)
    (C : Memref sig .scVector .vmem ⟨1, dB⟩ .i32) (hC : (C.access (.whole ⟨1, dB⟩)).Stores Finset.univ) (lanes : IV) (iv : BitVec 32) : PR F c s :=
  let tok := addi (bc (Scalar.muli iv 16#32)) lanes
  let row := muli tok (bc 128#32)
  let neg1 : FV F := broadcast S16 (Scalar.ofBits .f32 0xBF800000#32)
  gathers A hA (w64.map fun e => addi row (bc e)) fun ss =>
  pickGroups neg1 4 (groupMax ss) fun gs =>
  let cols := gs.flatMap colsOf
  gathers A hA (cols.map fun c => addi row c) fun cands =>
  pickExperts neg1 cols 8 cands fun ws is =>
  scatters B hB C hC (muli tok (bc 8#32)) w8 (ws.map fun w => mulf w (scaleOf ws)) is

/-- A tile's whole task: its part of the scores copied in, a trip for each sixteen tokens, the weights and the indices copied out. -/
def tile {dX dO : Fin 1 → Nat} (X : Memref sig .scVector .hbm ⟨1, dX⟩ .f32) (Y : Memref sig .scVector .hbm ⟨1, dO⟩ .f32) (Z : Memref sig .scVector .hbm ⟨1, dO⟩ .i32)
    (A : Memref sig .scVector .vmem ⟨1, dA⟩ .f32) (aA : A.IsWhole) (hA : A.view.Loads)
    (B : Memref sig .scVector .vmem ⟨1, dB⟩ .f32) (aB : B.IsWhole) (hB : (B.access (.whole ⟨1, dB⟩)).Stores Finset.univ)
    (C : Memref sig .scVector .vmem ⟨1, dB⟩ .i32) (aC : C.IsWhole) (hC : (C.access (.whole ⟨1, dB⟩)).Stores Finset.univ)
    (lanes : IV) (r0 r1 r2 : DmaSems sig S_) (off1 off2 : Fin 1 → Nat)
    (o1 : ∀ a, off1 a + (⟨1, dA⟩ : Shape).size a ≤ (⟨1, dX⟩ : Shape).size a) (o2 : ∀ a, off2 a + (⟨1, dB⟩ : Shape).size a ≤ (⟨1, dO⟩ : Shape).size a)
    (ub : BitVec 32) (ok : (⟨0#32, ub, 1#32⟩ : Scf.Loop 32).OK) : PR F c s := do
  let x := X.slice (Rect.unit (s := ⟨1, dX⟩) off1 (⟨1, dA⟩ : Shape).size o1) (fun _ => rfl)
  let y := Y.slice (Rect.unit (s := ⟨1, dO⟩) off2 (⟨1, dB⟩ : Shape).size o2) (fun _ => rfl)
  let z := Z.slice (Rect.unit (s := ⟨1, dO⟩) off2 (⟨1, dB⟩ : Shape).size o2) (fun _ => rfl)
  Prog.lift (.enqueueDma x (.here A) (.dma r0.sem) (View.wordExact_bits rfl) aA.wordExact ⟨Or.inl rfl, trivial⟩)
  Prog.lift (.waitDma2 r0.sem x A (View.wordExact_bits rfl) aA.wordExact)
  Scf.Loop.for ⟨0#32, ub, 1#32⟩ ok ⟨⟩ fun t _ => trip A hA B hB C hC lanes (Scf.iv 0#32 1#32 t)
  Prog.lift (.enqueueDma B (.here y) (.dma r1.sem) aB.wordExact (View.wordExact_bits rfl) ⟨Or.inl rfl, trivial⟩)
  Prog.lift (.waitDma2 r1.sem B y aB.wordExact (View.wordExact_bits rfl))
  Prog.lift (.enqueueDma C (.here z) (.dma r2.sem) aC.wordExact (View.wordExact_bits rfl) ⟨Or.inl rfl, trivial⟩)
  Prog.lift (.waitDma2 r2.sem C z aC.wordExact (View.wordExact_bits rfl))
  pure ⟨⟩

end Prog

end Cert.Proof.Route
-- ==== Proof.Spec.lean ====
/-
  What one token's routing computes, as plain list recursion on one score row: `token`. The vectors of a trip are sixteen tokens side
  by side; each lane of the vector recursion of `Proof.Route` is the scalar recursion here.
-/
module

public import proofs.«01_k».proof.Proof.Route

@[expose] public section

noncomputable section

namespace Cert.Proof.Route

open Cert.KernelIdeal
open Idealize.ShloMosaic
open Idealize.SL.Sem (Prog)

variable {F : FTy → Type} [FloatOps F]

/-! ### One token -/

/-- Neighbours reduced in pairs, by `maximumf`. -/
def pairMaxS : List (F .f32) → List (F .f32)
  | a :: b :: l => FloatOps.maximumf a b :: pairMaxS l
  | l => l
/-- `n` rounds of pairs. -/
def treeMaxS : Nat → List (F .f32) → F .f32
  | 0, l => l.headD (Scalar.ofBits .f32 0#32)
  | n + 1, l => treeMaxS n (pairMaxS l)
/-- Blocks of eight reduced to their maxima. -/
def groupMaxS : List (F .f32) → List (F .f32)
  | a :: b :: c :: d :: e :: f :: g :: h :: l => treeMaxS 3 [a, b, c, d, e, f, g, h] :: groupMaxS l
  | _ => []
/-- The lowest of the words `cs` whose score equals `cur`. -/
def lowestS (big : BitVec 32) (cur : F .f32) : List (BitVec 32) → List (F .f32) → BitVec 32 → BitVec 32
  | c :: cs, v :: vs, acc => lowestS big cur cs vs (IntOp.minsi acc (Scalar.select (FloatOps.cmpf .oeq v cur) c big))
  | _, _, acc => acc
/-- The scores, -1 where the word is the chosen one. -/
def droppedS (eq : BitVec 32 → BitVec 1) (neg1 : F .f32) : List (BitVec 32) → List (F .f32) → List (F .f32)
  | c :: cs, v :: vs => Scalar.select (eq c) neg1 v :: droppedS eq neg1 cs vs
  | _, _ => []
def colsOfS (g : BitVec 32) : List (BitVec 32) := w8.map fun j => IntOp.addi g j
/-- Groups picked: each pick's word times eight. -/
def groupsS (neg1 : F .f32) : Nat → List (F .f32) → List (BitVec 32)
  | 0, _ => []
  | n + 1, work =>
      let gidx := lowestS 8#32 (treeMaxS 3 work) w8 work 8#32
      IntOp.muli gidx 8#32 :: groupsS neg1 n (droppedS (fun g => IntOp.cmpi .eq gidx g) neg1 w8 work)
/-- Experts picked: each pick's score, and its word. -/
def expertsS (neg1 : F .f32) (cols : List (BitVec 32)) : Nat → List (F .f32) → List (F .f32 × BitVec 32)
  | 0, _ => []
  | n + 1, cands =>
      let cur := treeMaxS 5 cands
      let idx := lowestS 64#32 cur cols cands 64#32
      (cur, idx) :: expertsS neg1 cols n (droppedS (fun g => IntOp.cmpi .eq g idx) neg1 cols cands)
/-- 2.5 over the sum of eight scores. -/
def scaleS : List (F .f32) → F .f32
  | [a, b, c, d, e, f, g, h] =>
      FloatOps.divf (Scalar.ofBits .f32 0x40200000#32)
        (FloatOps.addf (FloatOps.addf (FloatOps.addf a b) (FloatOps.addf c d)) (FloatOps.addf (FloatOps.addf e f) (FloatOps.addf g h)))
  | _ => Scalar.ofBits .f32 0#32

def neg1S : F .f32 := Scalar.ofBits .f32 0xBF800000#32

/-- The candidate columns of the four groups picked from the score row `r`. -/
def colsS (r : Nat → F .f32) : List (BitVec 32) :=
  (groupsS neg1S 4 (groupMaxS (w64.map fun e => r e.toNat))).flatMap colsOfS
/-- The eight picks of the score row `r`. -/
def picks (r : Nat → F .f32) : List (F .f32 × BitVec 32) :=
  expertsS neg1S (colsS r) 8 ((colsS r).map fun c => r c.toNat)
/-- The eight weights of the score row `r`, and the eight indices. -/
def tokW (r : Nat → F .f32) (k : Nat) : F .f32 :=
  (((picks r).map Prod.fst).map fun w => FloatOps.mulf w (scaleS ((picks r).map Prod.fst))).getD k (Scalar.ofBits .f32 0#32)
def tokI (r : Nat → F .f32) (k : Nat) : BitVec 32 := ((picks r).map Prod.snd).getD k 0#32

theorem expertsS_length (neg1 : F .f32) (cols : List (BitVec 32)) (n : Nat) : ∀ l, (expertsS neg1 cols n l).length = n := by
  induction n with
  | zero => intro l; rfl
  | succ n ih => intro l; simp [expertsS, ih]
theorem picks_length (r : Nat → F .f32) : (picks r).length = 8 := expertsS_length _ _ _ _

/-! ### Sixteen tokens -/

def groupsV (neg1 : FV F) : Nat → List (FV F) → List IV
  | 0, _ => []
  | n + 1, work =>
      let gidx := lowest (bc 8#32) (treeMax 3 work) (w8.map bc) work (bc 8#32)
      muli gidx (bc 8#32) :: groupsV neg1 n (dropped (fun g => cmpi .eq gidx g) neg1 (w8.map bc) work)
def expertsV (neg1 : FV F) (cols : List IV) : Nat → List (FV F) → List (FV F × IV)
  | 0, _ => []
  | n + 1, cands =>
      let cur := treeMax 5 cands
      let idx := lowest (bc 64#32) cur cols cands (bc 64#32)
      (cur, idx) :: expertsV neg1 cols n (dropped (fun g => cmpi .eq g idx) neg1 cols cands)

theorem pickGroups_eq {c : Fin τ.nSC} {s : Fin τ.nSub} (neg1 : FV F) (n : Nat) :
    ∀ (work : List (FV F)) (k : List IV → PR F c s), pickGroups neg1 n work k = k (groupsV neg1 n work) := by
  induction n with
  | zero => intro _ _; rfl
  | succ n ih => intro work k; simp only [pickGroups, groupsV, ih]
theorem pickExperts_eq {c : Fin τ.nSC} {s : Fin τ.nSub} (neg1 : FV F) (cols : List IV) (n : Nat) :
    ∀ (cands : List (FV F)) (k : List (FV F) → List IV → PR F c s),
      pickExperts neg1 cols n cands k = k ((expertsV neg1 cols n cands).map Prod.fst) ((expertsV neg1 cols n cands).map Prod.snd) := by
  induction n with
  | zero => intro _ _; rfl
  | succ n ih => intro work k; simp only [pickExperts, expertsV, ih, List.map_cons]

/-! ### A lane of the vector recursion is the scalar recursion -/

abbrev atL {α : Type} (x : S16.Idx) (l : List (S16.Idx → α)) : List α := l.map fun v => v x

theorem lane_pairMax (x : S16.Idx) : ∀ l : List (FV F), atL x (pairMax l) = pairMaxS (atL x l)
  | [] => rfl
  | [_] => rfl
  | a :: b :: l => by
      have ih := lane_pairMax x l
      simp only [atL] at ih ⊢
      simp only [pairMax, List.map_cons, pairMaxS, ih]; rfl
theorem lane_treeMax (x : S16.Idx) (n : Nat) : ∀ l : List (FV F), treeMax n l x = treeMaxS n (atL x l) := by
  induction n with
  | zero => intro l; cases l <;> rfl
  | succ n ih => intro l; rw [treeMax, ih, lane_pairMax]; rfl
theorem lane_groupMax (x : S16.Idx) : ∀ l : List (FV F), atL x (groupMax l) = groupMaxS (atL x l)
  | a :: b :: c :: d :: e :: f :: g :: h :: l => by
      have ih := lane_groupMax x l
      simp only [atL] at ih ⊢
      simp only [groupMax, List.map_cons, groupMaxS, ih]; rw [lane_treeMax]; rfl
  | [] => rfl | [_] => rfl | [_, _] => rfl | [_, _, _] => rfl | [_, _, _, _] => rfl | [_, _, _, _, _] => rfl
  | [_, _, _, _, _, _] => rfl | [_, _, _, _, _, _, _] => rfl
theorem lane_lowest (x : S16.Idx) (big : IV) (cur : FV F) : ∀ (cs : List IV) (vs : List (FV F)) (acc : IV),
    lowest big cur cs vs acc x = lowestS (big x) (cur x) (atL x cs) (atL x vs) (acc x)
  | [], [], _ => rfl
  | [], _ :: _, _ => rfl
  | _ :: _, [], _ => rfl
  | c :: cs, v :: vs, acc => by
      rw [lowest, lane_lowest x big cur cs vs]; rfl
theorem lane_dropped (x : S16.Idx) (eq : IV → IVec S16 1) (eqS : BitVec 32 → BitVec 1) (h : ∀ g, eq g x = eqS (g x)) (neg1 : FV F) :
    ∀ (cs : List IV) (vs : List (FV F)), atL x (dropped eq neg1 cs vs) = droppedS eqS (neg1 x) (atL x cs) (atL x vs)
  | [], [] => rfl
  | [], _ :: _ => rfl
  | _ :: _, [] => rfl
  | c :: cs, v :: vs => by
      have ih := lane_dropped x eq eqS h neg1 cs vs
      simp only [atL] at ih ⊢
      simp only [dropped, droppedS, List.map_cons, ih, ← h]; rfl
theorem atL_bc (x : S16.Idx) (l : List (BitVec 32)) : atL x (l.map bc) = l := by
  simp only [atL, List.map_map]; exact List.map_id _

theorem lane_groupsV (x : S16.Idx) (neg1 : FV F) (n : Nat) :
    ∀ work : List (FV F), atL x (groupsV neg1 n work) = groupsS (neg1 x) n (atL x work) := by
  induction n with
  | zero => intro _; rfl
  | succ n ih =>
    intro work
    have hg : lowest (bc 8#32) (treeMax 3 work) (w8.map bc) work (bc 8#32) x = lowestS 8#32 (treeMaxS 3 (atL x work)) w8 (atL x work) 8#32 := by
      rw [lane_lowest, lane_treeMax, atL_bc]; rfl
    simp only [groupsV, groupsS, atL, List.map_cons] at ih hg ⊢
    rw [ih]
    congr 1
    · show IntOp.muli _ _ = _
      rw [hg]; rfl
    · have := lane_dropped x (fun g => cmpi .eq (lowest (bc 8#32) (treeMax 3 work) (w8.map bc) work (bc 8#32)) g)
        (fun g => IntOp.cmpi .eq (lowestS 8#32 (treeMaxS 3 (atL x work)) w8 (atL x work) 8#32) g) (fun g => by show IntOp.cmpi _ _ _ = _; rw [hg]) neg1 (w8.map bc) work
      rw [atL_bc] at this
      simp only [atL] at this
      rw [this]

theorem lane_expertsV (x : S16.Idx) (neg1 : FV F) (cols : List IV) (n : Nat) :
    ∀ cands : List (FV F), (expertsV neg1 cols n cands).map (fun p => (p.1 x, p.2 x)) = expertsS (neg1 x) (atL x cols) n (atL x cands) := by
  induction n with
  | zero => intro _; rfl
  | succ n ih =>
    intro work
    have hg : lowest (bc 64#32) (treeMax 5 work) cols work (bc 64#32) x
        = lowestS 64#32 (treeMaxS 5 (atL x work)) (atL x cols) (atL x work) 64#32 := by
      rw [lane_lowest, lane_treeMax]; rfl
    simp only [expertsV, expertsS, List.map_cons]
    rw [ih]
    congr 1
    · rw [hg, lane_treeMax]
    · have := lane_dropped x (fun g => cmpi .eq g (lowest (bc 64#32) (treeMax 5 work) cols work (bc 64#32)))
        (fun g => IntOp.cmpi .eq g (lowestS 64#32 (treeMaxS 5 (atL x work)) (atL x cols) (atL x work) 64#32)) (fun g => by show IntOp.cmpi _ _ _ = _; rw [hg]) neg1 cols work
      rw [this]

theorem lane_scaleOf (x : S16.Idx) : ∀ l : List (FV F), l.length = 8 → scaleOf l x = scaleS (atL x l)
  | [_, _, _, _, _, _, _, _], _ => rfl

/-! ### The columns stay in the row -/

theorem minsi_le {a b : BitVec 32} {n : Nat} (ha : a.toNat ≤ n) (hb : b.toNat ≤ n) (hn : n < 2147483648) : (IntOp.minsi a b).toNat ≤ n := by
  show (if a.slt b then a else b).toNat ≤ n
  split <;> assumption

theorem lowestS_le {big : BitVec 32} {cur : F .f32} {n : Nat} (hn : n < 2147483648) (hb : big.toNat ≤ n) : ∀ (cs : List (BitVec 32)) (vs : List (F .f32)) (acc : BitVec 32),
    (∀ c ∈ cs, c.toNat ≤ n) → acc.toNat ≤ n → (lowestS big cur cs vs acc).toNat ≤ n
  | [], [], _, _, h => h
  | [], _ :: _, _, _, h => h
  | _ :: _, [], _, _, h => h
  | c :: cs, v :: vs, acc, hc, h => by
      rw [lowestS]
      refine lowestS_le hn hb cs vs _ (fun c' h' => hc c' (List.mem_cons_of_mem _ h')) (minsi_le h ?_ hn)
      show (if _ then c else big).toNat ≤ n
      split
      · exact hc c List.mem_cons_self
      · exact hb

theorem w8_le : ∀ c ∈ w8, c.toNat ≤ 7 := by simp [w8]
theorem w64_le : ∀ c ∈ w64, c.toNat ≤ 63 := by simp [w64]

theorem groupsS_le (neg1 : F .f32) (n : Nat) : ∀ work : List (F .f32), ∀ g ∈ groupsS neg1 n work, g.toNat ≤ 64 := by
  induction n with
  | zero => intro _ _ h; cases h
  | succ n ih =>
    intro work g hg
    rw [groupsS] at hg
    rcases List.mem_cons.mp hg with rfl | hg
    · have := lowestS_le (F := F) (big := 8#32) (cur := treeMaxS 3 work) (n := 8) (by omega) (by decide) w8 work 8#32 (fun c hc => (w8_le c hc).trans (by omega)) (by decide)
      generalize lowestS 8#32 (treeMaxS 3 work) w8 work 8#32 = y at this
      show (y * 8#32).toNat ≤ 64
      rw [BitVec.toNat_mul]
      have : y.toNat * (8#32 : BitVec 32).toNat ≤ 64 := by show y.toNat * 8 ≤ 64; omega
      exact (Nat.mod_le _ _).trans this
    · exact ih _ g hg

theorem colsS_le (r : Nat → F .f32) : ∀ c ∈ colsS r, c.toNat ≤ 71 := by
  intro c hc
  obtain ⟨g, hg, hc⟩ := List.mem_flatMap.mp hc
  obtain ⟨j, hj, rfl⟩ := List.mem_map.mp hc
  have h1 := groupsS_le _ _ _ g hg
  have h2 := w8_le j hj
  show (g + j).toNat ≤ 71
  rw [BitVec.toNat_add]
  exact (Nat.mod_le _ _).trans (by omega)

end Cert.Proof.Route
-- ==== Proof.TileOps.lean ====
/-
  The running of a trip: the gathers, the scatters, and what a trip leaves in the tile's two result buffers — for sixteen more tokens, the
  weights and the indices of `Proof.Spec`.
-/
module

public import proofs.«01_k».proof.Proof.Spec
public import proofs.«01_k».proof.Proof.Setup

@[expose] public section

noncomputable section

namespace Cert.Proof.Route

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-! ## Contents as functions of a position -/

/-- A rank-one view of contents `f` reads `g` at each position. -/
def Reads {κ : Kind} {sp : Space} {d : Fin 1 → Nat} {e : EltTy} (m : Memref sig κ sp ⟨1, d⟩ e) (f : m.view.ty.Contents (Elt F)) (g : Nat → Elt F e) : Prop :=
  ∀ i : (⟨1, d⟩ : Shape).Idx, m.view.read (Elt F) f i = g (i 0).val

theorem readAt_whole {κ : Kind} {sp : Space} {d : Fin 1 → Nat} {e : EltTy} (m : Memref sig κ sp ⟨1, d⟩ e) (f : m.view.ty.Contents (Elt F)) :
    m.view.readAt (Elt F) (LoadRect.whole ⟨1, d⟩) f = m.view.read (Elt F) f := by
  funext i; rw [View.readAt_apply]; exact congrArg _ (LoadRect.idx_whole i)

/-- Lane `k` as an index. -/
abbrev lane (k : Fin (S16.size 0)) : S16.Idx := Shape.ofLane (d := S16.size) k

/-- A scatter of sixteen lanes, in lane order. -/
def upd {α : Type} (v : IV) (x : S16.Idx → α) (g : Nat → α) : Nat → α :=
  (List.finRange (S16.size 0)).foldl (fun g k => fun p => if p = (v (lane k)).toNat then x (lane k) else g p) g

theorem storeIdx_upd {d : Fin 1 → Nat} {e : EltTy} (f : Vec F ⟨1, d⟩ e) (g : Nat → Elt F e) (hf : ∀ i, f i = g (i 0).val) (v : IV) (x : Vec F S16 e)
    (h : ∀ a y, ((![v] : Fin 1 → IVec S16 32) a y).toNat < (⟨1, d⟩ : Shape).size a) :
    ∀ i, storeIdx f ![v] x (fun _ => 1#1) false h i = upd v x g (i 0).val := by
  unfold storeIdx upd
  generalize List.finRange (S16.size 0) = l
  induction l generalizing f g with
  | nil => exact hf
  | cons k l ih =>
    simp only [List.foldl_cons]
    refine ih _ _ fun i => ?_
    have : (∀ a, (i a).val = (idxAt ![v] h (Shape.ofLane (d := S16.size) k) a).val) ↔ (i 0).val = (v (lane k)).toNat :=
      ⟨fun H => H 0, fun H a => by rw [Fin.eq_zero a]; exact H⟩
    simp only [Bool.false_eq_true, if_false]
    rw [if_pos (show (1#1 : BitVec 1) = 1 from rfl)]
    beta_reduce
    rw [hf i]
    exact if_congr this rfl rfl

/-- Where the lanes name different positions, a scatter sets exactly those. -/
theorem upd_of_lane {α : Type} (v : IV) (x : S16.Idx → α) (g : Nat → α) (hv : ∀ k k' : Fin (S16.size 0), (v (lane k)).toNat = (v (lane k')).toNat → k = k')
    (k : Fin (S16.size 0)) : upd v x g (v (lane k)).toNat = x (lane k) := by
  have key : ∀ (l : List (Fin (S16.size 0))) (g : Nat → α), (k ∈ l ∨ g (v (lane k)).toNat = x (lane k)) →
      l.foldl (fun g k => fun p => if p = (v (lane k)).toNat then x (lane k) else g p) g
        (v (lane k)).toNat = x (lane k) := by
    intro l
    induction l with
    | nil => intro g h; rcases h with h | h; · cases h
             · exact h
    | cons k' l ih =>
      intro g h
      rw [List.foldl_cons]
      refine ih _ ?_
      by_cases hk : k = k'
      · subst hk; exact .inr (if_pos rfl)
      · rcases h with h | h
        · rcases List.mem_cons.mp h with h | h
          · exact absurd h hk
          · exact .inl h
        · right; rw [if_neg fun e => hk (hv _ _ e)]; exact h
  exact key _ _ (.inl (List.mem_finRange k))
theorem upd_of_ne {α : Type} (v : IV) (x : S16.Idx → α) (g : Nat → α) (p : Nat) (hp : ∀ k : Fin (S16.size 0), p ≠ (v (lane k)).toNat) : upd v x g p = g p := by
  unfold upd
  generalize List.finRange (S16.size 0) = l
  induction l generalizing g with
  | nil => rfl
  | cons k l ih => rw [List.foldl_cons, ih]; exact if_neg (hp k)

/-- The scatters of a trip. -/
def updAll {α : Type} (tok8 : IV) : List (BitVec 32) → List (S16.Idx → α) → (Nat → α) → Nat → α
  | k :: ks, x :: xs, g => updAll tok8 ks xs (upd (addi tok8 (bc k)) x g)
  | _, _, g => g

/-! ## The steps run -/

variable {dv : Dev nD} {c : Fin τ.nSC} {s : Fin τ.nSub} {dA dB : Fin 1 → Nat}

local notation "WP" => wp frame (wpE (defs₀ (F := F)) 𝒱₀ (V dv c s) none) Set.univ

/-- Gathers from a buffer that reads `a`: lane by lane, `a` at the words. -/
theorem wp_gathers {A : Memref sig .scVector .vmem ⟨1, dA⟩ .f32} {hA : A.view.Loads} {f : Buf (Elt F) (A.view.loc (V dv c s))} {a : Nat → F .f32}
    (hf : Reads A f a) {Q : PUnit → sProp 𝕄} : ∀ (vs : List IV) (_ : ∀ v ∈ vs, chk dA v) (k : List (FV F) → PR F c s),
    iprop((A.view.loc (V dv c s) ↦[A.view.set]{fullShare} f)
      ∗ ((A.view.loc (V dv c s) ↦[A.view.set]{fullShare} f) -∗ WP (k (vs.map fun v x => a (v x).toNat)) Q))
      ⊢ WP (gathers A hA vs k) Q
  | [], _, k => by
      rw [gathers]; iintro ⟨H, Hk⟩; iapply Hk; iexact H
  | v :: vs, hvs, k => by
      rw [gathers, wp_assume_of _ _ _ _ (hvs v List.mem_cons_self)]
      iintro ⟨H, Hk⟩
      iapply (wp_load 𝒱₀ (V dv c s) none Set.univ (m := A) (S := A.view.set) (q := fullShare) (f := f) (A.view.setOn_subset_set _)) $$ H
      iintro H
      iapply (wp_gathers hf vs (fun v' h' => hvs v' (List.mem_cons_of_mem _ h'))
        (fun xs => k ((loadIdx (F := F) (e := .f32) (A.view.readAt (Elt F) (LoadRect.whole ⟨1, dA⟩) f) ![v] (hvs v List.mem_cons_self) : Vec F S16 .f32) :: xs)))
      isplitl [H]; · iexact H
      iintro H
      have : (loadIdx (F := F) (e := .f32) (A.view.readAt (Elt F) (LoadRect.whole ⟨1, dA⟩) f) ![v] (hvs v List.mem_cons_self) : Vec F S16 .f32)
          = fun x => a (v x).toNat := by
        funext x; rw [readAt_whole]; exact hf _
      rw [this]
      iapply Hk; iexact H

/-- One scatter. -/
theorem wp_scatter {e : EltTy} {A : Memref sig .scVector .vmem ⟨1, dA⟩ e} {hA : (A.access (.whole ⟨1, dA⟩)).Stores Finset.univ}
    {f : Buf (Elt F) (A.view.loc (V dv c s))} {g : Nat → Elt F e}
    (hf : Reads A f g) {Q : PUnit → sProp 𝕄} (v : IV) (hv : chk dA v) (x : Vec F S16 e) (k : PR F c s) :
    iprop((A.view.loc (V dv c s) ↦[A.view.set]{fullShare} f)
      ∗ (∀ f', ⌜Reads A f' (upd v x g)⌝ -∗ (A.view.loc (V dv c s) ↦[A.view.set]{fullShare} f') -∗ WP k Q))
      ⊢ WP (scatter A hA v x k) Q := by
  rw [scatter, wp_assume_of _ _ _ _ hv]
  iintro ⟨H, Hk⟩
  iapply (wp_load 𝒱₀ (V dv c s) none Set.univ (m := A) (S := A.view.set) (q := fullShare) (f := f) (A.view.setOn_subset_set _)) $$ H
  iintro H
  iapply (wp_store 𝒱₀ (V dv c s) none Set.univ (m := A) (r := .whole ⟨1, dA⟩) (Mk := Finset.univ) (f := f) (S := A.view.set)
    (by rw [View.setOn_univ, View.set_slice, Rect.set_whole]; exact Finset.Subset.refl _)) $$ H
  iintro H
  iapply Hk $$ %((A.access (.whole ⟨1, dA⟩)).write (Elt F) f (storeIdx (A.view.readAt (Elt F) (LoadRect.whole ⟨1, dA⟩) f) ![v] x (fun _ => 1#1) false hv) Finset.univ) %?_
  · intro i
    have h := View.read_slice_write_emb (v := A.view) (Val := Elt F) (.whole ⟨1, dA⟩) f
      (storeIdx (A.view.readAt (Elt F) (LoadRect.whole ⟨1, dA⟩) f) ![v] x (fun _ => 1#1) false hv) (M := Finset.univ) (x := i) (Finset.mem_univ _)
    rw [Rect.emb_whole_apply] at h
    refine h.trans ?_
    rw [readAt_whole]
    exact storeIdx_upd _ _ hf v x hv i
  · iexact H

/-- The scatters. -/
theorem wp_scatters {A : Memref sig .scVector .vmem ⟨1, dB⟩ .f32} {hA : (A.access (.whole ⟨1, dB⟩)).Stores Finset.univ}
    {B : Memref sig .scVector .vmem ⟨1, dB⟩ .i32} {hB : (B.access (.whole ⟨1, dB⟩)).Stores Finset.univ} {tok8 : IV} {Q : PUnit → sProp 𝕄} :
    ∀ (ks : List (BitVec 32)) (_ : ∀ k ∈ ks, chk dB (addi tok8 (bc k))) (xs : List (FV F)) (is : List IV) (_ : xs.length = ks.length) (_ : is.length = ks.length)
      {fA : Buf (Elt F) (A.view.loc (V dv c s))} {gA : Nat → F .f32} (_ : Reads A fA gA) {fB : Buf (Elt F) (B.view.loc (V dv c s))} {gB : Nat → BitVec 32} (_ : Reads (e := .i32) B fB gB),
    iprop((A.view.loc (V dv c s) ↦[A.view.set]{fullShare} fA) ∗ (B.view.loc (V dv c s) ↦[B.view.set]{fullShare} fB)
      ∗ (∀ fA' fB', ⌜Reads A fA' (updAll tok8 ks xs gA) ∧ Reads (e := .i32) B fB' (updAll tok8 ks is gB)⌝
          -∗ (A.view.loc (V dv c s) ↦[A.view.set]{fullShare} fA') -∗ (B.view.loc (V dv c s) ↦[B.view.set]{fullShare} fB') -∗ Q ⟨⟩))
      ⊢ WP (scatters A hA B hB tok8 ks xs is) Q
  | [], _, [], [], _, _, fA, gA, hA', fB, gB, hB' => by
      rw [scatters, wp_ret]
      · iintro ⟨HA, HB, Hk⟩
        imodintro
        iapply Hk $$ %fA %fB %⟨hA', hB'⟩ HA HB
      · intros; rename_i h _ _; cases h
  | k :: ks, hk, x :: xs, i :: is, h1, h2, fA, gA, hA', fB, gB, hB' => by
      rw [scatters]
      iintro ⟨HA, HB, Hk⟩
      iapply (wp_scatter hA' (addi tok8 (bc k)) (hk k List.mem_cons_self) x _)
      isplitl [HA]; · iexact HA
      iintro %fA' %hfA HA
      iapply (wp_scatter (e := .i32) hB' (addi tok8 (bc k)) (hk k List.mem_cons_self) i _)
      isplitl [HB]; · iexact HB
      iintro %fB' %hfB HB
      iapply (wp_scatters ks (fun k' h' => hk k' (List.mem_cons_of_mem _ h')) xs is (Nat.succ.inj h1) (Nat.succ.inj h2) hfA hfB)
      isplitl [HA]; · iexact HA
      isplitl [HB]; · iexact HB
      iexact Hk
  | [], _, _ :: _, _, h, _, _, _, _, _, _, _ => by cases h
  | [], _, [], _ :: _, _, h, _, _, _, _, _, _ => by cases h
  | _ :: _, _, [], _, h, _, _, _, _, _, _, _ => by cases h
  | _ :: _, _, _ :: _, [], _, h, _, _, _, _, _, _ => by cases h

end Cert.Proof.Route
-- ==== Proof.TileRun.lean ====
/-
  A trip, and a tile's whole task: from its part of the scores in HBM, the weights and the indices of every token of its own.
-/
module

public import proofs.«01_k».proof.Proof.TileOps

@[expose] public section

noncomputable section

namespace Cert.Proof.Route

open Cert.KernelIdeal
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-- Row `k` of a buffer of score rows of 128. -/
def rowAt (a : Nat → F .f32) (k : Nat) : Nat → F .f32 := fun e => a (128 * k + e)
/-- What a buffer of weights (of indices) holds at a position: token `p / 8`'s, number `p % 8`. -/
def outW (a : Nat → F .f32) (p : Nat) : F .f32 := tokW (rowAt a (p / 8)) (p % 8)
def outI (a : Nat → F .f32) (p : Nat) : BitVec 32 := tokI (rowAt a (p / 8)) (p % 8)

/-! ## The words of a trip -/

theorem toNat_addi (x : S16.Idx) (u v : IV) (m n : Nat) (hu : (u x).toNat = m) (hv : (v x).toNat = n) (h : m + n < 2 ^ 32) : (addi u v x).toNat = m + n := by
  show (u x + v x).toNat = _
  rw [BitVec.toNat_add, hu, hv, Nat.mod_eq_of_lt h]
theorem toNat_muli (x : S16.Idx) (u v : IV) (m n : Nat) (hu : (u x).toNat = m) (hv : (v x).toNat = n) (h : m * n < 2 ^ 32) : (muli u v x).toNat = m * n := by
  show (u x * v x).toNat = _
  rw [BitVec.toNat_mul, hu, hv, Nat.mod_eq_of_lt h]

theorem toNat_tok {lanes : IV} (hl : ∀ x : S16.Idx, (lanes x).toNat = (x 0).val) {iv : BitVec 32} {t : Nat} (hiv : iv.toNat = t) (ht : t < 16) (x : S16.Idx) :
    (addi (bc (Scalar.muli iv 16#32)) lanes x).toNat = 16 * t + (x 0).val := by
  have hx : (x 0).val < 16 := (x 0).isLt
  refine toNat_addi x _ _ (16 * t) (x 0).val ?_ (hl x) (by omega)
  show (iv * 16#32).toNat = _
  rw [BitVec.toNat_mul, hiv, show (16#32 : BitVec 32).toNat = 16 from rfl, Nat.mod_eq_of_lt (by omega)]; omega

/-- One scatter of a trip, position by position. -/
theorem upd_tok {α : Type} {tok8 : IV} {t : Nat} (ht : t < 16) (h8 : ∀ x : S16.Idx, (tok8 x).toNat = 8 * (16 * t + (x 0).val)) (κ : BitVec 32) (hκ : κ.toNat < 8) (x : S16.Idx → α)
    (g : Nat → α) (p : Nat) :
    upd (addi tok8 (bc κ)) x g p = if p / 128 = t ∧ p % 8 = κ.toNat then x (lane ⟨p / 8 % 16, Nat.mod_lt _ (by decide)⟩) else g p := by
  have hv : ∀ k : Fin (S16.size 0), (addi tok8 (bc κ) (lane k)).toNat = 8 * (16 * t + k.val) + κ.toNat := fun k => by
    have hk : k.val < 16 := k.isLt
    exact toNat_addi _ _ _ _ _ (h8 (lane k)) rfl (by show 8 * (16 * t + k.val) + _ < _; omega)
  split
  · rename_i h
    have := upd_of_lane (addi tok8 (bc κ)) x g (fun k k' e => by rw [hv, hv] at e; exact Fin.ext (by omega)) ⟨p / 8 % 16, Nat.mod_lt _ (by decide)⟩
    rw [hv] at this
    rw [← this]; congr 1; show p = 8 * (16 * t + p / 8 % 16) + κ.toNat; omega
  · rename_i h
    refine upd_of_ne _ _ _ _ fun k e => h ?_
    have hk : k.val < 16 := k.isLt
    rw [hv] at e
    omega

/-- All the scatters of a trip. -/
theorem updAll_tok {α : Type} {tok8 : IV} {t : Nat} (ht : t < 16) (h8 : ∀ x : S16.Idx, (tok8 x).toNat = 8 * (16 * t + (x 0).val)) (dflt : S16.Idx → α)
    (xs : List (S16.Idx → α)) (hx : xs.length = 8) (g : Nat → α) (p : Nat) :
    updAll tok8 w8 xs g p = if p / 128 = t then xs.getD (p % 8) dflt (lane ⟨p / 8 % 16, Nat.mod_lt _ (by decide)⟩) else g p := by
  match xs, hx with
  | [x0, x1, x2, x3, x4, x5, x6, x7], _ =>
    unfold w8
    simp only [updAll]
    rw [upd_tok ht h8 _ (by decide), upd_tok ht h8 _ (by decide), upd_tok ht h8 _ (by decide), upd_tok ht h8 _ (by decide),
      upd_tok ht h8 _ (by decide), upd_tok ht h8 _ (by decide), upd_tok ht h8 _ (by decide), upd_tok ht h8 _ (by decide)]
    simp only [BitVec.toNat_ofNat]
    by_cases h : p / 128 = t
    · have hp : p % 8 < 8 := Nat.mod_lt _ (by decide)
      simp only [h, true_and, if_true]
      generalize p % 8 = r at hp
      interval_cases r <;> simp
    · simp only [h, false_and, if_false]

theorem atL_flatMap (x : S16.Idx) : ∀ gs : List IV, atL x (gs.flatMap colsOf) = (atL x gs).flatMap colsOfS
  | [] => rfl
  | g :: gs => by
      have ih := atL_flatMap x gs
      simp only [atL] at ih ⊢
      rw [List.flatMap_cons, List.map_append, ih, List.map_cons, List.flatMap_cons]
      rfl

theorem expertsV_length (neg1 : FV F) (cols : List IV) (n : Nat) : ∀ l, (expertsV neg1 cols n l).length = n := by
  induction n with
  | zero => intro l; rfl
  | succ n ih => intro l; simp [expertsV, ih]

section Run

variable {dv : Dev nD} {c : Fin τ.nSC} {s : Fin τ.nSub} {dA dB : Fin 1 → Nat}

local notation "WP" => wp (M := MM F) frame (wpE (defs₀ (F := F)) 𝒱₀ (V dv c s) none) Set.univ

/-- A trip: the results of sixteen more tokens are in the two buffers. -/
theorem wp_trip {A : Memref sig .scVector .vmem ⟨1, dA⟩ .f32} {hA : A.view.Loads}
    {B : Memref sig .scVector .vmem ⟨1, dB⟩ .f32} {hB : (B.access (.whole ⟨1, dB⟩)).Stores Finset.univ}
    {C : Memref sig .scVector .vmem ⟨1, dB⟩ .i32} {hC : (C.access (.whole ⟨1, dB⟩)).Stores Finset.univ} {lanes : IV} {iv : BitVec 32}
    {n t : Nat} (hl : ∀ x : S16.Idx, (lanes x).toNat = (x 0).val) (hiv : iv.toNat = t) (ht : 16 * t + 16 ≤ n) (hn : n ≤ 128)
    (hdA : dA 0 = 128 * n) (hdB : dB 0 = 8 * n)
    {fA : Buf (Elt F) (A.view.loc (V dv c s))} {a : Nat → F .f32} (hfA : Reads A fA a)
    {fB : Buf (Elt F) (B.view.loc (V dv c s))} {gB : Nat → F .f32} (hfB : Reads B fB gB)
    {fC : Buf (Elt F) (C.view.loc (V dv c s))} {gC : Nat → BitVec 32} (hfC : Reads (e := .i32) C fC gC) :
    iprop((A.view.loc (V dv c s) ↦[A.view.set]{fullShare} fA) ∗ (B.view.loc (V dv c s) ↦[B.view.set]{fullShare} fB) ∗ (C.view.loc (V dv c s) ↦[C.view.set]{fullShare} fC))
      ⊢ WP (trip A hA B hB C hC lanes iv) fun _ =>
        iprop((A.view.loc (V dv c s) ↦[A.view.set]{fullShare} fA)
          ∗ (∃ fB', ⌜Reads B fB' fun p => if p / 128 = t then outW a p else gB p⌝ ∗ B.view.loc (V dv c s) ↦[B.view.set]{fullShare} fB')
          ∗ (∃ fC', ⌜Reads (e := .i32) C fC' fun p => if p / 128 = t then outI a p else gC p⌝ ∗ C.view.loc (V dv c s) ↦[C.view.set]{fullShare} fC')) := by
  have ht16 : t < 16 := by omega
  unfold trip
  simp only []
  generalize htok : addi (bc (Scalar.muli iv 16#32)) lanes = tok
  have hT : ∀ x : S16.Idx, (tok x).toNat = 16 * t + (x 0).val := fun x => htok ▸ toNat_tok hl hiv ht16 x
  have hx16 : ∀ x : S16.Idx, (x 0).val < 16 := fun x => (x 0).isLt
  generalize hrow : muli tok (bc 128#32) = row
  have hR : ∀ x : S16.Idx, (row x).toNat = 128 * (16 * t + (x 0).val) := fun x => by
    rw [← hrow, toNat_muli x _ _ _ 128 (hT x) rfl (by have := hx16 x; omega)]; omega
  generalize h8 : muli tok (bc 8#32) = tok8
  have hE : ∀ x : S16.Idx, (tok8 x).toNat = 8 * (16 * t + (x 0).val) := fun x => by
    rw [← h8, toNat_muli x _ _ _ 8 (hT x) rfl (by have := hx16 x; omega)]; omega
  -- a word added to the row's start
  have hadd : ∀ (x : S16.Idx) (e : IV), (e x).toNat ≤ 71 → (addi row e x).toNat = 128 * (16 * t + (x 0).val) + (e x).toNat := fun x e he =>
    toNat_addi x _ _ _ _ (hR x) rfl (by have := hx16 x; omega)
  have hchk : ∀ e : IV, (∀ x, (e x).toNat ≤ 71) → chk dA (addi row e) := fun e he b x => by
    obtain rfl : b = 0 := Subsingleton.elim _ _
    show (addi row e x).toNat < dA 0
    rw [hadd x e (he x), hdA]; have := hx16 x; have := he x; omega
  have hgat : ∀ (x : S16.Idx) (e : IV), (e x).toNat ≤ 71 → a (addi row e x).toNat = rowAt a (16 * t + (x 0).val) (e x).toNat := fun x e he => by
    rw [hadd x e he]; rfl
  iintro ⟨HA, HB, HC⟩
  iapply (wp_gathers hfA (w64.map fun e => addi row (bc e)) (by
    intro v hv; obtain ⟨e, he, rfl⟩ := List.mem_map.mp hv
    exact hchk _ fun x => (w64_le e he).trans (by decide)) _)
  isplitl [HA]; · iexact HA
  iintro HA
  rw [pickGroups_eq]
  -- the candidates' columns, lane by lane
  generalize hss : ((w64.map fun e => addi row (bc e)).map fun v x => a (v x).toNat) = ss
  have hssx : ∀ x, atL x ss = w64.map fun e => rowAt a (16 * t + (x 0).val) e.toNat := fun x => by
    rw [← hss]; simp only [atL, List.map_map]
    refine List.map_congr_left fun e he => ?_
    exact hgat x (bc e) ((w64_le e he).trans (by decide))
  generalize hcols : (groupsV (broadcast S16 (Scalar.ofBits .f32 0xBF800000#32) : FV F) 4 (groupMax ss)).flatMap colsOf = cols
  have hcolsx : ∀ x, atL x cols = colsS (rowAt a (16 * t + (x 0).val)) := fun x => by
    rw [← hcols, atL_flatMap, lane_groupsV, lane_groupMax, hssx]; rfl
  have hcle : ∀ v ∈ cols, ∀ x, (v x).toNat ≤ 71 := fun v hv x =>
    colsS_le (rowAt a (16 * t + (x 0).val)) _ (by rw [← hcolsx x]; exact List.mem_map.mpr ⟨v, hv, rfl⟩)
  iapply (wp_gathers hfA (cols.map fun c => addi row c) (by
    intro v hv; obtain ⟨e, he, rfl⟩ := List.mem_map.mp hv
    exact hchk _ (hcle e he)) _)
  isplitl [HA]; · iexact HA
  iintro HA
  rw [pickExperts_eq]
  generalize hcands : ((cols.map fun c => addi row c).map fun v x => a (v x).toNat) = cands
  have hcandsx : ∀ x, atL x cands = (colsS (rowAt a (16 * t + (x 0).val))).map fun c => rowAt a (16 * t + (x 0).val) c.toNat := fun x => by
    rw [← hcands, ← hcolsx x]; simp only [atL, List.map_map]
    refine List.map_congr_left fun e he => ?_
    exact hgat x e (hcle e he x)
  generalize hE' : expertsV (broadcast S16 (Scalar.ofBits .f32 0xBF800000#32) : FV F) cols 8 cands = E
  have hEx : ∀ x, E.map (fun p => (p.1 x, p.2 x)) = picks (rowAt a (16 * t + (x 0).val)) := fun x => by
    rw [← hE', lane_expertsV, hcolsx, hcandsx]; rfl
  have hElen : E.length = 8 := hE' ▸ expertsV_length _ _ _ _
  have hfst : ∀ x, atL x (E.map Prod.fst) = (picks (rowAt a (16 * t + (x 0).val))).map Prod.fst := fun x => by
    rw [← hEx x]; simp only [atL, List.map_map]; rfl
  have hsnd : ∀ x, atL x (E.map Prod.snd) = (picks (rowAt a (16 * t + (x 0).val))).map Prod.snd := fun x => by
    rw [← hEx x]; simp only [atL, List.map_map]; rfl
  iapply (wp_scatters w8 (by
      intro k hk b x
      obtain rfl : b = 0 := Subsingleton.elim _ _
      show (addi tok8 (bc k) x).toNat < dB 0
      have h1 := w8_le k hk
      have h2 := hx16 x
      rw [toNat_addi x tok8 (bc k) _ k.toNat (hE x) rfl (by omega), hdB]; omega)
    ((E.map Prod.fst).map fun w => mulf w (scaleOf (E.map Prod.fst))) (E.map Prod.snd) (by simp [hElen]; rfl) (by simp [hElen]; rfl) hfB hfC)
  isplitl [HB]; · iexact HB
  isplitl [HC]; · iexact HC
  iintro %fB' %fC' %hBC HB HC
  isplitl [HA]; · iexact HA
  -- the position's token and lane
  have hpos : ∀ p, p / 128 = t → 16 * t + (lane ⟨p / 8 % 16, Nat.mod_lt _ (by decide)⟩ 0).val = p / 8 := fun p hp => by
    show 16 * t + p / 8 % 16 = p / 8; omega
  have hget : ∀ {α : Type} (l : List (S16.Idx → α)) (k : Nat) (d0 : α) (x : S16.Idx), (l.getD k (fun _ => d0)) x = (atL x l).getD k d0 := fun l k d0 x => by
    simp only [atL, List.getD_eq_getElem?_getD, List.getElem?_map]; cases l[k]? <;> rfl
  isplitl [HB]
  · iexists fB'; isplitr
    · ipureintro; intro i
      rw [hBC.1 i, updAll_tok ht16 hE (fun _ => Scalar.ofBits .f32 0#32) _ (by simp [hElen]) gB]
      refine if_ctx_congr Iff.rfl (fun hp => ?_) (fun _ => rfl)
      rw [hget]
      unfold outW tokW
      have hq := hpos _ hp
      generalize lane ⟨(i 0).val / 8 % 16, Nat.mod_lt _ (by decide)⟩ = L at hq ⊢
      rw [← hq, ← hfst]
      congr 1
      simp only [atL, List.map_map]
      refine List.map_congr_left fun w _ => ?_
      show FloatOps.mulf (w.1 _) (scaleOf (E.map Prod.fst) _) = _
      rw [lane_scaleOf _ _ (by simp [hElen])]
      simp only [atL, List.map_map]; rfl
    · iexact HB
  · iexists fC'; isplitr
    · ipureintro; intro i
      rw [hBC.2 i, updAll_tok (α := BitVec 32) ht16 hE (fun _ => 0#32) _ (by simp [hElen]) gC]
      refine if_ctx_congr Iff.rfl (fun hp => ?_) (fun _ => rfl)
      rw [hget (α := BitVec 32)]
      unfold outI tokI
      have hq := hpos _ hp
      generalize lane ⟨(i 0).val / 8 % 16, Nat.mod_lt _ (by decide)⟩ = L at hq ⊢
      rw [← hq, ← hsnd]
    · iexact HC

/-- What a tile leaves in its buffers after `t` trips: the results of its first `16 t` tokens. -/
def inv (A : Memref sig .scVector .vmem ⟨1, dA⟩ .f32) (B : Memref sig .scVector .vmem ⟨1, dB⟩ .f32) (C : Memref sig .scVector .vmem ⟨1, dB⟩ .i32)
    (dv : Dev nD) (c : Fin τ.nSC) (s : Fin τ.nSub) (fA : Buf (Elt F) (A.view.loc (V dv c s))) (a : Nat → F .f32) (t : Nat) (_ : PUnit) : sProp 𝕄 :=
  iprop((A.view.loc (V dv c s) ↦[A.view.set]{fullShare} fA)
    ∗ (∃ fB, ⌜∃ gB, Reads B fB gB ∧ ∀ p < 128 * t, gB p = outW a p⌝ ∗ B.view.loc (V dv c s) ↦[B.view.set]{fullShare} fB)
    ∗ (∃ fC, ⌜∃ gC, Reads (e := .i32) C fC gC ∧ ∀ p < 128 * t, gC p = outI a p⌝ ∗ C.view.loc (V dv c s) ↦[C.view.set]{fullShare} fC))

/-- The contents of a rank-one view, as a function of the position. -/
theorem exists_reads {κ : Kind} {sp : Space} {d : Fin 1 → Nat} {e : EltTy} (m : Memref sig κ sp ⟨1, d⟩ e) (f : m.view.ty.Contents (Elt F)) (x : Elt F e) :
    ∃ g, Reads m f g := by
  refine ⟨fun p => if h : p < d 0 then m.view.read (Elt F) f (Shape.ofLane ⟨p, h⟩) else x, fun i => ?_⟩
  beta_reduce
  rw [dif_pos (show (i 0).val < d 0 from (i 0).isLt)]
  congr 1; funext b
  obtain rfl : b = 0 := Subsingleton.elim _ _
  rfl

/-- A whole buffer written over reads what was written. -/
theorem reads_writes_whole {κ : Kind} {sp : Space} {d : Fin 1 → Nat} {e : EltTy} (m : Memref sig κ sp ⟨1, d⟩ e) (f : m.view.ty.Contents (Elt F)) (w : (⟨1, d⟩ : Shape).Idx → Elt F e)
    (i : (⟨1, d⟩ : Shape).Idx) : m.view.read (Elt F) (m.view.writes (Elt F) f [⟨Rect.whole ⟨1, d⟩, w⟩]) i = w i := by
  have h := View.read_slice_write_emb (v := m.view) (Val := Elt F) (.whole ⟨1, d⟩) f w (M := Finset.univ) (x := i) (Finset.mem_univ _)
  rw [Rect.emb_whole_apply] at h
  exact h

/-- A tile's whole task. -/
theorem wp_tile {dX dO : Fin 1 → Nat} {X : Memref sig .scVector .hbm ⟨1, dX⟩ .f32} {Y : Memref sig .scVector .hbm ⟨1, dO⟩ .f32} {Z : Memref sig .scVector .hbm ⟨1, dO⟩ .i32}
    {A : Memref sig .scVector .vmem ⟨1, dA⟩ .f32} {aA : A.IsWhole} {hA : A.view.Loads}
    {B : Memref sig .scVector .vmem ⟨1, dB⟩ .f32} {aB : B.IsWhole} {hB : (B.access (.whole ⟨1, dB⟩)).Stores Finset.univ}
    {C : Memref sig .scVector .vmem ⟨1, dB⟩ .i32} {aC : C.IsWhole} {hC : (C.access (.whole ⟨1, dB⟩)).Stores Finset.univ}
    {lanes : IV} {r0 r1 r2 : DmaSems sig S_} {off1 off2 : Fin 1 → Nat}
    {o1 : ∀ a, off1 a + (⟨1, dA⟩ : Shape).size a ≤ (⟨1, dX⟩ : Shape).size a} {o2 : ∀ a, off2 a + (⟨1, dB⟩ : Shape).size a ≤ (⟨1, dO⟩ : Shape).size a}
    {ub : BitVec 32} {ok : (⟨0#32, ub, 1#32⟩ : Scf.Loop 32).OK}
    (hl : ∀ x : S16.Idx, (lanes x).toNat = (x 0).val) (htr : Scf.trips 0#32 ub 1#32 ≤ 8) (h0 : 0 < Scf.trips 0#32 ub 1#32)
    (hdA : dA 0 = 128 * (16 * Scf.trips 0#32 ub 1#32)) (hdB : dB 0 = 8 * (16 * Scf.trips 0#32 ub 1#32))
    (O : CellTallies nD τ sig (HIx 5)) (W : Waits sig (HIx 5))
    {fX : Buf (Elt F) ((X.slice (Rect.unit (s := ⟨1, dX⟩) off1 (⟨1, dA⟩ : Shape).size o1) (fun _ => rfl)).view.loc (V dv c s))}
    {a : Nat → F .f32} (hfX : Reads (d := dA) (X.slice (Rect.unit (s := ⟨1, dX⟩) off1 (⟨1, dA⟩ : Shape).size o1) (fun _ => rfl)) fX a) :
    iprop(Transfers.MayWaits (V dv c s) (none : HIx 5) O
      ∗ ((X.slice (Rect.unit (s := ⟨1, dX⟩) off1 (⟨1, dA⟩ : Shape).size o1) (fun _ => rfl)).view.loc (V dv c s)
          ↦[(X.slice (Rect.unit (s := ⟨1, dX⟩) off1 (⟨1, dA⟩ : Shape).size o1) (fun _ => rfl)).view.set]{fullShare} fX)
      ∗ (∃ fY, (Y.slice (Rect.unit (s := ⟨1, dO⟩) off2 (⟨1, dB⟩ : Shape).size o2) (fun _ => rfl)).view.loc (V dv c s)
          ↦[(Y.slice (Rect.unit (s := ⟨1, dO⟩) off2 (⟨1, dB⟩ : Shape).size o2) (fun _ => rfl)).view.set]{fullShare} fY)
      ∗ (∃ fZ, (Z.slice (Rect.unit (s := ⟨1, dO⟩) off2 (⟨1, dB⟩ : Shape).size o2) (fun _ => rfl)).view.loc (V dv c s)
          ↦[(Z.slice (Rect.unit (s := ⟨1, dO⟩) off2 (⟨1, dB⟩ : Shape).size o2) (fun _ => rfl)).view.set]{fullShare} fZ)
      ∗ (∃ fA, A.view.loc (V dv c s) ↦[A.view.set]{fullShare} fA)
      ∗ (∃ fB, B.view.loc (V dv c s) ↦[B.view.set]{fullShare} fB)
      ∗ (∃ fC, C.view.loc (V dv c s) ↦[C.view.set]{fullShare} fC)
      ∗ semVal (V dv c s, SemLoc.dma r0.sem) 0 ∗ semVal (V dv c s, SemLoc.dma r1.sem) 0 ∗ semVal (V dv c s, SemLoc.dma r2.sem) 0
      ∗ owes (V dv c s) O W)
    ⊢ WP (tile X Y Z A aA hA B aB hB C aC hC lanes r0 r1 r2 off1 off2 o1 o2 ub ok) fun _ =>
      iprop(((X.slice (Rect.unit (s := ⟨1, dX⟩) off1 (⟨1, dA⟩ : Shape).size o1) (fun _ => rfl)).view.loc (V dv c s)
          ↦[(X.slice (Rect.unit (s := ⟨1, dX⟩) off1 (⟨1, dA⟩ : Shape).size o1) (fun _ => rfl)).view.set]{fullShare} fX)
      ∗ (∃ fY, ⌜Reads (d := dB) (Y.slice (Rect.unit (s := ⟨1, dO⟩) off2 (⟨1, dB⟩ : Shape).size o2) (fun _ => rfl)) fY (outW a)⌝
          ∗ (Y.slice (Rect.unit (s := ⟨1, dO⟩) off2 (⟨1, dB⟩ : Shape).size o2) (fun _ => rfl)).view.loc (V dv c s)
          ↦[(Y.slice (Rect.unit (s := ⟨1, dO⟩) off2 (⟨1, dB⟩ : Shape).size o2) (fun _ => rfl)).view.set]{fullShare} fY)
      ∗ (∃ fZ, ⌜Reads (d := dB) (e := .i32) (Z.slice (Rect.unit (s := ⟨1, dO⟩) off2 (⟨1, dB⟩ : Shape).size o2) (fun _ => rfl)) fZ (outI a)⌝
          ∗ (Z.slice (Rect.unit (s := ⟨1, dO⟩) off2 (⟨1, dB⟩ : Shape).size o2) (fun _ => rfl)).view.loc (V dv c s)
          ↦[(Z.slice (Rect.unit (s := ⟨1, dO⟩) off2 (⟨1, dB⟩ : Shape).size o2) (fun _ => rfl)).view.set]{fullShare} fZ)
      ∗ (∃ fA, A.view.loc (V dv c s) ↦[A.view.set]{fullShare} fA)
      ∗ (∃ fB, B.view.loc (V dv c s) ↦[B.view.set]{fullShare} fB)
      ∗ (∃ fC, C.view.loc (V dv c s) ↦[C.view.set]{fullShare} fC)
      ∗ semVal (V dv c s, SemLoc.dma r0.sem) 0 ∗ semVal (V dv c s, SemLoc.dma r1.sem) 0 ∗ semVal (V dv c s, SemLoc.dma r2.sem) 0
      ∗ ∃ W', ⌜∀ p ∈ W', p ∈ W ∨ p.2 = none⌝ ∗ owes (V dv c s) O W') := by
  have nA : 0 < (⟨1, dA⟩ : Shape).numel := by
    show 0 < ∏ a : Fin 1, dA a
    rw [Fin.prod_univ_one, hdA]; omega
  have nB : 0 < (⟨1, dB⟩ : Shape).numel := by
    show 0 < ∏ a : Fin 1, dB a
    rw [Fin.prod_univ_one, hdB]; omega
  have hlt : ∀ i : (⟨1, dB⟩ : Shape).Idx, (i 0).val < 128 * Scf.trips 0#32 ub 1#32 := fun i => by
    have h := (i 0).isLt
    change (i 0).val < dB 0 at h
    omega
  unfold tile
  iintro ⟨Hmw, Hx, ⟨%fY, Hy⟩, ⟨%fZ, Hz⟩, ⟨%fA, HA⟩, ⟨%fB, HB⟩, ⟨%fC, HC⟩, Hs0, Hs1, Hs2, HO⟩
  sl_exec (disch := first | exact View.amount_pos _ _ nA | exact View.amount_pos _ _ nB)
  ihave HA' := (Entails.refl : (iprop(∃ f, ⌜Reads A f a⌝ ∗ A.view.loc (V dv c s) ↦[A.view.set]{fullShare} f) : sProp 𝕄) ⊢ _) $$ [HA]
  · iexists _; isplitr
    rotate_left
    · iexact HA
    · ipureintro
      exact fun i => (reads_writes_whole A fA _ i).trans (hfX i)
  icases HA' with ⟨%fA', %hA', HA⟩
  obtain ⟨gB, hgB⟩ := exists_reads B fB (Scalar.ofBits .f32 0#32)
  obtain ⟨gC, hgC⟩ := exists_reads (e := .i32) C fC 0#32
  rw [wp_bind]
  iapply (Scf.wp_for frame (wpE (defs₀ (F := F)) 𝒱₀ (V dv c s) none) Set.univ 0#32 ub 1#32 ok PUnit.unit _ (inv A B C dv c s fA' a) (fun t _ => ?_))
  · have ht := t.isLt
    have hiv : (Scf.iv 0#32 1#32 t.val).toNat = t.val := by
      unfold Scf.iv
      simp only [BitVec.toNat_add, BitVec.toNat_mul, BitVec.toNat_ofNat]
      omega
    unfold inv
    iintro ⟨HA, ⟨%fB, %hB', HB⟩, ⟨%fC, %hC', HC⟩⟩
    obtain ⟨gB, hgB, hpB⟩ := hB'
    obtain ⟨gC, hgC, hpC⟩ := hC'
    iapply (wp_wand_r frame (wpE (defs₀ (F := F)) 𝒱₀ (V dv c s) none) Set.univ)
    isplitl [HA HB HC]
    · iapply (wp_trip hl hiv (n := 16 * Scf.trips 0#32 ub 1#32) (by omega) (by omega) hdA hdB hA' hgB hgC)
      isplitl [HA]; · iexact HA
      isplitl [HB] <;> iassumption
    · iintro %_ ⟨HA, ⟨%fB', %hB'', HB⟩, ⟨%fC', %hC'', HC⟩⟩
      isplitl [HA]; · iexact HA
      isplitl [HB]
      · iexists fB'; isplitr
        · ipureintro
          refine ⟨_, hB'', fun p hp => ?_⟩
          by_cases h : p / 128 = t.val
          · exact if_pos h
          · exact (if_neg h).trans (hpB p (by omega))
        · iexact HB
      · iexists fC'; isplitr
        · ipureintro
          refine ⟨_, hC'', fun p hp => ?_⟩
          by_cases h : p / 128 = t.val
          · exact if_pos h
          · exact (if_neg h).trans (hpC p (by omega))
        · iexact HC
  isplitl [HA HB HC]
  · unfold inv
    isplitl [HA]; · iexact HA
    isplitl [HB]
    · iexists fB; isplitr
      · ipureintro; exact ⟨gB, hgB, fun p hp => absurd hp (by omega)⟩
      · iexact HB
    · iexists fC; isplitr
      · ipureintro; exact ⟨gC, hgC, fun p hp => absurd hp (by omega)⟩
      · iexact HC
  iintro %_ HI
  unfold inv
  icases HI with ⟨HA, ⟨%fB', %hB', HB⟩, ⟨%fC', %hC', HC⟩⟩
  obtain ⟨gB', hgB', hpB'⟩ := hB'
  obtain ⟨gC', hgC', hpC'⟩ := hC'
  sl_exec (disch := first | exact View.amount_pos _ _ nA | exact View.amount_pos _ _ nB)
  rw [wp_ret]; imodintro
  isplitl [Hx]; · iexact Hx
  isplitl [Hy]
  · iexists _; isplitr
    rotate_left
    · iexact Hy
    · ipureintro
      exact fun i => (reads_writes_whole (d := dB) (Y.slice (Rect.unit (s := ⟨1, dO⟩) off2 (⟨1, dB⟩ : Shape).size o2) (fun _ => rfl)) fY _ i).trans ((hgB' i).trans (hpB' _ (hlt i)))
  isplitl [Hz]
  · iexists _; isplitr
    rotate_left
    · iexact Hz
    · ipureintro
      exact fun i => (reads_writes_whole (d := dB) (e := .i32) (Z.slice (Rect.unit (s := ⟨1, dO⟩) off2 (⟨1, dB⟩ : Shape).size o2) (fun _ => rfl)) fZ _ i).trans ((hgC' i).trans (hpC' _ (hlt i)))
  isplitl [HA]; · iexists _; iexact HA
  isplitl [HB]; · iexists _; iexact HB
  isplitl [HC]; · iexists _; iexact HC
  isplitl [Hs0]; · iexact Hs0
  isplitl [Hs1]; · iexact Hs1
  isplitl [Hs2]; · iexact Hs2
  iexists _; isplitr
  rotate_left
  · iexact HO
  · ipureintro
    intro p hp
    simp only [Finset.mem_insert] at hp
    rcases hp with rfl | rfl | rfl | hp
    · exact .inr rfl
    · exact .inr rfl
    · exact .inr rfl
    · exact .inl hp

end Run

end Cert.Proof.Route
-- ==== Proof.Text.lean ====
/-
  The printed text of each of the five SparseCore calls is the one program `tile`, by definition.
-/
module

public import proofs.«01_k».proof.Proof.Route

@[expose] public section

noncomputable section

namespace Cert.Proof.Route

open Cert.KernelIdeal Cert.KernelIdeal.Facts₀ Cert.KernelIdeal.Facts
open Idealize.ShloMosaic

variable {F : FTy → Type} [FloatOps F] [Cert.KernelIdeal.Facts]

set_option maxRecDepth 65536 in
set_option maxHeartbeats 0 in
theorem cc1_eq (i : grid1.Coords) (arg2 : Memref sig .scVector .hbm S524288 .f32) (harg2 : arg2.IsWhole) (arg3 : Memref sig .scVector .hbm S32768 .f32) (harg3 : arg3.IsWhole)
    (arg4 : Memref sig .scVector .hbm S32768 .i32) (harg4 : arg4.IsWhole) (arg5 : Memref sig .scVector .vmem S16384 .f32) (harg5 : arg5.IsWhole)
    (arg6 : Memref sig .scVector .vmem S1024 .f32) (harg6 : arg6.IsWhole) (arg7 : Memref sig .scVector .vmem S1024 .i32) (harg7 : arg7.IsWhole) (r0 r1 r2 : DmaSems sig S_) :
    cc1__route_kernel (F := F) i arg2 harg2 arg3 harg3 arg4 harg4 arg5 harg5 arg6 harg6 arg7 harg7 r0 r1 r2 =
      tile arg2 arg3 arg4 arg5 harg5 (View.loads_vmem h_S16384) arg6 harg6 (View.stores_vmem_bits_univ h_S1024 rfl) arg7 harg7 (View.stores_vmem_bits_univ h_S1024 rfl)
        (iota .scVector S16 32 [0] iota_S16_d0_w32_scVector) r0 r1 r2 (k1_off1 i) (k1_off2 i) (k1_off1_inb i) (k1_off2_inb i) 8#32 k1_t1_ok := by
  rfl

set_option maxRecDepth 65536 in
set_option maxHeartbeats 0 in
theorem cc3_eq (i : grid3.Coords) (arg2 : Memref sig .scVector .hbm S524288 .f32) (harg2 : arg2.IsWhole) (arg3 : Memref sig .scVector .hbm S32768 .f32) (harg3 : arg3.IsWhole)
    (arg4 : Memref sig .scVector .hbm S32768 .i32) (harg4 : arg4.IsWhole) (arg5 : Memref sig .scVector .vmem S16384 .f32) (harg5 : arg5.IsWhole)
    (arg6 : Memref sig .scVector .vmem S1024 .f32) (harg6 : arg6.IsWhole) (arg7 : Memref sig .scVector .vmem S1024 .i32) (harg7 : arg7.IsWhole) (r0 r1 r2 : DmaSems sig S_) :
    cc3__route_kernel (F := F) i arg2 harg2 arg3 harg3 arg4 harg4 arg5 harg5 arg6 harg6 arg7 harg7 r0 r1 r2 =
      tile arg2 arg3 arg4 arg5 harg5 (View.loads_vmem h_S16384) arg6 harg6 (View.stores_vmem_bits_univ h_S1024 rfl) arg7 harg7 (View.stores_vmem_bits_univ h_S1024 rfl)
        (iota .scVector S16 32 [0] iota_S16_d0_w32_scVector) r0 r1 r2 (k3_off1 i) (k3_off2 i) (k3_off1_inb i) (k3_off2_inb i) 8#32 k3_t1_ok := by
  rfl

set_option maxRecDepth 65536 in
set_option maxHeartbeats 0 in
theorem cc5_eq (i : grid5.Coords) (arg2 : Memref sig .scVector .hbm S524288 .f32) (harg2 : arg2.IsWhole) (arg3 : Memref sig .scVector .hbm S32768 .f32) (harg3 : arg3.IsWhole)
    (arg4 : Memref sig .scVector .hbm S32768 .i32) (harg4 : arg4.IsWhole) (arg5 : Memref sig .scVector .vmem S16384 .f32) (harg5 : arg5.IsWhole)
    (arg6 : Memref sig .scVector .vmem S1024 .f32) (harg6 : arg6.IsWhole) (arg7 : Memref sig .scVector .vmem S1024 .i32) (harg7 : arg7.IsWhole) (r0 r1 r2 : DmaSems sig S_) :
    cc5__route_kernel (F := F) i arg2 harg2 arg3 harg3 arg4 harg4 arg5 harg5 arg6 harg6 arg7 harg7 r0 r1 r2 =
      tile arg2 arg3 arg4 arg5 harg5 (View.loads_vmem h_S16384) arg6 harg6 (View.stores_vmem_bits_univ h_S1024 rfl) arg7 harg7 (View.stores_vmem_bits_univ h_S1024 rfl)
        (iota .scVector S16 32 [0] iota_S16_d0_w32_scVector) r0 r1 r2 (k5_off1 i) (k5_off2 i) (k5_off1_inb i) (k5_off2_inb i) 8#32 k5_t1_ok := by
  rfl

set_option maxRecDepth 65536 in
set_option maxHeartbeats 0 in
theorem cc7_eq (i : grid7.Coords) (arg2 : Memref sig .scVector .hbm S262144 .f32) (harg2 : arg2.IsWhole) (arg3 : Memref sig .scVector .hbm S16384 .f32) (harg3 : arg3.IsWhole)
    (arg4 : Memref sig .scVector .hbm S16384 .i32) (harg4 : arg4.IsWhole) (arg5 : Memref sig .scVector .vmem S8192 .f32) (harg5 : arg5.IsWhole)
    (arg6 : Memref sig .scVector .vmem S512 .f32) (harg6 : arg6.IsWhole) (arg7 : Memref sig .scVector .vmem S512 .i32) (harg7 : arg7.IsWhole) (r0 r1 r2 : DmaSems sig S_) :
    cc7__route_kernel (F := F) i arg2 harg2 arg3 harg3 arg4 harg4 arg5 harg5 arg6 harg6 arg7 harg7 r0 r1 r2 =
      tile arg2 arg3 arg4 arg5 harg5 (View.loads_vmem h_S8192) arg6 harg6 (View.stores_vmem_bits_univ h_S512 rfl) arg7 harg7 (View.stores_vmem_bits_univ h_S512 rfl)
        (iota .scVector S16 32 [0] iota_S16_d0_w32_scVector) r0 r1 r2 (k7_off1 i) (k7_off2 i) (k7_off1_inb i) (k7_off2_inb i) 4#32 k7_t1_ok := by
  rfl

set_option maxRecDepth 65536 in
set_option maxHeartbeats 0 in
theorem cc9_eq (i : grid9.Coords) (arg2 : Memref sig .scVector .hbm S262144 .f32) (harg2 : arg2.IsWhole) (arg3 : Memref sig .scVector .hbm S16384 .f32) (harg3 : arg3.IsWhole)
    (arg4 : Memref sig .scVector .hbm S16384 .i32) (harg4 : arg4.IsWhole) (arg5 : Memref sig .scVector .vmem S8192 .f32) (harg5 : arg5.IsWhole)
    (arg6 : Memref sig .scVector .vmem S512 .f32) (harg6 : arg6.IsWhole) (arg7 : Memref sig .scVector .vmem S512 .i32) (harg7 : arg7.IsWhole) (r0 r1 r2 : DmaSems sig S_) :
    cc9__route_kernel (F := F) i arg2 harg2 arg3 harg3 arg4 harg4 arg5 harg5 arg6 harg6 arg7 harg7 r0 r1 r2 =
      tile arg2 arg3 arg4 arg5 harg5 (View.loads_vmem h_S8192) arg6 harg6 (View.stores_vmem_bits_univ h_S512 rfl) arg7 harg7 (View.stores_vmem_bits_univ h_S512 rfl)
        (iota .scVector S16 32 [0] iota_S16_d0_w32_scVector) r0 r1 r2 (k9_off1 i) (k9_off2 i) (k9_off1_inb i) (k9_off2_inb i) 4#32 k9_t1_ok := by
  rfl

end Cert.Proof.Route
-- ==== Proof.Tiles.lean ====
/-
  What the handshakes of the five SparseCore calls carry, and the tiles' obligations: a tile is handed its part of the scores, reading the
  chunk's score function, and its parts of the two results; it hands the results' parts back, reading the chunk's weights and indices.
-/
module

public import proofs.«01_k».proof.Proof.TileRun
public import proofs.«01_k».proof.Proof.Text

@[expose] public section

noncomputable section

namespace Cert.Proof.Route

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-! ## A tile's parts -/

/-- The part of a flat buffer from `off`, of shape `⟨1, dA⟩`. -/
abbrev part {e : EltTy} {dX dA : Fin 1 → Nat} (X : Memref sig .scVector .hbm ⟨1, dX⟩ e) (off : Fin 1 → Nat) (o : ∀ a, off a + (⟨1, dA⟩ : Shape).size a ≤ (⟨1, dX⟩ : Shape).size a) :
    Memref sig .scVector .hbm ⟨1, dA⟩ e :=
  X.slice (Rect.unit (s := ⟨1, dX⟩) off (⟨1, dA⟩ : Shape).size o) (fun _ => rfl)

/-- A part held, at contents that read `g`. -/
def holds (thr : Thread nD τ) {e : EltTy} {d : Fin 1 → Nat} {sp : Space} (m : Memref sig thr.2.kind sp ⟨1, d⟩ e) (g : Nat → Elt F e) : sProp 𝕄 :=
  iprop(∃ f, ⌜Reads m f g⌝ ∗ m.view.loc thr ↦[m.view.set]{fullShare} f)
/-- A part held, at some contents. -/
def owns (thr : Thread nD τ) {s : Shape} {e : EltTy} {sp : Space} (m : Memref sig thr.2.kind sp s e) : sProp 𝕄 :=
  iprop(∃ f : Buf (Elt F) (m.view.loc thr), m.view.loc thr ↦[m.view.set]{fullShare} f)

instance {thr : Thread nD τ} {e : EltTy} {d : Fin 1 → Nat} {sp : Space} (m : Memref sig thr.2.kind sp ⟨1, d⟩ e) (g : Nat → Elt F e) :
    BI.Storable (upEmb : UEmb _ 𝕄) (holds thr m g) := by unfold holds; infer_instance
instance {thr : Thread nD τ} {s : Shape} {e : EltTy} {sp : Space} (m : Memref sig thr.2.kind sp s e) :
    BI.Storable (upEmb : UEmb _ 𝕄) (owns (F := F) thr m) := by unfold owns; infer_instance

/-- Tile `(c, s)` of a call with `n` tokens a tile: the scores from its first token on. -/
def tileOf (n : Nat) (g : Nat → F .f32) (c s : Nat) : Nat → F .f32 := fun p => g (128 * (n * (2 * s + c)) + p)

/-- What a tile is handed. -/
def taskGo (dv : Dev nD) (c : Fin τ.nSC) (s : Fin τ.nSub) {dA dB dX dO : Fin 1 → Nat} (X : Memref sig .scVector .hbm ⟨1, dX⟩ .f32)
    (Y : Memref sig .scVector .hbm ⟨1, dO⟩ .f32) (Z : Memref sig .scVector .hbm ⟨1, dO⟩ .i32) (off1 off2 : Fin 1 → Nat)
    (o1 : ∀ a, off1 a + (⟨1, dA⟩ : Shape).size a ≤ (⟨1, dX⟩ : Shape).size a) (o2 : ∀ a, off2 a + (⟨1, dB⟩ : Shape).size a ≤ (⟨1, dO⟩ : Shape).size a)
    (a : Nat → F .f32) : sProp 𝕄 :=
  iprop(holds (V dv c s) (part X off1 o1) a ∗ owns (V dv c s) (part Y off2 o2) ∗ owns (V dv c s) (part Z off2 o2))
/-- What it hands back. -/
def taskDone (dv : Dev nD) (c : Fin τ.nSC) (s : Fin τ.nSub) {dA dB dX dO : Fin 1 → Nat} (X : Memref sig .scVector .hbm ⟨1, dX⟩ .f32)
    (Y : Memref sig .scVector .hbm ⟨1, dO⟩ .f32) (Z : Memref sig .scVector .hbm ⟨1, dO⟩ .i32) (off1 off2 : Fin 1 → Nat)
    (o1 : ∀ a, off1 a + (⟨1, dA⟩ : Shape).size a ≤ (⟨1, dX⟩ : Shape).size a) (o2 : ∀ a, off2 a + (⟨1, dB⟩ : Shape).size a ≤ (⟨1, dO⟩ : Shape).size a)
    (a : Nat → F .f32) : sProp 𝕄 :=
  iprop(holds (V dv c s) (part X off1 o1) a ∗ holds (F := F) (V dv c s) (part Y off2 o2) (outW a) ∗ holds (F := F) (e := .i32) (V dv c s) (part Z off2 o2) (outI a))

instance {dv : Dev nD} {c : Fin τ.nSC} {s : Fin τ.nSub} {dA dB dX dO : Fin 1 → Nat} (X : Memref sig .scVector .hbm ⟨1, dX⟩ .f32)
    (Y : Memref sig .scVector .hbm ⟨1, dO⟩ .f32) (Z : Memref sig .scVector .hbm ⟨1, dO⟩ .i32) (off1 off2 : Fin 1 → Nat)
    (o1 : ∀ a, off1 a + (⟨1, dA⟩ : Shape).size a ≤ (⟨1, dX⟩ : Shape).size a) (o2 : ∀ a, off2 a + (⟨1, dB⟩ : Shape).size a ≤ (⟨1, dO⟩ : Shape).size a)
    (a : Nat → F .f32) : BI.Storable (upEmb : UEmb _ 𝕄) (taskGo dv c s X Y Z off1 off2 o1 o2 a) := by unfold taskGo; infer_instance
instance {dv : Dev nD} {c : Fin τ.nSC} {s : Fin τ.nSub} {dA dB dX dO : Fin 1 → Nat} (X : Memref sig .scVector .hbm ⟨1, dX⟩ .f32)
    (Y : Memref sig .scVector .hbm ⟨1, dO⟩ .f32) (Z : Memref sig .scVector .hbm ⟨1, dO⟩ .i32) (off1 off2 : Fin 1 → Nat)
    (o1 : ∀ a, off1 a + (⟨1, dA⟩ : Shape).size a ≤ (⟨1, dX⟩ : Shape).size a) (o2 : ∀ a, off2 a + (⟨1, dB⟩ : Shape).size a ≤ (⟨1, dO⟩ : Shape).size a)
    (a : Nat → F .f32) : BI.Storable (upEmb : UEmb _ 𝕄) (taskDone dv c s X Y Z off1 off2 o1 o2 a) := by unfold taskDone; infer_instance

/-! ## A tile's own storage -/

theorem ownBufs_three (dv : Dev nD) (c : Fin τ.nSC) (s : Fin τ.nSub) (rA rB rC : Ref sig .scVector)
    (hA : ((Proc.scVector c s).devRef rA).owner = .proc (.scVector c s)) (hB : ((Proc.scVector c s).devRef rB).owner = .proc (.scVector c s))
    (hC : ((Proc.scVector c s).devRef rC).owner = .proc (.scVector c s)) (hAB : rB ≠ rA) (hAC : rC ≠ rA) (hBC : rC ≠ rB) :
    ∃ R : sProp 𝕄, ownBufs (V dv c s) = iprop(owns (V dv c s) (Memref.whole rA) ∗ owns (V dv c s) (Memref.whole rB) ∗ owns (V dv c s) (Memref.whole rC) ∗ R) := by
  have w : ∀ r : Ref sig .scVector, (iprop(∃ f : Buf (Elt F) ((V dv c s).loc r), (V dv c s).loc r ↦{fullShare} f) : sProp 𝕄) = owns (V dv c s) (Memref.whole r) := fun r => by
    unfold owns
    rw [Memref.view_whole, View.set_whole]
  refine ⟨bigSep ((((ownRefs (τ := τ) (.scVector c s)).erase ((Proc.scVector c s).devRef rA)).erase ((Proc.scVector c s).devRef rB)).erase ((Proc.scVector c s).devRef rC))
    fun b => iprop(∃ f, ((dv, b) : Loc nD τ sig) ↦{fullShare} f), ?_⟩
  rw [← w rA, ← w rB, ← w rC]
  unfold SparseCore.Cfg.ownBufs
  refine (SparseCore.bigSep_erase' (SparseCore.Cfg.mem_ownRefs_of_owner (p := Proc.scVector c s) (b := (Proc.scVector c s).devRef rA) hA)).trans ?_
  rw [SparseCore.bigSep_erase' (Finset.mem_erase.mpr ⟨fun e => absurd (Proc.devRef_injective _ e) hAB,
      SparseCore.Cfg.mem_ownRefs_of_owner (p := Proc.scVector c s) (b := (Proc.scVector c s).devRef rB) hB⟩),
    SparseCore.bigSep_erase' (Finset.mem_erase.mpr ⟨fun e => absurd (Proc.devRef_injective _ e) hBC, Finset.mem_erase.mpr ⟨fun e => absurd (Proc.devRef_injective _ e) hAC,
      SparseCore.Cfg.mem_ownRefs_of_owner (p := Proc.scVector c s) (b := (Proc.scVector c s).devRef rC) hC⟩⟩)]

theorem ownSems0_three (dv : Dev nD) (c : Fin τ.nSC) (s : Fin τ.nSub) (r0 r1 r2 : DmaSem sig)
    (h0 : (SemLoc.dma r0 : SemLoc sig).isScoped .scVector = true) (h1 : (SemLoc.dma r1 : SemLoc sig).isScoped .scVector = true) (h2 : (SemLoc.dma r2 : SemLoc sig).isScoped .scVector = true)
    (h01 : r1 ≠ r0) (h02 : r2 ≠ r0) (h12 : r2 ≠ r1) :
    ∃ R : sProp 𝕄, ownSems0 (V dv c s)
      = iprop(semVal (V dv c s, SemLoc.dma r0) 0 ∗ semVal (V dv c s, SemLoc.dma r1) 0 ∗ semVal (V dv c s, SemLoc.dma r2) 0 ∗ R) := by
  have n : ∀ {r r' : DmaSem sig}, r' ≠ r → ((V dv c s, SemLoc.dma r') : GSem nD τ sig) ≠ (V dv c s, SemLoc.dma r) := fun h e =>
    h (SemLoc.dma.inj (Prod.mk.inj e).2)
  refine ⟨bigSep ((((ownCells (V dv c s)).erase (V dv c s, SemLoc.dma r0)).erase (V dv c s, SemLoc.dma r1)).erase (V dv c s, SemLoc.dma r2)) fun g => semVal g 0, ?_⟩
  unfold SparseCore.Cfg.ownSems0
  rw [SparseCore.bigSep_erase' ((mem_ownCells (g := (V dv c s, SemLoc.dma r0))).mpr ⟨rfl, h0⟩),
    SparseCore.bigSep_erase' (Finset.mem_erase.mpr ⟨n h01, (mem_ownCells (g := (V dv c s, SemLoc.dma r1))).mpr ⟨rfl, h1⟩⟩),
    SparseCore.bigSep_erase' (Finset.mem_erase.mpr ⟨n h12, Finset.mem_erase.mpr ⟨n h02, (mem_ownCells (g := (V dv c s, SemLoc.dma r2))).mpr ⟨rfl, h2⟩⟩⟩)]

/-! ## A tile's task, from what the launch hands it -/

theorem wp_task {dv : Dev nD} {c : Fin τ.nSC} {s : Fin τ.nSub} {dA dB dX dO : Fin 1 → Nat} {X : Memref sig .scVector .hbm ⟨1, dX⟩ .f32}
    {Y : Memref sig .scVector .hbm ⟨1, dO⟩ .f32} {Z : Memref sig .scVector .hbm ⟨1, dO⟩ .i32}
    {A : Memref sig .scVector .vmem ⟨1, dA⟩ .f32} {aA : A.IsWhole} {hA : A.view.Loads}
    {B : Memref sig .scVector .vmem ⟨1, dB⟩ .f32} {aB : B.IsWhole} {hB : (B.access (Rect.whole ⟨1, dB⟩)).Stores Finset.univ}
    {C : Memref sig .scVector .vmem ⟨1, dB⟩ .i32} {aC : C.IsWhole} {hC : (C.access (Rect.whole ⟨1, dB⟩)).Stores Finset.univ}
    {lanes : IV} {r0 r1 r2 : DmaSems sig S_} {off1 off2 : Fin 1 → Nat}
    {o1 : ∀ a, off1 a + (⟨1, dA⟩ : Shape).size a ≤ (⟨1, dX⟩ : Shape).size a} {o2 : ∀ a, off2 a + (⟨1, dB⟩ : Shape).size a ≤ (⟨1, dO⟩ : Shape).size a}
    {ub : BitVec 32} {ok : (⟨0#32, ub, 1#32⟩ : Scf.Loop 32).OK}
    (hl : ∀ x : S16.Idx, (lanes x).toNat = (x 0).val) (htr : Scf.trips 0#32 ub 1#32 ≤ 8) (h0 : 0 < Scf.trips 0#32 ub 1#32)
    (hdA : dA 0 = 128 * (16 * Scf.trips 0#32 ub 1#32)) (hdB : dB 0 = 8 * (16 * Scf.trips 0#32 ub 1#32))
    (hbufs : ∃ R : sProp 𝕄, ownBufs (V dv c s) = iprop(owns (V dv c s) A ∗ owns (V dv c s) B ∗ owns (V dv c s) C ∗ R))
    (hsems : ∃ R : sProp 𝕄, ownSems0 (V dv c s)
      = iprop(semVal (V dv c s, SemLoc.dma r0.sem) 0 ∗ semVal (V dv c s, SemLoc.dma r1.sem) 0 ∗ semVal (V dv c s, SemLoc.dma r2.sem) 0 ∗ R))
    {q : Fin 5} {O : CellTallies nD τ sig (HIx 5)} {W : Waits sig (HIx 5)} (hO : ∀ g, O g none = 0) {a : Nat → F .f32} :
    iprop(levAts (K (F := F)).L (K (F := F)).lev ∗ emp ∗ taskGo dv c s X Y Z off1 off2 o1 o2 a
        ∗ scopedBufs (V dv c s) ∗ scopedSems0 (V dv c s) ∗ owes (V dv c s) O W)
      ⊢ wp (M := MM F) frame (wpE (defs₀ (F := F)) 𝒱₀ (V dv c s) none) Set.univ
          (tile X Y Z A aA hA B aB hB C aC hC lanes r0 r1 r2 off1 off2 o1 o2 ub ok)
          fun _ => iprop(taskDone dv c s X Y Z off1 off2 o1 o2 a ∗ scopedBufs (V dv c s) ∗ scopedSems0 (V dv c s)
            ∗ ∃ W', ⌜∀ p ∈ W', p ∈ W ∨ p.2 = none ∨ p.2 = some q⌝ ∗ owes (V dv c s) O W') := by
  obtain ⟨RB, hRB⟩ := hbufs
  obtain ⟨RS, hRS⟩ := hsems
  rw [(K (F := F)).scopedBufs_V facts dv c s, SparseCore.Cfg.scopedSems0_V (Val := Elt F) dv c s, hRB, hRS]
  unfold taskGo taskDone holds owns
  iintro ⟨#Hlv, -, ⟨⟨%fX, %hX, Hx⟩, Hy, Hz⟩, ⟨HA, HB, HC, Hbufs⟩, ⟨Hs0, Hs1, Hs2, Hsems⟩, HO⟩
  ihave Hmw := ((K (F := F)).mayWaits_none (thr := V dv c s) hO) $$ Hlv
  iapply (wp_wand_r frame (wpE (defs₀ (F := F)) 𝒱₀ (V dv c s) none) Set.univ)
  isplitl [Hmw Hx Hy Hz HA HB HC Hs0 Hs1 Hs2 HO]
  · iapply (wp_tile hl htr h0 hdA hdB O W hX)
    isplitl [Hmw]; · iexact Hmw
    isplitl [Hx]; · iexact Hx
    isplitl [Hy]; · iexact Hy
    isplitl [Hz]; · iexact Hz
    isplitl [HA]; · iexact HA
    isplitl [HB]; · iexact HB
    isplitl [HC]; · iexact HC
    isplitl [Hs0]; · iexact Hs0
    isplitl [Hs1]; · iexact Hs1
    isplitl [Hs2]; · iexact Hs2
    iexact HO
  · iintro %_ ⟨Hx, Hy, Hz, HA, HB, HC, Hs0, Hs1, Hs2, %W', %hW', HO⟩
    isplitl [Hx Hy Hz]
    · isplitl [Hx]
      · iexists fX; isplitr; · ipureintro; exact hX
        iexact Hx
      isplitl [Hy] <;> iassumption
    isplitl [HA HB HC Hbufs]
    · isplitl [HA]; · iexact HA
      isplitl [HB]; · iexact HB
      isplitl [HC]; · iexact HC
      iexact Hbufs
    isplitl [Hs0 Hs1 Hs2 Hsems]
    · isplitl [Hs0]; · iexact Hs0
      isplitl [Hs1]; · iexact Hs1
      isplitl [Hs2]; · iexact Hs2
      iexact Hsems
    iexists W'; isplitr
    · ipureintro; exact fun p hp => (hW' p hp).imp_right Or.inl
    · iexact HO

/-! ## What the handshakes carry -/

def coordsV (c : Fin (grid1.bound 0)) (s : Fin (grid1.bound 1)) : grid1.Coords :=
  fun | 0 => c | 1 => s | ⟨_ + 2, h⟩ => absurd h (Nat.not_lt.2 (Nat.le_add_left _ _))

/-- A tile's operands at each call, the chunks' score functions being `sc`. -/
def goAt (sco : Fin 5 → Nat → F .f32) (q : Fin 5) (dv : Dev nD) (c : Fin ((K (F := F)).nCore q)) (i : Fin ((K (F := F)).nSub q)) : sProp 𝕄 := match q with
  | 0 => taskGo dv ((K (F := F)).core 0 c) ((K (F := F)).sub 0 i) (Memref.whole main_v2_scv) (Memref.whole main_v3_0_scv) (Memref.whole main_v3_1_scv)
      (k1_off1 (coordsV c i)) (k1_off2 (coordsV c i)) (k1_off1_inb _) (k1_off2_inb _) (tileOf 128 (sco 0) c.val i.val)
  | 1 => taskGo dv ((K (F := F)).core 1 c) ((K (F := F)).sub 1 i) (Memref.whole main_v8_scv) (Memref.whole main_v9_0_scv) (Memref.whole main_v9_1_scv)
      (k3_off1 (coordsV c i)) (k3_off2 (coordsV c i)) (k3_off1_inb _) (k3_off2_inb _) (tileOf 128 (sco 1) c.val i.val)
  | 2 => taskGo dv ((K (F := F)).core 2 c) ((K (F := F)).sub 2 i) (Memref.whole main_v14_scv) (Memref.whole main_v15_0_scv) (Memref.whole main_v15_1_scv)
      (k5_off1 (coordsV c i)) (k5_off2 (coordsV c i)) (k5_off1_inb _) (k5_off2_inb _) (tileOf 128 (sco 2) c.val i.val)
  | 3 => taskGo dv ((K (F := F)).core 3 c) ((K (F := F)).sub 3 i) (Memref.whole main_v20_scv) (Memref.whole main_v21_0_scv) (Memref.whole main_v21_1_scv)
      (k7_off1 (coordsV c i)) (k7_off2 (coordsV c i)) (k7_off1_inb _) (k7_off2_inb _) (tileOf 64 (sco 3) c.val i.val)
  | 4 => taskGo dv ((K (F := F)).core 4 c) ((K (F := F)).sub 4 i) (Memref.whole main_v26_scv) (Memref.whole main_v27_0_scv) (Memref.whole main_v27_1_scv)
      (k9_off1 (coordsV c i)) (k9_off2 (coordsV c i)) (k9_off1_inb _) (k9_off2_inb _) (tileOf 64 (sco 4) c.val i.val)

/-- A tile's results at each call. -/
def doneAt (sco : Fin 5 → Nat → F .f32) (q : Fin 5) (dv : Dev nD) (c : Fin ((K (F := F)).nCore q)) (i : Fin ((K (F := F)).nSub q)) : sProp 𝕄 := match q with
  | 0 => taskDone dv ((K (F := F)).core 0 c) ((K (F := F)).sub 0 i) (Memref.whole main_v2_scv) (Memref.whole main_v3_0_scv) (Memref.whole main_v3_1_scv)
      (k1_off1 (coordsV c i)) (k1_off2 (coordsV c i)) (k1_off1_inb _) (k1_off2_inb _) (tileOf 128 (sco 0) c.val i.val)
  | 1 => taskDone dv ((K (F := F)).core 1 c) ((K (F := F)).sub 1 i) (Memref.whole main_v8_scv) (Memref.whole main_v9_0_scv) (Memref.whole main_v9_1_scv)
      (k3_off1 (coordsV c i)) (k3_off2 (coordsV c i)) (k3_off1_inb _) (k3_off2_inb _) (tileOf 128 (sco 1) c.val i.val)
  | 2 => taskDone dv ((K (F := F)).core 2 c) ((K (F := F)).sub 2 i) (Memref.whole main_v14_scv) (Memref.whole main_v15_0_scv) (Memref.whole main_v15_1_scv)
      (k5_off1 (coordsV c i)) (k5_off2 (coordsV c i)) (k5_off1_inb _) (k5_off2_inb _) (tileOf 128 (sco 2) c.val i.val)
  | 3 => taskDone dv ((K (F := F)).core 3 c) ((K (F := F)).sub 3 i) (Memref.whole main_v20_scv) (Memref.whole main_v21_0_scv) (Memref.whole main_v21_1_scv)
      (k7_off1 (coordsV c i)) (k7_off2 (coordsV c i)) (k7_off1_inb _) (k7_off2_inb _) (tileOf 64 (sco 3) c.val i.val)
  | 4 => taskDone dv ((K (F := F)).core 4 c) ((K (F := F)).sub 4 i) (Memref.whole main_v26_scv) (Memref.whole main_v27_0_scv) (Memref.whole main_v27_1_scv)
      (k9_off1 (coordsV c i)) (k9_off2 (coordsV c i)) (k9_off1_inb _) (k9_off2_inb _) (tileOf 64 (sco 4) c.val i.val)

instance (sco : Fin 5 → Nat → F .f32) (q : Fin 5) (dv : Dev nD) (c : Fin ((K (F := F)).nCore q)) (i : Fin ((K (F := F)).nSub q)) :
    BI.Storable (upEmb : UEmb _ 𝕄) (goAt sco q dv c i) := by
  unfold goAt; fin_cases q <;> infer_instance
instance (sco : Fin 5 → Nat → F .f32) (q : Fin 5) (dv : Dev nD) (c : Fin ((K (F := F)).nCore q)) (i : Fin ((K (F := F)).nSub q)) :
    BI.Storable (upEmb : UEmb _ 𝕄) (doneAt sco q dv c i) := by
  unfold doneAt; fin_cases q <;> infer_instance

/-- A core is handed its sixteen tiles' operands and hands back their results. -/
def Py (sco : Dev nD → Fin 5 → Nat → F .f32) : (K (F := F)).Pay (nD := nD) (Val := Elt F) (Name := ℕ) (U := UU) where
  st := fun q d c => bigSep Finset.univ fun i => goAt (sco d) q d c i
  dn := fun q d c => bigSep Finset.univ fun i => doneAt (sco d) q d c i
  go := fun q d c i => goAt (sco d) q d c i
  td := fun q d c i => doneAt (sco d) q d c i
  x := fun _ _ => iprop(emp)

instance Py_storable (sco : Dev nD → Fin 5 → Nat → F .f32) : (Py (F := F) sco).IsStorable where
  st q d c := by show BI.Storable _ (bigSep Finset.univ fun i => goAt (sco d) q d c i); infer_instance
  dn q d c := by show BI.Storable _ (bigSep Finset.univ fun i => doneAt (sco d) q d c i); infer_instance
  go q d c i := by show BI.Storable _ (goAt (sco d) q d c i); infer_instance
  td q d c i := by show BI.Storable _ (doneAt (sco d) q d c i); infer_instance

theorem vecSplit (sco : Dev nD → Fin 5 → Nat → F .f32) (q : Fin 5) : (K (F := F)).VecSplit' (Py sco) q := by
  intro d c
  show (bigSep Finset.univ fun i => goAt (sco d) q d c i) ⊢ |={Set.univ}=> iprop((bigSep Finset.univ fun i => goAt (sco d) q d c i)
    ∗ ((bigSep Finset.univ fun i => doneAt (sco d) q d c i) -∗ bigSep Finset.univ fun i => doneAt (sco d) q d c i))
  iintro H; imodintro
  isplitl [H]; · iexact H
  iintro H; iexact H

/-! ## The obligations -/

theorem lanes_val : ∀ x : S16.Idx, (iota .scVector S16 32 [0] Facts₀.iota_S16_d0_w32_scVector x).toNat = (x 0).val := by
  intro x
  have hx : (x 0).val < 16 := (x 0).isLt
  show (BitVec.ofNat 32 (0 * 16 + (x 0).val)).toNat = _
  rw [BitVec.toNat_ofNat]
  omega

set_option maxRecDepth 16384 in
theorem tileObl0 (sco : Dev nD → Fin 5 → Nat → F .f32) : (K (F := F)).TileObl (D (F := F)) 𝒱 (Py sco) v₀ 0 := by
  intro d c i O W hO _ _
  simp only [show (Py sco).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have e : defs₀ (F := F) (.scVector ((K (F := F)).core 0 c) ((K (F := F)).sub 0 i)) 1 ()
      = SparseCore.onTile hcore1 hsub1 (fun c s => cc1__route_kernel (coordsV c s)
          (Memref.whole main_v2_scv) (Memref.isWhole_whole _) (Memref.whole main_v3_0_scv) (Memref.isWhole_whole _) (Memref.whole main_v3_1_scv) (Memref.isWhole_whole _)
          (Memref.whole cc1_scratch0) (Memref.isWhole_whole _) (Memref.whole cc1_scratch1) (Memref.isWhole_whole _) (Memref.whole cc1_scratch2) (Memref.isWhole_whole _)
          cc1_scoped0 cc1_scoped1 cc1_scoped2) ⟨⟩ ((K (F := F)).core 0 c) ((K (F := F)).sub 0 i) := rfl
  rw [e]; simp only [SparseCore.onTile, hci, and_self, ↓reduceDIte]
  rw [cc1_eq]
  exact wp_task (a := tileOf 128 (sco d 0) c.val i.val) (q := 0) lanes_val (by decide) (by decide) (by decide) (by decide)
    (ownBufs_three d ((K (F := F)).core 0 c) ((K (F := F)).sub 0 i) cc1_scratch0 cc1_scratch1 cc1_scratch2 rfl rfl rfl (by decide) (by decide) (by decide))
    (ownSems0_three d ((K (F := F)).core 0 c) ((K (F := F)).sub 0 i) cc1_scoped0.sem cc1_scoped1.sem cc1_scoped2.sem (by decide) (by decide) (by decide) (by decide) (by decide) (by decide)) hO

set_option maxRecDepth 16384 in
theorem tileObl1 (sco : Dev nD → Fin 5 → Nat → F .f32) : (K (F := F)).TileObl (D (F := F)) 𝒱 (Py sco) v₀ 1 := by
  intro d c i O W hO _ _
  simp only [show (Py sco).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have e : defs₀ (F := F) (.scVector ((K (F := F)).core 1 c) ((K (F := F)).sub 1 i)) 3 ()
      = SparseCore.onTile hcore3 hsub3 (fun c s => cc3__route_kernel (coordsV c s)
          (Memref.whole main_v8_scv) (Memref.isWhole_whole _) (Memref.whole main_v9_0_scv) (Memref.isWhole_whole _) (Memref.whole main_v9_1_scv) (Memref.isWhole_whole _)
          (Memref.whole cc3_scratch0) (Memref.isWhole_whole _) (Memref.whole cc3_scratch1) (Memref.isWhole_whole _) (Memref.whole cc3_scratch2) (Memref.isWhole_whole _)
          cc3_scoped0 cc3_scoped1 cc3_scoped2) ⟨⟩ ((K (F := F)).core 1 c) ((K (F := F)).sub 1 i) := rfl
  rw [e]; simp only [SparseCore.onTile, hci, and_self, ↓reduceDIte]
  rw [cc3_eq]
  exact wp_task (a := tileOf 128 (sco d 1) c.val i.val) (q := 1) lanes_val (by decide) (by decide) (by decide) (by decide)
    (ownBufs_three d ((K (F := F)).core 1 c) ((K (F := F)).sub 1 i) cc3_scratch0 cc3_scratch1 cc3_scratch2 rfl rfl rfl (by decide) (by decide) (by decide))
    (ownSems0_three d ((K (F := F)).core 1 c) ((K (F := F)).sub 1 i) cc3_scoped0.sem cc3_scoped1.sem cc3_scoped2.sem (by decide) (by decide) (by decide) (by decide) (by decide) (by decide)) hO

set_option maxRecDepth 16384 in
theorem tileObl2 (sco : Dev nD → Fin 5 → Nat → F .f32) : (K (F := F)).TileObl (D (F := F)) 𝒱 (Py sco) v₀ 2 := by
  intro d c i O W hO _ _
  simp only [show (Py sco).ox = fun _ _ => 0 from rfl, add_zero]
  have hci : ((K (F := F)).core 2 c).val < grid5.bound 0 ∧ ((K (F := F)).sub 2 i).val < grid5.bound 1 := ⟨c.isLt, i.isLt⟩
  change _ ⊢ wp _ _ _ (Pipeline.liftProg (defs₀ (F := F) (.scVector ((K (F := F)).core 2 c) ((K (F := F)).sub 2 i)) 5 ())) _
  refine BI.Entails.trans ?_ (Pipeline.wp_liftProg (D (F := F)) (Pipeline.defs_kernel pcfgs defs₀) 𝒱₀ _ Set.univ none _ _)
  have e : defs₀ (F := F) (.scVector ((K (F := F)).core 2 c) ((K (F := F)).sub 2 i)) 5 ()
      = SparseCore.onTile hcore5 hsub5 (fun c s => cc5__route_kernel (coordsV c s)
          (Memref.whole main_v14_scv) (Memref.isWhole_whole _) (Memref.whole main_v15_0_scv) (Memref.isWhole_whole _) (Memref.whole main_v15_1_scv) (Memref.isWhole_whole _)
          (Memref.whole cc5_scratch0) (Memref.isWhole_whole _) (Memref.whole cc5_scratch1) (Memref.isWhole_whole _) (Memref.whole cc5_scratch2) (Memref.isWhole_whole _)
          cc5_scoped0 cc5_scoped1 cc5_scoped2) ⟨⟩ ((K (F := F)).core 2 c) ((K (F := F)).sub 2 i) := rfl
  rw [e]; simp only [SparseCore.onTile, hci, and_self, ↓reduceDIte]
  rw [cc5_eq]
  exact wp_task (a := tileOf 128 (sco d 2) c.val i.val) (q := 2) lanes_val (by decide) (by decide) (by decide) (by decide)
    (ownBufs_three d ((K (F := F)).core 2 c) ((K (F := F)).sub 2 i) cc5_scratch0 cc5_scratch1 cc5_scratch2 rfl rfl rfl (by decide) (by decide) (by decide))
    (ownSems0_three d ((K (F := F)).core 2 c) ((K (F := F)).sub 2 i) cc5_scoped0.sem cc5_scoped1.sem cc5_scoped2.sem (by decide) (by decide) (by decide) (by decide) (by decide) (by decide)) hO

set_option maxRecDepth 16384 in
theorem tileObl3 (sco : Dev nD → Fin 5 → Nat → F .f32) : (K (F := F)).TileObl (D (F := F)) 𝒱 (Py sco) v₀ 3 := by
  intro d c i O W hO _ _
  simp only [show (Py sco).ox = fun _ _ => 0 from rfl, add_zero]
  have hci : ((K (F := F)).core 3 c).val < grid7.bound 0 ∧ ((K (F := F)).sub 3 i).val < grid7.bound 1 := ⟨c.isLt, i.isLt⟩
  change _ ⊢ wp _ _ _ (Pipeline.liftProg (defs₀ (F := F) (.scVector ((K (F := F)).core 3 c) ((K (F := F)).sub 3 i)) 7 ())) _
  refine BI.Entails.trans ?_ (Pipeline.wp_liftProg (D (F := F)) (Pipeline.defs_kernel pcfgs defs₀) 𝒱₀ _ Set.univ none _ _)
  have e : defs₀ (F := F) (.scVector ((K (F := F)).core 3 c) ((K (F := F)).sub 3 i)) 7 ()
      = SparseCore.onTile hcore7 hsub7 (fun c s => cc7__route_kernel (coordsV c s)
          (Memref.whole main_v20_scv) (Memref.isWhole_whole _) (Memref.whole main_v21_0_scv) (Memref.isWhole_whole _) (Memref.whole main_v21_1_scv) (Memref.isWhole_whole _)
          (Memref.whole cc7_scratch0) (Memref.isWhole_whole _) (Memref.whole cc7_scratch1) (Memref.isWhole_whole _) (Memref.whole cc7_scratch2) (Memref.isWhole_whole _)
          cc7_scoped0 cc7_scoped1 cc7_scoped2) ⟨⟩ ((K (F := F)).core 3 c) ((K (F := F)).sub 3 i) := rfl
  rw [e]; simp only [SparseCore.onTile, hci, and_self, ↓reduceDIte]
  rw [cc7_eq]
  exact wp_task (a := tileOf 64 (sco d 3) c.val i.val) (q := 3) lanes_val (by decide) (by decide) (by decide) (by decide)
    (ownBufs_three d ((K (F := F)).core 3 c) ((K (F := F)).sub 3 i) cc7_scratch0 cc7_scratch1 cc7_scratch2 rfl rfl rfl (by decide) (by decide) (by decide))
    (ownSems0_three d ((K (F := F)).core 3 c) ((K (F := F)).sub 3 i) cc7_scoped0.sem cc7_scoped1.sem cc7_scoped2.sem (by decide) (by decide) (by decide) (by decide) (by decide) (by decide)) hO

set_option maxRecDepth 16384 in
theorem tileObl4 (sco : Dev nD → Fin 5 → Nat → F .f32) : (K (F := F)).TileObl (D (F := F)) 𝒱 (Py sco) v₀ 4 := by
  intro d c i O W hO _ _
  simp only [show (Py sco).ox = fun _ _ => 0 from rfl, add_zero]
  have hci : ((K (F := F)).core 4 c).val < grid9.bound 0 ∧ ((K (F := F)).sub 4 i).val < grid9.bound 1 := ⟨c.isLt, i.isLt⟩
  change _ ⊢ wp _ _ _ (Pipeline.liftProg (defs₀ (F := F) (.scVector ((K (F := F)).core 4 c) ((K (F := F)).sub 4 i)) 9 ())) _
  refine BI.Entails.trans ?_ (Pipeline.wp_liftProg (D (F := F)) (Pipeline.defs_kernel pcfgs defs₀) 𝒱₀ _ Set.univ none _ _)
  have e : defs₀ (F := F) (.scVector ((K (F := F)).core 4 c) ((K (F := F)).sub 4 i)) 9 ()
      = SparseCore.onTile hcore9 hsub9 (fun c s => cc9__route_kernel (coordsV c s)
          (Memref.whole main_v26_scv) (Memref.isWhole_whole _) (Memref.whole main_v27_0_scv) (Memref.isWhole_whole _) (Memref.whole main_v27_1_scv) (Memref.isWhole_whole _)
          (Memref.whole cc9_scratch0) (Memref.isWhole_whole _) (Memref.whole cc9_scratch1) (Memref.isWhole_whole _) (Memref.whole cc9_scratch2) (Memref.isWhole_whole _)
          cc9_scoped0 cc9_scoped1 cc9_scoped2) ⟨⟩ ((K (F := F)).core 4 c) ((K (F := F)).sub 4 i) := rfl
  rw [e]; simp only [SparseCore.onTile, hci, and_self, ↓reduceDIte]
  rw [cc9_eq]
  exact wp_task (a := tileOf 64 (sco d 4) c.val i.val) (q := 4) lanes_val (by decide) (by decide) (by decide) (by decide)
    (ownBufs_three d ((K (F := F)).core 4 c) ((K (F := F)).sub 4 i) cc9_scratch0 cc9_scratch1 cc9_scratch2 rfl rfl rfl (by decide) (by decide) (by decide))
    (ownSems0_three d ((K (F := F)).core 4 c) ((K (F := F)).sub 4 i) cc9_scoped0.sem cc9_scoped1.sem cc9_scoped2.sem (by decide) (by decide) (by decide) (by decide) (by decide) (by decide)) hO

end Cert.Proof.Route
-- ==== Proof.Deal.lean ====
/-
  The five calls' operands dealt to the tiles, and the tiles' results gathered: tile `(c, s)` of a call holds part `2 s + c` of each buffer.
-/
module

public import proofs.«01_k».proof.Proof.Tiles

@[expose] public section

noncomputable section

namespace Cert.Proof.Route

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-! ## Thirty-two parts -/

/-- The parts of a buffer of `32 A` elements, tile `(c, s)` at the `(2 s + c)`-th. -/
def Parts {ℓ : Loc nD τ sig} (pos : Idx ℓ → ℕ) (A : ℕ) (Kf : Fin 2 → Fin 16 → Finset (Idx ℓ)) : Prop :=
  (∀ i, pos i < A * 32) ∧ ∀ c s i, i ∈ Kf c s ↔ A * (2 * s.val + c.val) ≤ pos i ∧ pos i < A * (2 * s.val + c.val) + A

theorem deal {ℓ : Loc nD τ sig} {pos : Idx ℓ → ℕ} {A : ℕ} {Kf : Fin 2 → Fin 16 → Finset (Idx ℓ)} (h : Parts pos A Kf) (f : Buf (Elt F) ℓ) :
    (ℓ ↦{fullShare} f : sProp 𝕄) = bigSep Finset.univ fun c : Fin 2 => bigSep Finset.univ fun s : Fin 16 => ℓ ↦[Kf c s]{fullShare} f := by
  rw [← BI.bigSep_univ_prod (fun t : Fin 2 × Fin 16 => (ℓ ↦[Kf t.1 t.2]{fullShare} f : sProp 𝕄)),
    ← pointsTo_biUnion Finset.univ (fun t : Fin 2 × Fin 16 => Kf t.1 t.2) ?_]
  · refine congrArg (fun I => (ℓ ↦[I]{fullShare} f : sProp 𝕄)) (Finset.eq_univ_iff_forall.mpr fun i => ?_).symm
    have hp := h.1 i
    have hA : 0 < A := by omega
    have hd := Nat.div_add_mod (pos i) A
    have hm := Nat.mod_lt (pos i) hA
    have hq : pos i / A < 32 := Nat.div_lt_of_lt_mul hp
    refine Finset.mem_biUnion.mpr ⟨(⟨pos i / A % 2, by omega⟩, ⟨pos i / A / 2, by omega⟩), Finset.mem_univ _, (h.2 _ _ _).mpr ?_⟩
    show A * (2 * (pos i / A / 2) + pos i / A % 2) ≤ pos i ∧ pos i < A * (2 * (pos i / A / 2) + pos i / A % 2) + A
    rw [Nat.div_add_mod]
    omega
  · rintro ⟨c, s⟩ - ⟨c', s'⟩ - hne
    refine Finset.disjoint_left.mpr fun i h1 h2 => hne ?_
    have h1 : A * (2 * s.val + c.val) ≤ pos i ∧ pos i < A * (2 * s.val + c.val) + A := (h.2 _ _ _).mp h1
    have h2 : A * (2 * s'.val + c'.val) ≤ pos i ∧ pos i < A * (2 * s'.val + c'.val) + A := (h.2 _ _ _).mp h2
    have e : 2 * s.val + c.val = 2 * s'.val + c'.val := by
      rcases Nat.lt_trichotomy (2 * s.val + c.val) (2 * s'.val + c'.val) with e | e | e
      · have := Nat.mul_le_mul_left A (Nat.succ_le_of_lt e); rw [Nat.succ_eq_add_one, Nat.mul_add] at this; omega
      · exact e
      · have := Nat.mul_le_mul_left A (Nat.succ_le_of_lt e); rw [Nat.succ_eq_add_one, Nat.mul_add] at this; omega
    exact Prod.ext (Fin.ext (by show c.val = c'.val; omega)) (Fin.ext (by show s.val = s'.val; omega))

/-- Dealt as parts of which each reads what it should. -/
theorem deal_holds {ℓ : Loc nD τ sig} {pos : Idx ℓ → ℕ} {A : ℕ} {Kf : Fin 2 → Fin 16 → Finset (Idx ℓ)} (h : Parts pos A Kf)
    (R : Fin 2 → Fin 16 → Buf (Elt F) ℓ → Prop) (f : Buf (Elt F) ℓ) (hR : ∀ c s, R c s f) :
    (ℓ ↦{fullShare} f : sProp 𝕄) ⊢ bigSep Finset.univ fun c : Fin 2 => bigSep Finset.univ fun s : Fin 16 => iprop(∃ f', ⌜R c s f'⌝ ∗ ℓ ↦[Kf c s]{fullShare} f') := by
  rw [deal h]
  refine bigSep_mono fun c _ => bigSep_mono fun s _ => ?_
  show (ℓ ↦[Kf c s]{fullShare} f : sProp 𝕄) ⊢ iprop(∃ f', ⌜R c s f'⌝ ∗ ℓ ↦[Kf c s]{fullShare} f')
  iintro H
  iexists f; isplitr; · ipureintro; exact hR c s
  iexact H

theorem deal_owns {ℓ : Loc nD τ sig} {pos : Idx ℓ → ℕ} {A : ℕ} {Kf : Fin 2 → Fin 16 → Finset (Idx ℓ)} (h : Parts pos A Kf) (f : Buf (Elt F) ℓ) :
    (ℓ ↦{fullShare} f : sProp 𝕄) ⊢ bigSep Finset.univ fun c : Fin 2 => bigSep Finset.univ fun s : Fin 16 => iprop(∃ f', ℓ ↦[Kf c s]{fullShare} f') := by
  rw [deal h]
  refine bigSep_mono fun c _ => bigSep_mono fun s _ => ?_
  show (ℓ ↦[Kf c s]{fullShare} f : sProp 𝕄) ⊢ iprop(∃ f', ℓ ↦[Kf c s]{fullShare} f')
  iintro H
  iexists f
  iexact H

/-- Gathered, where what the parts read determines them. -/
theorem gather_holds {ℓ : Loc nD τ sig} {pos : Idx ℓ → ℕ} {A : ℕ} {Kf : Fin 2 → Fin 16 → Finset (Idx ℓ)} (h : Parts pos A Kf)
    (R : Fin 2 → Fin 16 → Buf (Elt F) ℓ → Prop) (f : Buf (Elt F) ℓ) (hR : ∀ c s f', R c s f' → ∀ i ∈ Kf c s, f' i = f i) :
    (bigSep Finset.univ fun c : Fin 2 => bigSep Finset.univ fun s : Fin 16 => iprop(∃ f', ⌜R c s f'⌝ ∗ ℓ ↦[Kf c s]{fullShare} f')) ⊢ (ℓ ↦{fullShare} f : sProp 𝕄) := by
  rw [deal h]
  refine bigSep_mono fun c _ => bigSep_mono fun s _ => ?_
  show iprop(∃ f', ⌜R c s f'⌝ ∗ ℓ ↦[Kf c s]{fullShare} f') ⊢ (ℓ ↦[Kf c s]{fullShare} f : sProp 𝕄)
  iintro ⟨%f', %hf, H⟩
  rw [← pointsTo_congr (hR c s f' hf)]
  iexact H

/-- Three buffers dealt together. -/
theorem deal_three (A B C : Fin 2 → Fin 16 → sProp 𝕄) :
    (bigSep Finset.univ fun c : Fin 2 => bigSep Finset.univ fun s : Fin 16 => iprop(A c s ∗ B c s ∗ C c s))
      = iprop((bigSep Finset.univ fun c => bigSep Finset.univ fun s => A c s) ∗ (bigSep Finset.univ fun c => bigSep Finset.univ fun s => B c s)
          ∗ bigSep Finset.univ fun c => bigSep Finset.univ fun s => C c s) := by
  rw [← bigSep_sep', ← bigSep_sep']
  refine bigSep_congr fun c _ => ?_
  rw [← bigSep_sep', ← bigSep_sep']

/-- A family over the call's own ranges, as one over two and sixteen. -/
theorem big_fin {n m : ℕ} (hn : n = 2) (hm : m = 16) (P : Fin n → Fin m → sProp 𝕄) (P' : Fin 2 → Fin 16 → sProp 𝕄) (h : ∀ c s, P (Fin.cast hn.symm c) (Fin.cast hm.symm s) = P' c s) :
    (bigSep Finset.univ fun c : Fin n => bigSep Finset.univ fun s : Fin m => P c s) = bigSep Finset.univ fun c : Fin 2 => bigSep Finset.univ fun s : Fin 16 => P' c s := by
  subst hn; subst hm
  exact bigSep_congr fun c _ => bigSep_congr fun s _ => h c s

section call
variable {ℓx ℓy ℓz : Loc nD τ sig} {px : Idx ℓx → ℕ} {py : Idx ℓy → ℕ} {pz : Idx ℓz → ℕ} {Ax Ay Az : ℕ} {Kx : Fin 2 → Fin 16 → Finset (Idx ℓx)}
  {Ky : Fin 2 → Fin 16 → Finset (Idx ℓy)} {Kz : Fin 2 → Fin 16 → Finset (Idx ℓz)} {n m : ℕ}

/-- A call's three buffers dealt to its tiles. -/
theorem deal_call (hx : Parts px Ax Kx) (hy : Parts py Ay Ky) (hz : Parts pz Az Kz) (R : Fin 2 → Fin 16 → Buf (Elt F) ℓx → Prop)
    (fx : Buf (Elt F) ℓx) (fy : Buf (Elt F) ℓy) (fz : Buf (Elt F) ℓz) (hR : ∀ c s, R c s fx) (hn : n = 2) (hm : m = 16) (P : Fin n → Fin m → sProp 𝕄)
    (hP : ∀ c s, P (Fin.cast hn.symm c) (Fin.cast hm.symm s)
      = iprop((∃ f', ⌜R c s f'⌝ ∗ ℓx ↦[Kx c s]{fullShare} f') ∗ (∃ f', ℓy ↦[Ky c s]{fullShare} f') ∗ ∃ f', ℓz ↦[Kz c s]{fullShare} f')) :
    (iprop((ℓx ↦{fullShare} fx) ∗ (ℓy ↦{fullShare} fy) ∗ (ℓz ↦{fullShare} fz)) : sProp 𝕄) ⊢ bigSep Finset.univ fun c : Fin n => bigSep Finset.univ fun s : Fin m => P c s := by
  rw [big_fin hn hm P _ hP, deal_three]
  exact BI.sep_mono (deal_holds hx R fx hR) (BI.sep_mono (deal_owns hy fy) (deal_owns hz fz))

/-- And gathered, where what the parts read determines them. -/
theorem gather_call (hx : Parts px Ax Kx) (hy : Parts py Ay Ky) (hz : Parts pz Az Kz) (R : Fin 2 → Fin 16 → Buf (Elt F) ℓx → Prop)
    (Ry : Fin 2 → Fin 16 → Buf (Elt F) ℓy → Prop) (Rz : Fin 2 → Fin 16 → Buf (Elt F) ℓz → Prop) (fx : Buf (Elt F) ℓx) (fy : Buf (Elt F) ℓy) (fz : Buf (Elt F) ℓz)
    (hR : ∀ c s f', R c s f' → ∀ i ∈ Kx c s, f' i = fx i) (hRy : ∀ c s f', Ry c s f' → ∀ i ∈ Ky c s, f' i = fy i) (hRz : ∀ c s f', Rz c s f' → ∀ i ∈ Kz c s, f' i = fz i)
    (hn : n = 2) (hm : m = 16) (P : Fin n → Fin m → sProp 𝕄)
    (hP : ∀ c s, P (Fin.cast hn.symm c) (Fin.cast hm.symm s)
      = iprop((∃ f', ⌜R c s f'⌝ ∗ ℓx ↦[Kx c s]{fullShare} f') ∗ (∃ f', ⌜Ry c s f'⌝ ∗ ℓy ↦[Ky c s]{fullShare} f') ∗ ∃ f', ⌜Rz c s f'⌝ ∗ ℓz ↦[Kz c s]{fullShare} f')) :
    (bigSep Finset.univ fun c : Fin n => bigSep Finset.univ fun s : Fin m => P c s) ⊢ (iprop((ℓx ↦{fullShare} fx) ∗ (ℓy ↦{fullShare} fy) ∗ (ℓz ↦{fullShare} fz)) : sProp 𝕄) := by
  rw [big_fin hn hm P _ hP, deal_three]
  exact BI.sep_mono (gather_holds hx R fx hR) (BI.sep_mono (gather_holds hy Ry fy hRy) (gather_holds hz Rz fz hRz))
end call

/-! ## A part's elements -/

theorem mem_part {e : EltTy} {dX dA : Fin 1 → Nat} (X : Memref sig .scVector .hbm ⟨1, dX⟩ e) (off : Fin 1 → Nat)
    (o : ∀ a, off a + (⟨1, dA⟩ : Shape).size a ≤ (⟨1, dX⟩ : Shape).size a) (pos : X.view.ty.Idx → ℕ) (hp : ∀ j, pos (X.view.emb j) = (j 0).val)
    (hinj : Function.Injective pos) (i : X.view.ty.Idx) : i ∈ (part X off o).view.set ↔ off 0 ≤ pos i ∧ pos i < off 0 + dA 0 := by
  have hv : ∀ y, pos ((part X off o).view.emb y) = off 0 + 1 * (y 0).val := fun y => hp _
  constructor
  · intro h
    obtain ⟨y, -, rfl⟩ := Finset.mem_map.mp h
    have := hv y
    have : (y 0).val < dA 0 := (y 0).isLt
    exact ⟨by omega, by omega⟩
  · rintro ⟨h1, h2⟩
    have hlt : pos i - off 0 < dA 0 := by omega
    refine Finset.mem_map.mpr ⟨fun a => ⟨pos i - off 0, by rw [Subsingleton.elim a 0]; exact hlt⟩, Finset.mem_univ _, hinj ?_⟩
    refine (hv _).trans ?_
    show off 0 + 1 * (pos i - off 0) = pos i
    omega

theorem reads_part {e : EltTy} {dX dA : Fin 1 → Nat} (X : Memref sig .scVector .hbm ⟨1, dX⟩ e) (off : Fin 1 → Nat)
    (o : ∀ a, off a + (⟨1, dA⟩ : Shape).size a ≤ (⟨1, dX⟩ : Shape).size a) {f : X.view.ty.Contents (Elt F)} {g g' : Nat → Elt F e}
    (h : Reads X f g) (hg : ∀ p, g' p = g (off 0 + 1 * p)) : Reads (part X off o) f g' := fun y => (h _).trans (hg _).symm

theorem eq_of_reads {e : EltTy} {dX dA : Fin 1 → Nat} (X : Memref sig .scVector .hbm ⟨1, dX⟩ e) (off : Fin 1 → Nat)
    (o : ∀ a, off a + (⟨1, dA⟩ : Shape).size a ≤ (⟨1, dX⟩ : Shape).size a) {f f' : X.view.ty.Contents (Elt F)} {g g' : Nat → Elt F e}
    (h : Reads X f g) (h' : Reads (part X off o) f' g') (hg : ∀ p, g' p = g (off 0 + 1 * p)) : ∀ i ∈ (part X off o).view.set, f' i = f i := by
  intro i hi
  obtain ⟨y, -, rfl⟩ := Finset.mem_map.mp hi
  have := (h' y).trans ((hg _).trans (reads_part (dA := dA) X off o h hg y |>.trans (hg _)).symm)
  exact eq_of_heq ((cast_heq _ _).symm.trans ((heq_of_eq this).trans (cast_heq _ _)))

/-- A tile's results are its part of the chunk's. -/
theorem rowAt_tile (n : Nat) (g : Nat → F .f32) (c s k : Nat) : rowAt (tileOf n g c s) k = rowAt g (n * (2 * s + c) + k) := by
  funext e
  unfold rowAt tileOf
  refine congrArg g ?_
  rw [Nat.mul_add 128, Nat.add_assoc]
theorem outW_tile (n : Nat) (g : Nat → F .f32) (c s p : Nat) : outW (tileOf n g c s) p = outW g (8 * (n * (2 * s + c)) + p) := by
  unfold outW
  rw [rowAt_tile, Nat.mul_add_div (by decide), Nat.mul_add_mod]
theorem outI_tile (n : Nat) (g : Nat → F .f32) (c s p : Nat) : outI (tileOf n g c s) p = outI g (8 * (n * (2 * s + c)) + p) := by
  unfold outI
  rw [rowAt_tile, Nat.mul_add_div (by decide), Nat.mul_add_mod]

theorem one_inj {d : Fin 1 → Nat} : Function.Injective fun i : (⟨1, d⟩ : Shape).Idx => (i 0).val := fun i j h =>
  funext fun a => by rw [Subsingleton.elim a 0]; exact Fin.ext h

end Cert.Proof.Route
-- ==== Proof.Calls.lean ====
/-
  The five SparseCore calls' buffers: dealt to a call's tiles before it, gathered after it.
-/
module

public import proofs.«01_k».proof.Proof.Deal

@[expose] public section

noncomputable section

namespace Cert.Proof.Route

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-! ## The calls -/

theorem st_eq (sco : Dev nD → Fin 5 → Nat → F .f32) (q : Fin 5) (d : Dev nD) :
    (bigSep Finset.univ fun c : Fin ((K (F := F)).nCore q) => (Py sco).st q d c)
      = bigSep Finset.univ fun c : Fin ((K (F := F)).nCore q) => bigSep Finset.univ fun s : Fin ((K (F := F)).nSub q) => goAt (sco d) q d c s := (rfl)
theorem dn_eq (sco : Dev nD → Fin 5 → Nat → F .f32) (q : Fin 5) (d : Dev nD) :
    (bigSep Finset.univ fun c : Fin ((K (F := F)).nCore q) => (Py sco).dn q d c)
      = bigSep Finset.univ fun c : Fin ((K (F := F)).nCore q) => bigSep Finset.univ fun s : Fin ((K (F := F)).nSub q) => doneAt (sco d) q d c s := (rfl)

theorem parts_main_v2 (d : Dev nD) : Parts (ℓ := (SparseCore.T d : Thread nD τ).loc main_v2) (fun i : (⟨1, ![524288]⟩ : Shape).Idx => (i 0).val) 16384 fun c s => (part (dA := ![16384]) (Memref.whole main_v2_scv) (k1_off1 (coordsV c s)) (k1_off1_inb _)).view.set :=
  ⟨fun i => (i 0).isLt, fun c s i => (mem_part (Memref.whole main_v2_scv) _ _ (fun i : (⟨1, ![524288]⟩ : Shape).Idx => (i 0).val) (fun _ => rfl) one_inj i).trans (by
    rw [k1_off1_eq]; show 32768*s.val + 16384*c.val ≤ (i 0).val ∧ (i 0).val < 32768*s.val + 16384*c.val + 16384 ↔ 16384 * (2 * s.val + c.val) ≤ (i 0).val ∧ (i 0).val < 16384 * (2 * s.val + c.val) + 16384
    omega)⟩
theorem parts_main_v3_0 (d : Dev nD) : Parts (ℓ := (SparseCore.T d : Thread nD τ).loc main_v3_0) (fun i : (⟨1, ![32768]⟩ : Shape).Idx => (i 0).val) 1024 fun c s => (part (dA := ![1024]) (Memref.whole main_v3_0_scv) (k1_off2 (coordsV c s)) (k1_off2_inb _)).view.set :=
  ⟨fun i => (i 0).isLt, fun c s i => (mem_part (Memref.whole main_v3_0_scv) _ _ (fun i : (⟨1, ![32768]⟩ : Shape).Idx => (i 0).val) (fun _ => rfl) one_inj i).trans (by
    rw [k1_off2_eq]; show 2048*s.val + 1024*c.val ≤ (i 0).val ∧ (i 0).val < 2048*s.val + 1024*c.val + 1024 ↔ 1024 * (2 * s.val + c.val) ≤ (i 0).val ∧ (i 0).val < 1024 * (2 * s.val + c.val) + 1024
    omega)⟩
theorem parts_main_v3_1 (d : Dev nD) : Parts (ℓ := (SparseCore.T d : Thread nD τ).loc main_v3_1) (fun i : (⟨1, ![32768]⟩ : Shape).Idx => (i 0).val) 1024 fun c s => (part (dA := ![1024]) (Memref.whole main_v3_1_scv) (k1_off2 (coordsV c s)) (k1_off2_inb _)).view.set :=
  ⟨fun i => (i 0).isLt, fun c s i => (mem_part (Memref.whole main_v3_1_scv) _ _ (fun i : (⟨1, ![32768]⟩ : Shape).Idx => (i 0).val) (fun _ => rfl) one_inj i).trans (by
    rw [k1_off2_eq]; show 2048*s.val + 1024*c.val ≤ (i 0).val ∧ (i 0).val < 2048*s.val + 1024*c.val + 1024 ↔ 1024 * (2 * s.val + c.val) ≤ (i 0).val ∧ (i 0).val < 1024 * (2 * s.val + c.val) + 1024
    omega)⟩

theorem deal0 (sco : Dev nD → Fin 5 → Nat → F .f32) (d : Dev nD) (fx : Buf (Elt F) ((SparseCore.T d : Thread nD τ).loc main_v2)) (fy : Buf (Elt F) ((SparseCore.T d : Thread nD τ).loc main_v3_0)) (fz : Buf (Elt F) ((SparseCore.T d : Thread nD τ).loc main_v3_1))
    (hx : Reads (Memref.whole main_v2_scv) fx (sco d 0)) :
    (iprop(((SparseCore.T d : Thread nD τ).loc main_v2 ↦{fullShare} fx) ∗ ((SparseCore.T d : Thread nD τ).loc main_v3_0 ↦{fullShare} fy) ∗ ((SparseCore.T d : Thread nD τ).loc main_v3_1 ↦{fullShare} fz)) : sProp 𝕄)
      ⊢ bigSep Finset.univ fun c : Fin ((K (F := F)).nCore 0) => (Py sco).st 0 d c := by
  rw [st_eq]
  refine deal_call (parts_main_v2 d) (parts_main_v3_0 d) (parts_main_v3_1 d) (fun c s f => Reads (part (dA := ![16384]) (Memref.whole main_v2_scv) (k1_off1 (coordsV c s)) (k1_off1_inb _)) f (tileOf 128 (sco d 0) c.val s.val))
    fx fy fz (fun c s => reads_part (dA := ![16384]) _ _ _ hx fun p => ?_) rfl rfl (fun c s => goAt (sco d) 0 d c s) fun c s => (rfl)
  rw [k1_off1_eq]; show sco d 0 _ = sco d 0 (32768 * s.val + 16384 * c.val + 1 * p); congr 1; omega

theorem gather0 (sco : Dev nD → Fin 5 → Nat → F .f32) (d : Dev nD) (fx : Buf (Elt F) ((SparseCore.T d : Thread nD τ).loc main_v2)) (fy : Buf (Elt F) ((SparseCore.T d : Thread nD τ).loc main_v3_0)) (fz : Buf (Elt F) ((SparseCore.T d : Thread nD τ).loc main_v3_1))
    (hx : Reads (Memref.whole main_v2_scv) fx (sco d 0)) (hy : Reads (Memref.whole main_v3_0_scv) fy (outW (sco d 0))) (hz : Reads (Memref.whole main_v3_1_scv) fz (outI (sco d 0))) :
    (bigSep Finset.univ fun c : Fin ((K (F := F)).nCore 0) => (Py sco).dn 0 d c)
      ⊢ (iprop(((SparseCore.T d : Thread nD τ).loc main_v2 ↦{fullShare} fx) ∗ ((SparseCore.T d : Thread nD τ).loc main_v3_0 ↦{fullShare} fy) ∗ ((SparseCore.T d : Thread nD τ).loc main_v3_1 ↦{fullShare} fz)) : sProp 𝕄) := by
  rw [dn_eq]
  refine gather_call (parts_main_v2 d) (parts_main_v3_0 d) (parts_main_v3_1 d) (fun c s f => Reads (part (dA := ![16384]) (Memref.whole main_v2_scv) (k1_off1 (coordsV c s)) (k1_off1_inb _)) f (tileOf 128 (sco d 0) c.val s.val))
    (fun c s f => Reads (part (dA := ![1024]) (Memref.whole main_v3_0_scv) (k1_off2 (coordsV c s)) (k1_off2_inb _)) f (outW (tileOf 128 (sco d 0) c.val s.val)))
    (fun c s f => Reads (part (dA := ![1024]) (Memref.whole main_v3_1_scv) (k1_off2 (coordsV c s)) (k1_off2_inb _)) f (outI (tileOf 128 (sco d 0) c.val s.val))) fx fy fz
    (fun c s f' h => eq_of_reads (dA := ![16384]) _ _ _ hx h fun p => ?_) (fun c s f' h => eq_of_reads (dA := ![1024]) _ _ _ hy h fun p => ?_)
    (fun c s f' h => eq_of_reads (dA := ![1024]) _ _ _ hz h fun p => ?_) rfl rfl (fun c s => doneAt (sco d) 0 d c s) fun c s => (rfl)
  · rw [k1_off1_eq]; show sco d 0 _ = sco d 0 (32768 * s.val + 16384 * c.val + 1 * p); congr 1; omega
  · rw [k1_off2_eq, outW_tile]; show outW _ _ = outW _ (2048 * s.val + 1024 * c.val + 1 * p); congr 1; omega
  · rw [k1_off2_eq, outI_tile]; show outI _ _ = outI _ (2048 * s.val + 1024 * c.val + 1 * p); congr 1; omega

theorem parts_main_v8 (d : Dev nD) : Parts (ℓ := (SparseCore.T d : Thread nD τ).loc main_v8) (fun i : (⟨1, ![524288]⟩ : Shape).Idx => (i 0).val) 16384 fun c s => (part (dA := ![16384]) (Memref.whole main_v8_scv) (k3_off1 (coordsV c s)) (k3_off1_inb _)).view.set :=
  ⟨fun i => (i 0).isLt, fun c s i => (mem_part (Memref.whole main_v8_scv) _ _ (fun i : (⟨1, ![524288]⟩ : Shape).Idx => (i 0).val) (fun _ => rfl) one_inj i).trans (by
    rw [k3_off1_eq]; show 32768*s.val + 16384*c.val ≤ (i 0).val ∧ (i 0).val < 32768*s.val + 16384*c.val + 16384 ↔ 16384 * (2 * s.val + c.val) ≤ (i 0).val ∧ (i 0).val < 16384 * (2 * s.val + c.val) + 16384
    omega)⟩
theorem parts_main_v9_0 (d : Dev nD) : Parts (ℓ := (SparseCore.T d : Thread nD τ).loc main_v9_0) (fun i : (⟨1, ![32768]⟩ : Shape).Idx => (i 0).val) 1024 fun c s => (part (dA := ![1024]) (Memref.whole main_v9_0_scv) (k3_off2 (coordsV c s)) (k3_off2_inb _)).view.set :=
  ⟨fun i => (i 0).isLt, fun c s i => (mem_part (Memref.whole main_v9_0_scv) _ _ (fun i : (⟨1, ![32768]⟩ : Shape).Idx => (i 0).val) (fun _ => rfl) one_inj i).trans (by
    rw [k3_off2_eq]; show 2048*s.val + 1024*c.val ≤ (i 0).val ∧ (i 0).val < 2048*s.val + 1024*c.val + 1024 ↔ 1024 * (2 * s.val + c.val) ≤ (i 0).val ∧ (i 0).val < 1024 * (2 * s.val + c.val) + 1024
    omega)⟩
theorem parts_main_v9_1 (d : Dev nD) : Parts (ℓ := (SparseCore.T d : Thread nD τ).loc main_v9_1) (fun i : (⟨1, ![32768]⟩ : Shape).Idx => (i 0).val) 1024 fun c s => (part (dA := ![1024]) (Memref.whole main_v9_1_scv) (k3_off2 (coordsV c s)) (k3_off2_inb _)).view.set :=
  ⟨fun i => (i 0).isLt, fun c s i => (mem_part (Memref.whole main_v9_1_scv) _ _ (fun i : (⟨1, ![32768]⟩ : Shape).Idx => (i 0).val) (fun _ => rfl) one_inj i).trans (by
    rw [k3_off2_eq]; show 2048*s.val + 1024*c.val ≤ (i 0).val ∧ (i 0).val < 2048*s.val + 1024*c.val + 1024 ↔ 1024 * (2 * s.val + c.val) ≤ (i 0).val ∧ (i 0).val < 1024 * (2 * s.val + c.val) + 1024
    omega)⟩

theorem deal1 (sco : Dev nD → Fin 5 → Nat → F .f32) (d : Dev nD) (fx : Buf (Elt F) ((SparseCore.T d : Thread nD τ).loc main_v8)) (fy : Buf (Elt F) ((SparseCore.T d : Thread nD τ).loc main_v9_0)) (fz : Buf (Elt F) ((SparseCore.T d : Thread nD τ).loc main_v9_1))
    (hx : Reads (Memref.whole main_v8_scv) fx (sco d 1)) :
    (iprop(((SparseCore.T d : Thread nD τ).loc main_v8 ↦{fullShare} fx) ∗ ((SparseCore.T d : Thread nD τ).loc main_v9_0 ↦{fullShare} fy) ∗ ((SparseCore.T d : Thread nD τ).loc main_v9_1 ↦{fullShare} fz)) : sProp 𝕄)
      ⊢ bigSep Finset.univ fun c : Fin ((K (F := F)).nCore 1) => (Py sco).st 1 d c := by
  rw [st_eq]
  refine deal_call (parts_main_v8 d) (parts_main_v9_0 d) (parts_main_v9_1 d) (fun c s f => Reads (part (dA := ![16384]) (Memref.whole main_v8_scv) (k3_off1 (coordsV c s)) (k3_off1_inb _)) f (tileOf 128 (sco d 1) c.val s.val))
    fx fy fz (fun c s => reads_part (dA := ![16384]) _ _ _ hx fun p => ?_) rfl rfl (fun c s => goAt (sco d) 1 d c s) fun c s => (rfl)
  rw [k3_off1_eq]; show sco d 1 _ = sco d 1 (32768 * s.val + 16384 * c.val + 1 * p); congr 1; omega

theorem gather1 (sco : Dev nD → Fin 5 → Nat → F .f32) (d : Dev nD) (fx : Buf (Elt F) ((SparseCore.T d : Thread nD τ).loc main_v8)) (fy : Buf (Elt F) ((SparseCore.T d : Thread nD τ).loc main_v9_0)) (fz : Buf (Elt F) ((SparseCore.T d : Thread nD τ).loc main_v9_1))
    (hx : Reads (Memref.whole main_v8_scv) fx (sco d 1)) (hy : Reads (Memref.whole main_v9_0_scv) fy (outW (sco d 1))) (hz : Reads (Memref.whole main_v9_1_scv) fz (outI (sco d 1))) :
    (bigSep Finset.univ fun c : Fin ((K (F := F)).nCore 1) => (Py sco).dn 1 d c)
      ⊢ (iprop(((SparseCore.T d : Thread nD τ).loc main_v8 ↦{fullShare} fx) ∗ ((SparseCore.T d : Thread nD τ).loc main_v9_0 ↦{fullShare} fy) ∗ ((SparseCore.T d : Thread nD τ).loc main_v9_1 ↦{fullShare} fz)) : sProp 𝕄) := by
  rw [dn_eq]
  refine gather_call (parts_main_v8 d) (parts_main_v9_0 d) (parts_main_v9_1 d) (fun c s f => Reads (part (dA := ![16384]) (Memref.whole main_v8_scv) (k3_off1 (coordsV c s)) (k3_off1_inb _)) f (tileOf 128 (sco d 1) c.val s.val))
    (fun c s f => Reads (part (dA := ![1024]) (Memref.whole main_v9_0_scv) (k3_off2 (coordsV c s)) (k3_off2_inb _)) f (outW (tileOf 128 (sco d 1) c.val s.val)))
    (fun c s f => Reads (part (dA := ![1024]) (Memref.whole main_v9_1_scv) (k3_off2 (coordsV c s)) (k3_off2_inb _)) f (outI (tileOf 128 (sco d 1) c.val s.val))) fx fy fz
    (fun c s f' h => eq_of_reads (dA := ![16384]) _ _ _ hx h fun p => ?_) (fun c s f' h => eq_of_reads (dA := ![1024]) _ _ _ hy h fun p => ?_)
    (fun c s f' h => eq_of_reads (dA := ![1024]) _ _ _ hz h fun p => ?_) rfl rfl (fun c s => doneAt (sco d) 1 d c s) fun c s => (rfl)
  · rw [k3_off1_eq]; show sco d 1 _ = sco d 1 (32768 * s.val + 16384 * c.val + 1 * p); congr 1; omega
  · rw [k3_off2_eq, outW_tile]; show outW _ _ = outW _ (2048 * s.val + 1024 * c.val + 1 * p); congr 1; omega
  · rw [k3_off2_eq, outI_tile]; show outI _ _ = outI _ (2048 * s.val + 1024 * c.val + 1 * p); congr 1; omega

theorem parts_main_v14 (d : Dev nD) : Parts (ℓ := (SparseCore.T d : Thread nD τ).loc main_v14) (fun i : (⟨1, ![524288]⟩ : Shape).Idx => (i 0).val) 16384 fun c s => (part (dA := ![16384]) (Memref.whole main_v14_scv) (k5_off1 (coordsV c s)) (k5_off1_inb _)).view.set :=
  ⟨fun i => (i 0).isLt, fun c s i => (mem_part (Memref.whole main_v14_scv) _ _ (fun i : (⟨1, ![524288]⟩ : Shape).Idx => (i 0).val) (fun _ => rfl) one_inj i).trans (by
    rw [k5_off1_eq]; show 32768*s.val + 16384*c.val ≤ (i 0).val ∧ (i 0).val < 32768*s.val + 16384*c.val + 16384 ↔ 16384 * (2 * s.val + c.val) ≤ (i 0).val ∧ (i 0).val < 16384 * (2 * s.val + c.val) + 16384
    omega)⟩
theorem parts_main_v15_0 (d : Dev nD) : Parts (ℓ := (SparseCore.T d : Thread nD τ).loc main_v15_0) (fun i : (⟨1, ![32768]⟩ : Shape).Idx => (i 0).val) 1024 fun c s => (part (dA := ![1024]) (Memref.whole main_v15_0_scv) (k5_off2 (coordsV c s)) (k5_off2_inb _)).view.set :=
  ⟨fun i => (i 0).isLt, fun c s i => (mem_part (Memref.whole main_v15_0_scv) _ _ (fun i : (⟨1, ![32768]⟩ : Shape).Idx => (i 0).val) (fun _ => rfl) one_inj i).trans (by
    rw [k5_off2_eq]; show 2048*s.val + 1024*c.val ≤ (i 0).val ∧ (i 0).val < 2048*s.val + 1024*c.val + 1024 ↔ 1024 * (2 * s.val + c.val) ≤ (i 0).val ∧ (i 0).val < 1024 * (2 * s.val + c.val) + 1024
    omega)⟩
theorem parts_main_v15_1 (d : Dev nD) : Parts (ℓ := (SparseCore.T d : Thread nD τ).loc main_v15_1) (fun i : (⟨1, ![32768]⟩ : Shape).Idx => (i 0).val) 1024 fun c s => (part (dA := ![1024]) (Memref.whole main_v15_1_scv) (k5_off2 (coordsV c s)) (k5_off2_inb _)).view.set :=
  ⟨fun i => (i 0).isLt, fun c s i => (mem_part (Memref.whole main_v15_1_scv) _ _ (fun i : (⟨1, ![32768]⟩ : Shape).Idx => (i 0).val) (fun _ => rfl) one_inj i).trans (by
    rw [k5_off2_eq]; show 2048*s.val + 1024*c.val ≤ (i 0).val ∧ (i 0).val < 2048*s.val + 1024*c.val + 1024 ↔ 1024 * (2 * s.val + c.val) ≤ (i 0).val ∧ (i 0).val < 1024 * (2 * s.val + c.val) + 1024
    omega)⟩

theorem deal2 (sco : Dev nD → Fin 5 → Nat → F .f32) (d : Dev nD) (fx : Buf (Elt F) ((SparseCore.T d : Thread nD τ).loc main_v14)) (fy : Buf (Elt F) ((SparseCore.T d : Thread nD τ).loc main_v15_0)) (fz : Buf (Elt F) ((SparseCore.T d : Thread nD τ).loc main_v15_1))
    (hx : Reads (Memref.whole main_v14_scv) fx (sco d 2)) :
    (iprop(((SparseCore.T d : Thread nD τ).loc main_v14 ↦{fullShare} fx) ∗ ((SparseCore.T d : Thread nD τ).loc main_v15_0 ↦{fullShare} fy) ∗ ((SparseCore.T d : Thread nD τ).loc main_v15_1 ↦{fullShare} fz)) : sProp 𝕄)
      ⊢ bigSep Finset.univ fun c : Fin ((K (F := F)).nCore 2) => (Py sco).st 2 d c := by
  rw [st_eq]
  refine deal_call (parts_main_v14 d) (parts_main_v15_0 d) (parts_main_v15_1 d) (fun c s f => Reads (part (dA := ![16384]) (Memref.whole main_v14_scv) (k5_off1 (coordsV c s)) (k5_off1_inb _)) f (tileOf 128 (sco d 2) c.val s.val))
    fx fy fz (fun c s => reads_part (dA := ![16384]) _ _ _ hx fun p => ?_) rfl rfl (fun c s => goAt (sco d) 2 d c s) fun c s => (rfl)
  rw [k5_off1_eq]; show sco d 2 _ = sco d 2 (32768 * s.val + 16384 * c.val + 1 * p); congr 1; omega

theorem gather2 (sco : Dev nD → Fin 5 → Nat → F .f32) (d : Dev nD) (fx : Buf (Elt F) ((SparseCore.T d : Thread nD τ).loc main_v14)) (fy : Buf (Elt F) ((SparseCore.T d : Thread nD τ).loc main_v15_0)) (fz : Buf (Elt F) ((SparseCore.T d : Thread nD τ).loc main_v15_1))
    (hx : Reads (Memref.whole main_v14_scv) fx (sco d 2)) (hy : Reads (Memref.whole main_v15_0_scv) fy (outW (sco d 2))) (hz : Reads (Memref.whole main_v15_1_scv) fz (outI (sco d 2))) :
    (bigSep Finset.univ fun c : Fin ((K (F := F)).nCore 2) => (Py sco).dn 2 d c)
      ⊢ (iprop(((SparseCore.T d : Thread nD τ).loc main_v14 ↦{fullShare} fx) ∗ ((SparseCore.T d : Thread nD τ).loc main_v15_0 ↦{fullShare} fy) ∗ ((SparseCore.T d : Thread nD τ).loc main_v15_1 ↦{fullShare} fz)) : sProp 𝕄) := by
  rw [dn_eq]
  refine gather_call (parts_main_v14 d) (parts_main_v15_0 d) (parts_main_v15_1 d) (fun c s f => Reads (part (dA := ![16384]) (Memref.whole main_v14_scv) (k5_off1 (coordsV c s)) (k5_off1_inb _)) f (tileOf 128 (sco d 2) c.val s.val))
    (fun c s f => Reads (part (dA := ![1024]) (Memref.whole main_v15_0_scv) (k5_off2 (coordsV c s)) (k5_off2_inb _)) f (outW (tileOf 128 (sco d 2) c.val s.val)))
    (fun c s f => Reads (part (dA := ![1024]) (Memref.whole main_v15_1_scv) (k5_off2 (coordsV c s)) (k5_off2_inb _)) f (outI (tileOf 128 (sco d 2) c.val s.val))) fx fy fz
    (fun c s f' h => eq_of_reads (dA := ![16384]) _ _ _ hx h fun p => ?_) (fun c s f' h => eq_of_reads (dA := ![1024]) _ _ _ hy h fun p => ?_)
    (fun c s f' h => eq_of_reads (dA := ![1024]) _ _ _ hz h fun p => ?_) rfl rfl (fun c s => doneAt (sco d) 2 d c s) fun c s => (rfl)
  · rw [k5_off1_eq]; show sco d 2 _ = sco d 2 (32768 * s.val + 16384 * c.val + 1 * p); congr 1; omega
  · rw [k5_off2_eq, outW_tile]; show outW _ _ = outW _ (2048 * s.val + 1024 * c.val + 1 * p); congr 1; omega
  · rw [k5_off2_eq, outI_tile]; show outI _ _ = outI _ (2048 * s.val + 1024 * c.val + 1 * p); congr 1; omega

theorem parts_main_v20 (d : Dev nD) : Parts (ℓ := (SparseCore.T d : Thread nD τ).loc main_v20) (fun i : (⟨1, ![262144]⟩ : Shape).Idx => (i 0).val) 8192 fun c s => (part (dA := ![8192]) (Memref.whole main_v20_scv) (k7_off1 (coordsV c s)) (k7_off1_inb _)).view.set :=
  ⟨fun i => (i 0).isLt, fun c s i => (mem_part (Memref.whole main_v20_scv) _ _ (fun i : (⟨1, ![262144]⟩ : Shape).Idx => (i 0).val) (fun _ => rfl) one_inj i).trans (by
    rw [k7_off1_eq]; show 16384*s.val + 8192*c.val ≤ (i 0).val ∧ (i 0).val < 16384*s.val + 8192*c.val + 8192 ↔ 8192 * (2 * s.val + c.val) ≤ (i 0).val ∧ (i 0).val < 8192 * (2 * s.val + c.val) + 8192
    omega)⟩
theorem parts_main_v21_0 (d : Dev nD) : Parts (ℓ := (SparseCore.T d : Thread nD τ).loc main_v21_0) (fun i : (⟨1, ![16384]⟩ : Shape).Idx => (i 0).val) 512 fun c s => (part (dA := ![512]) (Memref.whole main_v21_0_scv) (k7_off2 (coordsV c s)) (k7_off2_inb _)).view.set :=
  ⟨fun i => (i 0).isLt, fun c s i => (mem_part (Memref.whole main_v21_0_scv) _ _ (fun i : (⟨1, ![16384]⟩ : Shape).Idx => (i 0).val) (fun _ => rfl) one_inj i).trans (by
    rw [k7_off2_eq]; show 1024*s.val + 512*c.val ≤ (i 0).val ∧ (i 0).val < 1024*s.val + 512*c.val + 512 ↔ 512 * (2 * s.val + c.val) ≤ (i 0).val ∧ (i 0).val < 512 * (2 * s.val + c.val) + 512
    omega)⟩
theorem parts_main_v21_1 (d : Dev nD) : Parts (ℓ := (SparseCore.T d : Thread nD τ).loc main_v21_1) (fun i : (⟨1, ![16384]⟩ : Shape).Idx => (i 0).val) 512 fun c s => (part (dA := ![512]) (Memref.whole main_v21_1_scv) (k7_off2 (coordsV c s)) (k7_off2_inb _)).view.set :=
  ⟨fun i => (i 0).isLt, fun c s i => (mem_part (Memref.whole main_v21_1_scv) _ _ (fun i : (⟨1, ![16384]⟩ : Shape).Idx => (i 0).val) (fun _ => rfl) one_inj i).trans (by
    rw [k7_off2_eq]; show 1024*s.val + 512*c.val ≤ (i 0).val ∧ (i 0).val < 1024*s.val + 512*c.val + 512 ↔ 512 * (2 * s.val + c.val) ≤ (i 0).val ∧ (i 0).val < 512 * (2 * s.val + c.val) + 512
    omega)⟩

theorem deal3 (sco : Dev nD → Fin 5 → Nat → F .f32) (d : Dev nD) (fx : Buf (Elt F) ((SparseCore.T d : Thread nD τ).loc main_v20)) (fy : Buf (Elt F) ((SparseCore.T d : Thread nD τ).loc main_v21_0)) (fz : Buf (Elt F) ((SparseCore.T d : Thread nD τ).loc main_v21_1))
    (hx : Reads (Memref.whole main_v20_scv) fx (sco d 3)) :
    (iprop(((SparseCore.T d : Thread nD τ).loc main_v20 ↦{fullShare} fx) ∗ ((SparseCore.T d : Thread nD τ).loc main_v21_0 ↦{fullShare} fy) ∗ ((SparseCore.T d : Thread nD τ).loc main_v21_1 ↦{fullShare} fz)) : sProp 𝕄)
      ⊢ bigSep Finset.univ fun c : Fin ((K (F := F)).nCore 3) => (Py sco).st 3 d c := by
  rw [st_eq]
  refine deal_call (parts_main_v20 d) (parts_main_v21_0 d) (parts_main_v21_1 d) (fun c s f => Reads (part (dA := ![8192]) (Memref.whole main_v20_scv) (k7_off1 (coordsV c s)) (k7_off1_inb _)) f (tileOf 64 (sco d 3) c.val s.val))
    fx fy fz (fun c s => reads_part (dA := ![8192]) _ _ _ hx fun p => ?_) rfl rfl (fun c s => goAt (sco d) 3 d c s) fun c s => (rfl)
  rw [k7_off1_eq]; show sco d 3 _ = sco d 3 (16384 * s.val + 8192 * c.val + 1 * p); congr 1; omega

theorem gather3 (sco : Dev nD → Fin 5 → Nat → F .f32) (d : Dev nD) (fx : Buf (Elt F) ((SparseCore.T d : Thread nD τ).loc main_v20)) (fy : Buf (Elt F) ((SparseCore.T d : Thread nD τ).loc main_v21_0)) (fz : Buf (Elt F) ((SparseCore.T d : Thread nD τ).loc main_v21_1))
    (hx : Reads (Memref.whole main_v20_scv) fx (sco d 3)) (hy : Reads (Memref.whole main_v21_0_scv) fy (outW (sco d 3))) (hz : Reads (Memref.whole main_v21_1_scv) fz (outI (sco d 3))) :
    (bigSep Finset.univ fun c : Fin ((K (F := F)).nCore 3) => (Py sco).dn 3 d c)
      ⊢ (iprop(((SparseCore.T d : Thread nD τ).loc main_v20 ↦{fullShare} fx) ∗ ((SparseCore.T d : Thread nD τ).loc main_v21_0 ↦{fullShare} fy) ∗ ((SparseCore.T d : Thread nD τ).loc main_v21_1 ↦{fullShare} fz)) : sProp 𝕄) := by
  rw [dn_eq]
  refine gather_call (parts_main_v20 d) (parts_main_v21_0 d) (parts_main_v21_1 d) (fun c s f => Reads (part (dA := ![8192]) (Memref.whole main_v20_scv) (k7_off1 (coordsV c s)) (k7_off1_inb _)) f (tileOf 64 (sco d 3) c.val s.val))
    (fun c s f => Reads (part (dA := ![512]) (Memref.whole main_v21_0_scv) (k7_off2 (coordsV c s)) (k7_off2_inb _)) f (outW (tileOf 64 (sco d 3) c.val s.val)))
    (fun c s f => Reads (part (dA := ![512]) (Memref.whole main_v21_1_scv) (k7_off2 (coordsV c s)) (k7_off2_inb _)) f (outI (tileOf 64 (sco d 3) c.val s.val))) fx fy fz
    (fun c s f' h => eq_of_reads (dA := ![8192]) _ _ _ hx h fun p => ?_) (fun c s f' h => eq_of_reads (dA := ![512]) _ _ _ hy h fun p => ?_)
    (fun c s f' h => eq_of_reads (dA := ![512]) _ _ _ hz h fun p => ?_) rfl rfl (fun c s => doneAt (sco d) 3 d c s) fun c s => (rfl)
  · rw [k7_off1_eq]; show sco d 3 _ = sco d 3 (16384 * s.val + 8192 * c.val + 1 * p); congr 1; omega
  · rw [k7_off2_eq, outW_tile]; show outW _ _ = outW _ (1024 * s.val + 512 * c.val + 1 * p); congr 1; omega
  · rw [k7_off2_eq, outI_tile]; show outI _ _ = outI _ (1024 * s.val + 512 * c.val + 1 * p); congr 1; omega

theorem parts_main_v26 (d : Dev nD) : Parts (ℓ := (SparseCore.T d : Thread nD τ).loc main_v26) (fun i : (⟨1, ![262144]⟩ : Shape).Idx => (i 0).val) 8192 fun c s => (part (dA := ![8192]) (Memref.whole main_v26_scv) (k9_off1 (coordsV c s)) (k9_off1_inb _)).view.set :=
  ⟨fun i => (i 0).isLt, fun c s i => (mem_part (Memref.whole main_v26_scv) _ _ (fun i : (⟨1, ![262144]⟩ : Shape).Idx => (i 0).val) (fun _ => rfl) one_inj i).trans (by
    rw [k9_off1_eq]; show 16384*s.val + 8192*c.val ≤ (i 0).val ∧ (i 0).val < 16384*s.val + 8192*c.val + 8192 ↔ 8192 * (2 * s.val + c.val) ≤ (i 0).val ∧ (i 0).val < 8192 * (2 * s.val + c.val) + 8192
    omega)⟩
theorem parts_main_v27_0 (d : Dev nD) : Parts (ℓ := (SparseCore.T d : Thread nD τ).loc main_v27_0) (fun i : (⟨1, ![16384]⟩ : Shape).Idx => (i 0).val) 512 fun c s => (part (dA := ![512]) (Memref.whole main_v27_0_scv) (k9_off2 (coordsV c s)) (k9_off2_inb _)).view.set :=
  ⟨fun i => (i 0).isLt, fun c s i => (mem_part (Memref.whole main_v27_0_scv) _ _ (fun i : (⟨1, ![16384]⟩ : Shape).Idx => (i 0).val) (fun _ => rfl) one_inj i).trans (by
    rw [k9_off2_eq]; show 1024*s.val + 512*c.val ≤ (i 0).val ∧ (i 0).val < 1024*s.val + 512*c.val + 512 ↔ 512 * (2 * s.val + c.val) ≤ (i 0).val ∧ (i 0).val < 512 * (2 * s.val + c.val) + 512
    omega)⟩
theorem parts_main_v27_1 (d : Dev nD) : Parts (ℓ := (SparseCore.T d : Thread nD τ).loc main_v27_1) (fun i : (⟨1, ![16384]⟩ : Shape).Idx => (i 0).val) 512 fun c s => (part (dA := ![512]) (Memref.whole main_v27_1_scv) (k9_off2 (coordsV c s)) (k9_off2_inb _)).view.set :=
  ⟨fun i => (i 0).isLt, fun c s i => (mem_part (Memref.whole main_v27_1_scv) _ _ (fun i : (⟨1, ![16384]⟩ : Shape).Idx => (i 0).val) (fun _ => rfl) one_inj i).trans (by
    rw [k9_off2_eq]; show 1024*s.val + 512*c.val ≤ (i 0).val ∧ (i 0).val < 1024*s.val + 512*c.val + 512 ↔ 512 * (2 * s.val + c.val) ≤ (i 0).val ∧ (i 0).val < 512 * (2 * s.val + c.val) + 512
    omega)⟩

theorem deal4 (sco : Dev nD → Fin 5 → Nat → F .f32) (d : Dev nD) (fx : Buf (Elt F) ((SparseCore.T d : Thread nD τ).loc main_v26)) (fy : Buf (Elt F) ((SparseCore.T d : Thread nD τ).loc main_v27_0)) (fz : Buf (Elt F) ((SparseCore.T d : Thread nD τ).loc main_v27_1))
    (hx : Reads (Memref.whole main_v26_scv) fx (sco d 4)) :
    (iprop(((SparseCore.T d : Thread nD τ).loc main_v26 ↦{fullShare} fx) ∗ ((SparseCore.T d : Thread nD τ).loc main_v27_0 ↦{fullShare} fy) ∗ ((SparseCore.T d : Thread nD τ).loc main_v27_1 ↦{fullShare} fz)) : sProp 𝕄)
      ⊢ bigSep Finset.univ fun c : Fin ((K (F := F)).nCore 4) => (Py sco).st 4 d c := by
  rw [st_eq]
  refine deal_call (parts_main_v26 d) (parts_main_v27_0 d) (parts_main_v27_1 d) (fun c s f => Reads (part (dA := ![8192]) (Memref.whole main_v26_scv) (k9_off1 (coordsV c s)) (k9_off1_inb _)) f (tileOf 64 (sco d 4) c.val s.val))
    fx fy fz (fun c s => reads_part (dA := ![8192]) _ _ _ hx fun p => ?_) rfl rfl (fun c s => goAt (sco d) 4 d c s) fun c s => (rfl)
  rw [k9_off1_eq]; show sco d 4 _ = sco d 4 (16384 * s.val + 8192 * c.val + 1 * p); congr 1; omega

theorem gather4 (sco : Dev nD → Fin 5 → Nat → F .f32) (d : Dev nD) (fx : Buf (Elt F) ((SparseCore.T d : Thread nD τ).loc main_v26)) (fy : Buf (Elt F) ((SparseCore.T d : Thread nD τ).loc main_v27_0)) (fz : Buf (Elt F) ((SparseCore.T d : Thread nD τ).loc main_v27_1))
    (hx : Reads (Memref.whole main_v26_scv) fx (sco d 4)) (hy : Reads (Memref.whole main_v27_0_scv) fy (outW (sco d 4))) (hz : Reads (Memref.whole main_v27_1_scv) fz (outI (sco d 4))) :
    (bigSep Finset.univ fun c : Fin ((K (F := F)).nCore 4) => (Py sco).dn 4 d c)
      ⊢ (iprop(((SparseCore.T d : Thread nD τ).loc main_v26 ↦{fullShare} fx) ∗ ((SparseCore.T d : Thread nD τ).loc main_v27_0 ↦{fullShare} fy) ∗ ((SparseCore.T d : Thread nD τ).loc main_v27_1 ↦{fullShare} fz)) : sProp 𝕄) := by
  rw [dn_eq]
  refine gather_call (parts_main_v26 d) (parts_main_v27_0 d) (parts_main_v27_1 d) (fun c s f => Reads (part (dA := ![8192]) (Memref.whole main_v26_scv) (k9_off1 (coordsV c s)) (k9_off1_inb _)) f (tileOf 64 (sco d 4) c.val s.val))
    (fun c s f => Reads (part (dA := ![512]) (Memref.whole main_v27_0_scv) (k9_off2 (coordsV c s)) (k9_off2_inb _)) f (outW (tileOf 64 (sco d 4) c.val s.val)))
    (fun c s f => Reads (part (dA := ![512]) (Memref.whole main_v27_1_scv) (k9_off2 (coordsV c s)) (k9_off2_inb _)) f (outI (tileOf 64 (sco d 4) c.val s.val))) fx fy fz
    (fun c s f' h => eq_of_reads (dA := ![8192]) _ _ _ hx h fun p => ?_) (fun c s f' h => eq_of_reads (dA := ![512]) _ _ _ hy h fun p => ?_)
    (fun c s f' h => eq_of_reads (dA := ![512]) _ _ _ hz h fun p => ?_) rfl rfl (fun c s => doneAt (sco d) 4 d c s) fun c s => (rfl)
  · rw [k9_off1_eq]; show sco d 4 _ = sco d 4 (16384 * s.val + 8192 * c.val + 1 * p); congr 1; omega
  · rw [k9_off2_eq, outW_tile]; show outW _ _ = outW _ (1024 * s.val + 512 * c.val + 1 * p); congr 1; omega
  · rw [k9_off2_eq, outI_tile]; show outI _ _ = outI _ (1024 * s.val + 512 * c.val + 1 * p); congr 1; omega

end Cert.Proof.Route
-- ==== Proof.Host.lean ====
/-
  One chunk of @main: the TensorCore kernel's region, the host operations that pass its scores on, the SparseCore call, the host operations
  that take its results.
-/
module

public import proofs.«01_k».proof.Proof.Region
public import proofs.«01_k».proof.Proof.Calls
public import Idealize.ShloMosaic.Lib.Pipeline.FrameTail

@[expose] public section

noncomputable section

namespace Cert.Proof.Route

open Cert.KernelIdeal Cert.KernelIdeal.Gen
open Idealize.ShloMosaic
open Idealize.ShloMosaic.StableHlo (held after seq)
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F
local notation "Vals" => Valuation τ sig (Elt F)

/-- The TensorCore's buffers that outlive a region. -/
abbrev UC : Finset (DevRef τ sig) := Pipeline.ucRefs τ sig

/-- A host buffer among the device's. -/
abbrev dr (r : Ref sig .tc) : DevRef τ sig := Proc.devRef .tc r

theorem uc {r : Ref sig .tc} (h : r.isScoped = false) : dr r ∈ UC := Pipeline.devRef_mem_ucRefs h

/-- What the host owes before call `q` is below this level. -/
abbrev lvl (q : Fin 5) : ℕ := 8 * SparseCore.Cfg.Blocks.fst (Q := 5) (N := 5) q.val

/-- Region `p` among all the buffers. -/
theorem wp_entry (Va : Vals) (β n : ℕ) (p : Fin 5) (kit : Pipeline.PLaunchFacts (nD := nD) (τ := τ) (pcfgs (F := F)) p)
    (hbody : ∀ c, Pipeline.BodyObligation (dats Va ((K (F := F)).Otc · n) β p c) (defs₀ (F := F)) 𝒱₀ none Set.univ)
    (hout : ∀ c w, (dats Va ((K (F := F)).Otc · n) β p c).arrAt w (cfgs p).N = left Va p (Proc.devRef .tc (Pipeline.arrRef (cfgs p).spec w)))
    (hsub : Pipeline.arrRefs (τ := τ) (cfgs p).spec ⊆ UC) (hoff : ∀ b, b ∉ Pipeline.arrRefs (τ := τ) (cfgs p).spec → left Va p b = Va b) (d : Dev nD)
    (Φ : PUnit → sProp 𝕄) :
    (iprop(levAts (K (F := F)).L (K (F := F)).lev ∗ boundary (SparseCore.T d : Thread nD τ) ∗ held (SparseCore.T d : Thread nD τ) UC Va ∗ debts d n β ∗ ghost p d
        ∗ (boundary (SparseCore.T d : Thread nD τ) ∗ held (SparseCore.T d : Thread nD τ) UC (left Va p) ∗ debts d n β -∗ Φ ⟨⟩)) : sProp 𝕄)
      ⊢ wp (M := MM F) frame (wpE ((K (F := F)).defs (D (F := F))) 𝒱 (SparseCore.T d) none) Set.univ
          (Prog.lift (.customCall (SparseCore.inner (Pipeline.entry p)) ()) : Prog (TpuEff nD τ sig (Elt F) _ .tc) PUnit) Φ := by
  rw [StableHlo.held_sub_split (SparseCore.T d : Thread nD τ) hsub Va, StableHlo.held_sub_split (SparseCore.T d : Thread nD τ) hsub (left Va p),
    StableHlo.held_congr (SparseCore.T d : Thread nD τ) (S := UC \ Pipeline.arrRefs (cfgs p).spec) (V := left Va p) (V' := Va) fun b hb => hoff b (Finset.mem_sdiff.mp hb).2]
  iintro ⟨Hl, Hb, ⟨Ha, Hr⟩, HO, Hg, Hk⟩
  ihave H := (wp_region Va β n p kit hbody hout d) $$ [Hl Hb Ha HO Hg]
  · isplitl [Hl]; · iexact Hl
    isplitl [Hb]; · iexact Hb
    isplitl [Ha]; · iexact Ha
    isplitl [HO] <;> iassumption
  iapply (wp_wand_r frame _ _ (Q' := Φ)) $$ [H Hr Hk]
  isplitl [H]; · iexact H
  iintro %_ ⟨Hb, Ha, HO⟩
  iapply Hk
  isplitl [Hb]; · iexact Hb
  isplitl [Ha Hr]
  · isplitl [Ha] <;> iassumption
  iexact HO

/-- The buffers after a call that left `y` and `z` in two of them. -/
def routed {Y Z : Ref sig .tc} (Va : Vals) (y : (dr Y).ty.Contents (Elt F)) (z : (dr Z).ty.Contents (Elt F)) : Vals :=
  Function.update (Function.update Va (dr Y) y) (dr Z) z

theorem held_three {X Y Z : Ref sig .tc} (hXY : X ≠ Y) (hXZ : X ≠ Z) (hYZ : Y ≠ Z) (d : Dev nD) (Va : Vals) :
    (held (SparseCore.T d : Thread nD τ) {dr X, dr Y, dr Z} Va : sProp 𝕄)
      = iprop(((d, dr X) ↦{fullShare} Va (dr X)) ∗ ((d, dr Y) ↦{fullShare} Va (dr Y)) ∗ ((d, dr Z) ↦{fullShare} Va (dr Z))) := by
  have n : ∀ {a b : Ref sig .tc}, a ≠ b → dr a ≠ dr b := fun h e => h (Proc.devRef_injective _ e)
  unfold StableHlo.held
  rw [SparseCore.bigSep_insert' (by simp [n hXY, n hXZ]), SparseCore.bigSep_insert' (by simp [n hYZ]), bigSep_singleton]

/-- A SparseCore call among all the buffers: dealt its operands, it gives them back with its results. -/
theorem wp_call {sco : Dev nD → Fin 5 → Nat → F .f32} (κ : GSem nD τ sig → ℕ) (q : Fin 5) {X Y Z : Ref sig .tc} (hXY : X ≠ Y) (hXZ : X ≠ Z) (hYZ : Y ≠ Z)
    (hX : X.isScoped = false) (hY : Y.isScoped = false) (hZ : Z.isScoped = false) (d : Dev nD) (Va : Vals)
    (y : (dr Y).ty.Contents (Elt F)) (z : (dr Z).ty.Contents (Elt F))
    (deal : (iprop(((d, dr X) ↦{fullShare} Va (dr X)) ∗ ((d, dr Y) ↦{fullShare} Va (dr Y)) ∗ ((d, dr Z) ↦{fullShare} Va (dr Z))) : sProp 𝕄)
      ⊢ bigSep Finset.univ fun c : Fin ((K (F := F)).nCore q) => (Py sco).st q d c)
    (gather : (bigSep Finset.univ fun c : Fin ((K (F := F)).nCore q) => (Py sco).dn q d c)
      ⊢ (iprop(((d, dr X) ↦{fullShare} Va (dr X)) ∗ ((d, dr Y) ↦{fullShare} y) ∗ ((d, dr Z) ↦{fullShare} z)) : sProp 𝕄)) (Φ : PUnit → sProp 𝕄) :
    (iprop((K (F := F)).ctx EH (Py sco) κ ∗ held (SparseCore.T d : Thread nD τ) UC Va ∗ (K (F := F)).tcSt EH d q.val
        ∗ (held (SparseCore.T d : Thread nD τ) UC (routed Va y z) ∗ (K (F := F)).tcSt EH d (q.val + 1) -∗ Φ ⟨⟩)) : sProp 𝕄)
      ⊢ wp (M := MM F) frame (wpE ((K (F := F)).defs (D (F := F))) 𝒱 (SparseCore.T d) none) Set.univ ((K (F := F)).run d q) Φ := by
  have n : ∀ {a b : Ref sig .tc}, a ≠ b → dr a ≠ dr b := fun h e => h (Proc.devRef_injective _ e)
  have hsub : ({dr X, dr Y, dr Z} : Finset (DevRef τ sig)) ⊆ UC := by
    intro b hb
    simp only [Finset.mem_insert, Finset.mem_singleton] at hb
    rcases hb with rfl | rfl | rfl
    exacts [uc hX, uc hY, uc hZ]
  have eZ : routed Va y z (dr Z) = z := Function.update_self ..
  have eY : routed Va y z (dr Y) = y := (Function.update_of_ne (n hYZ) _ _).trans (Function.update_self ..)
  have eo : ∀ b, b ≠ dr Y → b ≠ dr Z → routed Va y z b = Va b := fun b h h' => (Function.update_of_ne h' _ _).trans (Function.update_of_ne h _ _)
  rw [StableHlo.held_sub_split (SparseCore.T d : Thread nD τ) hsub Va, StableHlo.held_sub_split (SparseCore.T d : Thread nD τ) hsub (routed Va y z),
    StableHlo.held_congr (SparseCore.T d : Thread nD τ) (S := UC \ {dr X, dr Y, dr Z}) (V := routed Va y z) (V' := Va) (fun b hb => by
      have := (Finset.mem_sdiff.mp hb).2
      simp only [Finset.mem_insert, Finset.mem_singleton, not_or] at this
      exact eo b this.2.1 this.2.2), held_three hXY hXZ hYZ, held_three hXY hXZ hYZ, eY, eZ, eo _ (n hXY) (n hXZ)]
  iintro ⟨#Hctx, ⟨H3, Hr⟩, Hst, Hk⟩
  iapply ((K (F := F)).wp_run (D (F := F)) 𝒱 (EH := EH) (P := Py sco) κ d q) $$ [Hst H3 Hr Hk]
  isplitr; · iexact Hctx
  isplitl [Hst]; · iexact Hst
  isplitl [H3]; · iapply deal $$ H3
  iintro ⟨Hst, Hdn⟩
  iapply Hk
  isplitr [Hst]
  · isplitl [Hdn]; · iapply gather $$ Hdn
    iexact Hr
  iexact Hst

/-- A chunk of @main: its region, its call, the operations between and after. -/
theorem wp_chunk {sco : Dev nD → Fin 5 → Nat → F .f32} (κ : GSem nD τ sig → ℕ) (q : Fin 5) {X Y Z : Ref sig .tc} (hXY : X ≠ Y) (hXZ : X ≠ Z) (hYZ : Y ≠ Z)
    (hX : X.isScoped = false) (hY : Y.isScoped = false) (hZ : Z.isScoped = false) (d : Dev nD) (Va : Vals) (opA opB : List (HloOp τ sig (Elt F)))
    (hA : ∀ op ∈ opA, op.bufs ⊆ UC) (hA' : ∀ op ∈ opA, op.fresh = ∅) (hB : ∀ op ∈ opB, op.bufs ⊆ UC) (hB' : ∀ op ∈ opB, op.fresh = ∅)
    (kit : Pipeline.PLaunchFacts (nD := nD) (τ := τ) (pcfgs (F := F)) q)
    (hbody : ∀ c, Pipeline.BodyObligation (dats Va ((K (F := F)).Otc · q.val) (lvl q) q c) (defs₀ (F := F)) 𝒱₀ none Set.univ)
    (hout : ∀ c w, (dats Va ((K (F := F)).Otc · q.val) (lvl q) q c).arrAt w (cfgs q).N = left Va q (Proc.devRef .tc (Pipeline.arrRef (cfgs q).spec w)))
    (hsub : Pipeline.arrRefs (τ := τ) (cfgs q).spec ⊆ UC) (hoff : ∀ b, b ∉ Pipeline.arrRefs (τ := τ) (cfgs q).spec → left Va q b = Va b)
    (y : (dr Y).ty.Contents (Elt F)) (z : (dr Z).ty.Contents (Elt F))
    (deal : (iprop(((d, dr X) ↦{fullShare} after opA (left Va q) (dr X)) ∗ ((d, dr Y) ↦{fullShare} after opA (left Va q) (dr Y)) ∗ ((d, dr Z) ↦{fullShare} after opA (left Va q) (dr Z))) : sProp 𝕄)
      ⊢ bigSep Finset.univ fun c : Fin ((K (F := F)).nCore q) => (Py sco).st q d c)
    (gather : (bigSep Finset.univ fun c : Fin ((K (F := F)).nCore q) => (Py sco).dn q d c)
      ⊢ (iprop(((d, dr X) ↦{fullShare} after opA (left Va q) (dr X)) ∗ ((d, dr Y) ↦{fullShare} y) ∗ ((d, dr Z) ↦{fullShare} z)) : sProp 𝕄))
    {k : PUnit → Prog (TpuEff nD τ sig (Elt F) (SparseCore.Sig (ΛP (F := F)) 5) .tc) PUnit} {Φ : PUnit → sProp 𝕄} :
    (iprop((K (F := F)).ctx EH (Py sco) κ ∗ boundary (SparseCore.T d : Thread nD τ) ∗ held (SparseCore.T d : Thread nD τ) UC Va ∗ (K (F := F)).tcSt EH d q.val ∗ ghost q d
        ∗ (boundary (SparseCore.T d : Thread nD τ) ∗ held (SparseCore.T d : Thread nD τ) UC (after opB (routed (after opA (left Va q)) y z)) ∗ (K (F := F)).tcSt EH d (q.val + 1)
          -∗ wp (M := MM F) frame (wpE ((K (F := F)).defs (D (F := F))) 𝒱 (SparseCore.T d) none) Set.univ (k ⟨⟩) Φ)) : sProp 𝕄)
      ⊢ wp (M := MM F) frame (wpE ((K (F := F)).defs (D (F := F))) 𝒱 (SparseCore.T d) none) Set.univ
          ((Prog.lift (.customCall (SparseCore.inner (Pipeline.entry q)) ()) : Prog (TpuEff nD τ sig (Elt F) (SparseCore.Sig (ΛP (F := F)) 5) .tc) PUnit) >>= fun _ => seq opA >>= fun _ =>
            (K (F := F)).run d q >>= fun _ => seq opB >>= k) Φ := by
  unfold SparseCore.Cfg.tcSt
  iintro ⟨#Hctx, Hb, Hh, ⟨HO, Hst⟩, Hg, Hk⟩
  ihave Hlev := (SparseCore.Cfg.ctx_levAts κ) $$ Hctx
  rw [wp_bind]
  iapply (wp_entry Va (lvl q) q.val q kit hbody hout hsub hoff d _) $$ [Hlev Hb Hh HO Hg Hst Hk]
  isplitl [Hlev]; · iexact Hlev
  isplitl [Hb]; · iexact Hb
  isplitl [Hh]; · iexact Hh
  isplitl [HO]; · iexact HO
  isplitl [Hg]; · iexact Hg
  iintro ⟨Hb, Hh, HO⟩
  iapply (StableHlo.wp_seq 𝒱 none Set.univ d UC _ opA hA hA' (left Va q)) $$ [Hb Hh]
  · isplitl [Hb] <;> iassumption
  iintro ⟨Hb, Hh⟩
  rw [wp_bind]
  iapply (wp_call κ q hXY hXZ hYZ hX hY hZ d (after opA (left Va q)) y z deal gather _) $$ [Hh HO Hst Hb Hk]
  isplitr; · iexact Hctx
  isplitl [Hh]; · iexact Hh
  isplitl [HO Hst]
  · unfold SparseCore.Cfg.tcSt
    isplitl [HO] <;> iassumption
  iintro ⟨Hh, Hst⟩
  iapply (StableHlo.wp_seq 𝒱 none Set.univ d UC _ opB hB hB' _) $$ [Hb Hh]
  · isplitl [Hb] <;> iassumption
  iintro ⟨Hb, Hh⟩
  iapply Hk
  isplitl [Hb]; · iexact Hb
  isplitl [Hh]; · iexact Hh
  unfold SparseCore.Cfg.tcSt
  iexact Hst

end Cert.Proof.Route
-- ==== Proof.Flat.lean ====
/-
  What the host passes between a chunk's kernels: the scores laid end to end, the results cut into rows.
-/
module

public import proofs.«01_k».proof.Proof.Host
public import Idealize.ShloMosaic.Lib.ValueLayout

@[expose] public section

noncomputable section

namespace Cert.Proof.Route

open Cert.KernelIdeal Cert.KernelIdeal.Gen
open Idealize.ShloMosaic Idealize.ShloMosaic.TcCoe
open Idealize.ShloMosaic.StableHlo (held after seq)

variable {F : FTy → Type} [FloatOps F]

local notation "Vals" => Valuation τ sig (Elt F)

theorem cast_flat {α : Type} {n w N : ℕ} (g : ℕ → ℕ → α) (h : (⟨2, ![n, w]⟩ : Shape).ShapeCasts ⟨1, ![N]⟩) (i : (⟨1, ![N]⟩ : Shape).Idx) :
    shapeCast ⟨1, ![N]⟩ (fun j : (⟨2, ![n, w]⟩ : Shape).Idx => g (j 0).val (j 1).val) h i = g ((i 0).val / w) ((i 0).val % w) := by
  have e := Shape.rowMajor_reshapeEquiv h i
  rw [Shape.rowMajor_val_two, Shape.rowMajor_val_one] at e
  have hw : (Shape.reshapeEquiv h i 1).val < w := (Shape.reshapeEquiv h i 1).isLt
  have e : (Shape.reshapeEquiv h i 0).val * w + (Shape.reshapeEquiv h i 1).val = (i 0).val := e
  show g (Shape.reshapeEquiv h i 0).val (Shape.reshapeEquiv h i 1).val = _
  rw [← e, Nat.mul_comm, Nat.mul_add_div (by omega), Nat.mul_add_mod, Nat.div_eq_of_lt hw, Nat.mod_eq_of_lt hw, Nat.add_zero]

theorem cast_rows {α : Type} {n w N : ℕ} (g : ℕ → α) (h : (⟨1, ![N]⟩ : Shape).ShapeCasts ⟨2, ![n, w]⟩) (i : (⟨2, ![n, w]⟩ : Shape).Idx) :
    shapeCast ⟨2, ![n, w]⟩ (fun j : (⟨1, ![N]⟩ : Shape).Idx => g (j 0).val) h i = g (w * (i 0).val + (i 1).val) := by
  have e := Shape.rowMajor_reshapeEquiv h i
  rw [Shape.rowMajor_val_two, Shape.rowMajor_val_one] at e
  have e : (Shape.reshapeEquiv h i 0).val = (i 0).val * w + (i 1).val := e
  show g (Shape.reshapeEquiv h i 0).val = _
  rw [e, Nat.mul_comm]

/-- The scores of the rows from block `b` on, end to end. -/
def line (x : S16384x2048.Idx → F .f32) (w : S64x2048.Idx → F .f32) (b : ℕ) : ℕ → F .f32 := fun p => scoreAt x w (512 * b + p / 128) (p % 128)

theorem cast_scores {n N : ℕ} (x : S16384x2048.Idx → F .f32) (w : S64x2048.Idx → F .f32) (b : ℕ) (h : (⟨2, ![n, 128]⟩ : Shape).ShapeCasts ⟨1, ![N]⟩)
    (i : (⟨1, ![N]⟩ : Shape).Idx) : shapeCast ⟨1, ![N]⟩ (scores n b x w) h i = line x w b (i 0).val :=
  cast_flat (fun r l => scoreAt x w (512 * b + r) l) h i

/-- A row of a chunk is a row of the whole. -/
theorem rowAt_line (x : S16384x2048.Idx → F .f32) (w : S64x2048.Idx → F .f32) (b r : ℕ) : rowAt (line x w b) r = rowAt (line x w 0) (512 * b + r) := by
  funext e
  unfold rowAt line
  rw [show (128 * (512 * b + r) + e) / 128 = 512 * b + (128 * r + e) / 128 by omega, show (128 * (512 * b + r) + e) % 128 = (128 * r + e) % 128 by omega, Nat.mul_zero,
    Nat.zero_add]

/-- The results: token `t`'s eight weights and eight indices. -/
def resW (x : S16384x2048.Idx → F .f32) (w : S64x2048.Idx → F .f32) (t k : ℕ) : F .f32 := tokW (rowAt (line x w 0) t) k
def resI (x : S16384x2048.Idx → F .f32) (w : S64x2048.Idx → F .f32) (t k : ℕ) : BitVec 32 := tokI (rowAt (line x w 0) t) k
/-- A chunk's results in rows, the chunk's first token the `b`-th block's. -/
def rowsW (x : S16384x2048.Idx → F .f32) (w : S64x2048.Idx → F .f32) (n b : ℕ) : (⟨2, ![n, 8]⟩ : Shape).Idx → F .f32 := fun i => resW x w (512 * b + (i 0).val) (i 1).val
def rowsI (x : S16384x2048.Idx → F .f32) (w : S64x2048.Idx → F .f32) (n b : ℕ) : (⟨2, ![n, 8]⟩ : Shape).Idx → BitVec 32 := fun i => resI x w (512 * b + (i 0).val) (i 1).val

theorem cast_outW {n N : ℕ} (x : S16384x2048.Idx → F .f32) (w : S64x2048.Idx → F .f32) (b : ℕ) (h : (⟨1, ![N]⟩ : Shape).ShapeCasts ⟨2, ![n, 8]⟩) :
    shapeCast ⟨2, ![n, 8]⟩ (fun j : (⟨1, ![N]⟩ : Shape).Idx => outW (line x w b) (j 0).val) h = rowsW x w n b := by
  funext i
  rw [cast_rows (outW (line x w b)) h i]
  have hk : (i 1).val < 8 := (i 1).isLt
  unfold outW rowsW resW
  rw [Nat.mul_add_div (by decide), Nat.mul_add_mod, Nat.div_eq_of_lt hk, Nat.mod_eq_of_lt hk, Nat.add_zero, rowAt_line]
theorem cast_outI {n N : ℕ} (x : S16384x2048.Idx → F .f32) (w : S64x2048.Idx → F .f32) (b : ℕ) (h : (⟨1, ![N]⟩ : Shape).ShapeCasts ⟨2, ![n, 8]⟩) :
    shapeCast ⟨2, ![n, 8]⟩ (fun j : (⟨1, ![N]⟩ : Shape).Idx => outI (line x w b) (j 0).val) h = rowsI x w n b := by
  funext i
  rw [cast_rows (outI (line x w b)) h i]
  have hk : (i 1).val < 8 := (i 1).isLt
  unfold outI rowsI resI
  rw [Nat.mul_add_div (by decide), Nat.mul_add_mod, Nat.div_eq_of_lt hk, Nat.mod_eq_of_lt hk, Nat.add_zero, rowAt_line]

/-! ## The operations around a call, over any buffers -/

section ops
variable {w s S X Y Z A B : Ref sig .tc}

/-- A host buffer that operations may read and write. -/
abbrev Hb (r : Ref sig .tc) : Prop := r.space ≠ .host ∧ (r : DevRef τ sig).isScoped = false

variable (f : main_arg1.ty.Contents (Elt F) → w.ty.Contents (Elt F)) (g : S.ty.Contents (Elt F) → s.ty.Contents (Elt F))
  (heX : S.ty.elt = X.ty.elt) (hnX : S.ty.shape.ShapeCasts X.ty.shape) (heA : Y.ty.elt = A.ty.elt) (hnA : Y.ty.shape.ShapeCasts A.ty.shape)
  (heB : Z.ty.elt = B.ty.elt) (hnB : Z.ty.shape.ShapeCasts B.ty.shape)
  (h1 : Hb main_arg1) (hw : Hb w) (hs : Hb s) (hS : Hb S) (hX : Hb X) (hY : Hb Y) (hZ : Hb Z) (hA : Hb A) (hB : Hb B)

/-- Before the call: the weights and the scores passed on, the scores laid end to end. -/
abbrev opsA : List (HloOp τ sig (Elt F)) :=
  [StableHlo.unary main_arg1 w f h1 hw, StableHlo.unary S s g hS hs, StableHlo.reshape S X heX hnX hS hX]
/-- After it: the results cut into rows. -/
abbrev opsB : List (HloOp τ sig (Elt F)) := [StableHlo.reshape Y A heA hnA hY hA, StableHlo.reshape Z B heB hnB hZ hB]

theorem opsA_sub : ∀ op ∈ opsA f g heX hnX h1 hw hs hS hX, op.bufs ⊆ UC := by
  intro op hop
  simp only [List.mem_cons, List.not_mem_nil, or_false] at hop
  rcases hop with rfl | rfl | rfl
  exacts [Pipeline.sub_ucRefs _ (StableHlo.unary_bufs_sub ..), Pipeline.sub_ucRefs _ (StableHlo.unary_bufs_sub ..), Pipeline.sub_ucRefs _ (StableHlo.reshape_bufs_sub ..)]
theorem opsA_fresh : ∀ op ∈ opsA f g heX hnX h1 hw hs hS hX, op.fresh = ∅ := by
  intro op hop
  simp only [List.mem_cons, List.not_mem_nil, or_false] at hop
  rcases hop with rfl | rfl | rfl <;> rfl
theorem opsB_sub : ∀ op ∈ opsB (F := F) heA hnA heB hnB hY hZ hA hB, op.bufs ⊆ UC := by
  intro op hop
  simp only [List.mem_cons, List.not_mem_nil, or_false] at hop
  rcases hop with rfl | rfl <;> exact Pipeline.sub_ucRefs _ (StableHlo.reshape_bufs_sub ..)
theorem opsB_fresh : ∀ op ∈ opsB (F := F) heA hnA heB hnB hY hZ hA hB, op.fresh = ∅ := by
  intro op hop
  simp only [List.mem_cons, List.not_mem_nil, or_false] at hop
  rcases hop with rfl | rfl <;> rfl

theorem opsA_X (Va : Vals) (hSw : S ≠ w) (hSs : S ≠ s) : after (opsA f g heX hnX h1 hw hs hS hX) Va (dr X) = fun i => heX ▸ shapeCast X.ty.shape (Va (dr S)) hnX i := by
  simp only [StableHlo.after_cons, StableHlo.after_nil]
  rw [StableHlo.reshape_result, StableHlo.unary_result_ne (h := hSs), StableHlo.unary_result_ne (h := hSw)]

variable (y : (dr Y).ty.Contents (Elt F)) (z : (dr Z).ty.Contents (Elt F))

/-- What is written where; all else is kept. -/
theorem ops_keep (Va : Vals) {r : Ref sig .tc} (h : r ∉ [w, s, X, Y, Z, A, B]) :
    after (opsB heA hnA heB hnB hY hZ hA hB) (routed (after (opsA f g heX hnX h1 hw hs hS hX) Va) y z) (dr r) = Va (dr r) := by
  simp only [List.mem_cons, List.not_mem_nil, or_false, not_or] at h
  obtain ⟨h1, h2, h3, h4, h5, h6, h7⟩ := h
  simp only [StableHlo.after_cons, StableHlo.after_nil]
  rw [StableHlo.reshape_result_ne (h := h7), StableHlo.reshape_result_ne (h := h6)]
  unfold routed
  rw [Function.update_of_ne (fun e => h5 (Proc.devRef_injective _ e)), Function.update_of_ne (fun e => h4 (Proc.devRef_injective _ e)),
    StableHlo.reshape_result_ne (h := h3), StableHlo.unary_result_ne (h := h2), StableHlo.unary_result_ne (h := h1)]
theorem ops_w (Vc : Vals) (h : w ∉ [s, X, Y, Z, A, B]) :
    after (opsB heA hnA heB hnB hY hZ hA hB) (routed (after (opsA f g heX hnX h1 hw hs hS hX) Vc) y z) (dr w) = f (Vc (dr main_arg1)) := by
  simp only [List.mem_cons, List.not_mem_nil, or_false, not_or] at h
  obtain ⟨h2, h3, h4, h5, h6, h7⟩ := h
  simp only [StableHlo.after_cons, StableHlo.after_nil]
  rw [StableHlo.reshape_result_ne (h := h7), StableHlo.reshape_result_ne (h := h6)]
  unfold routed
  rw [Function.update_of_ne (fun e => h5 (Proc.devRef_injective _ e)), Function.update_of_ne (fun e => h4 (Proc.devRef_injective _ e)),
    StableHlo.reshape_result_ne (h := h3), StableHlo.unary_result_ne (h := h2), StableHlo.unary_result]
theorem ops_A (Vb : Vals) (hYZ : Y ≠ Z) (hAB : A ≠ B) : after (opsB heA hnA heB hnB hY hZ hA hB) (routed Vb y z) (dr A) = fun i => heA ▸ shapeCast A.ty.shape y hnA i := by
  simp only [StableHlo.after_cons, StableHlo.after_nil]
  rw [StableHlo.reshape_result_ne (h := hAB), StableHlo.reshape_result]
  unfold routed
  rw [Function.update_of_ne (fun e => hYZ (Proc.devRef_injective _ e)), Function.update_self]
theorem ops_B (Vb : Vals) (hZA : Z ≠ A) : after (opsB heA hnA heB hnB hY hZ hA hB) (routed Vb y z) (dr B) = fun i => heB ▸ shapeCast B.ty.shape z hnB i := by
  simp only [StableHlo.after_cons, StableHlo.after_nil]
  rw [StableHlo.reshape_result, StableHlo.reshape_result_ne (h := hZA)]
  unfold routed
  rw [Function.update_self]

end ops

end Cert.Proof.Route
-- ==== Proof.Main.lean ====
/-
  @main on the TensorCore: five chunks and the two concatenations, and what is in the buffers after each.
-/
module

public import proofs.«01_k».proof.Proof.Flat

@[expose] public section

noncomputable section

namespace Cert.Proof.Route

open Cert.KernelIdeal Cert.KernelIdeal.Gen
open Idealize.ShloMosaic Idealize.ShloMosaic.TcCoe
open Idealize.ShloMosaic.StableHlo (held after seq)
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F
local notation "Vals" => Valuation τ sig (Elt F)

theorem hb {r : Ref sig .tc} (h : r.space ≠ .host ∧ r.isScoped = false) : Hb r := h

/-! ## The chunks' operations -/

/-- The operations before a chunk's call. -/
def opA : Fin 5 → List (HloOp τ sig (Elt F))
  | 0 => opsA (w := main_v1_0) (s := main_v1_1) (S := main_v0) (X := main_v2) id id rfl shapeCasts_S4096x128_S524288 ⟨by decide, rfl⟩ ⟨by decide, rfl⟩ ⟨by decide, rfl⟩ ⟨by decide, rfl⟩ ⟨by decide, rfl⟩
  | 1 => opsA (w := main_v7_0) (s := main_v7_1) (S := main_v6) (X := main_v8) id id rfl shapeCasts_S4096x128_S524288 ⟨by decide, rfl⟩ ⟨by decide, rfl⟩ ⟨by decide, rfl⟩ ⟨by decide, rfl⟩ ⟨by decide, rfl⟩
  | 2 => opsA (w := main_v13_0) (s := main_v13_1) (S := main_v12) (X := main_v14) id id rfl shapeCasts_S4096x128_S524288 ⟨by decide, rfl⟩ ⟨by decide, rfl⟩ ⟨by decide, rfl⟩ ⟨by decide, rfl⟩ ⟨by decide, rfl⟩
  | 3 => opsA (w := main_v19_0) (s := main_v19_1) (S := main_v18) (X := main_v20) id id rfl shapeCasts_S2048x128_S262144 ⟨by decide, rfl⟩ ⟨by decide, rfl⟩ ⟨by decide, rfl⟩ ⟨by decide, rfl⟩ ⟨by decide, rfl⟩
  | 4 => opsA (w := main_v25_0) (s := main_v25_1) (S := main_v24) (X := main_v26) id id rfl shapeCasts_S2048x128_S262144 ⟨by decide, rfl⟩ ⟨by decide, rfl⟩ ⟨by decide, rfl⟩ ⟨by decide, rfl⟩ ⟨by decide, rfl⟩
/-- The operations after a chunk's call. -/
def opB : Fin 5 → List (HloOp τ sig (Elt F))
  | 0 => opsB (Y := main_v3_0) (Z := main_v3_1) (A := main_v4) (B := main_v5) rfl shapeCasts_S32768_S4096x8 rfl shapeCasts_S32768_S4096x8 ⟨by decide, rfl⟩ ⟨by decide, rfl⟩ ⟨by decide, rfl⟩ ⟨by decide, rfl⟩
  | 1 => opsB (Y := main_v9_0) (Z := main_v9_1) (A := main_v10) (B := main_v11) rfl shapeCasts_S32768_S4096x8 rfl shapeCasts_S32768_S4096x8 ⟨by decide, rfl⟩ ⟨by decide, rfl⟩ ⟨by decide, rfl⟩ ⟨by decide, rfl⟩
  | 2 => opsB (Y := main_v15_0) (Z := main_v15_1) (A := main_v16) (B := main_v17) rfl shapeCasts_S32768_S4096x8 rfl shapeCasts_S32768_S4096x8 ⟨by decide, rfl⟩ ⟨by decide, rfl⟩ ⟨by decide, rfl⟩ ⟨by decide, rfl⟩
  | 3 => opsB (Y := main_v21_0) (Z := main_v21_1) (A := main_v22) (B := main_v23) rfl shapeCasts_S16384_S2048x8 rfl shapeCasts_S16384_S2048x8 ⟨by decide, rfl⟩ ⟨by decide, rfl⟩ ⟨by decide, rfl⟩ ⟨by decide, rfl⟩
  | 4 => opsB (Y := main_v27_0) (Z := main_v27_1) (A := main_v28) (B := main_v29) rfl shapeCasts_S16384_S2048x8 rfl shapeCasts_S16384_S2048x8 ⟨by decide, rfl⟩ ⟨by decide, rfl⟩ ⟨by decide, rfl⟩ ⟨by decide, rfl⟩

/-- The two concatenations. -/
def opC : List (HloOp τ sig (Elt F)) := [StableHlo.nary ![main_v4, main_v10, main_v16, main_v22, main_v28] main_v30 (fun u => (concatenate S16384x8 0 [⟨S4096x8, (u 0 : (⟨S4096x8, .f32⟩ : BufTy).Contents (Elt F))⟩, ⟨S4096x8, (u 1 : (⟨S4096x8, .f32⟩ : BufTy).Contents (Elt F))⟩, ⟨S4096x8, (u 2 : (⟨S4096x8, .f32⟩ : BufTy).Contents (Elt F))⟩, ⟨S2048x8, (u 3 : (⟨S2048x8, .f32⟩ : BufTy).Contents (Elt F))⟩, ⟨S2048x8, (u 4 : (⟨S2048x8, .f32⟩ : BufTy).Contents (Elt F))⟩] concatenates_S4096x8_S4096x8_S4096x8_S2048x8_S2048x8_S16384x8_d0 : (⟨S16384x8, .f32⟩ : BufTy).Contents (Elt F))),
    StableHlo.nary ![main_v5, main_v11, main_v17, main_v23, main_v29] main_v31 (fun u => (concatenate S16384x8 0 [⟨S4096x8, (u 0 : (⟨S4096x8, .i32⟩ : BufTy).Contents (Elt F))⟩, ⟨S4096x8, (u 1 : (⟨S4096x8, .i32⟩ : BufTy).Contents (Elt F))⟩, ⟨S4096x8, (u 2 : (⟨S4096x8, .i32⟩ : BufTy).Contents (Elt F))⟩, ⟨S2048x8, (u 3 : (⟨S2048x8, .i32⟩ : BufTy).Contents (Elt F))⟩, ⟨S2048x8, (u 4 : (⟨S2048x8, .i32⟩ : BufTy).Contents (Elt F))⟩] concatenates_S4096x8_S4096x8_S4096x8_S2048x8_S2048x8_S16384x8_d0 : (⟨S16384x8, .i32⟩ : BufTy).Contents (Elt F)))]

theorem main_eq (d : Dev nD) : main (F := F) d = (
    (Prog.lift (.customCall (SparseCore.inner (Pipeline.entry 0)) ()) : Prog (TpuEff nD τ sig (Elt F) (SparseCore.Sig (ΛP (F := F)) 5) .tc) PUnit) >>= fun _ => seq (opA 0) >>= fun _ => (K (F := F)).run d 0 >>= fun _ => seq (opB 0) >>= fun _ =>
    (Prog.lift (.customCall (SparseCore.inner (Pipeline.entry 1)) ()) : Prog (TpuEff nD τ sig (Elt F) (SparseCore.Sig (ΛP (F := F)) 5) .tc) PUnit) >>= fun _ => seq (opA 1) >>= fun _ => (K (F := F)).run d 1 >>= fun _ => seq (opB 1) >>= fun _ =>
    (Prog.lift (.customCall (SparseCore.inner (Pipeline.entry 2)) ()) : Prog (TpuEff nD τ sig (Elt F) (SparseCore.Sig (ΛP (F := F)) 5) .tc) PUnit) >>= fun _ => seq (opA 2) >>= fun _ => (K (F := F)).run d 2 >>= fun _ => seq (opB 2) >>= fun _ =>
    (Prog.lift (.customCall (SparseCore.inner (Pipeline.entry 3)) ()) : Prog (TpuEff nD τ sig (Elt F) (SparseCore.Sig (ΛP (F := F)) 5) .tc) PUnit) >>= fun _ => seq (opA 3) >>= fun _ => (K (F := F)).run d 3 >>= fun _ => seq (opB 3) >>= fun _ =>
    (Prog.lift (.customCall (SparseCore.inner (Pipeline.entry 4)) ()) : Prog (TpuEff nD τ sig (Elt F) (SparseCore.Sig (ΛP (F := F)) 5) .tc) PUnit) >>= fun _ => seq (opA 4) >>= fun _ => (K (F := F)).run d 4 >>= fun _ => seq (opB 4) >>= fun _ =>
    seq opC >>= fun _ => pure ⟨⟩) := by
  simp only [main, opA, opB, opC, opsA, opsB, seq, bind_assoc, pure_bind]

/-! ## A chunk, from the launch contents -/

variable (m : (ℓ : Loc nD τ sig) → Buf (Elt F) ℓ)

/-- The launch contents of the activations and of the weights. -/
abbrev xIn (d : Dev nD) : S16384x2048.Idx → F .f32 := m (d, dr main_arg0)
abbrev wIn (d : Dev nD) : S64x2048.Idx → F .f32 := m (d, dr main_arg1)

/-- The first block of each chunk. -/
def base : Fin 5 → ℕ := ![0, 8, 16, 24, 28]
/-- Each call's operand, end to end. -/
def sco (d : Dev nD) (q : Fin 5) : ℕ → F .f32 := line (xIn m d) (wIn m d) (base q)

theorem left0_ne (Va : Vals) {b : DevRef τ sig} (h : b ≠ dr main_v0) : left Va 0 b = Va b := Function.update_of_ne h _ _
theorem left0_self (Va : Vals) : left Va 0 (dr main_v0) = scores 4096 0 (Va (dr main_arg0)) (Va (dr main_arg1)) := by
  show Function.update Va (dr main_v0) _ (dr main_v0) = _
  rw [Function.update_self]
/-- The buffers after chunk 0. -/
def next0 (d : Dev nD) (Va : Vals) : Vals :=
  after (opB 0) (routed (Y := main_v3_0) (Z := main_v3_1) (after (opA 0) (left Va 0)) (fun j : S32768.Idx => outW (sco m d 0) (j 0).val) (fun j : S32768.Idx => outI (sco m d 0) (j 0).val))
theorem next0_keep (d : Dev nD) (Va : Vals) {r : Ref sig .tc} (h : r ∉ [main_v1_0, main_v1_1, main_v2, main_v3_0, main_v3_1, main_v4, main_v5]) (h' : r ≠ main_v0) :
    next0 m d Va (dr r) = Va (dr r) :=
  (ops_keep _ _ _ _ _ _ _ _ _ _ _ _ _ _ _ _ _ _ _ (left Va 0) h).trans (left0_ne Va fun e => h' (Proc.devRef_injective _ e))
theorem next0_w (d : Dev nD) (Va : Vals) : next0 m d Va (dr main_v1_0) = Va (dr main_arg1) :=
  (ops_w _ _ _ _ _ _ _ _ _ _ _ _ _ _ _ _ _ _ _ (left Va 0) (by decide)).trans (left0_ne Va fun e => absurd (Proc.devRef_injective _ e) (by decide))
theorem next0_W (d : Dev nD) (Va : Vals) : next0 m d Va (dr main_v4) = rowsW (xIn m d) (wIn m d) 4096 0 :=
  (ops_A _ _ _ _ _ _ _ _ _ _ _ (by decide) (by decide)).trans (cast_outW (n := 4096) (N := 32768) _ _ 0 _)
theorem next0_I (d : Dev nD) (Va : Vals) : next0 m d Va (dr main_v5) = rowsI (xIn m d) (wIn m d) 4096 0 :=
  (ops_B _ _ _ _ _ _ _ _ _ _ _ (by decide)).trans (cast_outI (n := 4096) (N := 32768) _ _ 0 _)

theorem chunk0 (κ : GSem nD τ sig → ℕ) (d : Dev nD) (Va : Vals) (hx : Va (dr main_arg0) = xIn m d) (hw : Va (dr main_arg1) = wIn m d)
    {k : PUnit → Prog (TpuEff nD τ sig (Elt F) (SparseCore.Sig (ΛP (F := F)) 5) .tc) PUnit} {Φ : PUnit → sProp 𝕄} :
    (iprop((K (F := F)).ctx EH (Py (sco m)) κ ∗ boundary (SparseCore.T d : Thread nD τ) ∗ held (SparseCore.T d : Thread nD τ) UC Va ∗ (K (F := F)).tcSt EH d 0 ∗ ghost 0 d
        ∗ (boundary (SparseCore.T d : Thread nD τ) ∗ held (SparseCore.T d : Thread nD τ) UC (next0 m d Va) ∗ (K (F := F)).tcSt EH d 1
          -∗ wp (M := MM F) frame (wpE ((K (F := F)).defs (D (F := F))) 𝒱 (SparseCore.T d) none) Set.univ (k ⟨⟩) Φ)) : sProp 𝕄)
      ⊢ wp (M := MM F) frame (wpE ((K (F := F)).defs (D (F := F))) 𝒱 (SparseCore.T d) none) Set.univ
          ((Prog.lift (.customCall (SparseCore.inner (Pipeline.entry 0)) ()) : Prog (TpuEff nD τ sig (Elt F) (SparseCore.Sig (ΛP (F := F)) 5) .tc) PUnit) >>= fun _ => seq (opA 0) >>= fun _ =>
            (K (F := F)).run d 0 >>= fun _ => seq (opB 0) >>= k) Φ := by
  have hX : Reads (Memref.whole main_v2_scv) (after (opA 0) (left Va 0) (dr main_v2)) (sco m d 0) := by
    have e : after (opA 0) (left Va 0) (dr main_v2) = shapeCast S524288 (scores 4096 0 (Va (dr main_arg0)) (Va (dr main_arg1))) shapeCasts_S4096x128_S524288 :=
      (opsA_X _ _ _ _ _ _ _ _ _ (left Va 0) (by decide) (by decide)).trans (congrArg (fun v => shapeCast S524288 v shapeCasts_S4096x128_S524288)
        (left0_self Va))
    rw [e, hx, hw]
    exact fun i => cast_scores (xIn m d) (wIn m d) 0 _ i
  exact wp_chunk (sco := sco m) κ 0 (X := main_v2) (Y := main_v3_0) (Z := main_v3_1) (by decide) (by decide) (by decide) rfl rfl rfl d Va (opA 0) (opB 0)
    (opsA_sub _ _ _ _ _ _ _ _ _) (opsA_fresh _ _ _ _ _ _ _ _ _) (opsB_sub _ _ _ _ _ _ _ _) (opsB_fresh _ _ _ _ _ _ _ _)
    launch0.toP (body0 Va _ _) (out0 Va _ _) (Pipeline.arrRefs_sub_ucRefs _ (by decide))
    (fun b hb => left0_ne Va fun e => hb (Finset.mem_map.mpr ⟨main_v0, Finset.mem_image.mpr ⟨2, Finset.mem_univ _, rfl⟩, e.symm⟩)) _ _
    (deal0 (sco m) d _ _ _ hX) (gather0 (sco m) d _ _ _ hX (fun _ => rfl) (fun _ => rfl))

theorem left1_ne (Va : Vals) {b : DevRef τ sig} (h : b ≠ dr main_v6) : left Va 1 b = Va b := Function.update_of_ne h _ _
theorem left1_self (Va : Vals) : left Va 1 (dr main_v6) = scores 4096 8 (Va (dr main_arg0)) (Va (dr main_v1_0)) := by
  show Function.update Va (dr main_v6) _ (dr main_v6) = _
  rw [Function.update_self]
/-- The buffers after chunk 1. -/
def next1 (d : Dev nD) (Va : Vals) : Vals :=
  after (opB 1) (routed (Y := main_v9_0) (Z := main_v9_1) (after (opA 1) (left Va 1)) (fun j : S32768.Idx => outW (sco m d 1) (j 0).val) (fun j : S32768.Idx => outI (sco m d 1) (j 0).val))
theorem next1_keep (d : Dev nD) (Va : Vals) {r : Ref sig .tc} (h : r ∉ [main_v7_0, main_v7_1, main_v8, main_v9_0, main_v9_1, main_v10, main_v11]) (h' : r ≠ main_v6) :
    next1 m d Va (dr r) = Va (dr r) :=
  (ops_keep _ _ _ _ _ _ _ _ _ _ _ _ _ _ _ _ _ _ _ (left Va 1) h).trans (left1_ne Va fun e => h' (Proc.devRef_injective _ e))
theorem next1_w (d : Dev nD) (Va : Vals) : next1 m d Va (dr main_v7_0) = Va (dr main_arg1) :=
  (ops_w _ _ _ _ _ _ _ _ _ _ _ _ _ _ _ _ _ _ _ (left Va 1) (by decide)).trans (left1_ne Va fun e => absurd (Proc.devRef_injective _ e) (by decide))
theorem next1_W (d : Dev nD) (Va : Vals) : next1 m d Va (dr main_v10) = rowsW (xIn m d) (wIn m d) 4096 8 :=
  (ops_A _ _ _ _ _ _ _ _ _ _ _ (by decide) (by decide)).trans (cast_outW (n := 4096) (N := 32768) _ _ 8 _)
theorem next1_I (d : Dev nD) (Va : Vals) : next1 m d Va (dr main_v11) = rowsI (xIn m d) (wIn m d) 4096 8 :=
  (ops_B _ _ _ _ _ _ _ _ _ _ _ (by decide)).trans (cast_outI (n := 4096) (N := 32768) _ _ 8 _)

theorem chunk1 (κ : GSem nD τ sig → ℕ) (d : Dev nD) (Va : Vals) (hx : Va (dr main_arg0) = xIn m d) (hw : Va (dr main_v1_0) = wIn m d)
    {k : PUnit → Prog (TpuEff nD τ sig (Elt F) (SparseCore.Sig (ΛP (F := F)) 5) .tc) PUnit} {Φ : PUnit → sProp 𝕄} :
    (iprop((K (F := F)).ctx EH (Py (sco m)) κ ∗ boundary (SparseCore.T d : Thread nD τ) ∗ held (SparseCore.T d : Thread nD τ) UC Va ∗ (K (F := F)).tcSt EH d 1 ∗ ghost 1 d
        ∗ (boundary (SparseCore.T d : Thread nD τ) ∗ held (SparseCore.T d : Thread nD τ) UC (next1 m d Va) ∗ (K (F := F)).tcSt EH d 2
          -∗ wp (M := MM F) frame (wpE ((K (F := F)).defs (D (F := F))) 𝒱 (SparseCore.T d) none) Set.univ (k ⟨⟩) Φ)) : sProp 𝕄)
      ⊢ wp (M := MM F) frame (wpE ((K (F := F)).defs (D (F := F))) 𝒱 (SparseCore.T d) none) Set.univ
          ((Prog.lift (.customCall (SparseCore.inner (Pipeline.entry 1)) ()) : Prog (TpuEff nD τ sig (Elt F) (SparseCore.Sig (ΛP (F := F)) 5) .tc) PUnit) >>= fun _ => seq (opA 1) >>= fun _ =>
            (K (F := F)).run d 1 >>= fun _ => seq (opB 1) >>= k) Φ := by
  have hX : Reads (Memref.whole main_v8_scv) (after (opA 1) (left Va 1) (dr main_v8)) (sco m d 1) := by
    have e : after (opA 1) (left Va 1) (dr main_v8) = shapeCast S524288 (scores 4096 8 (Va (dr main_arg0)) (Va (dr main_v1_0))) shapeCasts_S4096x128_S524288 :=
      (opsA_X _ _ _ _ _ _ _ _ _ (left Va 1) (by decide) (by decide)).trans (congrArg (fun v => shapeCast S524288 v shapeCasts_S4096x128_S524288)
        (left1_self Va))
    rw [e, hx, hw]
    exact fun i => cast_scores (xIn m d) (wIn m d) 8 _ i
  exact wp_chunk (sco := sco m) κ 1 (X := main_v8) (Y := main_v9_0) (Z := main_v9_1) (by decide) (by decide) (by decide) rfl rfl rfl d Va (opA 1) (opB 1)
    (opsA_sub _ _ _ _ _ _ _ _ _) (opsA_fresh _ _ _ _ _ _ _ _ _) (opsB_sub _ _ _ _ _ _ _ _) (opsB_fresh _ _ _ _ _ _ _ _)
    launch2.toP (body1 Va _ _) (out1 Va _ _) (Pipeline.arrRefs_sub_ucRefs _ (by decide))
    (fun b hb => left1_ne Va fun e => hb (Finset.mem_map.mpr ⟨main_v6, Finset.mem_image.mpr ⟨2, Finset.mem_univ _, rfl⟩, e.symm⟩)) _ _
    (deal1 (sco m) d _ _ _ hX) (gather1 (sco m) d _ _ _ hX (fun _ => rfl) (fun _ => rfl))

theorem left2_ne (Va : Vals) {b : DevRef τ sig} (h : b ≠ dr main_v12) : left Va 2 b = Va b := Function.update_of_ne h _ _
theorem left2_self (Va : Vals) : left Va 2 (dr main_v12) = scores 4096 16 (Va (dr main_arg0)) (Va (dr main_v7_0)) := by
  show Function.update Va (dr main_v12) _ (dr main_v12) = _
  rw [Function.update_self]
/-- The buffers after chunk 2. -/
def next2 (d : Dev nD) (Va : Vals) : Vals :=
  after (opB 2) (routed (Y := main_v15_0) (Z := main_v15_1) (after (opA 2) (left Va 2)) (fun j : S32768.Idx => outW (sco m d 2) (j 0).val) (fun j : S32768.Idx => outI (sco m d 2) (j 0).val))
theorem next2_keep (d : Dev nD) (Va : Vals) {r : Ref sig .tc} (h : r ∉ [main_v13_0, main_v13_1, main_v14, main_v15_0, main_v15_1, main_v16, main_v17]) (h' : r ≠ main_v12) :
    next2 m d Va (dr r) = Va (dr r) :=
  (ops_keep _ _ _ _ _ _ _ _ _ _ _ _ _ _ _ _ _ _ _ (left Va 2) h).trans (left2_ne Va fun e => h' (Proc.devRef_injective _ e))
theorem next2_w (d : Dev nD) (Va : Vals) : next2 m d Va (dr main_v13_0) = Va (dr main_arg1) :=
  (ops_w _ _ _ _ _ _ _ _ _ _ _ _ _ _ _ _ _ _ _ (left Va 2) (by decide)).trans (left2_ne Va fun e => absurd (Proc.devRef_injective _ e) (by decide))
theorem next2_W (d : Dev nD) (Va : Vals) : next2 m d Va (dr main_v16) = rowsW (xIn m d) (wIn m d) 4096 16 :=
  (ops_A _ _ _ _ _ _ _ _ _ _ _ (by decide) (by decide)).trans (cast_outW (n := 4096) (N := 32768) _ _ 16 _)
theorem next2_I (d : Dev nD) (Va : Vals) : next2 m d Va (dr main_v17) = rowsI (xIn m d) (wIn m d) 4096 16 :=
  (ops_B _ _ _ _ _ _ _ _ _ _ _ (by decide)).trans (cast_outI (n := 4096) (N := 32768) _ _ 16 _)

theorem chunk2 (κ : GSem nD τ sig → ℕ) (d : Dev nD) (Va : Vals) (hx : Va (dr main_arg0) = xIn m d) (hw : Va (dr main_v7_0) = wIn m d)
    {k : PUnit → Prog (TpuEff nD τ sig (Elt F) (SparseCore.Sig (ΛP (F := F)) 5) .tc) PUnit} {Φ : PUnit → sProp 𝕄} :
    (iprop((K (F := F)).ctx EH (Py (sco m)) κ ∗ boundary (SparseCore.T d : Thread nD τ) ∗ held (SparseCore.T d : Thread nD τ) UC Va ∗ (K (F := F)).tcSt EH d 2 ∗ ghost 2 d
        ∗ (boundary (SparseCore.T d : Thread nD τ) ∗ held (SparseCore.T d : Thread nD τ) UC (next2 m d Va) ∗ (K (F := F)).tcSt EH d 3
          -∗ wp (M := MM F) frame (wpE ((K (F := F)).defs (D (F := F))) 𝒱 (SparseCore.T d) none) Set.univ (k ⟨⟩) Φ)) : sProp 𝕄)
      ⊢ wp (M := MM F) frame (wpE ((K (F := F)).defs (D (F := F))) 𝒱 (SparseCore.T d) none) Set.univ
          ((Prog.lift (.customCall (SparseCore.inner (Pipeline.entry 2)) ()) : Prog (TpuEff nD τ sig (Elt F) (SparseCore.Sig (ΛP (F := F)) 5) .tc) PUnit) >>= fun _ => seq (opA 2) >>= fun _ =>
            (K (F := F)).run d 2 >>= fun _ => seq (opB 2) >>= k) Φ := by
  have hX : Reads (Memref.whole main_v14_scv) (after (opA 2) (left Va 2) (dr main_v14)) (sco m d 2) := by
    have e : after (opA 2) (left Va 2) (dr main_v14) = shapeCast S524288 (scores 4096 16 (Va (dr main_arg0)) (Va (dr main_v7_0))) shapeCasts_S4096x128_S524288 :=
      (opsA_X _ _ _ _ _ _ _ _ _ (left Va 2) (by decide) (by decide)).trans (congrArg (fun v => shapeCast S524288 v shapeCasts_S4096x128_S524288)
        (left2_self Va))
    rw [e, hx, hw]
    exact fun i => cast_scores (xIn m d) (wIn m d) 16 _ i
  exact wp_chunk (sco := sco m) κ 2 (X := main_v14) (Y := main_v15_0) (Z := main_v15_1) (by decide) (by decide) (by decide) rfl rfl rfl d Va (opA 2) (opB 2)
    (opsA_sub _ _ _ _ _ _ _ _ _) (opsA_fresh _ _ _ _ _ _ _ _ _) (opsB_sub _ _ _ _ _ _ _ _) (opsB_fresh _ _ _ _ _ _ _ _)
    launch4.toP (body2 Va _ _) (out2 Va _ _) (Pipeline.arrRefs_sub_ucRefs _ (by decide))
    (fun b hb => left2_ne Va fun e => hb (Finset.mem_map.mpr ⟨main_v12, Finset.mem_image.mpr ⟨2, Finset.mem_univ _, rfl⟩, e.symm⟩)) _ _
    (deal2 (sco m) d _ _ _ hX) (gather2 (sco m) d _ _ _ hX (fun _ => rfl) (fun _ => rfl))

theorem left3_ne (Va : Vals) {b : DevRef τ sig} (h : b ≠ dr main_v18) : left Va 3 b = Va b := Function.update_of_ne h _ _
theorem left3_self (Va : Vals) : left Va 3 (dr main_v18) = scores 2048 24 (Va (dr main_arg0)) (Va (dr main_v13_0)) := by
  show Function.update Va (dr main_v18) _ (dr main_v18) = _
  rw [Function.update_self]
/-- The buffers after chunk 3. -/
def next3 (d : Dev nD) (Va : Vals) : Vals :=
  after (opB 3) (routed (Y := main_v21_0) (Z := main_v21_1) (after (opA 3) (left Va 3)) (fun j : S16384.Idx => outW (sco m d 3) (j 0).val) (fun j : S16384.Idx => outI (sco m d 3) (j 0).val))
theorem next3_keep (d : Dev nD) (Va : Vals) {r : Ref sig .tc} (h : r ∉ [main_v19_0, main_v19_1, main_v20, main_v21_0, main_v21_1, main_v22, main_v23]) (h' : r ≠ main_v18) :
    next3 m d Va (dr r) = Va (dr r) :=
  (ops_keep _ _ _ _ _ _ _ _ _ _ _ _ _ _ _ _ _ _ _ (left Va 3) h).trans (left3_ne Va fun e => h' (Proc.devRef_injective _ e))
theorem next3_w (d : Dev nD) (Va : Vals) : next3 m d Va (dr main_v19_0) = Va (dr main_arg1) :=
  (ops_w _ _ _ _ _ _ _ _ _ _ _ _ _ _ _ _ _ _ _ (left Va 3) (by decide)).trans (left3_ne Va fun e => absurd (Proc.devRef_injective _ e) (by decide))
theorem next3_W (d : Dev nD) (Va : Vals) : next3 m d Va (dr main_v22) = rowsW (xIn m d) (wIn m d) 2048 24 :=
  (ops_A _ _ _ _ _ _ _ _ _ _ _ (by decide) (by decide)).trans (cast_outW (n := 2048) (N := 16384) _ _ 24 _)
theorem next3_I (d : Dev nD) (Va : Vals) : next3 m d Va (dr main_v23) = rowsI (xIn m d) (wIn m d) 2048 24 :=
  (ops_B _ _ _ _ _ _ _ _ _ _ _ (by decide)).trans (cast_outI (n := 2048) (N := 16384) _ _ 24 _)

theorem chunk3 (κ : GSem nD τ sig → ℕ) (d : Dev nD) (Va : Vals) (hx : Va (dr main_arg0) = xIn m d) (hw : Va (dr main_v13_0) = wIn m d)
    {k : PUnit → Prog (TpuEff nD τ sig (Elt F) (SparseCore.Sig (ΛP (F := F)) 5) .tc) PUnit} {Φ : PUnit → sProp 𝕄} :
    (iprop((K (F := F)).ctx EH (Py (sco m)) κ ∗ boundary (SparseCore.T d : Thread nD τ) ∗ held (SparseCore.T d : Thread nD τ) UC Va ∗ (K (F := F)).tcSt EH d 3 ∗ ghost 3 d
        ∗ (boundary (SparseCore.T d : Thread nD τ) ∗ held (SparseCore.T d : Thread nD τ) UC (next3 m d Va) ∗ (K (F := F)).tcSt EH d 4
          -∗ wp (M := MM F) frame (wpE ((K (F := F)).defs (D (F := F))) 𝒱 (SparseCore.T d) none) Set.univ (k ⟨⟩) Φ)) : sProp 𝕄)
      ⊢ wp (M := MM F) frame (wpE ((K (F := F)).defs (D (F := F))) 𝒱 (SparseCore.T d) none) Set.univ
          ((Prog.lift (.customCall (SparseCore.inner (Pipeline.entry 3)) ()) : Prog (TpuEff nD τ sig (Elt F) (SparseCore.Sig (ΛP (F := F)) 5) .tc) PUnit) >>= fun _ => seq (opA 3) >>= fun _ =>
            (K (F := F)).run d 3 >>= fun _ => seq (opB 3) >>= k) Φ := by
  have hX : Reads (Memref.whole main_v20_scv) (after (opA 3) (left Va 3) (dr main_v20)) (sco m d 3) := by
    have e : after (opA 3) (left Va 3) (dr main_v20) = shapeCast S262144 (scores 2048 24 (Va (dr main_arg0)) (Va (dr main_v13_0))) shapeCasts_S2048x128_S262144 :=
      (opsA_X _ _ _ _ _ _ _ _ _ (left Va 3) (by decide) (by decide)).trans (congrArg (fun v => shapeCast S262144 v shapeCasts_S2048x128_S262144)
        (left3_self Va))
    rw [e, hx, hw]
    exact fun i => cast_scores (xIn m d) (wIn m d) 24 _ i
  exact wp_chunk (sco := sco m) κ 3 (X := main_v20) (Y := main_v21_0) (Z := main_v21_1) (by decide) (by decide) (by decide) rfl rfl rfl d Va (opA 3) (opB 3)
    (opsA_sub _ _ _ _ _ _ _ _ _) (opsA_fresh _ _ _ _ _ _ _ _ _) (opsB_sub _ _ _ _ _ _ _ _) (opsB_fresh _ _ _ _ _ _ _ _)
    launch6.toP (body3 Va _ _) (out3 Va _ _) (Pipeline.arrRefs_sub_ucRefs _ (by decide))
    (fun b hb => left3_ne Va fun e => hb (Finset.mem_map.mpr ⟨main_v18, Finset.mem_image.mpr ⟨2, Finset.mem_univ _, rfl⟩, e.symm⟩)) _ _
    (deal3 (sco m) d _ _ _ hX) (gather3 (sco m) d _ _ _ hX (fun _ => rfl) (fun _ => rfl))

theorem left4_ne (Va : Vals) {b : DevRef τ sig} (h : b ≠ dr main_v24) : left Va 4 b = Va b := Function.update_of_ne h _ _
theorem left4_self (Va : Vals) : left Va 4 (dr main_v24) = scores 2048 28 (Va (dr main_arg0)) (Va (dr main_v19_0)) := by
  show Function.update Va (dr main_v24) _ (dr main_v24) = _
  rw [Function.update_self]
/-- The buffers after chunk 4. -/
def next4 (d : Dev nD) (Va : Vals) : Vals :=
  after (opB 4) (routed (Y := main_v27_0) (Z := main_v27_1) (after (opA 4) (left Va 4)) (fun j : S16384.Idx => outW (sco m d 4) (j 0).val) (fun j : S16384.Idx => outI (sco m d 4) (j 0).val))
theorem next4_keep (d : Dev nD) (Va : Vals) {r : Ref sig .tc} (h : r ∉ [main_v25_0, main_v25_1, main_v26, main_v27_0, main_v27_1, main_v28, main_v29]) (h' : r ≠ main_v24) :
    next4 m d Va (dr r) = Va (dr r) :=
  (ops_keep _ _ _ _ _ _ _ _ _ _ _ _ _ _ _ _ _ _ _ (left Va 4) h).trans (left4_ne Va fun e => h' (Proc.devRef_injective _ e))
theorem next4_w (d : Dev nD) (Va : Vals) : next4 m d Va (dr main_v25_0) = Va (dr main_arg1) :=
  (ops_w _ _ _ _ _ _ _ _ _ _ _ _ _ _ _ _ _ _ _ (left Va 4) (by decide)).trans (left4_ne Va fun e => absurd (Proc.devRef_injective _ e) (by decide))
theorem next4_W (d : Dev nD) (Va : Vals) : next4 m d Va (dr main_v28) = rowsW (xIn m d) (wIn m d) 2048 28 :=
  (ops_A _ _ _ _ _ _ _ _ _ _ _ (by decide) (by decide)).trans (cast_outW (n := 2048) (N := 16384) _ _ 28 _)
theorem next4_I (d : Dev nD) (Va : Vals) : next4 m d Va (dr main_v29) = rowsI (xIn m d) (wIn m d) 2048 28 :=
  (ops_B _ _ _ _ _ _ _ _ _ _ _ (by decide)).trans (cast_outI (n := 2048) (N := 16384) _ _ 28 _)

theorem chunk4 (κ : GSem nD τ sig → ℕ) (d : Dev nD) (Va : Vals) (hx : Va (dr main_arg0) = xIn m d) (hw : Va (dr main_v19_0) = wIn m d)
    {k : PUnit → Prog (TpuEff nD τ sig (Elt F) (SparseCore.Sig (ΛP (F := F)) 5) .tc) PUnit} {Φ : PUnit → sProp 𝕄} :
    (iprop((K (F := F)).ctx EH (Py (sco m)) κ ∗ boundary (SparseCore.T d : Thread nD τ) ∗ held (SparseCore.T d : Thread nD τ) UC Va ∗ (K (F := F)).tcSt EH d 4 ∗ ghost 4 d
        ∗ (boundary (SparseCore.T d : Thread nD τ) ∗ held (SparseCore.T d : Thread nD τ) UC (next4 m d Va) ∗ (K (F := F)).tcSt EH d 5
          -∗ wp (M := MM F) frame (wpE ((K (F := F)).defs (D (F := F))) 𝒱 (SparseCore.T d) none) Set.univ (k ⟨⟩) Φ)) : sProp 𝕄)
      ⊢ wp (M := MM F) frame (wpE ((K (F := F)).defs (D (F := F))) 𝒱 (SparseCore.T d) none) Set.univ
          ((Prog.lift (.customCall (SparseCore.inner (Pipeline.entry 4)) ()) : Prog (TpuEff nD τ sig (Elt F) (SparseCore.Sig (ΛP (F := F)) 5) .tc) PUnit) >>= fun _ => seq (opA 4) >>= fun _ =>
            (K (F := F)).run d 4 >>= fun _ => seq (opB 4) >>= k) Φ := by
  have hX : Reads (Memref.whole main_v26_scv) (after (opA 4) (left Va 4) (dr main_v26)) (sco m d 4) := by
    have e : after (opA 4) (left Va 4) (dr main_v26) = shapeCast S262144 (scores 2048 28 (Va (dr main_arg0)) (Va (dr main_v19_0))) shapeCasts_S2048x128_S262144 :=
      (opsA_X _ _ _ _ _ _ _ _ _ (left Va 4) (by decide) (by decide)).trans (congrArg (fun v => shapeCast S262144 v shapeCasts_S2048x128_S262144)
        (left4_self Va))
    rw [e, hx, hw]
    exact fun i => cast_scores (xIn m d) (wIn m d) 28 _ i
  exact wp_chunk (sco := sco m) κ 4 (X := main_v26) (Y := main_v27_0) (Z := main_v27_1) (by decide) (by decide) (by decide) rfl rfl rfl d Va (opA 4) (opB 4)
    (opsA_sub _ _ _ _ _ _ _ _ _) (opsA_fresh _ _ _ _ _ _ _ _ _) (opsB_sub _ _ _ _ _ _ _ _) (opsB_fresh _ _ _ _ _ _ _ _)
    launch8.toP (body4 Va _ _) (out4 Va _ _) (Pipeline.arrRefs_sub_ucRefs _ (by decide))
    (fun b hb => left4_ne Va fun e => hb (Finset.mem_map.mpr ⟨main_v24, Finset.mem_image.mpr ⟨2, Finset.mem_univ _, rfl⟩, e.symm⟩)) _ _
    (deal4 (sco m) d _ _ _ hX) (gather4 (sco m) d _ _ _ hX (fun _ => rfl) (fun _ => rfl))

end Cert.Proof.Route
-- ==== Proof.Launch.lean ====
/-
  The whole program: what the launch provides, @main's run from it, and what a run leaves.
-/
module

public import proofs.«01_k».proof.Proof.Main

@[expose] public section

noncomputable section

namespace Cert.Proof.Route

open Cert.KernelIdeal Cert.KernelIdeal.Gen
open Idealize.ShloMosaic Idealize.ShloMosaic.TcCoe
open Idealize.ShloMosaic.StableHlo (held after seq)
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MM F
local notation "Vals" => Valuation τ sig (Elt F)

variable (m : (ℓ : Loc nD τ sig) → Buf (Elt F) ℓ) (ρ : Dev nD → PrngReg)

/-! ## What the launch provides: the handshakes' rounds and the pipelines' -/

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- The pipelines' part of it on a device. -/
abbrev G (d : Dev nD) : sProp 𝕄 := bigSep Finset.univ fun p : Fin 5 => ghost (F := F) p d

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 5 => (Py (sco m)).x q thr) := by
  unfold u₀
  iintro Hu
  ihave H := (ownU_pair _ _) $$ Hu
  icases H with ⟨HH, HP⟩
  ihave HP := (own_pair_emb _ _ _) $$ HP
  icases HP with ⟨HP, -⟩
  imod (Pipeline.fund_ghost (Pipeline.pin (pcfgs (F := F)) adm) EP cellOf_inj) $$ HP with ⟨Hg, Ht⟩
  imodintro
  isplitl [HH]; · iexact HH
  isplitl [Hg Ht]
  · unfold G ghost
    simp only [bigSep_sep']
    isplitl [Hg] <;> iassumption
  rw [show (bigSep Finset.univ fun thr : Thread nD τ => bigSep Finset.univ fun q : Fin 5 => (Py (sco m)).x q thr) = (iprop(emp) : sProp 𝕄) from by
    rw [show (fun thr : Thread nD τ => bigSep Finset.univ fun q : Fin 5 => (Py (sco m)).x q thr) = fun _ => (iprop(emp) : sProp 𝕄) from funext fun _ => bigSep_emp' _, bigSep_emp']]
  iempintro

/-! ## @main -/

/-- The buffers at the launch, after the chunks, at the end. -/
def V0 (d : Dev nD) : Vals := fun b => m (d, b)
def V5 (d : Dev nD) : Vals := next4 m d (next3 m d (next2 m d (next1 m d (next0 m d (V0 m d)))))
def Vend (d : Dev nD) : Vals := after opC (V5 m d)

/-- What @main leaves the claim: its two arguments and its two results. -/
def FIN (d : Dev nD) : sProp 𝕄 := held (SparseCore.T d : Thread nD τ) UC (Vend m d)

theorem opC_sub : ∀ op ∈ opC (F := F), op.bufs ⊆ UC := by
  intro op hop
  simp only [opC, List.mem_cons, List.not_mem_nil, or_false] at hop
  rcases hop with rfl | rfl <;> exact Pipeline.sub_ucRefs _ (StableHlo.nary_bufs_sub ..)
theorem opC_fresh : ∀ op ∈ opC (F := F), op.fresh = ∅ := by
  intro op hop
  simp only [opC, List.mem_cons, List.not_mem_nil, or_false] at hop
  rcases hop with rfl | rfl <;> rfl

theorem x1 (d : Dev nD) (Va : Vals) (h : Va (dr main_arg0) = xIn m d) : next0 m d Va (dr main_arg0) = xIn m d := (next0_keep m d Va (by decide) (by decide)).trans h
theorem x2 (d : Dev nD) (Va : Vals) (h : Va (dr main_arg0) = xIn m d) : next1 m d Va (dr main_arg0) = xIn m d := (next1_keep m d Va (by decide) (by decide)).trans h
theorem x3 (d : Dev nD) (Va : Vals) (h : Va (dr main_arg0) = xIn m d) : next2 m d Va (dr main_arg0) = xIn m d := (next2_keep m d Va (by decide) (by decide)).trans h
theorem x4 (d : Dev nD) (Va : Vals) (h : Va (dr main_arg0) = xIn m d) : next3 m d Va (dr main_arg0) = xIn m d := (next3_keep m d Va (by decide) (by decide)).trans h
theorem x5 (d : Dev nD) (Va : Vals) (h : Va (dr main_arg0) = xIn m d) : next4 m d Va (dr main_arg0) = xIn m d := (next4_keep m d Va (by decide) (by decide)).trans h
theorem w1 (d : Dev nD) (Va : Vals) (h : Va (dr main_arg1) = wIn m d) : next0 m d Va (dr main_arg1) = wIn m d := (next0_keep m d Va (by decide) (by decide)).trans h
theorem w2 (d : Dev nD) (Va : Vals) (h : Va (dr main_arg1) = wIn m d) : next1 m d Va (dr main_arg1) = wIn m d := (next1_keep m d Va (by decide) (by decide)).trans h
theorem w3 (d : Dev nD) (Va : Vals) (h : Va (dr main_arg1) = wIn m d) : next2 m d Va (dr main_arg1) = wIn m d := (next2_keep m d Va (by decide) (by decide)).trans h
theorem w4 (d : Dev nD) (Va : Vals) (h : Va (dr main_arg1) = wIn m d) : next3 m d Va (dr main_arg1) = wIn m d := (next3_keep m d Va (by decide) (by decide)).trans h
theorem w5 (d : Dev nD) (Va : Vals) (h : Va (dr main_arg1) = wIn m d) : next4 m d Va (dr main_arg1) = wIn m d := (next4_keep m d Va (by decide) (by decide)).trans h

theorem G_five (d : Dev nD) : (G (F := F) d : sProp 𝕄) = iprop(ghost 0 d ∗ ghost 1 d ∗ ghost 2 d ∗ ghost 3 d ∗ ghost 4 d) := by
  unfold G
  rw [show (Finset.univ : Finset (Fin 5)) = {0, 1, 2, 3, 4} by decide, SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (SparseCore.T d : Thread nD τ) UC (V0 m d) :=
  Pipeline.unscopedBufs_held d (V0 m d)

theorem hmain (κ : GSem nD τ sig → ℕ) (d : Dev nD) :
    iprop((K (F := F)).ctx EH (Py (sco m)) κ ∗ (K (F := F)).tcSt EH d 0 ∗ (K (F := F)).tcRes m ρ d ∗ G d)
      ⊢ wp (M := MM F) frame (wpE ((K (F := F)).defs (D (F := F))) 𝒱 (SparseCore.T d) none) Set.univ (main d)
          fun _ => iprop((K (F := F)).tcSt EH d 5 ∗ FIN m d ∗ (K (F := F)).tcEnd d) := by
  unfold SparseCore.Cfg.tcRes SparseCore.Cfg.tcEnd
  rw [unscoped_held, main_eq, G_five]
  iintro ⟨#Hctx, Hst, ⟨Hb, Hh, Hts, -⟩, Hg0, Hg1, Hg2, Hg3, Hg4⟩
  have x0 : V0 m d (dr main_arg0) = xIn m d := rfl
  have w0 : V0 m d (dr main_arg1) = wIn m d := rfl
  iapply (chunk0 m κ d (V0 m d) x0 w0) $$ [Hst Hb Hh Hts Hg0 Hg1 Hg2 Hg3 Hg4]
  isplitr; · iexact Hctx
  isplitl [Hb]; · iexact Hb
  isplitl [Hh]; · iexact Hh
  isplitl [Hst]; · iexact Hst
  isplitl [Hg0]; · iexact Hg0
  iintro ⟨Hb, Hh, Hst⟩
  have x1 := x1 m d _ x0
  have w1' := (next0_w m d (V0 m d)).trans w0
  have w1 := w1 m d _ w0
  iapply (chunk1 m κ d _ x1 w1') $$ [Hst Hb Hh Hts Hg1 Hg2 Hg3 Hg4]
  isplitr; · iexact Hctx
  isplitl [Hb]; · iexact Hb
  isplitl [Hh]; · iexact Hh
  isplitl [Hst]; · iexact Hst
  isplitl [Hg1]; · iexact Hg1
  iintro ⟨Hb, Hh, Hst⟩
  have x2 := x2 m d _ x1
  have w2' := (next1_w m d _).trans w1
  have w2 := w2 m d _ w1
  iapply (chunk2 m κ d _ x2 w2') $$ [Hst Hb Hh Hts Hg2 Hg3 Hg4]
  isplitr; · iexact Hctx
  isplitl [Hb]; · iexact Hb
  isplitl [Hh]; · iexact Hh
  isplitl [Hst]; · iexact Hst
  isplitl [Hg2]; · iexact Hg2
  iintro ⟨Hb, Hh, Hst⟩
  have x3 := x3 m d _ x2
  have w3' := (next2_w m d _).trans w2
  have w3 := w3 m d _ w2
  iapply (chunk3 m κ d _ x3 w3') $$ [Hst Hb Hh Hts Hg3 Hg4]
  isplitr; · iexact Hctx
  isplitl [Hb]; · iexact Hb
  isplitl [Hh]; · iexact Hh
  isplitl [Hst]; · iexact Hst
  isplitl [Hg3]; · iexact Hg3
  iintro ⟨Hb, Hh, Hst⟩
  have x4 := x4 m d _ x3
  have w4' := (next3_w m d _).trans w3
  iapply (chunk4 m κ d _ x4 w4') $$ [Hst Hb Hh Hts Hg4]
  isplitr; · iexact Hctx
  isplitl [Hb]; · iexact Hb
  isplitl [Hh]; · iexact Hh
  isplitl [Hst]; · iexact Hst
  isplitl [Hg4]; · iexact Hg4
  iintro ⟨Hb, Hh, Hst⟩
  iapply (StableHlo.wp_seq 𝒱 none Set.univ d UC _ opC opC_sub opC_fresh _) $$ [Hb Hh]
  · isplitl [Hb] <;> iassumption
  iintro ⟨Hb, Hh⟩
  rw [wp_pure]
  imodintro
  isplitl [Hst]; · iexact Hst
  isplitl [Hh]; · unfold FIN Vend V5; iexact Hh
  isplitl [Hb] <;> iassumption

end Cert.Proof.Route
-- ==== Proof.Run.lean ====
/-
  The run of the threads: the launch, what it leaves in the buffers, and the frame.
-/
module

public import proofs.«01_k».proof.Proof.Launch

@[expose] public section

noncomputable section

namespace Cert.Proof.Route

open Cert.KernelIdeal Cert.KernelIdeal.Gen
open Idealize.ShloMosaic Idealize.ShloMosaic.TcCoe
open Idealize.ShloMosaic.StableHlo (held after seq)
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MM F
local notation "Vals" => Valuation τ sig (Elt F)

variable (m : (ℓ : Loc nD τ sig) → Buf (Elt F) ℓ) (ρ : Dev nD → PrngReg)

/-- What the final memory holds on a device, in the host program's buffers. -/
def fq (d : Dev nD) (s' : Phys nD τ sig (Elt F)) : Prop := ∀ b : UC, s'.mem.mem (d, b.1) = Vend m d b.1

theorem hfin (d : Dev nD) (s' : Phys nD τ sig (Elt F)) : iprop(FIN m d ∗ SI s') ⊢ (⌜fq m d s'⌝ : sProp 𝕄) := by
  unfold fq
  have h : ∀ b : UC, iprop(FIN m d ∗ SI s') ⊢ (⌜s'.mem.mem (d, b.1) = Vend m d b.1⌝ : sProp 𝕄) := by
    intro b
    unfold FIN
    rw [StableHlo.held_sub_split (SparseCore.T d : Thread nD τ) (show ({b.1} : Finset (DevRef τ sig)) ⊆ UC from Finset.singleton_subset_iff.mpr b.2)]
    unfold StableHlo.held
    rw [bigSep_singleton]
    iintro ⟨⟨Hx, -⟩, HSI⟩
    ihave H := (SI_pointsTo_agree (st := s') (ℓ := (d, b.1)) (I := Finset.univ) (q := fullShare) (f := Vend m d b.1)) $$ [HSI Hx]
    · isplitl [HSI] <;> iassumption
    icases H with %hx
    ipureintro; exact funext fun i => hx i (Finset.mem_univ i)
  exact (Laws.forall_intro h).trans (Laws.pure_forall (PROP := sProp 𝕄)).2

/-- The final states: the buffers as the host program leaves them, the semaphores at zero. -/
def QC : PUnit × MemSt nD τ sig (Elt F) → Prop :=
  fun r => (∀ d : Dev nD, ∀ b : UC, r.2.mem (d, b.1) = Vend m d b.1) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Py (sco m)) (A := ∅) facts v₀
    (fun q hq => match q with | 0 => nomatch hq | 1 => nomatch hq | 2 => nomatch hq | 3 => nomatch hq | 4 => nomatch hq)
    (fun q _ => match q with
      | 0 => tileObl0 (sco m) | 1 => tileObl1 (sco m) | 2 => tileObl2 (sco m) | 3 => tileObl3 (sco m) | 4 => tileObl4 (sco m))
    (fun q _ => SparseCore.Cfg.VecSplit.of_plain (vecSplit (sco m) q))
    m ρ main G (FIN m) (u₀ (F := F)) (sep_elim_left.trans (hu₀ m)) (hmain m ρ) (fq m) (hfin m) (QC m) (fun _ h hz => ⟨h, hz⟩)

theorem Vend_arg0 (d : Dev nD) : Vend m d (dr main_arg0) = xIn m d := by
  unfold Vend V5 opC
  rw [StableHlo.after_cons, StableHlo.after_cons, StableHlo.after_nil, StableHlo.nary_result_ne (h := by decide), StableHlo.nary_result_ne (h := by decide)]
  exact x5 m d _ (x4 m d _ (x3 m d _ (x2 m d _ (x1 m d _ rfl))))

theorem Vend_arg1 (d : Dev nD) : Vend m d (dr main_arg1) = wIn m d := by
  unfold Vend V5 opC
  rw [StableHlo.after_cons, StableHlo.after_cons, StableHlo.after_nil, StableHlo.nary_result_ne (h := by decide), StableHlo.nary_result_ne (h := by decide)]
  exact w5 m d _ (w4 m d _ (w3 m d _ (w2 m d _ (w1 m d _ rfl))))

end Cert.Proof.Route
-- ==== Proof.Same.lean ====
/-
  The kernel's program and its idealization have one text.
-/
module

public import proofs.«01_k».proof.Proof.Gen.Kernel
public import proofs.«01_k».proof.Proof.Gen.KernelIdeal

@[expose] public section

noncomputable section

namespace Cert.Proof.Same

open Idealize.ShloMosaic Idealize.SL.Sem

variable {F : FTy → Type} [FloatOps F]

set_option maxRecDepth 65536 in
set_option maxHeartbeats 0 in
theorem bodies : Cert.Kernel.defs₀ (F := F) = (Cert.KernelIdeal.defs₀ (F := F)) := by
  funext p l a
  cases p <;> fin_cases l <;> rfl

theorem defs : Cert.Kernel.defs (F := F) = Cert.KernelIdeal.defs (F := F) :=
  congrArg (fun D => Cert.KernelIdeal.sc.defs (Pipeline.defs Cert.KernelIdeal.pcfgs D)) bodies

set_option maxRecDepth 65536 in
set_option maxHeartbeats 0 in
theorem main : Cert.Kernel.main (F := F) = Cert.KernelIdeal.main (F := F) := by rfl

theorem threads : Cert.Kernel.threads (F := F) = Cert.KernelIdeal.threads (F := F) :=
  congrArg (fun M => Cert.KernelIdeal.sc.threads M) main

end Cert.Proof.Same
-- ==== Proof.Frames.lean ====
/-
  The frames: of the kernel at either reading, from its one run over any values, and of the reference.
-/
module

public import proofs.«01_k».proof.Proof.Run
public import proofs.«01_k».proof.Proof.Same
public import proofs.«01_k».proof.Proof.Gen.ReferenceIdeal.Run
public import proofs.«01_k».proof.Defs

@[expose] public section

noncomputable section

namespace Cert.Proof

open Idealize.ShloMosaic Idealize.SL.Sem

theorem args_kept {F : FTy → Type} [FloatOps F] (m : (ℓ : Loc Cert.KernelIdeal.nD Cert.KernelIdeal.τ Cert.KernelIdeal.sig) → Buf (Elt F) ℓ)
    {r : PUnit × MemSt Cert.KernelIdeal.nD Cert.KernelIdeal.τ Cert.KernelIdeal.sig (Elt F)} (h : Route.QC m r) (c : Dev Cert.KernelIdeal.nD) :
    r.2.mem (c, Route.dr Cert.KernelIdeal.main_arg0) = m (c, Route.dr Cert.KernelIdeal.main_arg0)
      ∧ r.2.mem (c, Route.dr Cert.KernelIdeal.main_arg1) = m (c, Route.dr Cert.KernelIdeal.main_arg1) :=
  ⟨(h.1 c ⟨_, Route.uc (r := Cert.KernelIdeal.main_arg0) rfl⟩).trans (Route.Vend_arg0 m c),
    (h.1 c ⟨_, Route.uc (r := Cert.KernelIdeal.main_arg1) rfl⟩).trans (Route.Vend_arg1 m c)⟩

/-- The kernel's frame over any values. -/
theorem frame_any {F : FTy → Type} [FloatOps F] [∀ e, Nonempty (Elt F e)]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (Cert.KernelIdeal.threads (F := F)) ⟨m, fun _ => 0, ρ⟩ (fun r =>
      (∀ c : Dev Cert.KernelIdeal.nD, r.2.mem (c, Route.dr Cert.KernelIdeal.main_arg0) = m (c, Route.dr Cert.KernelIdeal.main_arg0)
        ∧ r.2.mem (c, Route.dr Cert.KernelIdeal.main_arg1) = m (c, Route.dr Cert.KernelIdeal.main_arg1)) ∧ r.2.sem = fun _ => 0) :=
  (θ_run Cert.KernelIdeal.defs _ _).mono (fun _ h => ⟨fun c => args_kept m h c, h.2⟩) (Route.run_main m ρ)

theorem frame_ideal : Cert.quiescent_KernelIdeal := fun m ρ _ => frame_any (F := Ideal) m ρ

theorem frame_bits : Cert.quiescent_Kernel := fun m ρ _ => by
  have h := frame_any (F := Bits) m ρ
  rw [← Same.defs, ← Same.threads] at h
  exact h

theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof
-- ==== Proof.Concat.lean ====
/-
  The concatenation along the tokens of the chunks' results.
-/
module

public import proofs.«01_k».proof.Proof.Flat

@[expose] public section

noncomputable section

namespace Cert.Proof.Route

open Cert.KernelIdeal Cert.KernelIdeal.Gen
open Idealize.ShloMosaic

variable {F : FTy → Type} [FloatOps F]

/-- Where a position falls among pieces laid end to end: past the pieces before its own. -/
theorem locate_sum : ∀ (ns : List Nat) (c : Nat) (h : c < ns.sum), (ns.take (locate ns c h).1.val).sum + (locate ns c h).2.val = c
  | [], _, h => absurd h (by simp)
  | n :: ns, c, h => by
    by_cases hc : c < n
    · rw [locate, dif_pos hc]; simp
    · have h' : c - n < ns.sum := by simp at h; omega
      have := locate_sum ns (c - n) h'
      rw [locate, dif_neg hc]
      simp only [Fin.val_succ, List.take_succ_cons, List.sum_cons]
      show n + (ns.take (locate ns (c - n) h').1.val).sum + (locate ns (c - n) h').2.val = c
      omega

variable {α : Type}

/-- An element of a concatenation, when each piece at the position that lies past the pieces before it holds the value `v`. -/
theorem concatenate_of (t : Shape) (a : Fin t.rank) (xs : List ((s : Shape) × (s.Idx → α))) (h : Shape.Concatenates (xs.map (·.1)) t a) (j : t.Idx) (v : α)
    (H : ∀ (k : Fin xs.length) (hr : xs[k].1.rank = t.rank) (i : xs[k].1.Idx),
      (((xs.map (·.1)).map fun s => if h : s.rank = t.rank then s.size (a.cast h.symm) else 0).take k.val).sum + (i (a.cast hr.symm)).val = (j a).val →
      (∀ b, b.cast hr ≠ a → (i b).val = (j (b.cast hr)).val) → xs[k].2 i = v) :
    concatenate t a xs h j = v := by
  unfold concatenate
  dsimp only
  have hl := locate_sum ((xs.map (·.1)).map fun s => if h : s.rank = t.rank then s.size (a.cast h.symm) else 0) (j a).val (by rw [h.2.2]; exact (j a).isLt)
  have hk : (locate ((xs.map (·.1)).map fun s => if h : s.rank = t.rank then s.size (a.cast h.symm) else 0) (j a).val (by rw [h.2.2]; exact (j a).isLt)).1.val < xs.length := by
    simpa using (locate ((xs.map (·.1)).map fun s => if h : s.rank = t.rank then s.size (a.cast h.symm) else 0) (j a).val (by rw [h.2.2]; exact (j a).isLt)).1.isLt
  have hr := (h.2.1 _ (List.mem_map.2 ⟨_, List.getElem_mem hk, rfl⟩)).1
  refine H ⟨_, hk⟩ hr _ ?_ ?_
  · refine Eq.trans (congrArg (_ + ·) ?_) hl
    exact congrArg Fin.val (dif_pos (show (a.cast hr.symm).cast hr = a from rfl))
  · intro b hb
    exact congrArg Fin.val (dif_neg hb)

/-- Pieces of rows, each reading one function of the token and the column, laid end to end read it throughout. -/
theorem cat_five (g : ℕ → ℕ → α) {n0 n1 n2 n3 n4 n w : ℕ}
    (h : Shape.Concatenates [⟨2, ![n0, w]⟩, ⟨2, ![n1, w]⟩, ⟨2, ![n2, w]⟩, ⟨2, ![n3, w]⟩, ⟨2, ![n4, w]⟩] ⟨2, ![n, w]⟩ 0) :
    concatenate (⟨2, ![n, w]⟩ : Shape) 0 [⟨⟨2, ![n0, w]⟩, fun i => g (0 + (i 0).val) (i 1).val⟩, ⟨⟨2, ![n1, w]⟩, fun i => g (n0 + (i 0).val) (i 1).val⟩,
      ⟨⟨2, ![n2, w]⟩, fun i => g (n0 + n1 + (i 0).val) (i 1).val⟩, ⟨⟨2, ![n3, w]⟩, fun i => g (n0 + n1 + n2 + (i 0).val) (i 1).val⟩,
      ⟨⟨2, ![n4, w]⟩, fun i => g (n0 + n1 + n2 + n3 + (i 0).val) (i 1).val⟩] h = fun i => g (i 0).val (i 1).val := by
  funext j
  refine concatenate_of _ _ _ _ j _ fun k hr i h0 h1 => ?_
  have h1' := h1 ((1 : Fin 2).cast hr.symm) (fun e => absurd (congrArg Fin.val e) Nat.one_ne_zero)
  match k, hr, i, h0, h1' with
  | ⟨0, _⟩, _, i, h0, h1' | ⟨1, _⟩, _, i, h0, h1' | ⟨2, _⟩, _, i, h0, h1' | ⟨3, _⟩, _, i, h0, h1' | ⟨4, _⟩, _, i, h0, h1' =>
    exact congrArg₂ g (Eq.trans (congrArg (· + _) (by simp [add_assoc])) h0) h1'

end Cert.Proof.Route
-- ==== Proof.Values.lean ====
/-
  What the host program leaves in its two results: each token's eight weights and eight indices, throughout.
-/
module

public import proofs.«01_k».proof.Proof.Run
public import proofs.«01_k».proof.Proof.Concat

@[expose] public section

noncomputable section

namespace Cert.Proof.Route

open Cert.KernelIdeal Cert.KernelIdeal.Gen
open Idealize.ShloMosaic Idealize.ShloMosaic.TcCoe
open Idealize.ShloMosaic.StableHlo (held after seq)

variable {F : FTy → Type} [FloatOps F]
variable (m : (ℓ : Loc nD τ sig) → Buf (Elt F) ℓ) (d : Dev nD)

theorem V5_v28 : V5 m d (dr main_v28) = rowsW (xIn m d) (wIn m d) 2048 28 := next4_W m d _
theorem V5_v29 : V5 m d (dr main_v29) = rowsI (xIn m d) (wIn m d) 2048 28 := next4_I m d _
theorem V5_v22 : V5 m d (dr main_v22) = rowsW (xIn m d) (wIn m d) 2048 24 :=
  (next4_keep m d _ (by decide) (by decide)).trans (next3_W m d _)
theorem V5_v23 : V5 m d (dr main_v23) = rowsI (xIn m d) (wIn m d) 2048 24 :=
  (next4_keep m d _ (by decide) (by decide)).trans (next3_I m d _)
theorem V5_v16 : V5 m d (dr main_v16) = rowsW (xIn m d) (wIn m d) 4096 16 :=
  (next4_keep m d _ (by decide) (by decide)).trans ((next3_keep m d _ (by decide) (by decide)).trans (next2_W m d _))
theorem V5_v17 : V5 m d (dr main_v17) = rowsI (xIn m d) (wIn m d) 4096 16 :=
  (next4_keep m d _ (by decide) (by decide)).trans ((next3_keep m d _ (by decide) (by decide)).trans (next2_I m d _))
theorem V5_v10 : V5 m d (dr main_v10) = rowsW (xIn m d) (wIn m d) 4096 8 :=
  (next4_keep m d _ (by decide) (by decide)).trans ((next3_keep m d _ (by decide) (by decide)).trans
    ((next2_keep m d _ (by decide) (by decide)).trans (next1_W m d _)))
theorem V5_v11 : V5 m d (dr main_v11) = rowsI (xIn m d) (wIn m d) 4096 8 :=
  (next4_keep m d _ (by decide) (by decide)).trans ((next3_keep m d _ (by decide) (by decide)).trans
    ((next2_keep m d _ (by decide) (by decide)).trans (next1_I m d _)))
theorem V5_v4 : V5 m d (dr main_v4) = rowsW (xIn m d) (wIn m d) 4096 0 :=
  (next4_keep m d _ (by decide) (by decide)).trans ((next3_keep m d _ (by decide) (by decide)).trans
    ((next2_keep m d _ (by decide) (by decide)).trans ((next1_keep m d _ (by decide) (by decide)).trans (next0_W m d _))))
theorem V5_v5 : V5 m d (dr main_v5) = rowsI (xIn m d) (wIn m d) 4096 0 :=
  (next4_keep m d _ (by decide) (by decide)).trans ((next3_keep m d _ (by decide) (by decide)).trans
    ((next2_keep m d _ (by decide) (by decide)).trans ((next1_keep m d _ (by decide) (by decide)).trans (next0_I m d _))))

/-- The weights of all tokens. -/
theorem Vend_weights : Vend m d (dr main_v30) = fun i : S16384x8.Idx => resW (xIn m d) (wIn m d) (i 0).val (i 1).val := by
  unfold Vend opC
  rw [StableHlo.after_cons, StableHlo.after_cons, StableHlo.after_nil, StableHlo.nary_result_ne (h := by decide)]
  refine (StableHlo.nary_result' _ _ _ _ _).trans ?_
  show concatenate S16384x8 0 [⟨S4096x8, V5 m d (dr main_v4)⟩, ⟨S4096x8, V5 m d (dr main_v10)⟩, ⟨S4096x8, V5 m d (dr main_v16)⟩,
    ⟨S2048x8, V5 m d (dr main_v22)⟩, ⟨S2048x8, V5 m d (dr main_v28)⟩] concatenates_S4096x8_S4096x8_S4096x8_S2048x8_S2048x8_S16384x8_d0 = _
  rw [V5_v4, V5_v10, V5_v16, V5_v22, V5_v28]
  exact cat_five (fun t k => resW (xIn m d) (wIn m d) t k) _

/-- The indices of all tokens. -/
theorem Vend_indices : Vend m d (dr main_v31) = fun i : S16384x8.Idx => resI (xIn m d) (wIn m d) (i 0).val (i 1).val := by
  unfold Vend opC
  rw [StableHlo.after_cons, StableHlo.after_cons, StableHlo.after_nil]
  refine (StableHlo.nary_result' _ _ _ _ _).trans ?_
  show concatenate S16384x8 0 [⟨S4096x8, HloOp.result _ (V5 m d) (dr main_v5)⟩, ⟨S4096x8, HloOp.result _ (V5 m d) (dr main_v11)⟩,
    ⟨S4096x8, HloOp.result _ (V5 m d) (dr main_v17)⟩, ⟨S2048x8, HloOp.result _ (V5 m d) (dr main_v23)⟩,
    ⟨S2048x8, HloOp.result _ (V5 m d) (dr main_v29)⟩] concatenates_S4096x8_S4096x8_S4096x8_S2048x8_S2048x8_S16384x8_d0 = _
  rw [StableHlo.nary_result_ne (h := by decide), StableHlo.nary_result_ne (h := by decide), StableHlo.nary_result_ne (h := by decide),
    StableHlo.nary_result_ne (h := by decide), StableHlo.nary_result_ne (h := by decide), V5_v5, V5_v11, V5_v17, V5_v23, V5_v29]
  exact cat_five (fun t k => resI (xIn m d) (wIn m d) t k) _

end Cert.Proof.Route
-- ==== Proof.Finite.lean ====
/-
  The precondition read back: every activation and every weight is a real number.
-/
module

public import proofs.«01_k».proof.Pre_finite_inputs
public import Idealize.ShloMosaic.Lib.ReduceAll
public import Idealize.ShloMosaic.Lib.Pointwise
public import Idealize.ShloMosaic.PureOps.Ideal.Laws

@[expose] public section

noncomputable section

namespace Cert.Proof.Finite

open Cert.Pre_finite_inputs
open Idealize.ShloMosaic

/-- The side conditions of the precondition's operations. -/
theorem facts : Cert.Pre_finite_inputs.Facts where
  bcast_S_S16384x2048 := by decide
  reducesTo_S16384x2048_S_d0_1 := by decide
  h_S_ := by decide
  bcast_S_S64x2048 := by decide
  reducesTo_S64x2048_S_d0_1 := by decide

instance : Subsingleton S_.Idx := ⟨fun _ _ => funext fun a => a.elim0⟩

theorem real_of_lt {v : EReal} (h : FloatOps.cmpf (F := Ideal) (φ := .f32) .olt (max v (-v) : EReal) (Ideal.ofBits .f32 0x7F800000#32) = 1#1) :
    ∃ y : ℝ, v = y := by
  have e : Ideal.ofBits .f32 0x7F800000#32 = (⊤ : EReal) := by simp [Ideal.ofBits, Ideal.ieee]
  rw [e] at h
  have h : BitVec.ofBool (decide (max v (-v) < (⊤ : EReal))) = 1#1 := h
  have hlt : max v (-v) < (⊤ : EReal) := by
    by_contra hno
    rw [decide_eq_false hno] at h
    exact absurd h (by decide)
  obtain ⟨h1, h2⟩ := max_lt_iff.mp hlt
  refine ⟨v.toReal, (EReal.coe_toReal h1.ne fun hb => ?_).symm⟩
  rw [hb] at h2
  exact absurd h2 (by simp)

theorem finite_args [Cert.Pre_finite_inputs.Facts] {X : FVec Ideal S16384x2048 .f32} {WT : FVec Ideal S64x2048 .f32}
    (h : fn (F := Ideal) X WT = fun _ => 1#1) : (∀ i, ∃ y : ℝ, X i = y) ∧ ∀ i, ∃ y : ℝ, WT i = y := by
  have h0 := congrFun h (fun a => a.elim0)
  unfold fn at h0
  obtain ⟨h1, h2⟩ := IntOp.andi_eq_one.mp h0
  refine ⟨fun i => real_of_lt ?_, fun i => real_of_lt ?_⟩
  · exact Host.reduce_andi_all _ _ _ _ _ h1 i
  · exact Host.reduce_andi_all _ _ _ _ _ h2 i

end Cert.Proof.Finite
-- ==== Proof.RefTerm.lean ====
/-
  The reference's results as a chain of named stages, and each stage read at an element.
-/
module

public import proofs.«01_k».proof.Proof.Gen.ReferenceIdeal.Run
public import Idealize.ShloMosaic.Lib.Pointwise
public import Idealize.ShloMosaic.PureOps.Ideal.Laws
public import Idealize.ShloMosaic.Lib.ReduceAll
public import Idealize.ShloMosaic.Lib.Routing.OpsSet
public import Idealize.ShloMosaic.Lib.IdealHost

@[expose] public section

noncomputable section

namespace Cert.Proof.Ref

open Cert.ReferenceIdeal Cert.ReferenceIdeal.Gen
open Idealize.ShloMosaic Idealize.ShloMosaic.TcCoe Idealize.SL.Sem

/-- The scores: the logistic of the tokens' products with the experts' weights. -/
def scores (X : FVec Ideal S16384x2048 .f32) (WT : FVec Ideal S64x2048 .f32) : FVec Ideal S16384x64 .f32 :=
  Host.divf (broadcastInDim S16384x64 ![] bcast_S_S16384x64 (constant S_ .f32 0x3F800000#32)) (addf (broadcastInDim S16384x64 ![] bcast_S_S16384x64 (constant S_ .f32 0x3F800000#32)) (Host.exp (Host.negf (Host.dotGeneral dot_S16384x2048_S2048x64_S16384x64_1_0_0_1_n_n none X (transpose S2048x64 [1, 0] WT transposes_S64x2048_S2048x64_1_0)))))

/-- Each group's greatest score. -/
def tops (SC : FVec Ideal S16384x64 .f32) : FVec Ideal S16384x8 .f32 :=
  Host.reduce FloatOps.maximumf (shapeCast _ SC shapeCasts_S16384x64_S16384x8x8) (constant S_ .f32 0xFF800000#32) reducesTo_S16384x8x8_S16384x8_d2 h_S_

/-- The four groups of each token. -/
def groups (SC : FVec Ideal S16384x64 .f32) : IVec S16384x4 32 := (Host.topK S16384x4 1 (FloatOps.cmpfTotal .gt) (tops SC) sliceFits_S16384x8_S16384x4).2

/-- A token's number and a group's number, as a scatter takes them. -/
def places (G : IVec S16384x4 32) : IVec S16384x4x2 32 :=
  concatenate S16384x4x2 2 [⟨S16384x4x1, (broadcastInDim S16384x4x1 ![0, 1] bcast_S16384x4_S16384x4x1_0_1 (broadcastInDim S16384x4 ![0, 1] bcast_S16384x1_S16384x4_0_1 (select (cmpi .slt (broadcastInDim S16384x1 ![0] bcast_S16384_S16384x1_0 (iotaInDim S16384 32 0)) (broadcastInDim S16384x1 ![] bcast_S_S16384x1 (constantI S_ 32 0#32))) (addi (broadcastInDim S16384x1 ![0] bcast_S16384_S16384x1_0 (iotaInDim S16384 32 0)) (broadcastInDim S16384x1 ![] bcast_S_S16384x1 (constantI S_ 32 16384#32))) (broadcastInDim S16384x1 ![0] bcast_S16384_S16384x1_0 (iotaInDim S16384 32 0)))))⟩, ⟨S16384x4x1, (broadcastInDim S16384x4x1 ![0, 1] bcast_S16384x4_S16384x4x1_0_1 (select (cmpi .slt G (broadcastInDim S16384x4 ![] bcast_S_S16384x4 (constantI S_ 32 0#32))) (addi G (broadcastInDim S16384x4 ![] bcast_S_S16384x4 (constantI S_ 32 8#32))) G))⟩] concatenates_S16384x4x1_S16384x4x1_S16384x4x2_d2

/-- One in the groups taken, zero in the others. -/
def mask (G : IVec S16384x4 32) : FVec Ideal S16384x8 .f32 :=
  Host.scatter scatter_S16384x8_S16384x4x2_S16384x4_n_01_01_2 (fun _ b => b) (broadcastInDim S16384x8 ![] bcast_S_S16384x8 (constant S_ .f32 0x00000000#32)) (places G) (broadcastInDim S16384x4 ![] bcast_S_S16384x4 (constant S_ .f32 0x3F800000#32))

/-- The scores of the groups taken, zero in the others. -/
def masked (SC : FVec Ideal S16384x64 .f32) (M : FVec Ideal S16384x8 .f32) : FVec Ideal S16384x64 .f32 :=
  shapeCast _ (mulf (shapeCast _ SC shapeCasts_S16384x64_S16384x8x8) (broadcastInDim S16384x8x8 ![0, 1, 2] bcast_S16384x8x1_S16384x8x8_0_1_2 (broadcastInDim S16384x8x1 ![0, 1] bcast_S16384x8_S16384x8x1_0_1 M))) shapeCasts_S16384x8x8_S16384x64

/-- The eight experts of each token. -/
def experts (SC : FVec Ideal S16384x64 .f32) : IVec S16384x8 32 :=
  (Host.topK S16384x8 1 (FloatOps.cmpfTotal .gt) (masked SC (mask (groups SC))) sliceFits_S16384x64_S16384x8).2

/-- The experts as a gather takes them. -/
def cols (I : IVec S16384x8 32) : IVec S16384x8x1 32 :=
  shapeCast _ (select (cmpi .slt I (broadcastInDim S16384x8 ![] bcast_S_S16384x8 (constantI S_ 32 0#32))) (addi I (broadcastInDim S16384x8 ![] bcast_S_S16384x8 (constantI S_ 32 64#32))) I) shapeCasts_S16384x8_S16384x8x1

/-- Whether an expert is one of the 64. -/
def inside (I : IVec S16384x8 32) : IVec S16384x8 1 :=
  Host.reduce IntOp.andi (andi (cmpi .sge (cols I) (broadcastInDim S16384x8x1 ![] bcast_S_S16384x8x1 (constantI S_ 32 0#32))) (cmpi .sle (cols I) (broadcastInDim S16384x8x1 ![0, 1, 2] bcast_S1x1x1_S16384x8x1_0_1_2 (broadcastInDim S1x1x1 ![2] bcast_S1_S1x1x1_2 (constantI S1 32 63#32))))) (constantI S_ 1 1#1) reducesTo_S16384x8x1_S16384x8_d2 h_S_

/-- The experts' scores. -/
def taken (SC : FVec Ideal S16384x64 .f32) (I : IVec S16384x8 32) : FVec Ideal S16384x8 .f32 :=
  select (inside I) (Host.gather gather_S16384x64_S16384x8x1_S16384x8_n_1_0_0_1_2_11 SC (cols I)) (broadcastInDim S16384x8 ![] bcast_S_S16384x8 (constant S_ .f32 0x7FC00000#32))

/-- The weights: each of the scores over their sum, times 2.5. -/
def weights (T : FVec Ideal S16384x8 .f32) : FVec Ideal S16384x8 .f32 :=
  mulf (Host.divf T (broadcastInDim S16384x8 ![0, 1] bcast_S16384x1_S16384x8_0_1 (broadcastInDim S16384x1 ![0] bcast_S16384_S16384x1_0 (Host.reduceAdd T (constant S_ .f32 0x00000000#32) reducesTo_S16384x8_S16384_d1 h_S_)))) (broadcastInDim S16384x8 ![] bcast_S_S16384x8 (constant S_ .f32 0x40200000#32))

section
variable (m : (ℓ : Loc nD τ sig) → Buf (Elt Ideal) ℓ) (c : Dev nD)

abbrev argX : FVec Ideal S16384x2048 .f32 := m ((c.tc : Thread nD τ).loc main_arg0)
abbrev argW : FVec Ideal S64x2048 .f32 := m ((c.tc : Thread nD τ).loc main_arg1)

theorem out_weights : Cert.ReferenceIdeal.Value.res_main_v39 (F := Ideal) m c
    = weights (taken (scores (argX m c) (argW m c)) (experts (scores (argX m c) (argW m c)))) := (rfl)
end

theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v39) = weights (taken (scores (argX m c) (argW m c)) (experts (scores (argX m c) (argW m c))))
      ∧ r.2.mem ((c.tc : Thread nD τ).loc main_indices_8) = experts (scores (argX m c) (argW m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (out_weights m c), (h c).2.1, (h c).2.2.1, (h c).2.2.2⟩)
    (Cert.ReferenceIdeal.Value.run (F := Ideal) m ρ)

end Cert.Proof.Ref
-- ==== Proof.Greedy.lean ====
/-
  The kernel's two selections, over the extended reals: a step picks, among the words not picked before, the one of the greatest
  value, the lowest word at a tie. `Picked` says so of a whole list of picks, without the steps.
-/
module

public import proofs.«01_k».proof.Proof.Spec
public import Idealize.ShloMosaic.PureOps.Ideal

@[expose] public section

noncomputable section

namespace Cert.Proof.Greedy

open Cert.Proof.Route
open Idealize.ShloMosaic

abbrev W := BitVec 32

/-- `a` is picked before `b`: it has the greater value, or the same value and is the lower word. -/
def Before (f : W → EReal) (a b : W) : Prop := f b < f a ∨ (f a = f b ∧ a.toNat < b.toNat)

/-- `L` is `n` words of `cs`, in the order of picking, and all of them before every other word of `cs`. -/
structure Picked (f : W → EReal) (cs : List W) (n : Nat) (L : List W) : Prop where
  len : L.length = n
  sub : ∀ a ∈ L, a ∈ cs
  pair : L.Pairwise (Before f)
  dom : ∀ a ∈ L, ∀ c ∈ cs, c ∉ L → Before f a c

/-! ### The maximum of a tree -/

theorem pairMax_mem : ∀ (l : List EReal), ∀ u ∈ pairMaxS (F := Ideal) l, u ∈ l
  | [], _, h => by cases h
  | [_], _, h => h
  | a :: b :: l, u, h => by
      rw [pairMaxS] at h
      rcases List.mem_cons.mp h with h | h
      · have : u = max a b := h
        rcases max_choice a b with e | e <;> rw [this, e]
        · exact List.mem_cons_self
        · exact List.mem_cons_of_mem _ List.mem_cons_self
      · exact List.mem_cons_of_mem _ (List.mem_cons_of_mem _ (pairMax_mem l u h))

theorem pairMax_ge : ∀ (l : List EReal), ∀ u ∈ l, ∃ v ∈ pairMaxS (F := Ideal) l, u ≤ v
  | [], _, h => by cases h
  | [_], u, h => ⟨u, h, le_refl u⟩
  | a :: b :: l, u, h => by
      rw [pairMaxS]
      rcases List.mem_cons.mp h with h | h
      · exact ⟨max a b, List.mem_cons_self, h ▸ le_max_left a b⟩
      · rcases List.mem_cons.mp h with h | h
        · exact ⟨max a b, List.mem_cons_self, h ▸ le_max_right a b⟩
        · obtain ⟨v, hv, hle⟩ := pairMax_ge l u h
          exact ⟨v, List.mem_cons_of_mem _ hv, hle⟩

theorem pairMax_length : ∀ (l : List EReal) (k : Nat), l.length = 2 * k → (pairMaxS (F := Ideal) l).length = k
  | [], k, h => by simp only [List.length_nil] at h; simp only [pairMaxS, List.length_nil]; omega
  | [_], k, h => by simp only [List.length_cons, List.length_nil] at h; omega
  | a :: b :: l, k, h => by
      simp only [List.length_cons] at h
      rw [pairMaxS, List.length_cons, pairMax_length l (k - 1) (by omega)]
      omega

theorem treeMax_spec (n : Nat) : ∀ l : List EReal, l.length = 2 ^ n →
    treeMaxS (F := Ideal) n l ∈ l ∧ ∀ u ∈ l, u ≤ treeMaxS (F := Ideal) n l := by
  induction n with
  | zero =>
    intro l hl
    obtain ⟨a, rfl⟩ := List.length_eq_one_iff.mp hl
    exact ⟨List.mem_cons_self, fun u hu => by rw [List.mem_singleton.mp hu]; exact le_refl _⟩
  | succ n ih =>
    intro l hl
    obtain ⟨h1, h2⟩ := ih (pairMaxS (F := Ideal) l) (pairMax_length l _ (by rw [hl, pow_succ, Nat.mul_comm]))
    rw [treeMaxS]
    refine ⟨pairMax_mem l _ h1, fun u hu => ?_⟩
    obtain ⟨v, hv, hle⟩ := pairMax_ge l u hu
    exact hle.trans (h2 v hv)

/-! ### The lowest word -/

theorem minsi_toNat {a b : W} (ha : a.toNat < 2147483648) (hb : b.toNat < 2147483648) :
    (IntOp.minsi a b = a ∧ a.toNat ≤ b.toNat) ∨ (IntOp.minsi a b = b ∧ b.toNat ≤ a.toNat) := by
  have h : IntOp.minsi a b = if a.slt b then a else b := rfl
  rw [h]
  have hs : a.slt b = decide (a.toNat < b.toNat) := by
    rw [BitVec.slt_eq_decide, BitVec.toInt_eq_toNat_of_lt (by omega), BitVec.toInt_eq_toNat_of_lt (by omega)]
    simp
  rw [hs]
  by_cases hlt : a.toNat < b.toNat
  · exact Or.inl ⟨by simp [hlt], hlt.le⟩
  · exact Or.inr ⟨by simp [hlt], by omega⟩

theorem sel_eq (v cur : EReal) (c big : W) :
    Scalar.select (FloatOps.cmpf (F := Ideal) (φ := .f32) .oeq v cur) c big = if v = cur then c else big := by
  show (if BitVec.ofBool (decide (v = cur)) = 1#1 then c else big) = _
  by_cases h : v = cur <;> simp [h]

theorem lowest_spec (big : W) (cur : EReal) (g : W → EReal) (hbig : big.toNat < 2147483648) : ∀ (cs : List W) (acc : W),
    (∀ c ∈ cs, c.toNat < 2147483648) → acc.toNat < 2147483648 →
    (lowestS (F := Ideal) big cur cs (cs.map g) acc).toNat ≤ acc.toNat
    ∧ (∀ c ∈ cs, g c = cur → (lowestS (F := Ideal) big cur cs (cs.map g) acc).toNat ≤ c.toNat)
    ∧ (lowestS (F := Ideal) big cur cs (cs.map g) acc = acc ∨ lowestS (F := Ideal) big cur cs (cs.map g) acc = big
        ∨ (lowestS (F := Ideal) big cur cs (cs.map g) acc ∈ cs ∧ g (lowestS (F := Ideal) big cur cs (cs.map g) acc) = cur))
  | [], acc, _, _ => ⟨le_refl _, (fun _ h => absurd h List.not_mem_nil), Or.inl rfl⟩
  | c :: cs, acc, hc, ha => by
      rw [List.map_cons, lowestS, sel_eq]
      have hcs : ∀ c' ∈ cs, c'.toNat < 2147483648 := fun c' h => hc c' (List.mem_cons_of_mem _ h)
      have hc0 := hc c List.mem_cons_self
      by_cases hv : g c = cur
      · rw [if_pos hv]
        rcases minsi_toNat ha hc0 with ⟨e, hle⟩ | ⟨e, hle⟩ <;> rw [e]
        · obtain ⟨h1, h2, h3⟩ := lowest_spec big cur g hbig cs acc hcs ha
          refine ⟨h1, fun c' hc' hg => ?_, ?_⟩
          · rcases List.mem_cons.mp hc' with rfl | hc'
            · exact h1.trans hle
            · exact h2 c' hc' hg
          · rcases h3 with h | h | ⟨h, h'⟩
            · exact Or.inl h
            · exact Or.inr (Or.inl h)
            · exact Or.inr (Or.inr ⟨List.mem_cons_of_mem _ h, h'⟩)
        · obtain ⟨h1, h2, h3⟩ := lowest_spec big cur g hbig cs c hcs hc0
          refine ⟨h1.trans hle, fun c' hc' hg => ?_, ?_⟩
          · rcases List.mem_cons.mp hc' with rfl | hc'
            · exact h1
            · exact h2 c' hc' hg
          · rcases h3 with h | h | ⟨h, h'⟩
            · exact Or.inr (Or.inr ⟨by rw [h]; exact List.mem_cons_self, by rw [h]; exact hv⟩)
            · exact Or.inr (Or.inl h)
            · exact Or.inr (Or.inr ⟨List.mem_cons_of_mem _ h, h'⟩)
      · rw [if_neg hv]
        rcases minsi_toNat ha hbig with ⟨e, hle⟩ | ⟨e, hle⟩ <;> rw [e]
        · obtain ⟨h1, h2, h3⟩ := lowest_spec big cur g hbig cs acc hcs ha
          refine ⟨h1, fun c' hc' hg => ?_, ?_⟩
          · rcases List.mem_cons.mp hc' with rfl | hc'
            · exact absurd hg hv
            · exact h2 c' hc' hg
          · rcases h3 with h | h | ⟨h, h'⟩
            · exact Or.inl h
            · exact Or.inr (Or.inl h)
            · exact Or.inr (Or.inr ⟨List.mem_cons_of_mem _ h, h'⟩)
        · obtain ⟨h1, h2, h3⟩ := lowest_spec big cur g hbig cs big hcs hbig
          refine ⟨h1.trans hle, fun c' hc' hg => ?_, ?_⟩
          · rcases List.mem_cons.mp hc' with rfl | hc'
            · exact absurd hg hv
            · exact h2 c' hc' hg
          · rcases h3 with h | h | ⟨h, h'⟩
            · exact Or.inr (Or.inl h)
            · exact Or.inr (Or.inl h)
            · exact Or.inr (Or.inr ⟨List.mem_cons_of_mem _ h, h'⟩)

/-! ### One step -/

/-- The values once the words `S` are dropped. -/
def left (f : W → EReal) (neg1 : EReal) (S : List W) : W → EReal := fun c => if c ∈ S then neg1 else f c

theorem dropped_left (f : W → EReal) (neg1 : EReal) (S : List W) (i : W) (eq : W → BitVec 1) (heq : ∀ c, eq c = 1#1 ↔ c = i) :
    ∀ cs : List W, droppedS (F := Ideal) eq neg1 cs (cs.map (left f neg1 S)) = cs.map (left f neg1 (i :: S))
  | [] => rfl
  | c :: cs => by
      rw [List.map_cons, droppedS, dropped_left f neg1 S i eq heq cs, List.map_cons]
      congr 1
      show (if eq c = 1#1 then neg1 else left f neg1 S c) = left f neg1 (i :: S) c
      unfold left
      by_cases h : c = i
      · rw [if_pos ((heq c).mpr h), if_pos (h ▸ List.mem_cons_self)]
      · rw [if_neg (fun e => h ((heq c).mp e))]
        simp only [List.mem_cons, h, false_or]

theorem step {f : W → EReal} {neg1 : EReal} {cs : List W} {k : Nat} {big : W} (hk : cs.length = 2 ^ k) (hbig : big.toNat < 2147483648)
    (hcs : ∀ c ∈ cs, c.toNat < big.toNat) (hpos : ∀ c ∈ cs, neg1 < f c) (S : List W) (hex : ∃ c ∈ cs, c ∉ S) (m : EReal)
    (hm : m = treeMaxS (F := Ideal) k (cs.map (left f neg1 S))) (i : W)
    (hi : i = lowestS (F := Ideal) big m cs (cs.map (left f neg1 S)) big) :
    i ∈ cs ∧ i ∉ S ∧ m = f i ∧ ∀ c ∈ cs, c ∉ S → c ≠ i → Before f i c := by
  obtain ⟨h1, h2⟩ := treeMax_spec k (cs.map (left f neg1 S)) (by rw [List.length_map, hk])
  rw [← hm] at h1 h2
  obtain ⟨g1, g2, g3⟩ := lowest_spec big m (left f neg1 S) hbig cs big (fun c h => (hcs c h).trans hbig) hbig
  rw [← hi] at g1 g2 g3
  have hle : ∀ c ∈ cs, c ∉ S → f c ≤ m := fun c hc hS => by
    have := h2 _ (List.mem_map_of_mem hc)
    rwa [left, if_neg hS] at this
  have hlt : neg1 < m := by
    obtain ⟨c, hc, hS⟩ := hex
    exact (hpos c hc).trans_le (hle c hc hS)
  obtain ⟨c0, hc0, e0⟩ := List.mem_map.mp h1
  have hi0 := g2 c0 hc0 e0
  have hne : i ≠ big := fun e => by
    have := hcs c0 hc0; rw [e] at hi0; omega
  obtain ⟨hic, hie⟩ : i ∈ cs ∧ left f neg1 S i = m := by
    rcases g3 with h | h | h
    · exact absurd h hne
    · exact absurd h hne
    · exact h
  have hiS : i ∉ S := fun h => by
    rw [left, if_pos h] at hie; rw [hie] at hlt; exact lt_irrefl _ hlt
  rw [left, if_neg hiS] at hie
  refine ⟨hic, hiS, hie.symm, fun c hc hS hci => ?_⟩
  rcases lt_or_eq_of_le (hle c hc hS) with h | h
  · exact Or.inl (by rw [hie]; exact h)
  · refine Or.inr ⟨by rw [hie, h], ?_⟩
    have := g2 c hc (by rw [left, if_neg hS]; exact h)
    rcases lt_or_eq_of_le this with h' | h'
    · exact h'
    · exact absurd (BitVec.eq_of_toNat_eq h').symm hci

theorem cmpi_eq_iff (a b : W) : IntOp.cmpi .eq a b = 1#1 ↔ a = b := by
  show BitVec.ofBool (a == b) = 1#1 ↔ _
  cases h : a == b
  · simp only [beq_eq_false_iff_ne, ne_eq] at h
    exact ⟨fun e => absurd e (by decide), fun e => absurd e h⟩
  · exact ⟨fun _ => by simpa using h, fun _ => rfl⟩

theorem room {cs S : List W} (hn : cs.Nodup) (h : S.length < cs.length) : ∃ c ∈ cs, c ∉ S := by
  by_contra hno
  push Not at hno
  have := (List.subperm_of_subset hn hno).length_le
  omega

/-! ### The experts -/

theorem experts_left {f : W → EReal} {neg1 : EReal} {cs : List W} (hk : cs.length = 2 ^ 5) (hn : cs.Nodup) (hcs : ∀ c ∈ cs, c.toNat < 64)
    (hpos : ∀ c ∈ cs, neg1 < f c) (n : Nat) : ∀ S : List W, S.length + n ≤ 32 →
    ∃ L : List W, expertsS (F := Ideal) neg1 cs n (cs.map (left f neg1 S)) = L.map (fun c => (f c, c)) ∧ L.length = n ∧ (∀ a ∈ L, a ∈ cs ∧ a ∉ S)
      ∧ L.Pairwise (Before f) ∧ ∀ a ∈ L, ∀ c ∈ cs, c ∉ S → c ∉ L → Before f a c := by
  induction n with
  | zero => intro S _; exact ⟨[], rfl, rfl, by simp, List.Pairwise.nil, by simp⟩
  | succ n ih =>
    intro S hS
    obtain ⟨s1, s2, s3, s4⟩ := step (big := 64#32) hk (by decide) (by simpa using hcs) hpos S (room hn (by rw [hk]; omega)) _ rfl _ rfl
    rw [expertsS]
    generalize hm : treeMaxS (F := Ideal) 5 (cs.map (left f neg1 S)) = m at s1 s2 s3 s4 ⊢
    generalize hi : lowestS (F := Ideal) 64#32 m cs (cs.map (left f neg1 S)) 64#32 = i at s1 s2 s3 s4 ⊢
    rw [dropped_left f neg1 S i (fun g => IntOp.cmpi .eq g i) (fun c => cmpi_eq_iff c i) cs]
    obtain ⟨L, e, hl, hsub, hp, hd⟩ := ih (i :: S) (by rw [List.length_cons]; omega)
    refine ⟨i :: L, by rw [e, List.map_cons, ← s3], by rw [List.length_cons, hl], ?_, ?_, ?_⟩
    · intro a ha
      rcases List.mem_cons.mp ha with rfl | ha
      · exact ⟨s1, s2⟩
      · exact ⟨(hsub a ha).1, fun h => (hsub a ha).2 (List.mem_cons_of_mem _ h)⟩
    · refine List.pairwise_cons.mpr ⟨fun b hb => ?_, hp⟩
      obtain ⟨h1, h2⟩ := hsub b hb
      exact s4 b h1 (fun h => h2 (List.mem_cons_of_mem _ h)) (fun h => h2 (h ▸ List.mem_cons_self))
    · intro a ha c hc hcS hcL
      have hci : c ≠ i := fun h => hcL (h ▸ List.mem_cons_self)
      rcases List.mem_cons.mp ha with rfl | ha
      · exact s4 c hc hcS hci
      · exact hd a ha c hc (fun h => (List.mem_cons.mp h).elim hci hcS) (fun h => hcL (List.mem_cons_of_mem _ h))

theorem left_nil (f : W → EReal) (neg1 : EReal) : left f neg1 [] = f := by
  funext c; simp [left]

/-- The experts' steps pick as `Picked` says, each with its value. -/
theorem experts_picked {f : W → EReal} {neg1 : EReal} {cs : List W} (hk : cs.length = 2 ^ 5) (hn : cs.Nodup) (hcs : ∀ c ∈ cs, c.toNat < 64)
    (hpos : ∀ c ∈ cs, neg1 < f c) :
    ∃ L : List W, expertsS (F := Ideal) neg1 cs 8 (cs.map f) = L.map (fun c => (f c, c)) ∧ Picked f cs 8 L := by
  obtain ⟨L, e, hl, hsub, hp, hd⟩ := experts_left hk hn hcs hpos 8 [] (by decide)
  rw [left_nil] at e
  exact ⟨L, e, hl, fun a ha => (hsub a ha).1, hp, fun a ha c hc hcL => hd a ha c hc (by simp) hcL⟩

/-! ### The groups -/

theorem w8_nodup : w8.Nodup := by decide
theorem w8_length : w8.length = 2 ^ 3 := by decide
theorem w8_lt : ∀ c ∈ w8, c.toNat < 8 := fun c h => by have := w8_le c h; omega

theorem groups_left {f : W → EReal} {neg1 : EReal} (hpos : ∀ c ∈ w8, neg1 < f c) (n : Nat) : ∀ S : List W, S.length + n ≤ 8 →
    ∃ L : List W, groupsS (F := Ideal) neg1 n (w8.map (left f neg1 S)) = L.map (fun c => IntOp.muli c 8#32) ∧ L.length = n ∧ (∀ a ∈ L, a ∈ w8 ∧ a ∉ S)
      ∧ L.Pairwise (Before f) ∧ ∀ a ∈ L, ∀ c ∈ w8, c ∉ S → c ∉ L → Before f a c := by
  induction n with
  | zero => intro S _; exact ⟨[], rfl, rfl, by simp, List.Pairwise.nil, by simp⟩
  | succ n ih =>
    intro S hS
    obtain ⟨s1, s2, s3, s4⟩ := step (big := 8#32) w8_length (by decide) (by simpa using w8_lt) hpos S (room w8_nodup (by rw [w8_length]; omega)) _ rfl _ rfl
    rw [groupsS]
    generalize hm : treeMaxS (F := Ideal) 3 (w8.map (left f neg1 S)) = m at s1 s2 s3 s4 ⊢
    generalize hi : lowestS (F := Ideal) 8#32 m w8 (w8.map (left f neg1 S)) 8#32 = i at s1 s2 s3 s4 ⊢
    rw [dropped_left f neg1 S i (fun g => IntOp.cmpi .eq i g) (fun c => (cmpi_eq_iff i c).trans eq_comm) w8]
    obtain ⟨L, e, hl, hsub, hp, hd⟩ := ih (i :: S) (by rw [List.length_cons]; omega)
    refine ⟨i :: L, by rw [e, List.map_cons], by rw [List.length_cons, hl], ?_, ?_, ?_⟩
    · intro a ha
      rcases List.mem_cons.mp ha with rfl | ha
      · exact ⟨s1, s2⟩
      · exact ⟨(hsub a ha).1, fun h => (hsub a ha).2 (List.mem_cons_of_mem _ h)⟩
    · refine List.pairwise_cons.mpr ⟨fun b hb => ?_, hp⟩
      obtain ⟨h1, h2⟩ := hsub b hb
      exact s4 b h1 (fun h => h2 (List.mem_cons_of_mem _ h)) (fun h => h2 (h ▸ List.mem_cons_self))
    · intro a ha c hc hcS hcL
      have hci : c ≠ i := fun h => hcL (h ▸ List.mem_cons_self)
      rcases List.mem_cons.mp ha with rfl | ha
      · exact s4 c hc hcS hci
      · exact hd a ha c hc (fun h => (List.mem_cons.mp h).elim hci hcS) (fun h => hcL (List.mem_cons_of_mem _ h))

/-- The groups' steps pick as `Picked` says; a picked word is handed on times eight. -/
theorem groups_picked {f : W → EReal} {neg1 : EReal} (hpos : ∀ c ∈ w8, neg1 < f c) :
    ∃ L : List W, groupsS (F := Ideal) neg1 4 (w8.map f) = L.map (fun c => IntOp.muli c 8#32) ∧ Picked f w8 4 L := by
  obtain ⟨L, e, hl, hsub, hp, hd⟩ := groups_left hpos 4 [] (by decide)
  rw [left_nil] at e
  exact ⟨L, e, hl, fun a ha => (hsub a ha).1, hp, fun a ha c hc hcL => hd a ha c hc (by simp) hcL⟩

theorem Before.irrefl (f : W → EReal) (a : W) : ¬ Before f a a := by
  rintro (h | ⟨_, h⟩)
  · exact lt_irrefl _ h
  · exact lt_irrefl _ h

theorem Picked.nodup {f : W → EReal} {cs : List W} {n : Nat} {L : List W} (h : Picked f cs n L) : L.Nodup :=
  List.Pairwise.imp (fun {a b} (hab : Before f a b) (e : a = b) => Before.irrefl f a (by rw [← e] at hab; exact hab)) h.pair

end Cert.Proof.Greedy
-- ==== Proof.RefSort.lean ====
/-
  The host's top-k over the extended reals: its positions are the picks of `Picked`.
-/
module

public import proofs.«01_k».proof.Proof.Greedy
public import Idealize.ShloMosaic.Lib.SortPrefix
public import Idealize.ShloMosaic.Lib.Pointwise

@[expose] public section

noncomputable section

namespace Cert.Proof.Greedy

open Idealize.ShloMosaic

/-! ### A stable sort orders ties by position -/

theorem insert_congr {ι : Type} (b b' : ι → ι → Bool) (a : ι) : ∀ l : List ι, (∀ c ∈ l, b c a = b' c a) → insertBefore b a l = insertBefore b' a l
  | [], _ => rfl
  | c :: l, h => by
      rw [insertBefore, insertBefore, h c List.mem_cons_self, insert_congr b b' a l fun d hd => h d (List.mem_cons_of_mem _ hd)]

theorem stable_congr {ι : Type} (b b' : ι → ι → Bool) : ∀ l : List ι, l.Pairwise (fun a c => b c a = b' c a) → stableSort b l = stableSort b' l
  | [], _ => rfl
  | a :: l, h => by
      obtain ⟨h1, h2⟩ := List.pairwise_cons.mp h
      rw [stableSort, stableSort, stable_congr b b' l h2]
      exact insert_congr b b' a _ fun c hc => h1 c ((perm_stableSort b' l).mem_iff.mp hc)

/-- The greater key first, the lower position at a tie. -/
def byKey {n : Nat} (key : Fin n → EReal) (a b : Fin n) : Bool := decide (key b < key a) || (decide (key a = key b) && decide (a < b))

theorem byKey_total {n : Nat} (key : Fin n → EReal) : StrictTotalBefore (byKey key) :=
  StrictTotalBefore.of_key_then_position (fun x y : EReal => decide (y < x)) key (fun a => by simp)
    (fun a b c h1 h2 => by
      simp only [decide_eq_true_eq] at h1 h2 ⊢
      exact h2.trans h1)
    (fun a b => by
      simp only [decide_eq_true_eq]
      rcases lt_trichotomy a b with h | h | h
      · exact Or.inr (Or.inr h)
      · exact Or.inr (Or.inl h)
      · exact Or.inl h)

theorem sorted_byKey {n : Nat} (key : Fin n → EReal) (k : Fin n) :
    sortedFrom (fun a b => FloatOps.cmpfTotal (F := Ideal) (φ := .f32) .gt (key a) (key b) == 1#1) k = sortedFrom (byKey key) k := by
  have e : (fun a b : Fin n => FloatOps.cmpfTotal (F := Ideal) (φ := .f32) .gt (key a) (key b) == 1#1) = fun a b => decide (key b < key a) := by
    funext a b
    show (BitVec.ofBool (decide (key b < key a)) == 1#1) = _
    by_cases h : key b < key a <;> simp [h]
  rw [e]
  have h : sortPositions n (fun a b => decide (key b < key a)) = sortPositions n (byKey key) := by
    refine stable_congr _ _ _ ((List.pairwise_lt_finRange n).imp fun {a c} hac => ?_)
    have : ¬ c < a := not_lt.mpr hac.le
    simp [byKey, this]
  unfold sortedFrom
  simp only [List.get_eq_getElem, Fin.val_cast, h]

/-! ### Top-k reads a sort -/

theorem topK_idx {N n m : Nat} (hm : m ≤ n) (x : (⟨2, ![N, n]⟩ : Shape).Idx → EReal)
    (h : (⟨2, ![N, n]⟩ : Shape).Slices (fun _ => 0) ⟨2, ![N, m]⟩) (t : Fin N) (k : Fin m) :
    (Host.topK ⟨2, ![N, m]⟩ 1 (FloatOps.cmpfTotal (F := Ideal) (φ := .f32) .gt) x h).2 (ix2 t k)
      = BitVec.ofNat 32 (sortedFrom (byKey fun p : Fin n => x (ix2 t p)) (k.castLE hm)).val := by
  have hal : ∀ (p q : Fin n), ((ix2 t p : (⟨2, ![N, n]⟩ : Shape).Idx).along 1 q) = ix2 t q := by
    intro p q; funext a
    match a with
    | 0 => rfl
    | 1 => rfl
  have hrd : ∀ J : (⟨2, ![N, n]⟩ : Shape).Idx, (Host.sort2 ⟨2, ![N, n]⟩ 1 (fun l r : EReal × BitVec 32 => FloatOps.cmpfTotal (F := Ideal) (φ := .f32) .gt l.1 r.1) x
      (fun i => if hd : 1 < (⟨2, ![N, n]⟩ : Shape).rank then iotaInDim ⟨2, ![N, n]⟩ 32 ⟨1, hd⟩ i else 0#32)).2 J
      = BitVec.ofNat 32 (sortedFrom (fun a b : Fin n => FloatOps.cmpfTotal (F := Ideal) (φ := .f32) .gt (x (J.along 1 a)) (x (J.along 1 b)) == 1#1) (J 1)).val := fun J => by
    unfold Host.sort2
    rfl
  have hJ : (fun a => ⟨0 + (ix2 t k (Fin.cast h.1.symm a)).val, Nat.lt_of_lt_of_le (Nat.add_lt_add_left (ix2 t k (Fin.cast h.1.symm a)).isLt 0) (h.2 a)⟩ : (⟨2, ![N, n]⟩ : Shape).Idx)
      = ix2 t (k.castLE hm) := by
    funext a
    match a with
    | 0 => apply Fin.ext; show 0 + t.val = _; rw [Nat.zero_add]; rfl
    | 1 => apply Fin.ext; show 0 + k.val = _; rw [Nat.zero_add]; rfl
  rw [← sorted_byKey]
  unfold Host.topK extractStridedSlice
  refine (hrd _).trans ?_
  rw [hJ]
  simp only [hal]
  exact congrArg (fun p : Fin n => BitVec.ofNat 32 (sortedFrom (fun a b => FloatOps.cmpfTotal (F := Ideal) (φ := .f32) .gt (x (ix2 t a)) (x (ix2 t b)) == 1#1) p).val)
    (Fin.ext (Nat.zero_add k.val))

/-- The word of a position. -/
def wd {n : Nat} (p : Fin n) : W := BitVec.ofNat 32 p.val

theorem wd_toNat {n : Nat} (hn : n < 4294967296) (p : Fin n) : (wd p).toNat = p.val := by
  rw [wd, BitVec.toNat_ofNat, Nat.mod_eq_of_lt (p.isLt.trans hn)]

/-- A list that is picked from the words of all positions is what the sort puts first. -/
theorem sorted_picked {n m : Nat} (hn : n < 4294967296) (hm : m ≤ n) (key : Fin n → EReal) (f : W → EReal) (hf : ∀ p : Fin n, f (wd p) = key p)
    (L : List W) (hlen : L.length = m) (hlt : ∀ a ∈ L, a.toNat < n) (hp : L.Pairwise (Before f))
    (hd : ∀ a ∈ L, ∀ p : Fin n, wd p ∉ L → Before f a (wd p)) (k : Fin m) :
    wd (sortedFrom (byKey key) (k.castLE hm)) = L[k.val]'(by rw [hlen]; exact k.isLt) := by
  have hL : ∀ j : Fin m, L[j.val]'(by rw [hlen]; exact j.isLt) ∈ L := fun j => List.getElem_mem _
  let σ : Fin m → Fin n := fun j => ⟨(L[j.val]'(by rw [hlen]; exact j.isLt)).toNat, hlt _ (hL j)⟩
  have hσ : ∀ j, wd (σ j) = L[j.val]'(by rw [hlen]; exact j.isLt) := fun j => BitVec.eq_of_toNat_eq (by rw [wd_toNat hn])
  have hB : ∀ p q : Fin n, Before f (wd p) (wd q) → byKey key q p = false := fun p q hb => by
    rw [Before, hf, hf, wd_toNat hn, wd_toNat hn] at hb
    rcases hb with hb | ⟨he, hb⟩
    · simp [byKey, not_lt.mpr hb.le, hb.ne]
    · simp only [byKey, he, lt_irrefl, decide_false, Bool.false_or, decide_true, Bool.true_and, decide_eq_false_iff_not]
      rw [Fin.lt_def]; omega
  have hord : ∀ i j : Fin m, i < j → Before f (wd (σ i)) (wd (σ j)) := fun i j hij => by
    rw [hσ, hσ]
    exact List.pairwise_iff_getElem.mp hp i.val j.val _ _ hij
  have hinj : Function.Injective σ := fun i j e => by
    by_contra hne
    rcases lt_or_gt_of_ne hne with h | h
    · have := hord i j h; rw [e] at this; exact Before.irrefl _ _ this
    · have := hord j i h; rw [e] at this; exact Before.irrefl _ _ this
  rw [(byKey_total key).sortedFrom_eq_of_prefix hm σ hinj (fun i j hij => hB _ _ (hord i j hij)) (fun i p hno => hB _ _ ?_) k, hσ]
  rw [hσ]
  refine hd _ (hL i) p fun hmem => ?_
  obtain ⟨j, hj, e⟩ := List.getElem_of_mem hmem
  refine hno ⟨j, by rw [← hlen]; exact hj⟩ (Fin.ext ?_)
  show (L[j]).toNat = _
  rw [e, wd_toNat hn]

end Cert.Proof.Greedy
-- ==== Proof.RefRead.lean ====
/-
  The reference's stages read at an element.
-/
module

public import proofs.«01_k».proof.Proof.RefTerm
public import proofs.«01_k».proof.Proof.RefSort
public import Idealize.ShloMosaic.Lib.Pointwise.IndexBridge

@[expose] public section

noncomputable section

namespace Cert.Proof.Ref

open Cert.ReferenceIdeal Cert.ReferenceIdeal.Gen
open Idealize.ShloMosaic

open Cert.Proof.Greedy (wd wd_toNat)

theorem scores_at (X : FVec Ideal S16384x2048 .f32) (WT : FVec Ideal S64x2048 .f32) (t : Fin 16384) (e : Fin 64) :
    scores X WT (ix2 t e) = Ideal.div 1 (1 + Ideal.exp (-∑ x, X (ix2 t x) * WT (ix2 e x))) := by
  pointwise [scores]

theorem tops_at (SC : FVec Ideal S16384x64 .f32) (t : Fin 16384) (g : Fin 8) :
    tops SC (ix2 t g) = Finset.fold max (⊥ : EReal) (fun x : Fin 8 => SC (ix2 t ⟨g.val * 8 + x.val, by omega⟩)) Finset.univ := by
  pointwise [tops]
  simp [Ideal.ofBits, Ideal.ieee]

theorem wrap {x a : BitVec 32} (h : x.toNat < 2147483648) : Scalar.select (IntOp.cmpi .slt x 0#32) a x = x :=
  Routing.wrap_of_lt x a (by simpa using h)

theorem places_row (G : IVec S16384x4 32) (t : Fin 16384) (e : Fin 4) : places G (ix3 t e 0) = BitVec.ofNat 32 t.val := by
  pointwise [places]
  refine wrap ?_
  rw [BitVec.toNat_ofNat, Nat.mod_eq_of_lt (by omega)]
  omega
theorem places_group (G : IVec S16384x4 32) (t : Fin 16384) (e : Fin 4) (h : (G (ix2 t e)).toNat < 8) : places G (ix3 t e 1) = G (ix2 t e) := by
  pointwise [places]
  exact wrap (by omega)

theorem lands (G : IVec S16384x4 32) (hG : ∀ t e, (G (ix2 t e)).toNat < 8) (t t' : Fin 16384) (e : Fin 4) (g : Fin 8) :
    scatter_S16384x8_S16384x4x2_S16384x4_n_01_01_2.resultIdx? (ix2 t' e) (places G) = some (ix2 t g) ↔ t' = t ∧ G (ix2 t e) = wd g := by
  have h := Routing.scatter_lands2 (R := 16384) (C := 8) (A := 16384) (B := 4) scatter_S16384x8_S16384x4x2_S16384x4_n_01_01_2 rfl rfl rfl (places G) t' e t g
  rw [← ix2_eq_valueIdx, ← ix2_eq_valueIdx, ← ix3_eq_valueIdx, ← ix3_eq_valueIdx, places_row, places_group G t' e (hG t' e),
    BitVec.toInt_eq_toNat_of_lt (by rw [BitVec.toNat_ofNat, Nat.mod_eq_of_lt (by omega)]; omega), BitVec.toInt_eq_toNat_of_lt (by have := hG t' e; omega),
    BitVec.toNat_ofNat, Nat.mod_eq_of_lt (by omega)] at h
  rw [h]
  constructor
  · rintro ⟨h1, h2⟩
    have e1 : t' = t := Fin.ext (by omega)
    subst e1
    exact ⟨rfl, BitVec.eq_of_toNat_eq (by rw [wd_toNat (by decide)]; omega)⟩
  · rintro ⟨rfl, h2⟩
    rw [h2, wd_toNat (by decide)]
    exact ⟨rfl, rfl⟩

theorem one_at (k : S16384x4.Idx) : broadcastInDim S16384x4 ![] bcast_S_S16384x4 (constant (F := Ideal) S_ .f32 0x3F800000#32) k = (1 : EReal) := by
  pointwise []

theorem mask_hit (G : IVec S16384x4 32) (hG : ∀ t e, (G (ix2 t e)).toNat < 8) (t : Fin 16384) (g : Fin 8) (h : ∃ e, G (ix2 t e) = wd g) :
    mask G (ix2 t g) = (1 : EReal) := by
  obtain ⟨e, he⟩ := h
  unfold mask
  exact Routing.scatter_set_hit _ _ _ _ _ (1 : EReal) (fun k _ => one_at k) (ix2 t e) ((lands G hG t t e g).mpr ⟨rfl, he⟩)

theorem mask_miss (G : IVec S16384x4 32) (hG : ∀ t e, (G (ix2 t e)).toNat < 8) (t : Fin 16384) (g : Fin 8) (h : ∀ e, G (ix2 t e) ≠ wd g) :
    mask G (ix2 t g) = (0 : EReal) := by
  unfold mask
  refine (Routing.scatter_set_miss _ _ _ _ _ fun k hk => ?_).trans (by pointwise [])
  rw [eq_ix2 k] at hk
  obtain ⟨_, h2⟩ := (lands G hG t _ _ g).mp hk
  exact h _ h2

theorem masked_at (SC : FVec Ideal S16384x64 .f32) (M : FVec Ideal S16384x8 .f32) (t : Fin 16384) (e : Fin 64) :
    masked SC M (ix2 t e) = SC (ix2 t e) * M (ix2 t ⟨e.val / 8, by omega⟩) := by
  pointwise [masked]

theorem cols_at (I : IVec S16384x8 32) (t : Fin 16384) (k : Fin 8) (u : Fin 1) (h : (I (ix2 t k)).toNat < 64) : cols I (ix3 t k u) = I (ix2 t k) := by
  pointwise [cols]
  exact wrap (by omega)

theorem inside_at (I : IVec S16384x8 32) (t : Fin 16384) (k : Fin 8) (h : (I (ix2 t k)).toNat < 64) : inside I (ix2 t k) = 1#1 := by
  pointwise [inside]
  have hc : ∀ u : Fin 1, IntOp.andi (IntOp.cmpi .sge (cols I (ix3 t k u)) 0#32) (IntOp.cmpi .sle (cols I (ix3 t k u)) 63#32) = 1#1 := fun u => by
    rw [cols_at I t k u h]
    generalize I (ix2 t k) = w at h
    have h0 : w.toInt = w.toNat := BitVec.toInt_eq_toNat_of_lt (by omega)
    have h1 : IntOp.cmpi .sge w 0#32 = 1#1 := by
      show BitVec.ofBool (BitVec.sle 0#32 w) = 1#1
      rw [BitVec.sle_eq_decide, h0]; simp
    have h2 : IntOp.cmpi .sle w 63#32 = 1#1 := by
      show BitVec.ofBool (BitVec.sle w 63#32) = 1#1
      rw [BitVec.sle_eq_decide, h0]
      have : (63#32 : BitVec 32).toInt = 63 := by decide
      rw [this]
      have : (w.toNat : Int) ≤ 63 := by omega
      simp [this]
    rw [h1, h2]; rfl
  simp only [hc]
  rfl

theorem gather_at (SC : FVec Ideal S16384x64 .f32) (J : IVec S16384x8x1 32) (t : Fin 16384) (k : Fin 8) :
    Host.gather gather_S16384x64_S16384x8x1_S16384x8_n_1_0_0_1_2_11 SC J (ix2 t k)
      = SC (ix2 t ⟨min (J (ix3 t k 0)).toInt.toNat 63, by omega⟩) := by
  unfold Host.gather
  refine congrArg SC (funext fun a => Fin.ext ?_)
  show gather_S16384x64_S16384x8x1_S16384x8_n_1_0_0_1_2_11.start (ix2 t k) J a + gather_S16384x64_S16384x8x1_S16384x8_n_1_0_0_1_2_11.batchCoord (ix2 t k) a
      + gather_S16384x64_S16384x8x1_S16384x8_n_1_0_0_1_2_11.offCoord (ix2 t k) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (0 : Fin 2) ∈ gather_S16384x64_S16384x8x1_S16384x8_n_1_0_0_1_2_11.operandBatchingDims from List.mem_singleton.mpr rfl)]
    rfl
  | 1 =>
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl)), Nat.add_zero]
    unfold GatherDims.start
    rw [dif_pos (show (1 : Fin 2) ∈ gather_S16384x64_S16384x8x1_S16384x8_n_1_0_0_1_2_11.startIndexMap from List.mem_singleton.mpr rfl)]
    have hsi : gather_S16384x64_S16384x8x1_S16384x8_n_1_0_0_1_2_11.siIdx (ix2 t k) ⟨List.idxOf (1 : Fin 2) gather_S16384x64_S16384x8x1_S16384x8_n_1_0_0_1_2_11.startIndexMap,
        List.idxOf_lt_length_iff.2 (List.mem_singleton.mpr rfl)⟩ = ix3 t k 0 := by
      funext b; refine Fin.ext ?_
      match b with
      | 0 => rfl
      | 1 => rfl
      | 2 => rfl
    rw [hsi]
    rfl

theorem taken_at (SC : FVec Ideal S16384x64 .f32) (I : IVec S16384x8 32) (t : Fin 16384) (k : Fin 8) (h : (I (ix2 t k)).toNat < 64) :
    taken SC I (ix2 t k) = SC (ix2 t ⟨(I (ix2 t k)).toNat, h⟩) := by
  pointwise [taken]
  rw [inside_at I t k h, gather_at]
  refine (show Scalar.select 1#1 _ _ = _ from rfl).trans (congrArg (fun p => SC (ix2 t p)) (Fin.ext ?_))
  show min (cols I (ix3 t k 0)).toInt.toNat 63 = (I (ix2 t k)).toNat
  rw [cols_at I t k 0 h, BitVec.toInt_eq_toNat_of_lt (by omega), Int.toNat_natCast]
  omega

theorem weights_at (T : FVec Ideal S16384x8 .f32) (t : Fin 16384) (k : Fin 8) :
    weights T (ix2 t k) = Ideal.div (T (ix2 t k)) (∑ x : Fin 8, T (ix2 t x)) * Ideal.ofBits .f32 0x40200000#32 := by
  pointwise [weights]

end Cert.Proof.Ref
-- ==== Proof.Row.lean ====
/-
  A token's scores, kernel and reference: one expression of the token's activations and an expert's weights, and from finite inputs a
  positive one.
-/
module

public import proofs.«01_k».proof.Proof.Flat
public import proofs.«01_k».proof.Proof.RefRead

@[expose] public section

noncomputable section

namespace Cert.Proof.Row

open Cert.KernelIdeal Cert.KernelIdeal.Gen Cert.Proof.Route
open Idealize.ShloMosaic

/-- The logistic of a token's product with an expert's weights. -/
def sc (X : S16384x2048.Idx → EReal) (WT : S64x2048.Idx → EReal) (t : Fin 16384) (e : Fin 64) : EReal :=
  Ideal.div 1 (1 + Ideal.exp (-∑ x, X (ix2 t x) * WT (ix2 e x)))

theorem scoreBlk_at (x : S512x2048.Idx → Ideal .f32) (w : S64x2048.Idx → Ideal .f32) (p : Fin 512) (e : Fin 64) :
    (scoreBlk (F := Ideal) x w (ix2 p ⟨e.val, by omega⟩) : EReal) = Ideal.div 1 (1 + Ideal.exp (-∑ k, x (ix2 p k) * w (ix2 e k))) := by
  pointwise [scoreBlk]
  rfl

theorem row_score (X : S16384x2048.Idx → Ideal .f32) (WT : S64x2048.Idx → Ideal .f32) (t : Fin 16384) (e : Fin 64) :
    rowAt (F := Ideal) (line X WT 0) t.val e.val = sc X WT t e := by
  have h1 : rowAt (line X WT 0) t.val e.val = scoreAt X WT t.val e.val := by
    unfold rowAt line
    rw [show 512 * 0 + (128 * t.val + e.val) / 128 = t.val by omega, show (128 * t.val + e.val) % 128 = e.val by omega]
  rw [h1]
  unfold scoreAt
  have h2 : (Fin.ofNat 128 e.val) = ⟨e.val, by omega⟩ := Fin.ext (Nat.mod_eq_of_lt (by omega))
  rw [h2, scoreBlk_at]
  unfold sc xBlk
  have h3 : ∀ k : Fin 2048, X (ix2 (row (512 * (t.val / 512) + (Fin.ofNat 512 t.val).val)) k) = X (ix2 t k) := fun k => by
    congr 2
    refine Fin.ext ?_
    show _ % _ = _
    show (512 * (t.val / 512) + t.val % 512) % 16384 = t.val
    omega
  refine congrArg (fun s => Ideal.div 1 (1 + Ideal.exp (-s))) (Finset.sum_congr rfl fun k _ => ?_)
  exact congrArg (· * _) (h3 k)

theorem sc_pos {X : S16384x2048.Idx → EReal} {WT : S64x2048.Idx → EReal} (hX : ∀ i, ∃ y : ℝ, X i = y) (hW : ∀ i, ∃ y : ℝ, WT i = y)
    (t : Fin 16384) (e : Fin 64) : 0 < sc X WT t e := by
  obtain ⟨s, hs⟩ : ∃ y : ℝ, ∑ x, X (ix2 t x) * WT (ix2 e x) = y :=
    Finset.sum_induction _ (fun v : EReal => ∃ y : ℝ, v = y) (fun a b ⟨y, hy⟩ ⟨z, hz⟩ => ⟨y + z, by rw [hy, hz, EReal.coe_add]⟩) ⟨0, rfl⟩
      (fun k _ => by
        obtain ⟨y, hy⟩ := hX (ix2 t k)
        obtain ⟨z, hz⟩ := hW (ix2 e k)
        exact ⟨y * z, by rw [hy, hz, EReal.coe_mul]⟩)
  unfold sc
  rw [hs]
  have h1 : (1 : EReal) + Ideal.exp (-(s : EReal)) = ((1 + Real.exp (-s) : ℝ) : EReal) := by
    rw [← EReal.coe_neg, EReal.coe_add]; rfl
  have hp : 0 < 1 + Real.exp (-s) := by positivity
  rw [h1]
  unfold Ideal.div
  rw [if_neg (by exact_mod_cast hp.ne'), one_mul, ← EReal.coe_inv]
  exact_mod_cast inv_pos.mpr hp

end Cert.Proof.Row
-- ==== Proof.Pick.lean ====
/-
  One token's selection, kernel and reference: the four groups and the eight experts the kernel's steps pick from a row of positive
  scores are those of the reference's two top-k.
-/
module

public import proofs.«01_k».proof.Proof.RefRead

@[expose] public section

noncomputable section

namespace Cert.Proof.Pick

open Cert.Proof.Route Cert.Proof.Greedy
open Idealize.ShloMosaic

/-! ### The kernel's side -/

/-- The greatest score of the group `w`. -/
def best (r : ℕ → EReal) (w : W) : EReal := treeMaxS (F := Ideal) 3 ((List.range 8).map fun j => r (w.toNat * 8 + j))

theorem best_spec (r : ℕ → EReal) (w : W) : (∃ j < 8, r (w.toNat * 8 + j) = best r w) ∧ ∀ j < 8, r (w.toNat * 8 + j) ≤ best r w := by
  obtain ⟨h1, h2⟩ := treeMax_spec 3 ((List.range 8).map fun j => r (w.toNat * 8 + j)) (by simp)
  constructor
  · obtain ⟨j, hj, e⟩ := List.mem_map.mp h1
    exact ⟨j, List.mem_range.mp hj, e⟩
  · intro j hj
    exact h2 _ (List.mem_map_of_mem (List.mem_range.mpr hj))

theorem groupMax_eq (r : ℕ → EReal) : groupMaxS (F := Ideal) (w64.map fun e => r e.toNat) = w8.map (best r) := by
  rfl

theorem neg1_lt : neg1S (F := Ideal) < (0 : EReal) := by
  show Ideal.ofBits .f32 0xBF800000#32 < (0 : EReal)
  have : Ideal.ofBits .f32 0xBF800000#32 = ((-1 : ℝ) : EReal) := by
    simp [Ideal.ofBits, Ideal.ieee, -EReal.coe_mul]
    norm_num
  rw [this]
  exact_mod_cast (by norm_num : (-1 : ℝ) < 0)

theorem best_pos {r : ℕ → EReal} (hr : ∀ e < 64, 0 < r e) : ∀ c ∈ w8, (0 : EReal) < best r c := fun c hc => by
  obtain ⟨⟨j, hj, e⟩, _⟩ := best_spec r c
  rw [← e]
  exact hr _ (by have := w8_lt c hc; omega)

/-- The group of a word. -/
def grp (c : W) : W := BitVec.ofNat 32 (c.toNat / 8)

theorem col_toNat {g j : W} (hg : g.toNat < 8) (hj : j.toNat < 8) : (IntOp.addi (IntOp.muli g 8#32) j).toNat = g.toNat * 8 + j.toNat := by
  show (g * 8#32 + j).toNat = _
  rw [BitVec.toNat_add, BitVec.toNat_mul]
  have : (8#32 : W).toNat = 8 := by decide
  rw [this, Nat.mod_eq_of_lt (show g.toNat * 8 < 2 ^ 32 by omega), Nat.mod_eq_of_lt (by omega)]

theorem mem_w8 {j : W} : j ∈ w8 ↔ j.toNat < 8 := by
  refine ⟨w8_lt j, fun h => ?_⟩
  have : ∀ k < 8, BitVec.ofNat 32 k ∈ w8 := by decide
  have := this _ h
  rwa [BitVec.ofNat_toNat, BitVec.setWidth_eq] at this

/-- The candidate columns of the groups `L`. -/
def colsL (L : List W) : List W := (L.map fun c => IntOp.muli c 8#32).flatMap colsOfS

theorem mem_colsL {L : List W} (hL : ∀ g ∈ L, g.toNat < 8) (c : W) : c ∈ colsL L ↔ c.toNat < 64 ∧ grp c ∈ L := by
  unfold colsL colsOfS
  simp only [List.mem_flatMap, List.mem_map, exists_exists_and_eq_and]
  constructor
  · rintro ⟨g, hg, j, hj, rfl⟩
    have h1 := hL g hg
    have h2 := mem_w8.mp hj
    rw [grp, col_toNat h1 h2]
    refine ⟨by omega, ?_⟩
    rw [show (g.toNat * 8 + j.toNat) / 8 = g.toNat by omega, BitVec.ofNat_toNat, BitVec.setWidth_eq]
    exact hg
  · rintro ⟨hc, hg⟩
    have e1 : (grp c).toNat = c.toNat / 8 := by rw [grp, BitVec.toNat_ofNat, Nat.mod_eq_of_lt (by omega)]
    have e2 : (BitVec.ofNat 32 (c.toNat % 8)).toNat = c.toNat % 8 := by rw [BitVec.toNat_ofNat, Nat.mod_eq_of_lt (by omega)]
    refine ⟨grp c, hg, BitVec.ofNat 32 (c.toNat % 8), mem_w8.mpr (by omega), BitVec.eq_of_toNat_eq ?_⟩
    rw [col_toNat (by omega) (by omega)]
    omega

theorem colsL_length {L : List W} : (colsL L).length = 8 * L.length := by
  induction L with
  | nil => rfl
  | cons a L ih =>
    have : colsL (a :: L) = colsOfS (IntOp.muli a 8#32) ++ colsL L := rfl
    rw [this, List.length_append, ih, List.length_cons]
    have : (colsOfS (IntOp.muli a 8#32)).length = 8 := by simp [colsOfS, w8]
    omega

theorem colsL_nodup {L : List W} (hL : ∀ g ∈ L, g.toNat < 8) (hn : L.Nodup) : (colsL L).Nodup := by
  induction L with
  | nil => exact List.nodup_nil
  | cons a L ih =>
    have hL' : ∀ g ∈ L, g.toNat < 8 := fun g h => hL g (List.mem_cons_of_mem _ h)
    have ha : a.toNat < 8 := hL a List.mem_cons_self
    obtain ⟨h1, h2⟩ := List.nodup_cons.mp hn
    have e : colsL (a :: L) = colsOfS (IntOp.muli a 8#32) ++ colsL L := rfl
    rw [e]
    refine List.nodup_append.mpr ⟨?_, ih hL' h2, ?_⟩
    · unfold colsOfS
      refine (List.nodup_map_iff_inj_on w8_nodup).mpr fun x hx y hy he => ?_
      have := congrArg BitVec.toNat he
      rw [col_toNat ha (mem_w8.mp hx), col_toNat ha (mem_w8.mp hy)] at this
      exact BitVec.eq_of_toNat_eq (by omega)
    · intro x hx y hy he
      subst he
      have hx' : x ∈ colsL [a] := by
        have : colsL [a] = colsOfS (IntOp.muli a 8#32) ++ colsL [] := rfl
        rw [this]; exact List.mem_append_left _ hx
      have g1 := ((mem_colsL (L := [a]) (by simpa using ha) x).mp hx').2
      have g2 := ((mem_colsL hL' x).mp hy).2
      rw [List.mem_singleton.mp g1] at g2
      exact h1 g2

/-- The kernel's picks from a row of positive scores. -/
theorem picks_spec {r : ℕ → EReal} (hr : ∀ e < 64, 0 < r e) : ∃ Lg Le : List W, Picked (best r) w8 4 Lg
    ∧ picks (F := Ideal) r = Le.map (fun c => (r c.toNat, c)) ∧ Picked (fun c => r c.toNat) (colsL Lg) 8 Le := by
  obtain ⟨Lg, e, hg⟩ := groups_picked (f := best r) (neg1 := neg1S (F := Ideal)) fun c hc => neg1_lt.trans (best_pos hr c hc)
  have hlt : ∀ g ∈ Lg, g.toNat < 8 := fun g h => w8_lt g (hg.sub g h)
  have hc : colsS (F := Ideal) r = colsL Lg := by
    unfold colsS colsL
    rw [groupMax_eq, e]
  obtain ⟨Le, e', he⟩ := experts_picked (f := fun c => r c.toNat) (neg1 := neg1S (F := Ideal)) (cs := colsL Lg)
    (by rw [colsL_length, hg.len]; rfl) (colsL_nodup hlt hg.nodup) (fun c h => ((mem_colsL hlt c).mp h).1)
    (fun c h => neg1_lt.trans (hr _ ((mem_colsL hlt c).mp h).1))
  refine ⟨Lg, Le, hg, ?_, he⟩
  rw [← e', picks, hc]

/-! ### The reference's side -/

open Cert.ReferenceIdeal Cert.ReferenceIdeal.Gen Cert.Proof.Ref

variable {r : ℕ → EReal} {SC : FVec Ideal S16384x64 .f32} {t : Fin 16384}

theorem tops_best (hSC : ∀ e : Fin 64, SC (ix2 t e) = r e.val) (g : Fin 8) : tops SC (ix2 t g) = best r (wd g) := by
  obtain ⟨⟨j, hj, e⟩, h2⟩ := best_spec r (wd g)
  rw [wd_toNat (by decide)] at e h2
  rw [tops_at]
  refine le_antisymm ?_ ?_
  · rw [Finset.fold_max_le]
    exact ⟨bot_le, fun x _ => by rw [hSC]; exact h2 x.val x.isLt⟩
  · rw [Finset.le_fold_max]
    exact Or.inr ⟨⟨j, hj⟩, Finset.mem_univ _, by rw [hSC, ← e]⟩

theorem groups_idx (SC : FVec Ideal S16384x64 .f32) (t : Fin 16384) (k : Fin 4) :
    groups SC (ix2 t k) = wd (sortedFrom (byKey fun p : Fin 8 => tops SC (ix2 t p)) (k.castLE (by decide))) :=
  topK_idx (by decide) (tops SC) sliceFits_S16384x8_S16384x4 t k

theorem groups_lt (SC : FVec Ideal S16384x64 .f32) (t : Fin 16384) (k : Fin 4) : (groups SC (ix2 t k)).toNat < 8 := by
  rw [groups_idx, wd_toNat (by decide)]
  exact Fin.isLt _

theorem groups_eq (hSC : ∀ e : Fin 64, SC (ix2 t e) = r e.val) {Lg : List W} (hg : Picked (best r) w8 4 Lg) (k : Fin 4) :
    groups SC (ix2 t k) = Lg[k.val]'(by rw [hg.len]; exact k.isLt) := by
  rw [groups_idx]
  exact sorted_picked (by decide) (by decide) _ (best r) (fun p => (tops_best hSC p).symm) Lg hg.len (fun a ha => w8_lt a (hg.sub a ha)) hg.pair
    (fun a ha p hp => hg.dom a ha _ (mem_w8.mpr (by rw [wd_toNat (by decide)]; exact p.isLt)) hp) k

theorem experts_idx (SC : FVec Ideal S16384x64 .f32) (t : Fin 16384) (k : Fin 8) :
    experts SC (ix2 t k) = wd (sortedFrom (byKey fun p : Fin 64 => masked SC (mask (groups SC)) (ix2 t p)) (k.castLE (by decide))) :=
  topK_idx (by decide) (masked SC (mask (groups SC))) sliceFits_S16384x64_S16384x8 t k

theorem experts_lt (SC : FVec Ideal S16384x64 .f32) (t : Fin 16384) (k : Fin 8) : (experts SC (ix2 t k)).toNat < 64 := by
  rw [experts_idx, wd_toNat (by decide)]
  exact Fin.isLt _

theorem grp_wd (p : Fin 64) : grp (wd p) = wd (⟨p.val / 8, by omega⟩ : Fin 8) := by
  rw [grp, wd_toNat (by decide)]; rfl

theorem masked_eq (hSC : ∀ e : Fin 64, SC (ix2 t e) = r e.val) {Lg : List W} (hg : Picked (best r) w8 4 Lg) (p : Fin 64) :
    masked SC (mask (groups SC)) (ix2 t p) = if wd p ∈ colsL Lg then r p.val else 0 := by
  have hlt : ∀ g ∈ Lg, g.toNat < 8 := fun g h => w8_lt g (hg.sub g h)
  have hmem : wd p ∈ colsL Lg ↔ wd (⟨p.val / 8, by omega⟩ : Fin 8) ∈ Lg := by
    rw [mem_colsL hlt, grp_wd, wd_toNat (by decide)]
    exact and_iff_right p.isLt
  rw [masked_at, hSC]
  by_cases h : wd (⟨p.val / 8, by omega⟩ : Fin 8) ∈ Lg
  · rw [if_pos (hmem.mpr h)]
    obtain ⟨j, hj, e⟩ := List.getElem_of_mem h
    rw [mask_hit (groups SC) (groups_lt SC) t _ ⟨⟨j, by rw [← hg.len]; exact hj⟩, by rw [groups_eq hSC hg]; exact e⟩, mul_one]
  · rw [if_neg (fun hh => h (hmem.mp hh))]
    rw [mask_miss (groups SC) (groups_lt SC) t _ (fun e he => h (by rw [← he, groups_eq hSC hg]; exact List.getElem_mem _)), mul_zero]

theorem experts_eq (hr : ∀ e < 64, 0 < r e) (hSC : ∀ e : Fin 64, SC (ix2 t e) = r e.val) {Lg Le : List W} (hg : Picked (best r) w8 4 Lg)
    (he : Picked (fun c => r c.toNat) (colsL Lg) 8 Le) (k : Fin 8) :
    experts SC (ix2 t k) = Le[k.val]'(by rw [he.len]; exact k.isLt) := by
  have hlt : ∀ g ∈ Lg, g.toNat < 8 := fun g h => w8_lt g (hg.sub g h)
  have h64 : ∀ a ∈ Le, a.toNat < 64 := fun a ha => ((mem_colsL hlt a).mp (he.sub a ha)).1
  rw [experts_idx]
  have hin : ∀ a ∈ colsL Lg, (if a ∈ colsL Lg then r a.toNat else 0) = r a.toNat := fun a h => if_pos h
  refine sorted_picked (by decide) (by decide) _ (fun c => if c ∈ colsL Lg then r c.toNat else 0)
    (fun p => by rw [masked_eq hSC hg, wd_toNat (by decide)]) Le he.len h64 ?_ ?_ k
  · refine List.Pairwise.imp_of_mem (fun {a b} ha hb hab => ?_) he.pair
    unfold Before at hab ⊢
    dsimp only at hab ⊢
    rw [hin a (he.sub a ha), hin b (he.sub b hb)]
    exact hab
  · intro a ha p hp
    by_cases h : wd p ∈ colsL Lg
    · have hab := he.dom a ha _ h hp
      unfold Before at hab ⊢
      dsimp only at hab ⊢
      rw [hin a (he.sub a ha), hin _ h]
      exact hab
    · refine Or.inl ?_
      dsimp only
      rw [hin a (he.sub a ha), if_neg h]
      exact hr _ (h64 a ha)

end Cert.Proof.Pick
-- ==== Proof.Token.lean ====
/-
  One token's results, kernel and reference: the same eight experts, and the same eight weights.
-/
module

public import proofs.«01_k».proof.Proof.Row
public import proofs.«01_k».proof.Proof.Pick

@[expose] public section

noncomputable section

namespace Cert.Proof.Pick

open Cert.Proof.Route Cert.Proof.Greedy
open Idealize.ShloMosaic
open Cert.ReferenceIdeal Cert.ReferenceIdeal.Gen Cert.Proof.Ref

theorem getD_lt {α : Type} (l : List α) (d : α) {k : ℕ} (h : k < l.length) : l.getD k d = l[k] := by
  simp [List.getD, h]

theorem scaleS_eq : ∀ (ws : List EReal) (h : ws.length = 8),
    (scaleS (F := Ideal) ws : EReal) = Ideal.div (Ideal.ofBits .f32 0x40200000#32) (∑ x : Fin 8, ws[x.val]'(by rw [h]; exact x.isLt))
  | [a, b, c, d, e, f, g, i], _ => by
      rw [Fin.sum_univ_eight]
      show Ideal.div _ (((a + b) + (c + d)) + ((e + f) + (g + i))) = Ideal.div _ (a + b + c + d + e + f + g + i)
      congr 1
      simp only [add_assoc]

theorem scale_comm {a s c : EReal} (hs : 0 < s) : a * Ideal.div c s = Ideal.div a s * c := by
  unfold Ideal.div
  rw [if_neg hs.ne', if_neg hs.ne', mul_comm c, mul_assoc]

theorem weight_eq (ws : List EReal) (h : ws.length = 8) (hpos : ∀ x : Fin 8, 0 < ws[x.val]'(by rw [h]; exact x.isLt)) (k : Fin 8) :
    Ideal.div (ws[k.val]'(by rw [h]; exact k.isLt)) (∑ x : Fin 8, ws[x.val]'(by rw [h]; exact x.isLt)) * Ideal.ofBits .f32 0x40200000#32
      = (ws.map fun w => FloatOps.mulf (F := Ideal) (φ := .f32) w (scaleS (F := Ideal) ws)).getD k.val (Scalar.ofBits .f32 0#32) := by
  rw [getD_lt _ _ (by rw [List.length_map, h]; exact k.isLt), List.getElem_map, scaleS_eq ws h]
  refine (scale_comm ?_).symm
  rw [Fin.sum_univ_succ]
  exact add_pos_of_pos_of_nonneg (hpos 0) (Finset.sum_nonneg fun x _ => (hpos x.succ).le)

variable {r : ℕ → EReal} {SC : FVec Ideal S16384x64 .f32} {t : Fin 16384}

theorem token_experts (hr : ∀ e < 64, 0 < r e) (hSC : ∀ e : Fin 64, SC (ix2 t e) = r e.val) (k : Fin 8) :
    experts SC (ix2 t k) = tokI (F := Ideal) r k.val := by
  obtain ⟨Lg, Le, hg, hp, he⟩ := picks_spec hr
  rw [experts_eq hr hSC hg he k]
  unfold tokI
  rw [hp, List.map_map]
  have : (Prod.snd ∘ fun c : W => (r c.toNat, c)) = id := rfl
  rw [this, List.map_id, getD_lt _ _ (by rw [he.len]; exact k.isLt)]

theorem token_weights (hr : ∀ e < 64, 0 < r e) (hSC : ∀ e : Fin 64, SC (ix2 t e) = r e.val) (k : Fin 8) :
    weights (taken SC (experts SC)) (ix2 t k) = tokW (F := Ideal) r k.val := by
  obtain ⟨Lg, Le, hg, hp, he⟩ := picks_spec hr
  have hlt : ∀ g ∈ Lg, g.toNat < 8 := fun g h => w8_lt g (hg.sub g h)
  have h64 : ∀ a ∈ Le, a.toNat < 64 := fun a ha => ((mem_colsL hlt a).mp (he.sub a ha)).1
  have hT : ∀ x : Fin 8, taken SC (experts SC) (ix2 t x) = (Le.map fun c => r c.toNat)[x.val]'(by rw [List.length_map, he.len]; exact x.isLt) := fun x => by
    rw [taken_at _ _ _ _ (experts_lt SC t x), hSC, List.getElem_map]
    exact congrArg (fun w : W => r w.toNat) (experts_eq hr hSC hg he x)
  have hfst : (picks (F := Ideal) r).map Prod.fst = Le.map fun c => r c.toNat := by
    rw [hp, List.map_map]; rfl
  have hlen : (Le.map fun c => r c.toNat).length = 8 := by rw [List.length_map, he.len]
  have hpos : ∀ x : Fin 8, 0 < (Le.map fun c => r c.toNat)[x.val]'(by rw [hlen]; exact x.isLt) := fun x => by
    rw [List.getElem_map]
    exact hr _ (h64 _ (List.getElem_mem _))
  rw [weights_at, hT]
  simp only [hT]
  unfold tokW
  rw [hfst]
  exact weight_eq _ hlen hpos k

/-! ### From finite inputs -/

variable {X : FVec Ideal S16384x2048 .f32} {WT : FVec Ideal S64x2048 .f32}

theorem row_pos (hX : ∀ i, ∃ y : ℝ, X i = y) (hW : ∀ i, ∃ y : ℝ, WT i = y) (t : Fin 16384) : ∀ e < 64, 0 < rowAt (F := Ideal) (line X WT 0) t.val e :=
  fun e he => by
    rw [Row.row_score X WT t ⟨e, he⟩]
    exact Row.sc_pos hX hW t ⟨e, he⟩

theorem row_eq (t : Fin 16384) (e : Fin 64) : Ref.scores X WT (ix2 t e) = rowAt (F := Ideal) (line X WT 0) t.val e.val :=
  (scores_at X WT t e).trans (Row.row_score X WT t e).symm

theorem all_experts (hX : ∀ i, ∃ y : ℝ, X i = y) (hW : ∀ i, ∃ y : ℝ, WT i = y) :
    experts (Ref.scores X WT) = fun i : S16384x8.Idx => resI (F := Ideal) X WT (i 0).val (i 1).val := by
  funext i
  rw [eq_ix2 i]
  exact token_experts (row_pos hX hW (i 0)) (row_eq (i 0)) (i 1)

theorem all_weights (hX : ∀ i, ∃ y : ℝ, X i = y) (hW : ∀ i, ∃ y : ℝ, WT i = y) :
    weights (taken (Ref.scores X WT) (experts (Ref.scores X WT))) = fun i : S16384x8.Idx => resW (F := Ideal) X WT (i 0).val (i 1).val := by
  funext i
  rw [eq_ix2 i]
  exact token_weights (row_pos hX hW (i 0)) (row_eq (i 0)) (i 1)

end Cert.Proof.Pick
-- ==== Proof.Algebraic.lean ====
/-
  The value claim: from finite inputs the kernel's two results are the reference's.
-/
module

public import proofs.«01_k».proof.Proof.Frames
public import proofs.«01_k».proof.Proof.Values
public import proofs.«01_k».proof.Proof.Finite
public import proofs.«01_k».proof.Proof.Token

@[expose] public section

noncomputable section

namespace Cert.Proof

open Idealize.ShloMosaic Idealize.ShloMosaic.TcCoe Idealize.SL.Sem

theorem algebraic [Cert.Pre_finite_inputs.Facts] : Cert.algebraic_KernelIdeal_ReferenceIdeal_pre_finite_inputs := by
  intro m g m' g' hpre hargs
  refine ⟨fun c => fun i : Cert.KernelIdeal.S16384x8.Idx => Route.resW (F := Ideal) (Route.xIn m c) (Route.wIn m c) (i 0).val (i 1).val,
    fun c => fun i : Cert.KernelIdeal.S16384x8.Idx => Route.resI (F := Ideal) (Route.xIn m c) (Route.wIn m c) (i 0).val (i 1).val, ?_, ?_⟩
  · refine (θ_run Cert.KernelIdeal.defs _ _).mono (fun r h c => ⟨?_, ?_, args_kept m h c⟩) (Route.run_main (F := Ideal) m g)
    · exact (h.1 c ⟨_, Route.uc (r := Cert.KernelIdeal.main_v30) rfl⟩).trans (Route.Vend_weights m c)
    · exact (h.1 c ⟨_, Route.uc (r := Cert.KernelIdeal.main_v31) rfl⟩).trans (Route.Vend_indices m c)
  · refine (θ_run Cert.ReferenceIdeal.defs _ _).mono (fun r h c => ⟨(h c).1.trans ?_, (h c).2.1.trans ?_, (h c).2.2⟩) (Ref.ref_run m' g')
    · obtain ⟨hX, hW⟩ := Finite.finite_args (hpre c)
      have e0 : Ref.argX m' c = Route.xIn m c := (hargs c).1
      have e1 : Ref.argW m' c = Route.wIn m c := (hargs c).2
      rw [e0, e1]
      exact Pick.all_weights hX hW
    · obtain ⟨hX, hW⟩ := Finite.finite_args (hpre c)
      have e0 : Ref.argX m' c = Route.xIn m c := (hargs c).1
      have e1 : Ref.argW m' c = Route.wIn m c := (hargs c).2
      rw [e0, e1]
      exact Pick.all_experts hX hW

end Cert.Proof
-- ==== Proof.lean ====
/-
  The claims: the kernel's frame at either reading, the reference's frame, that the idealization changes nothing, and that from finite
  inputs the kernel's two results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Finite.facts,
  frame_bits, frame_ideal, fun m ρ _ => frame_ideal m ρ trivial, frame_ref, fun m ρ _ => frame_ref m ρ trivial, trivial,
  @algebraic Finite.facts⟩

end Cert.Proof

end
